-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_read_lanes_pre_finite [hKernelIdeal : Cert.KernelIdeal.Facts] [hReferenceIdeal : Cert.ReferenceIdeal.Facts] [hPre_finite : Cert.Pre_finite.Facts] [hOn_read_lanes : Cert.On_read_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v74_0)) (v1 : (c : Dev Cert.KernelIdeal.nD) → Buf (Elt Ideal) ((c.tc : Thread Cert.KernelIdeal.nD Cert.KernelIdeal.τ).loc Cert.KernelIdeal.main_v74_1)) (v2 : (c : Dev Cert.KernelIdeal.nD) → Buf (Elt Ideal) ((c.tc : Thread Cert.KernelIdeal.nD Cert.KernelIdeal.τ).loc Cert.KernelIdeal.main_v74_2)) (v3 : (c : Dev Cert.KernelIdeal.nD) → Buf (Elt Ideal) ((c.tc : Thread Cert.KernelIdeal.nD Cert.KernelIdeal.τ).loc Cert.KernelIdeal.main_v74_3)) (v4 : (c : Dev Cert.KernelIdeal.nD) → Buf (Elt Ideal) ((c.tc : Thread Cert.KernelIdeal.nD Cert.KernelIdeal.τ).loc Cert.KernelIdeal.main_v74_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v74_0) i = v0 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v74_1) i = v1 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v74_2) i = v2 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.KernelIdeal.nD Cert.KernelIdeal.τ).loc Cert.KernelIdeal.main_v74_3) i = v3 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 i = 1#1 → r.2.mem ((c.tc : Thread Cert.KernelIdeal.nD Cert.KernelIdeal.τ).loc Cert.KernelIdeal.main_v74_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v99) i = v0 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v100) i = v1 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v101) i = v2 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.ReferenceIdeal.nD Cert.ReferenceIdeal.τ).loc Cert.ReferenceIdeal.main_v107) i = v3 c i)
          ∧ (∀ i : (⟨2, ![4096, 1024]⟩ : Shape).Idx, (Cert.On_read_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 i = 1#1 → r.2.mem ((c.tc : Thread Cert.ReferenceIdeal.nD Cert.ReferenceIdeal.τ).loc Cert.ReferenceIdeal.main_v112) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_v14) = v1 c
          ∧ r.2.mem ((c.tc : Thread Cert.Reference13Ideal.nD Cert.Reference13Ideal.τ).loc Cert.Reference13Ideal.main_v17) = v2 c
          ∧ r.2.mem ((c.tc : Thread Cert.Reference13Ideal.nD Cert.Reference13Ideal.τ).loc Cert.Reference13Ideal.main_v21) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v14) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite4 : Cert.Pre_finite4.Facts) (hOn_read_lanes : Cert.On_read_lanes.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_on_read_lanes_pre_finite (hKernelIdeal := hKernelIdeal) (hReferenceIdeal := hReferenceIdeal) (hPre_finite := hPre_finite) (hOn_read_lanes := hOn_read_lanes)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== On_read_lanes.lean ====
abbrev S4096x5632 : Shape := ⟨2, ![4096, 5632]⟩
abbrev S16 : Shape := ⟨1, ![16]⟩
abbrev S4096x2048 : Shape := ⟨2, ![4096, 2048]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x5632 .f32) (main_arg1 : FVec F S16 .f32) (main_arg2 : FVec F S4096x2048 .f32) : IVec S4096x1024 1 × IVec S4096x1024 1 × IVec S4096x1024 1 × IVec S4096x1024 1 × IVec S4096x1024 1 :=
  let main_v0 : IVec S4096x1024 32 := iotaInDim S4096x1024 32 1
  let main_c : IVec S_ 32 := constantI S_ 32 0#32
  let main_v1 : IVec S4096x1024 32 := broadcastInDim S4096x1024 ![] bcast_S_S4096x1024 main_c
  let main_v2 : IVec S4096x1024 1 := cmpi .sge main_v0 main_v1
  let main_c_0 : IVec S_ 32 := constantI S_ 32 63#32
  let main_v3 : IVec S4096x1024 32 := broadcastInDim S4096x1024 ![] bcast_S_S4096x1024 main_c_0
  let main_v4 : IVec S4096x1024 32 := andi main_v0 main_v3
  let main_c_1 : IVec S_ 32 := constantI S_ 32 0#32
  let main_v5 : IVec S4096x1024 32 := broadcastInDim S4096x1024 ![] bcast_S_S4096x1024 main_c_1
  let main_v6 : IVec S4096x1024 1 := cmpi .eq main_v4 main_v5
  let main_c_2 : IVec S_ 32 := constantI S_ 32 63#32
  let main_v7 : IVec S4096x1024 32 := broadcastInDim S4096x1024 ![] bcast_S_S4096x1024 main_c_2
  let main_v8 : IVec S4096x1024 32 := andi main_v0 main_v7
  let main_c_3 : IVec S_ 32 := constantI S_ 32 3#32
  let main_v9 : IVec S4096x1024 32 := broadcastInDim S4096x1024 ![] bcast_S_S4096x1024 main_c_3
  let main_v10 : IVec S4096x1024 1 := cmpi .eq main_v8 main_v9
  (main_v2, main_v2, main_v2, main_v6, main_v10)
-- ==== Pre_finite.lean ====
abbrev S4096x5632 : Shape := ⟨2, ![4096, 5632]⟩
abbrev S16 : Shape := ⟨1, ![16]⟩
abbrev S4096x2048 : Shape := ⟨2, ![4096, 2048]⟩
abbrev S_ : Shape := ⟨0, ![]⟩

class Facts : Prop where
  bcast_S_S4096x5632 : S_.BroadcastsInDim S4096x5632 (![] : Fin 0 → Fin S4096x5632.rank)
  bcast_S_S16 : S_.BroadcastsInDim S16 (![] : Fin 0 → Fin S16.rank)
  bcast_S_S4096x2048 : S_.BroadcastsInDim S4096x2048 (![] : Fin 0 → Fin S4096x2048.rank)
  reducesTo_S4096x5632_S_d0_1 : S4096x5632.ReducesTo [0, 1] S_
  h_S_ : 0 < S_.numel
  reducesTo_S16_S_d0 : S16.ReducesTo [0] S_
  reducesTo_S4096x2048_S_d0_1 : S4096x2048.ReducesTo [0, 1] S_

variable [Facts]

def fn {F : FTy → Type} [FloatOps F] (main_arg0 : FVec F S4096x5632 .f32) (main_arg1 : FVec F S16 .f32) (main_arg2 : FVec F S4096x2048 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_c : IVec S_ 1 := constantI S_ 1 1#1
  let main_v9 : IVec S_ 1 := (fun x v => Host.reduce IntOp.andi x v reducesTo_S4096x5632_S_d0_1 h_S_) main_v2 main_c
  let main_c_2 : IVec S_ 1 := constantI S_ 1 1#1
  let main_v10 : IVec S_ 1 := (fun x v => Host.reduce IntOp.andi x v reducesTo_S16_S_d0 h_S_) main_v5 main_c_2
  let main_v11 : IVec S_ 1 := andi main_v9 main_v10
  let main_c_3 : IVec S_ 1 := constantI S_ 1 1#1
  let main_v12 : IVec S_ 1 := (fun x v => Host.reduce IntOp.andi x v reducesTo_S4096x2048_S_d0_1 h_S_) main_v8 main_c_3
  let main_v13 : IVec S_ 1 := andi main_v11 main_v12
  main_v13
-- ==== Pre_finite4.lean ====
abbrev S4096x2048 : Shape := ⟨2, ![4096, 2048]⟩
abbrev S8x4096x704 : Shape := ⟨3, ![8, 4096, 704]⟩
abbrev S8x704x2048 : Shape := ⟨3, ![8, 704, 2048]⟩
abbrev S_ : Shape := ⟨0, ![]⟩

class Facts : Prop where
  bcast_S_S4096x2048 : S_.BroadcastsInDim S4096x2048 (![] : Fin 0 → Fin S4096x2048.rank)
  bcast_S_S8x4096x704 : S_.BroadcastsInDim S8x4096x704 (![] : Fin 0 → Fin S8x4096x704.rank)
  bitsLt_bf16_f32 : FTy.bits .bf16 < FTy.bits .f32
  bcast_S_S8x704x2048 : S_.BroadcastsInDim S8x704x2048 (![] : Fin 0 → Fin S8x704x2048.rank)
  reducesTo_S4096x2048_S_d0_1 : S4096x2048.ReducesTo [0, 1] S_
  h_S_ : 0 < S_.numel
  reducesTo_S8x4096x704_S_d0_1_2 : S8x4096x704.ReducesTo [0, 1, 2] S_
  reducesTo_S8x704x2048_S_d0_1_2 : S8x704x2048.ReducesTo [0, 1, 2] S_

variable [Facts]

def fn {F : FTy → Type} [FloatOps F] (main_arg0 : FVec F S4096x2048 .f32) (main_arg1 : FVec F S8x4096x704 .f32) (main_arg2 : FVec F S8x4096x704 .f32) (main_arg3 : FVec F S8x704x2048 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S8x4096x704 .f32 := Host.absf main_arg2
  let main_cst_0 : FVec F S_ .f32 := constant S_ .f32 0x7F800000#32
  let main_v4 : FVec F S8x4096x704 .f32 := broadcastInDim S8x4096x704 ![] bcast_S_S8x4096x704 main_cst_0
  let main_v5 : IVec S8x4096x704 1 := cmpf .olt main_v3 main_v4
  let main_v6 : FVec F S8x704x2048 .f32 := (extf .f32 · bitsLt_bf16_f32) main_arg3
  let main_v7 : FVec F S8x704x2048 .f32 := Host.absf main_v6
  let main_cst_1 : FVec F S_ .f32 := constant S_ .f32 0x7F800000#32
  let main_v8 : FVec F S8x704x2048 .f32 := broadcastInDim S8x704x2048 ![] bcast_S_S8x704x2048 main_cst_1
  let main_v9 : IVec S8x704x2048 1 := cmpf .olt main_v7 main_v8
  let main_c : IVec S_ 1 := constantI S_ 1 1#1
  let main_v10 : IVec S_ 1 := (fun x v => Host.reduce IntOp.andi x v reducesTo_S4096x2048_S_d0_1 h_S_) main_v2 main_c
  let main_c_2 : IVec S_ 1 := constantI S_ 1 1#1
  let main_v11 : IVec S_ 1 := (fun x v => Host.reduce IntOp.andi x v reducesTo_S8x4096x704_S_d0_1_2 h_S_) main_v5 main_c_2
  let main_v12 : IVec S_ 1 := andi main_v10 main_v11
  let main_c_3 : IVec S_ 1 := constantI S_ 1 1#1
  let main_v13 : IVec S_ 1 := (fun x v => Host.reduce IntOp.andi x v reducesTo_S8x704x2048_S_d0_1_2 h_S_) main_v9 main_c_3
  let main_v14 : IVec S_ 1 := andi main_v12 main_v13
  main_v14
-- ==== Kernel.lean ====
abbrev S4096x5632 : Shape := ⟨2, ![4096, 5632]⟩
abbrev S16 : Shape := ⟨1, ![16]⟩
abbrev S4096x2048 : Shape := ⟨2, ![4096, 2048]⟩
abbrev S4096x1024 : Shape := ⟨2, ![4096, 1024]⟩
abbrev S4096x16x64 : Shape := ⟨3, ![4096, 16, 64]⟩
abbrev S16x4096x64 : Shape := ⟨3, ![16, 4096, 64]⟩
abbrev S4096x16 : Shape := ⟨2, ![4096, 16]⟩
abbrev S1x16 : Shape := ⟨2, ![1, 16]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4096x16x1 : Shape := ⟨3, ![4096, 16, 1]⟩
abbrev S4096x16x4 : Shape := ⟨3, ![4096, 16, 4]⟩
abbrev S4096x16x60 : Shape := ⟨3, ![4096, 16, 60]⟩
abbrev S4096x8x2x64 : Shape := ⟨4, ![4096, 8, 2, 64]⟩
abbrev S512x128 : Shape := ⟨2, ![512, 128]⟩
abbrev S4096x128 : Shape := ⟨2, ![4096, 128]⟩
abbrev S2x512x128 : Shape := ⟨3, ![2, 512, 128]⟩
abbrev S2x512x512 : Shape := ⟨3, ![2, 512, 512]⟩
abbrev S2x512x1 : Shape := ⟨3, ![2, 512, 1]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩
abbrev S1x512x512 : Shape := ⟨3, ![1, 512, 512]⟩
abbrev S1x32x512 : Shape := ⟨3, ![1, 32, 512]⟩
abbrev S32x512 : Shape := ⟨2, ![32, 512]⟩
abbrev S32x128 : Shape := ⟨2, ![32, 128]⟩
abbrev S32x1 : Shape := ⟨2, ![32, 1]⟩
abbrev S1x32x1 : Shape := ⟨3, ![1, 32, 1]⟩
abbrev S1x512x128 : Shape := ⟨3, ![1, 512, 128]⟩

abbrev nBuf : Space → Nat
  | .hbm => 108
  | .vmem => 31
  | .smem => 0
  | _ => 0

abbrev bufTy : (tb : Table) → Fin (tcTables nBuf tb) → BufTy
  | .hbm, ⟨0, _⟩ => ⟨S4096x5632, .f32⟩
  | .hbm, ⟨1, _⟩ => ⟨S16, .f32⟩
  | .hbm, ⟨2, _⟩ => ⟨S4096x2048, .f32⟩
  | .hbm, ⟨3, _⟩ => ⟨S4096x1024, .f32⟩
  | .hbm, ⟨4, _⟩ => ⟨S4096x16x64, .f32⟩
  | .hbm, ⟨5, _⟩ => ⟨S16x4096x64, .f32⟩
  | .hbm, ⟨6, _⟩ => ⟨S4096x1024, .f32⟩
  | .hbm, ⟨7, _⟩ => ⟨S4096x16x64, .f32⟩
  | .hbm, ⟨8, _⟩ => ⟨S16x4096x64, .f32⟩
  | .hbm, ⟨9, _⟩ => ⟨S4096x1024, .f32⟩
  | .hbm, ⟨10, _⟩ => ⟨S4096x16x64, .f32⟩
  | .hbm, ⟨11, _⟩ => ⟨S16x4096x64, .f32⟩
  | .hbm, ⟨12, _⟩ => ⟨S4096x16, .f32⟩
  | .hbm, ⟨13, _⟩ => ⟨S1x16, .f32⟩
  | .hbm, ⟨14, _⟩ => ⟨S4096x16, .f32⟩
  | .hbm, ⟨15, _⟩ => ⟨S4096x16, .f32⟩
  | .hbm, ⟨16, _⟩ => ⟨S4096x16, .f32⟩
  | .hbm, ⟨17, _⟩ => ⟨S_, .f32⟩
  | .hbm, ⟨18, _⟩ => ⟨S4096x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .i1⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S16x4096, .f32⟩
  | .hbm, ⟨33, _⟩ => ⟨S_, .f32⟩
  | .hbm, ⟨34, _⟩ => ⟨S_, .f32⟩
  | .hbm, ⟨35, _⟩ => ⟨S16x4096, .f32⟩
  | .hbm, ⟨36, _⟩ => ⟨S16x4096x4096, .f32⟩
  | .hbm, ⟨37, _⟩ => ⟨S_, .f32⟩
  | .hbm, ⟨38, _⟩ => ⟨S16x4096x4096, .f32⟩
  | .hbm, ⟨39, _⟩ => ⟨S16x4096x4096, .f32⟩
  | .hbm, ⟨40, _⟩ => ⟨S16x4096x1, .f32⟩
  | .hbm, ⟨41, _⟩ => ⟨S16x4096x4096, .f32⟩
  | .hbm, ⟨42, _⟩ => ⟨S16x4096x4096, .f32⟩
  | .hbm, ⟨43, _⟩ => ⟨S16x1x4096, .f32⟩
  | .hbm, ⟨44, _⟩ => ⟨S16x4096x4096, .f32⟩
  | .hbm, ⟨45, _⟩ => ⟨S16x4096x4096, .f32⟩
  | .hbm, ⟨46, _⟩ => ⟨S4096, .i32⟩
  | .hbm, ⟨47, _⟩ => ⟨S4096x1, .i32⟩
  | .hbm, ⟨48, _⟩ => ⟨S1x4096, .i32⟩
  | .hbm, ⟨49, _⟩ => ⟨S4096x4096, .i32⟩
  | .hbm, ⟨50, _⟩ => ⟨S4096x4096, .i32⟩
  | .hbm, ⟨51, _⟩ => ⟨S4096x4096, .i1⟩
  | .hbm, ⟨52, _⟩ => ⟨S1x4096x4096, .i1⟩
  | .hbm, ⟨53, _⟩ => ⟨S_, .f32⟩
  | .hbm, ⟨54, _⟩ => ⟨S_, .f32⟩
  | .hbm, ⟨55, _⟩ => ⟨S16x4096x4096, .i1⟩
  | .hbm, ⟨56, _⟩ => ⟨S16x4096x4096, .f32⟩
  | .hbm, ⟨57, _⟩ => ⟨S16x4096x4096, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S_, .f32⟩
  | .hbm, ⟨65, _⟩ => ⟨S16x4096, .f32⟩
  | .hbm, ⟨66, _⟩ => ⟨S16x4096x1, .f32⟩
  | .hbm, ⟨67, _⟩ => ⟨S16x4096x4096, .f32⟩
  | .hbm, ⟨68, _⟩ => ⟨S16x4096x4096, .f32⟩
  | .hbm, ⟨69, _⟩ => ⟨S16x4096x64, .f32⟩
  | .hbm, ⟨70, _⟩ => ⟨S4096x16x64, .f32⟩
  | .hbm, ⟨71, _⟩ => ⟨S4096x1024, .f32⟩
  | .hbm, ⟨72, _⟩ => ⟨S16x4096, .f32⟩
  | .hbm, ⟨73, _⟩ => ⟨S16x4096, .f32⟩
  | .hbm, ⟨74, _⟩ => ⟨S16x4096, .f32⟩
  | .hbm, ⟨75, _⟩ => ⟨S16x4096x1, .f32⟩
  | .hbm, ⟨76, _⟩ => ⟨S16x4096x64, .f32⟩
  | .hbm, ⟨77, _⟩ => ⟨S4096x16x64, .f32⟩
  | .hbm, ⟨78, _⟩ => ⟨S4096x1024, .f32⟩
  | .hbm, ⟨79, _⟩ => ⟨S16x4096, .f32⟩
  | .hbm, ⟨80, _⟩ => ⟨S16x4096, .bf16⟩
  | .hbm, ⟨81, _⟩ => ⟨S16x4096, .f32⟩
  | .hbm, ⟨82, _⟩ => ⟨S16x4096, .f32⟩
  | .hbm, ⟨83, _⟩ => ⟨S16x4096, .bf16⟩
  | .hbm, ⟨84, _⟩ => ⟨S16x4096, .f32⟩
  | .hbm, ⟨85, _⟩ => ⟨S16x4096, .f32⟩
  | .hbm, ⟨86, _⟩ => ⟨S16x4096, .bf16⟩
  | .hbm, ⟨87, _⟩ => ⟨S4096x16, .bf16⟩
  | .hbm, ⟨88, _⟩ => ⟨S4096x16, .bf16⟩
  | .hbm, ⟨89, _⟩ => ⟨S4096x16, .bf16⟩
  | .hbm, ⟨90, _⟩ => ⟨S_, .bf16⟩
  | .hbm, ⟨91, _⟩ => ⟨S4096x16, .bf16⟩
  | .hbm, ⟨92, _⟩ => ⟨S4096x16x1, .bf16⟩
  | .hbm, ⟨93, _⟩ => ⟨S4096x16x1, .bf16⟩
  | .hbm, ⟨94, _⟩ => ⟨S4096x16x1, .bf16⟩
  | .hbm, ⟨95, _⟩ => ⟨S4096x16x1, .bf16⟩
  | .hbm, ⟨96, _⟩ => ⟨S4096x16x4, .bf16⟩
  | .hbm, ⟨97, _⟩ => ⟨S_, .bf16⟩
  | .hbm, ⟨98, _⟩ => ⟨S4096x16x60, .bf16⟩
  | .hbm, ⟨99, _⟩ => ⟨S4096x16x64, .bf16⟩
  | .hbm, ⟨100, _⟩ => ⟨S4096x8x2x64, .bf16⟩
  | .hbm, ⟨101, _⟩ => ⟨S4096x8x2x64, .bf16⟩
  | .hbm, ⟨102, _⟩ => ⟨S4096x1024, .bf16⟩
  | .hbm, ⟨103, _⟩ => ⟨S4096x1024, .f32⟩
  | .hbm, ⟨104, _⟩ => ⟨S4096x1024, .bf16⟩
  | .hbm, ⟨105, _⟩ => ⟨S4096x1024, .bf16⟩
  | .hbm, ⟨106, _⟩ => ⟨S4096x1024, .f32⟩
  | .hbm, ⟨107, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .f32⟩
  | .local _ .vmem, ⟨21, _⟩ => ⟨S512x128, .f32⟩
  | .local _ .vmem, ⟨22, _⟩ => ⟨S4096x128, .f32⟩
  | .local _ .vmem, ⟨23, _⟩ => ⟨S4096x128, .f32⟩
  | .local _ .vmem, ⟨24, _⟩ => ⟨S2x512x128, .f32⟩
  | .local _ .vmem, ⟨25, _⟩ => ⟨S512x128, .f32⟩
  | .local _ .vmem, ⟨26, _⟩ => ⟨S2x512x512, .f32⟩
  | .local _ .vmem, ⟨27, _⟩ => ⟨S2x512x512, .f32⟩
  | .local _ .vmem, ⟨28, _⟩ => ⟨S2x512x512, .bf16⟩
  | .local _ .vmem, ⟨29, _⟩ => ⟨S2x512x512, .bf16⟩
  | .local _ .vmem, ⟨30, _⟩ => ⟨S2x512x1, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_call1_call0_cst : Ref sig .tc := ⟨.hbm, 33, rfl⟩
abbrev main_call1_call0_v0 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v32 : Ref sig .tc := ⟨.hbm, 57, rfl⟩
abbrev main_cst_1 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_3 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74_0 : Ref sig .tc := ⟨.hbm, 103, rfl⟩
abbrev main_v74_1 : Ref sig .tc := ⟨.hbm, 104, rfl⟩
abbrev main_v74_2 : Ref sig .tc := ⟨.hbm, 105, rfl⟩
abbrev main_v74_3 : Ref sig .tc := ⟨.hbm, 106, rfl⟩
abbrev main_v74_4 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c512_i32 : BitVec 32 := 512#32
  let v877 : BitVec 32 := Scalar.muli arg2 c512_i32
  v877
def k0_off1 (i : grid0.Coords) : Fin 2 → Nat :=
  let arg2 : BitVec 32 := BitVec.ofNat 32 (i 2).val
  let c512_i32 : BitVec 32 := 512#32
  let v877 : BitVec 32 := Scalar.muli arg2 c512_i32
  let v878 : BitVec 32 := v877
  let v881 : Index := Scalar.indexCast v878
  let c0_626 : Index := 0#32
  ![v881.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c512_i32 : BitVec 32 := 512#32
  let v1101 : BitVec 32 := Scalar.muli arg2 c512_i32
  v1101
def k0_off2 (i : grid0.Coords) : Fin 2 → Nat :=
  let arg2 : BitVec 32 := BitVec.ofNat 32 (i 2).val
  let c512_i32 : BitVec 32 := 512#32
  let v1101 : BitVec 32 := Scalar.muli arg2 c512_i32
  let v1102 : BitVec 32 := v1101
  let v1105 : Index := Scalar.indexCast v1102
  let c0_676 : Index := 0#32
  ![v1105.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg1 : BitVec 32 := BitVec.ofNat 32 (i 1).val
  let c7_i32_7 : BitVec 32 := 7#32
  let v17 : BitVec 1 := Scalar.cmpi .eq arg1 c7_i32_7
  let arg2 : BitVec 32 := BitVec.ofNat 32 (i 2).val
  let c7_i32_8 : BitVec 32 := 7#32
  let v18 : BitVec 1 := Scalar.cmpi .eq arg2 c7_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c16_i32 : BitVec 32 := 16#32
  let v1 : BitVec 32 := Scalar.addi c16_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c8_i32 : BitVec 32 := 8#32
  let v1 : BitVec 32 := Scalar.addi c8_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S4096x5632 : Shape := ⟨2, ![4096, 5632]⟩
abbrev S16 : Shape := ⟨1, ![16]⟩
abbrev S4096x2048 : Shape := ⟨2, ![4096, 2048]⟩
abbrev S4096x1024 : Shape := ⟨2, ![4096, 1024]⟩
abbrev S4096x16 : Shape := ⟨2, ![4096, 16]⟩
abbrev S1x16 : Shape := ⟨2, ![1, 16]⟩
abbrev S_ : Shape := ⟨0, ![]⟩
abbrev S16x4096 : Shape := ⟨2, ![16, 4096]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S16x64x4096 : Shape := ⟨3, ![16, 64, 4096]⟩
abbrev S4096x8x2x1 : Shape := ⟨4, ![4096, 8, 2, 1]⟩
abbrev S4096x8x2x64 : Shape := ⟨4, ![4096, 8, 2, 64]⟩

abbrev nBuf : Space → Nat
  | .hbm => 159
  | .vmem => 0
  | .smem => 0
  | _ => 0

abbrev hbmTy0_0 (i : Nat) : BufTy := match i % 128 with
  | 0 => ⟨S4096x5632, .f32⟩
  | 1 => ⟨S16, .f32⟩
  | 2 => ⟨S4096x2048, .f32⟩
  | 3 => ⟨S4096x1024, .f32⟩
  | 4 => ⟨S4096x1024, .f32⟩
  | 5 => ⟨S4096x1024, .f32⟩
  | 6 => ⟨S4096x16, .f32⟩
  | 7 => ⟨S1x16, .f32⟩
  | 8 => ⟨S4096x16, .f32⟩
  | 9 => ⟨S4096x16, .f32⟩
  | 10 => ⟨S4096x16, .f32⟩
  | 11 => ⟨S_, .f32⟩
  | 12 => ⟨S4096x16, .f32⟩
  | 13 => ⟨S4096x16, .f32⟩
  | 14 => ⟨S4096x16, .f32⟩
  | 15 => ⟨S4096x16, .f32⟩
  | 16 => ⟨S4096x16, .i1⟩
  | 17 => ⟨S4096x16, .f32⟩
  | 18 => ⟨S4096x16, .f32⟩
  | 19 => ⟨S4096x16, .f32⟩
  | 20 => ⟨S4096x16, .f32⟩
  | 21 => ⟨S4096x16, .f32⟩
  | 22 => ⟨S4096x16, .f32⟩
  | 23 => ⟨S4096x16, .f32⟩
  | 24 => ⟨S4096x16, .f32⟩
  | 25 => ⟨S4096x16, .f32⟩
  | 26 => ⟨S16x4096, .f32⟩
  | 27 => ⟨S_, .f32⟩
  | 28 => ⟨S_, .f32⟩
  | 29 => ⟨S16x4096, .f32⟩
  | 30 => ⟨S4096x16x64, .f32⟩
  | 31 => ⟨S16x4096x64, .f32⟩
  | 32 => ⟨S4096x16x64, .f32⟩
  | 33 => ⟨S16x4096x64, .f32⟩
  | 34 => ⟨S4096x16x64, .f32⟩
  | 35 => ⟨S16x4096x64, .f32⟩
  | 36 => ⟨S16x4096x4096, .f32⟩
  | 37 => ⟨S_, .f32⟩
  | 38 => ⟨S16x4096x4096, .f32⟩
  | 39 => ⟨S16x4096x4096, .f32⟩
  | 40 => ⟨S16x4096x1, .f32⟩
  | 41 => ⟨S16x4096x4096, .f32⟩
  | 42 => ⟨S16x4096x4096, .f32⟩
  | 43 => ⟨S16x1x4096, .f32⟩
  | 44 => ⟨S16x4096x4096, .f32⟩
  | 45 => ⟨S16x4096x4096, .f32⟩
  | 46 => ⟨S4096, .i32⟩
  | 47 => ⟨S4096x1, .i32⟩
  | 48 => ⟨S1x4096, .i32⟩
  | 49 => ⟨S4096x4096, .i32⟩
  | 50 => ⟨S4096x4096, .i32⟩
  | 51 => ⟨S4096x4096, .i1⟩
  | 52 => ⟨S1x4096x4096, .i1⟩
  | 53 => ⟨S_, .f32⟩
  | 54 => ⟨S_, .f32⟩
  | 55 => ⟨S16x4096x4096, .i1⟩
  | 56 => ⟨S16x4096x4096, .f32⟩
  | 57 => ⟨S16x4096x4096, .f32⟩
  | 58 => ⟨S_, .f32⟩
  | 59 => ⟨S16x4096x4096, .f32⟩
  | 60 => ⟨S_, .f32⟩
  | 61 => ⟨S16x4096, .f32⟩
  | 62 => ⟨S16x4096x1, .f32⟩
  | 63 => ⟨S16x4096x4096, .f32⟩
  | 64 => ⟨S16x4096x4096, .i1⟩
  | 65 => ⟨S16x4096x4096, .f32⟩
  | 66 => ⟨S_, .f32⟩
  | 67 => ⟨S16x4096, .f32⟩
  | 68 => ⟨S_, .f32⟩
  | 69 => ⟨S16x4096, .f32⟩
  | 70 => ⟨S16x4096, .f32⟩
  | 71 => ⟨S_, .f32⟩
  | 72 => ⟨S16x4096, .f32⟩
  | 73 => ⟨S16x4096, .i1⟩
  | 74 => ⟨S_, .f32⟩
  | 75 => ⟨S16x4096, .f32⟩
  | 76 => ⟨S16x4096, .i1⟩
  | 77 => ⟨S_, .f32⟩
  | 78 => ⟨S16x4096, .f32⟩
  | 79 => ⟨S_, .f32⟩
  | 80 => ⟨S16x4096, .f32⟩
  | 81 => ⟨S_, .f32⟩
  | 82 => ⟨S16x4096, .f32⟩
  | 83 => ⟨S16x4096, .f32⟩
  | 84 => ⟨S16x4096, .f32⟩
  | 85 => ⟨S16x4096x1, .f32⟩
  | 86 => ⟨S16x4096x4096, .f32⟩
  | 87 => ⟨S16x4096x4096, .f32⟩
  | 88 => ⟨S16x4096x4096, .f32⟩
  | 89 => ⟨S_, .f32⟩
  | 90 => ⟨S16x4096, .f32⟩
  | 91 => ⟨S16x4096x1, .f32⟩
  | 92 => ⟨S16x4096x4096, .f32⟩
  | 93 => ⟨S16x4096x4096, .f32⟩
  | 94 => ⟨S16x4096x1, .f32⟩
  | 95 => ⟨S_, .f32⟩
  | 96 => ⟨S16x4096x1, .f32⟩
  | 97 => ⟨S16x4096x1, .f32⟩
  | 98 => ⟨S16x4096x64, .f32⟩
  | 99 => ⟨S4096x16x64, .f32⟩
  | 100 => ⟨S4096x1024, .f32⟩
  | 101 => ⟨S4096x1024, .f32⟩
  | 102 => ⟨S4096x16x64, .f32⟩
  | 103 => ⟨S16x4096x64, .f32⟩
  | 104 => ⟨S16x64x4096, .f32⟩
  | 105 => ⟨S16x4096x64, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S16x4096, .f32⟩
  | 112 => ⟨S16x4096x1, .f32⟩
  | 113 => ⟨S16x4096x1, .f32⟩
  | 114 => ⟨S16x4096x4096, .f32⟩
  | 115 => ⟨S16x4096x4096, .f32⟩
  | 116 => ⟨S_, .f32⟩
  | 117 => ⟨S16x4096, .f32⟩
  | 118 => ⟨S16x4096x4096, .f32⟩
  | 119 => ⟨S16x4096x4096, .f32⟩
  | 120 => ⟨S16x4096x4096, .f32⟩
  | 121 => ⟨S_, .f32⟩
  | 122 => ⟨S16x4096x4096, .f32⟩
  | 123 => ⟨S16x4096x4096, .f32⟩
  | 124 => ⟨S16x4096x4096, .f32⟩
  | 125 => ⟨S_, .f32⟩
  | 126 => ⟨S16x4096, .f32⟩
  | 127 => ⟨S16x1x4096, .f32⟩
  | _ => ⟨S4096x5632, .f32⟩

abbrev hbmTy0_1 (i : Nat) : BufTy := match i % 128 with
  | 0 => ⟨S_, .f32⟩
  | 1 => ⟨S16x4096, .f32⟩
  | 2 => ⟨S_, .f32⟩
  | 3 => ⟨S16x4096, .f32⟩
  | 4 => ⟨S16x4096x1, .f32⟩
  | 5 => ⟨S_, .f32⟩
  | 6 => ⟨S16x4096, .f32⟩
  | 7 => ⟨S_, .f32⟩
  | 8 => ⟨S16x4096x4096, .f32⟩
  | 9 => ⟨S16x4096x4096, .f32⟩
  | 10 => ⟨S16x4096x64, .f32⟩
  | 11 => ⟨S16x4096x64, .f32⟩
  | 12 => ⟨S4096x16x64, .f32⟩
  | 13 => ⟨S4096x1024, .f32⟩
  | 14 => ⟨S4096x16x64, .f32⟩
  | 15 => ⟨S4096x1024, .f32⟩
  | 16 => ⟨S4096x16x64, .f32⟩
  | 17 => ⟨S4096x1024, .f32⟩
  | 18 => ⟨S4096x1024, .bf16⟩
  | 19 => ⟨S4096x1024, .bf16⟩
  | 20 => ⟨S16x4096, .f32⟩
  | 21 => ⟨S4096x16, .f32⟩
  | 22 => ⟨S4096x8x2x1, .f32⟩
  | 23 => ⟨S4096x8x2x1, .f32⟩
  | 24 => ⟨S4096x8x2x64, .f32⟩
  | 25 => ⟨S4096x1024, .f32⟩
  | 26 => ⟨S4096x16, .f32⟩
  | 27 => ⟨S4096x8x2x1, .f32⟩
  | 28 => ⟨S4096x8x2x1, .f32⟩
  | 29 => ⟨S4096x8x2x64, .f32⟩
  | 30 => ⟨S4096x1024, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩
abbrev main_call1_call0_cst : Ref sig .tc := ⟨.hbm, 27, rfl⟩
abbrev main_call1_call0_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_call2_v0 : Ref sig .tc := ⟨.hbm, 54, rfl⟩
abbrev main_v32_1 : Ref sig .tc := ⟨.hbm, 55, rfl⟩
abbrev main_call2_v2 : Ref sig .tc := ⟨.hbm, 56, rfl⟩
abbrev main_v32_0 : Ref sig .tc := ⟨.hbm, 57, rfl⟩
abbrev main_call2_cst : Ref sig .tc := ⟨.hbm, 58, rfl⟩
abbrev main_v32_2 : Ref sig .tc := ⟨.hbm, 59, rfl⟩
abbrev main_cst_1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_2 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_v42 : Ref sig .tc := ⟨.hbm, 73, rfl⟩
abbrev main_cst_5 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_cst_7 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_11 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_12 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call3_cst : Ref sig .tc := ⟨.hbm, 121, rfl⟩
abbrev main_call3_v0 : Ref sig .tc := ⟨.hbm, 122, rfl⟩
abbrev main_v82 : Ref sig .tc := ⟨.hbm, 123, rfl⟩
abbrev main_v83 : Ref sig .tc := ⟨.hbm, 124, rfl⟩
abbrev main_cst_13 : Ref sig .tc := ⟨.hbm, 125, rfl⟩
abbrev main_v84 : Ref sig .tc := ⟨.hbm, 126, rfl⟩
abbrev main_v85 : Ref sig .tc := ⟨.hbm, 127, rfl⟩
abbrev main_cst_14 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_v88 : Ref sig .tc := ⟨.hbm, 132, rfl⟩
abbrev main_cst_16 : Ref sig .tc := ⟨.hbm, 133, rfl⟩
abbrev main_v89 : Ref sig .tc := ⟨.hbm, 134, rfl⟩
abbrev main_cst_17 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]
-- ==== Kernel2.lean ====
abbrev S8x4096x704 : Shape := ⟨3, ![8, 4096, 704]⟩
abbrev S4096x2048 : Shape := ⟨2, ![4096, 2048]⟩
abbrev S8x704x2048 : Shape := ⟨3, ![8, 704, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .f32⟩
  | .hbm, ⟨2, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .f32⟩
  | .local _ .vmem, ⟨3, _⟩ => ⟨S1024x2048, .f32⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8x4096x704 : Shape := ⟨3, ![8, 4096, 704]⟩
abbrev S4096x2048 : Shape := ⟨2, ![4096, 2048]⟩
abbrev S_ : Shape := ⟨0, ![]⟩
abbrev S8x704x2048 : Shape := ⟨3, ![8, 704, 2048]⟩
abbrev S2048x8x704 : Shape := ⟨3, ![2048, 8, 704]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .f32⟩
  | .hbm, ⟨2, _⟩ => ⟨S_, .f32⟩
  | .hbm, ⟨3, _⟩ => ⟨S8x704x2048, .f32⟩
  | .hbm, ⟨4, _⟩ => ⟨S8x4096x704, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S2048x8x704, .f32⟩
  | .hbm, ⟨13, _⟩ => ⟨S8x704x2048, .f32⟩
  | .hbm, ⟨14, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S8x4096x704 : Shape := ⟨3, ![8, 4096, 704]⟩
abbrev S4096x2048 : Shape := ⟨2, ![4096, 2048]⟩
abbrev S8x704x2048 : Shape := ⟨3, ![8, 704, 2048]⟩
abbrev S1x1024x704 : Shape := ⟨3, ![1, 1024, 704]⟩
abbrev S1024x2048 : Shape := ⟨2, ![1024, 2048]⟩
abbrev S1x704x2048 : Shape := ⟨3, ![1, 704, 2048]⟩
abbrev S704x2048 : Shape := ⟨2, ![704, 2048]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x704x2048, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x2048, .bf16⟩
  | .local _ .vmem, ⟨3, _⟩ => ⟨S1024x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8x4096x704 : Shape := ⟨3, ![8, 4096, 704]⟩
abbrev S4096x2048 : Shape := ⟨2, ![4096, 2048]⟩
abbrev S_ : Shape := ⟨0, ![]⟩
abbrev S8x704x2048 : Shape := ⟨3, ![8, 704, 2048]⟩
abbrev S8x704x4096 : Shape := ⟨3, ![8, 704, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S_, .f32⟩
  | .hbm, ⟨3, _⟩ => ⟨S8x704x2048, .f32⟩
  | .hbm, ⟨4, _⟩ => ⟨S4096x2048, .f32⟩
  | .hbm, ⟨5, _⟩ => ⟨S8x704x4096, .f32⟩
  | .hbm, ⟨6, _⟩ => ⟨S8x4096x704, .f32⟩
  | .hbm, ⟨7, _⟩ => ⟨S8x4096x704, .f32⟩
  | .hbm, ⟨8, _⟩ => ⟨S8x704x4096, .f32⟩
  | .hbm, ⟨9, _⟩ => ⟨S8x704x2048, .f32⟩
  | .hbm, ⟨10, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2048 : Shape := ⟨2, ![4096, 2048]⟩
abbrev S8x4096x704 : Shape := ⟨3, ![8, 4096, 704]⟩
abbrev S8x704x2048 : Shape := ⟨3, ![8, 704, 2048]⟩
abbrev S512x2048 : Shape := ⟨2, ![512, 2048]⟩
abbrev S1x512x704 : Shape := ⟨3, ![1, 512, 704]⟩
abbrev S1x704x2048 : Shape := ⟨3, ![1, 704, 2048]⟩
abbrev S704x2048 : Shape := ⟨2, ![704, 2048]⟩
abbrev S512x704 : Shape := ⟨2, ![512, 704]⟩

abbrev nBuf : Space → Nat
  | .hbm => 7
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .f32⟩
  | .hbm, ⟨2, _⟩ => ⟨S8x4096x704, .f32⟩
  | .hbm, ⟨3, _⟩ => ⟨S8x704x2048, .bf16⟩
  | .hbm, ⟨4, _⟩ => ⟨S8x4096x704, .bf16⟩
  | .hbm, ⟨5, _⟩ => ⟨S8x4096x704, .bf16⟩
  | .hbm, ⟨6, _⟩ => ⟨S8x4096x704, .bf16⟩
  | .local _ .vmem, ⟨0, _⟩ => ⟨S512x2048, .f32⟩
  | .local _ .vmem, ⟨1, _⟩ => ⟨S512x2048, .f32⟩
  | .local _ .vmem, ⟨2, _⟩ => ⟨S1x512x704, .f32⟩
  | .local _ .vmem, ⟨3, _⟩ => ⟨S1x512x704, .f32⟩
  | .local _ .vmem, ⟨4, _⟩ => ⟨S1x512x704, .f32⟩
  | .local _ .vmem, ⟨5, _⟩ => ⟨S1x512x704, .f32⟩
  | .local _ .vmem, ⟨6, _⟩ => ⟨S1x704x2048, .bf16⟩
  | .local _ .vmem, ⟨7, _⟩ => ⟨S1x704x2048, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4096x2048 : Shape := ⟨2, ![4096, 2048]⟩
abbrev S8x4096x704 : Shape := ⟨3, ![8, 4096, 704]⟩
abbrev S8x704x2048 : Shape := ⟨3, ![8, 704, 2048]⟩
abbrev S_ : Shape := ⟨0, ![]⟩
abbrev S4096x8x704 : Shape := ⟨3, ![4096, 8, 704]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .f32⟩
  | .hbm, ⟨2, _⟩ => ⟨S8x4096x704, .f32⟩
  | .hbm, ⟨3, _⟩ => ⟨S8x704x2048, .bf16⟩
  | .hbm, ⟨4, _⟩ => ⟨S8x4096x704, .f32⟩
  | .hbm, ⟨5, _⟩ => ⟨S8x4096x704, .f32⟩
  | .hbm, ⟨6, _⟩ => ⟨S_, .f32⟩
  | .hbm, ⟨7, _⟩ => ⟨S8x4096x704, .f32⟩
  | .hbm, ⟨8, _⟩ => ⟨S8x4096x704, .f32⟩
  | .hbm, ⟨9, _⟩ => ⟨S_, .f32⟩
  | .hbm, ⟨10, _⟩ => ⟨S8x4096x704, .f32⟩
  | .hbm, ⟨11, _⟩ => ⟨S8x4096x704, .f32⟩
  | .hbm, ⟨12, _⟩ => ⟨S_, .f32⟩
  | .hbm, ⟨13, _⟩ => ⟨S8x4096x704, .f32⟩
  | .hbm, ⟨14, _⟩ => ⟨S8x4096x704, .f32⟩
  | .hbm, ⟨15, _⟩ => ⟨S8x4096x704, .f32⟩
  | .hbm, ⟨16, _⟩ => ⟨S8x4096x704, .f32⟩
  | .hbm, ⟨17, _⟩ => ⟨S8x4096x704, .f32⟩
  | .hbm, ⟨18, _⟩ => ⟨S8x704x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x8x704, .f32⟩
  | .hbm, ⟨27, _⟩ => ⟨S8x4096x704, .f32⟩
  | .hbm, ⟨28, _⟩ => ⟨S8x4096x704, .f32⟩
  | .hbm, ⟨29, _⟩ => ⟨S8x4096x704, .f32⟩
  | .hbm, ⟨30, _⟩ => ⟨S8x4096x704, .f32⟩
  | .hbm, ⟨31, _⟩ => ⟨S8x4096x704, .f32⟩
  | .hbm, ⟨32, _⟩ => ⟨S8x4096x704, .f32⟩
  | .hbm, ⟨33, _⟩ => ⟨S8x4096x704, .f32⟩
  | .hbm, ⟨34, _⟩ => ⟨S8x4096x704, .bf16⟩
  | .hbm, ⟨35, _⟩ => ⟨S8x4096x704, .bf16⟩
  | .hbm, ⟨36, _⟩ => ⟨S8x4096x704, .f32⟩
  | .hbm, ⟨37, _⟩ => ⟨S8x4096x704, .f32⟩
  | .hbm, ⟨38, _⟩ => ⟨S_, .f32⟩
  | .hbm, ⟨39, _⟩ => ⟨S8x4096x704, .f32⟩
  | .hbm, ⟨40, _⟩ => ⟨S8x4096x704, .f32⟩
  | .hbm, ⟨41, _⟩ => ⟨S_, .f32⟩
  | .hbm, ⟨42, _⟩ => ⟨S8x4096x704, .f32⟩
  | .hbm, ⟨43, _⟩ => ⟨S8x4096x704, .f32⟩
  | .hbm, ⟨44, _⟩ => ⟨S8x4096x704, .f32⟩
  | .hbm, ⟨45, _⟩ => ⟨S8x4096x704, .f32⟩
  | .hbm, ⟨46, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Kernel5.lean ====
abbrev S8x4096x704 : Shape := ⟨3, ![8, 4096, 704]⟩
abbrev S8x704x2048 : Shape := ⟨3, ![8, 704, 2048]⟩
abbrev S4096x2048 : Shape := ⟨2, ![4096, 2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 9
  | .vmem => 17
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | .local _ .vmem, ⟨16, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_20 : BitVec 32 := 0#32
  let v26 : BitVec 1 := Scalar.cmpi .ne v25 c0_i32_20
  v26

@[reducible] def k0_t1_loop : Scf.Loop 32 :=
  let c0_i32_24 : BitVec 32 := 0#32
  let c4_i32 : BitVec 32 := 4#32
  let v30 : BitVec 32 := Scalar.addi c0_i32_24 c4_i32
  let c1_i32 : BitVec 32 := 1#32
  ⟨c0_i32_24, v30, c1_i32⟩
def k0_mult1 (k0_t1 : Fin k0_t1_loop.trips) : BitVec 32 :=
  let c0_i32_24 : BitVec 32 := 0#32
  let c1_i32 : BitVec 32 := 1#32
  let arg12 : BitVec 32 := Scf.iv c0_i32_24 c1_i32 k0_t1
  let c128_i32 : BitVec 32 := 128#32
  let v34 : BitVec 32 := Scalar.muli arg12 c128_i32
  v34
def k0_off1 (k0_t1 : Fin k0_t1_loop.trips) : Fin 2 → Nat :=
  let c0_i32_24 : BitVec 32 := 0#32
  let c1_i32 : BitVec 32 := 1#32
  let arg12 : BitVec 32 := Scf.iv c0_i32_24 c1_i32 k0_t1
  let c128_i32 : BitVec 32 := 128#32
  let v34 : BitVec 32 := Scalar.muli arg12 c128_i32
  let v35 : BitVec 32 := v34
  let v36 : Index := Scalar.indexCast v35
  let c0_28 : Index := 0#32
  ![v36.toNat, 0]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S8x4096x704 : Shape := ⟨3, ![8, 4096, 704]⟩
abbrev S8x704x2048 : Shape := ⟨3, ![8, 704, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S8x704x4096 : Shape := ⟨3, ![8, 704, 4096]⟩
abbrev S2048 : Shape := ⟨1, ![2048]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x704x2048, .bf16⟩
  | .hbm, ⟨3, _⟩ => ⟨S8x704x2048, .bf16⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S8x704x2048, .f32⟩
  | .hbm, ⟨8, _⟩ => ⟨S8x704x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S8x704x4096, .f32⟩
  | .hbm, ⟨29, _⟩ => ⟨S8x4096x704, .f32⟩
  | .hbm, ⟨30, _⟩ => ⟨S8x704x4096, .f32⟩
  | .hbm, ⟨31, _⟩ => ⟨S8x4096x704, .f32⟩
  | .hbm, ⟨32, _⟩ => ⟨S8x4096x704, .f32⟩
  | .hbm, ⟨33, _⟩ => ⟨S8x4096x704, .f32⟩
  | .hbm, ⟨34, _⟩ => ⟨S8x704x4096, .f32⟩
  | .hbm, ⟨35, _⟩ => ⟨S4096x2048, .f32⟩
  | .hbm, ⟨36, _⟩ => ⟨S8x704x4096, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel6.lean ====
abbrev S4096x2048 : Shape := ⟨2, ![4096, 2048]⟩
abbrev S8x4096x704 : Shape := ⟨3, ![8, 4096, 704]⟩
abbrev S8x704x2048 : Shape := ⟨3, ![8, 704, 2048]⟩
abbrev S512x2048 : Shape := ⟨2, ![512, 2048]⟩
abbrev S1x512x704 : Shape := ⟨3, ![1, 512, 704]⟩
abbrev S1x704x2048 : Shape := ⟨3, ![1, 704, 2048]⟩
abbrev S512x704 : Shape := ⟨2, ![512, 704]⟩
abbrev S704x2048 : Shape := ⟨2, ![704, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .bf16⟩
  | .hbm, ⟨2, _⟩ => ⟨S8x704x2048, .bf16⟩
  | .hbm, ⟨3, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x512x704, .bf16⟩
  | .local _ .vmem, ⟨3, _⟩ => ⟨S1x512x704, .bf16⟩
  | .local _ .vmem, ⟨4, _⟩ => ⟨S1x704x2048, .bf16⟩
  | .local _ .vmem, ⟨5, _⟩ => ⟨S1x704x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S4096x2048 : Shape := ⟨2, ![4096, 2048]⟩
abbrev S8x4096x704 : Shape := ⟨3, ![8, 4096, 704]⟩
abbrev S8x704x2048 : Shape := ⟨3, ![8, 704, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x4096x704, .bf16⟩
  | .hbm, ⟨2, _⟩ => ⟨S8x704x2048, .bf16⟩
  | .hbm, ⟨3, _⟩ => ⟨S8x4096x704, .f32⟩
  | .hbm, ⟨4, _⟩ => ⟨S8x704x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

@[reducible] def k0_t1_loop : Scf.Loop 32 :=
  let c0_i32_15 : BitVec 32 := 0#32
  let c4_i32 : BitVec 32 := 4#32
  let v22 : BitVec 32 := Scalar.addi c0_i32_15 c4_i32
  let c1_i32 : BitVec 32 := 1#32
  ⟨c0_i32_15, v22, c1_i32⟩
def k0_mult1 (k0_t1 : Fin k0_t1_loop.trips) : BitVec 32 :=
  let c0_i32_15 : BitVec 32 := 0#32
  let c1_i32 : BitVec 32 := 1#32
  let arg10 : BitVec 32 := Scf.iv c0_i32_15 c1_i32 k0_t1
  let c128_i32 : BitVec 32 := 128#32
  let v26 : BitVec 32 := Scalar.muli arg10 c128_i32
  v26
def k0_off1 (k0_t1 : Fin k0_t1_loop.trips) : Fin 2 → Nat :=
  let c0_i32_15 : BitVec 32 := 0#32
  let c1_i32 : BitVec 32 := 1#32
  let arg10 : BitVec 32 := Scf.iv c0_i32_15 c1_i32 k0_t1
  let c128_i32 : BitVec 32 := 128#32
  let v26 : BitVec 32 := Scalar.muli arg10 c128_i32
  let v27 : BitVec 32 := v26
  let v28 : Index := Scalar.indexCast v27
  let c0_19 : Index := 0#32
  ![v28.toNat, 0]
def k0_cond2 (i : grid0.Coords) : BitVec 1 :=
  let arg0 : BitVec 32 := BitVec.ofNat 32 (i 0).val
  let c0_i32_8 : BitVec 32 := 0#32
  let v11 : BitVec 1 := Scalar.cmpi .eq arg0 c0_i32_8
  let arg1 : BitVec 32 := BitVec.ofNat 32 (i 1).val
  let c0_i32_9 : BitVec 32 := 0#32
  let v12 : BitVec 1 := Scalar.cmpi .eq arg1 c0_i32_9
  let v13 : BitVec 1 := Scalar.andi v11 v12
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048x5632 : Shape := ⟨2, ![2048, 5632]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S5632x2048, .f32⟩
  | .hbm, ⟨25, _⟩ => ⟨S2048x5632, .f32⟩
  | .hbm, ⟨26, _⟩ => ⟨S4096x5632, .f32⟩
  | .hbm, ⟨27, _⟩ => ⟨S4096x5632, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x5632 : Shape := ⟨2, ![4096, 5632]⟩
abbrev S4096x2048 : Shape := ⟨2, ![4096, 2048]⟩
abbrev S5632x2048 : Shape := ⟨2, ![5632, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .f32⟩
  | .local _ .vmem, ⟨3, _⟩ => ⟨S1024x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S1x2048 : Shape := ⟨2, ![1, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S5632x2048, .bf16⟩
  | .hbm, ⟨3, _⟩ => ⟨S4096x5632, .f32⟩
  | .hbm, ⟨4, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | .local _ .vmem, ⟨8, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference12Ideal.lean ====
abbrev S4096x2048 : Shape := ⟨2, ![4096, 2048]⟩
abbrev S1x2048 : Shape := ⟨2, ![1, 2048]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S2048x5632 : Shape := ⟨2, ![2048, 5632]⟩
abbrev S4096x5632 : Shape := ⟨2, ![4096, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S5632x2048, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S5632x2048, .f32⟩
  | .hbm, ⟨19, _⟩ => ⟨S2048x5632, .f32⟩
  | .hbm, ⟨20, _⟩ => ⟨S4096x5632, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S8x704x2048 : Shape := ⟨3, ![8, 704, 2048]⟩
abbrev S8x4096x704 : Shape := ⟨3, ![8, 4096, 704]⟩
abbrev S512x2048 : Shape := ⟨2, ![512, 2048]⟩
abbrev S1x704x2048 : Shape := ⟨3, ![1, 704, 2048]⟩
abbrev S1x512x704 : Shape := ⟨3, ![1, 512, 704]⟩
abbrev S512 : Shape := ⟨1, ![512]⟩
abbrev S512x1 : Shape := ⟨2, ![512, 1]⟩
abbrev S704x2048 : Shape := ⟨2, ![704, 2048]⟩
abbrev S512x704 : Shape := ⟨2, ![512, 704]⟩

abbrev nBuf : Space → Nat
  | .hbm => 8
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x704x2048, .bf16⟩
  | .hbm, ⟨3, _⟩ => ⟨S8x704x2048, .bf16⟩
  | .hbm, ⟨4, _⟩ => ⟨S4096x2048, .bf16⟩
  | .hbm, ⟨5, _⟩ => ⟨S8x4096x704, .f32⟩
  | .hbm, ⟨6, _⟩ => ⟨S8x4096x704, .f32⟩
  | .hbm, ⟨7, _⟩ => ⟨S8x4096x704, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S512x2048, .bf16⟩
  | .local _ .vmem, ⟨8, _⟩ => ⟨S512x2048, .bf16⟩
  | .local _ .vmem, ⟨9, _⟩ => ⟨S1x512x704, .f32⟩
  | .local _ .vmem, ⟨10, _⟩ => ⟨S1x512x704, .f32⟩
  | .local _ .vmem, ⟨11, _⟩ => ⟨S1x512x704, .f32⟩
  | .local _ .vmem, ⟨12, _⟩ => ⟨S1x512x704, .f32⟩
  | .local _ .vmem, ⟨13, _⟩ => ⟨S1x512x704, .bf16⟩
  | .local _ .vmem, ⟨14, _⟩ => ⟨S1x512x704, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S4096x2048 : Shape := ⟨2, ![4096, 2048]⟩
abbrev S1x2048 : Shape := ⟨2, ![1, 2048]⟩
abbrev S8x704x2048 : Shape := ⟨3, ![8, 704, 2048]⟩
abbrev S_ : Shape := ⟨0, ![]⟩
abbrev S4096 : Shape := ⟨1, ![4096]⟩
abbrev S4096x1 : Shape := ⟨2, ![4096, 1]⟩
abbrev S8x704x4096 : Shape := ⟨3, ![8, 704, 4096]⟩
abbrev S8x4096x704 : Shape := ⟨3, ![8, 4096, 704]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x704x2048, .bf16⟩
  | .hbm, ⟨3, _⟩ => ⟨S8x704x2048, .bf16⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S8x704x2048, .f32⟩
  | .hbm, ⟨20, _⟩ => ⟨S8x704x4096, .f32⟩
  | .hbm, ⟨21, _⟩ => ⟨S8x4096x704, .f32⟩
  | .hbm, ⟨22, _⟩ => ⟨S8x704x2048, .f32⟩
  | .hbm, ⟨23, _⟩ => ⟨S8x704x4096, .f32⟩
  | .hbm, ⟨24, _⟩ => ⟨S8x4096x704, .f32⟩
  | .hbm, ⟨25, _⟩ => ⟨S4096x2048, .bf16⟩
  | .hbm, ⟨26, _⟩ => ⟨S8x4096x704, .f32⟩
  | .hbm, ⟨27, _⟩ => ⟨S8x4096x704, .f32⟩
  | .hbm, ⟨28, _⟩ => ⟨S_, .f32⟩
  | .hbm, ⟨29, _⟩ => ⟨S8x4096x704, .f32⟩
  | .hbm, ⟨30, _⟩ => ⟨S8x4096x704, .f32⟩
  | .hbm, ⟨31, _⟩ => ⟨S_, .f32⟩
  | .hbm, ⟨32, _⟩ => ⟨S8x4096x704, .f32⟩
  | .hbm, ⟨33, _⟩ => ⟨S8x4096x704, .f32⟩
  | .hbm, ⟨34, _⟩ => ⟨S8x4096x704, .f32⟩
  | .hbm, ⟨35, _⟩ => ⟨S8x4096x704, .f32⟩
  | .hbm, ⟨36, _⟩ => ⟨S8x4096x704, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel14.lean ====
abbrev S4096x2048 : Shape := ⟨2, ![4096, 2048]⟩
abbrev S1x2048 : Shape := ⟨2, ![1, 2048]⟩
abbrev S8x704x2048 : Shape := ⟨3, ![8, 704, 2048]⟩
abbrev S8x4096x704 : Shape := ⟨3, ![8, 4096, 704]⟩
abbrev S512x2048 : Shape := ⟨2, ![512, 2048]⟩
abbrev S1x704x2048 : Shape := ⟨3, ![1, 704, 2048]⟩
abbrev S1x512x704 : Shape := ⟨3, ![1, 512, 704]⟩
abbrev S512 : Shape := ⟨1, ![512]⟩
abbrev S512x1 : Shape := ⟨2, ![512, 1]⟩
abbrev S704x2048 : Shape := ⟨2, ![704, 2048]⟩
abbrev S512x704 : Shape := ⟨2, ![512, 704]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x704x2048, .bf16⟩
  | .hbm, ⟨3, _⟩ => ⟨S8x704x2048, .bf16⟩
  | .hbm, ⟨4, _⟩ => ⟨S8x704x2048, .bf16⟩
  | .hbm, ⟨5, _⟩ => ⟨S4096x2048, .f32⟩
  | .hbm, ⟨6, _⟩ => ⟨S4096x2048, .bf16⟩
  | .hbm, ⟨7, _⟩ => ⟨S8x4096x704, .f32⟩
  | .hbm, ⟨8, _⟩ => ⟨S8x4096x704, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x512x704, .f32⟩
  | .local _ .vmem, ⟨14, _⟩ => ⟨S1x512x704, .f32⟩
  | .local _ .vmem, ⟨15, _⟩ => ⟨S1x512x704, .f32⟩
  | .local _ .vmem, ⟨16, _⟩ => ⟨S1x512x704, .f32⟩
  | .local _ .vmem, ⟨17, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_26 : BitVec 32 := 0#32
  let v37 : BitVec 1 := Scalar.cmpi .ne v36 c0_i32_26
  v37

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S4096x2048 : Shape := ⟨2, ![4096, 2048]⟩
abbrev S1x2048 : Shape := ⟨2, ![1, 2048]⟩
abbrev S8x704x2048 : Shape := ⟨3, ![8, 704, 2048]⟩
abbrev S_ : Shape := ⟨0, ![]⟩
abbrev S4096 : Shape := ⟨1, ![4096]⟩
abbrev S4096x1 : Shape := ⟨2, ![4096, 1]⟩
abbrev S8x704x4096 : Shape := ⟨3, ![8, 704, 4096]⟩
abbrev S8x4096x704 : Shape := ⟨3, ![8, 4096, 704]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x704x2048, .bf16⟩
  | .hbm, ⟨3, _⟩ => ⟨S8x704x2048, .bf16⟩
  | .hbm, ⟨4, _⟩ => ⟨S8x704x2048, .bf16⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S8x704x2048, .f32⟩
  | .hbm, ⟨21, _⟩ => ⟨S8x704x4096, .f32⟩
  | .hbm, ⟨22, _⟩ => ⟨S8x4096x704, .f32⟩
  | .hbm, ⟨23, _⟩ => ⟨S8x704x2048, .f32⟩
  | .hbm, ⟨24, _⟩ => ⟨S8x704x4096, .f32⟩
  | .hbm, ⟨25, _⟩ => ⟨S8x4096x704, .f32⟩
  | .hbm, ⟨26, _⟩ => ⟨S8x4096x704, .f32⟩
  | .hbm, ⟨27, _⟩ => ⟨S8x4096x704, .f32⟩
  | .hbm, ⟨28, _⟩ => ⟨S_, .f32⟩
  | .hbm, ⟨29, _⟩ => ⟨S8x4096x704, .f32⟩
  | .hbm, ⟨30, _⟩ => ⟨S8x4096x704, .f32⟩
  | .hbm, ⟨31, _⟩ => ⟨S_, .f32⟩
  | .hbm, ⟨32, _⟩ => ⟨S8x4096x704, .f32⟩
  | .hbm, ⟨33, _⟩ => ⟨S8x4096x704, .f32⟩
  | .hbm, ⟨34, _⟩ => ⟨S8x4096x704, .f32⟩
  | .hbm, ⟨35, _⟩ => ⟨S8x4096x704, .f32⟩
  | .hbm, ⟨36, _⟩ => ⟨S8x704x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Proof.Conds.lean ====
/- The precondition says that every entry of the arguments is a real number; the mask selects the lanes that are read. -/
module

public import proofs.«01_k».proof.Pre_finite
public import proofs.«01_k».proof.On_read_lanes
public import Idealize.ShloMosaic.Lib.ReduceAll
public import Idealize.ShloMosaic.Lib.Pointwise

@[expose] public section

noncomputable section
namespace Cert.Conds
open Idealize.ShloMosaic

/-- The shapes that the precondition's lines take. -/
instance preFacts : Cert.Pre_finite.Facts where
  bcast_S_S4096x5632 := by decide
  bcast_S_S16 := by decide
  bcast_S_S4096x2048 := by decide
  reducesTo_S4096x5632_S_d0_1 := by decide
  h_S_ := by decide
  reducesTo_S16_S_d0 := by decide
  reducesTo_S4096x2048_S_d0_1 := by decide

/-- The shapes that the mask's lines take. -/
instance onFacts : Cert.On_read_lanes.Facts where
  bcast_S_S4096x1024 := by decide

/-- A number whose absolute value is below infinity is real. -/
theorem real_of_abs (x : EReal) (h : Ideal.cmp .olt (max x (-x)) (Ideal.ofBits .f32 0x7F800000#32) = 1#1) : x = (x.toReal : EReal) := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => rfl

variable {X0 : FVec Ideal Pre_finite.S4096x5632 .f32} {X1 : FVec Ideal Pre_finite.S16 .f32} {X2 : FVec Ideal Pre_finite.S4096x2048 .f32}

instance : Subsingleton Pre_finite.S_.Idx := ⟨fun a b => funext fun i => i.elim0⟩

/-- Under the precondition every entry of the three arguments is a real number. -/
theorem finite (h : Pre_finite.fn (F := Ideal) X0 X1 X2 = fun _ => 1#1) :
    (∀ i, X0 i = ((X0 i).toReal : EReal)) ∧ (∀ i, X1 i = ((X1 i).toReal : EReal)) ∧ (∀ i, X2 i = ((X2 i).toReal : EReal)) := by
  have h' := congrFun h (fun i => i.elim0)
  obtain ⟨h01, h2⟩ := IntOp.andi_eq_one.1 h'
  obtain ⟨h0, h1⟩ := IntOp.andi_eq_one.1 h01
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i)⟩

/-- The mask of the column sums selects the first lane of every head. -/
theorem lanes0 (i : On_read_lanes.S4096x1024.Idx) (h : (On_read_lanes.fn (F := Ideal) X0 X1 X2).2.2.2.1 i = 1#1) : (i 1).val % 64 = 0 := by
  have hi : (i 1).val < 1024 := (i 1).isLt
  have e : IntOp.cmpi .eq (IntOp.andi (BitVec.ofNat 32 (i 1).val) 63#32) 0#32 = 1#1 := h
  generalize (i 1).val = n at hi e
  revert n
  decide

/-- The mask of the row sums selects the fourth lane of every head. -/
theorem lanes3 (i : On_read_lanes.S4096x1024.Idx) (h : (On_read_lanes.fn (F := Ideal) X0 X1 X2).2.2.2.2 i = 1#1) : (i 1).val % 64 = 3 := by
  have hi : (i 1).val < 1024 := (i 1).isLt
  have e : IntOp.cmpi .eq (IntOp.andi (BitVec.ofNat 32 (i 1).val) 63#32) 3#32 = 1#1 := h
  generalize (i 1).val = n at hi e
  revert n
  decide

end Cert.Conds
-- ==== Proof.Body.lean ====
/- What the kernel's body computes at one point, read at an index: scores, weights, their gradients, and what a tile adds to every accumulator. -/
module

public import proofs.«01_k».proof.Proof.Gen.KernelIdeal.Frame
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

/-- The two heads of a block of 128 lanes: head `h` has the lanes of the half `h`. -/
def act (h : Fin 2) (l : Fin 128) : Bool := decide (l.val / 64 = h.val)

/-- The query operand of head `h`: the queries times 1/8 on its lanes, ones on the first three lanes of the other half. -/
def QA (x0 : FVec Ideal S512x128 .f32) (h : Fin 2) (r : Fin 512) (l : Fin 128) : EReal :=
  if act h l then x0 (ix2 r l) * ((1 / 8 : ℝ) : EReal) else if l.val % 64 < 3 then 1 else 0

/-- The key operand of head `h`: the keys on its lanes, the gate lanes on the other half. -/
def KA (x1 : FVec Ideal S512x128 .f32) (x3 : FVec Ideal S512x128 .bf16) (h : Fin 2) (r : Fin 512) (l : Fin 128) : EReal :=
  if act h l then x1 (ix2 r l) else x3 (ix2 r l)

/-- A block restricted to the lanes of head `h`. -/
def HL (x : FVec Ideal S512x128 .f32) (h : Fin 2) (r : Fin 512) (l : Fin 128) : EReal :=
  if act h l then x (ix2 r l) else 0

/-- The scores of head `h`. -/
def SC (x0 x1 : FVec Ideal S512x128 .f32) (x3 : FVec Ideal S512x128 .bf16) (h : Fin 2) (r c : Fin 512) : EReal :=
  ∑ l : Fin 128, QA x0 h r l * KA x1 x3 h c l

/-- The products of the output's gradient with the values, of head `h`. -/
def DP (x2 x6 : FVec Ideal S512x128 .f32) (h : Fin 2) (r c : Fin 512) : EReal :=
  ∑ l : Fin 128, if act h l then x6 (ix2 r l) * x2 (ix2 c l) else 0

/-- The row sums of the output times its gradient, of head `h`. -/
def DD (x4 x6 : FVec Ideal S512x128 .f32) (h : Fin 2) (r : Fin 512) : EReal :=
  ∑ l : Fin 128, if act h l then x6 (ix2 r l) * x4 (ix2 r l) else 0

/-- The weights: the exponential of a score less the row's log-sum. On a tile of the diagonal (`dg`) they are cut off above it. -/
def PP (dg : Bool) (s : Fin 2 → Fin 512 → Fin 512 → EReal) (x5 : FVec Ideal S512x128 .f32)
    (h : Fin 2) (r c : Fin 512) : EReal :=
  Ideal.exp ((if dg && decide (r.val < c.val) then (⊥ : EReal) else s h r c) - x5 (ix2 r ⟨h.val * 64, by omega⟩))

/-- The gradients of the scores. -/
def DS (p dp : Fin 2 → Fin 512 → Fin 512 → EReal) (dd : Fin 2 → Fin 512 → EReal) (h : Fin 2) (r c : Fin 512) : EReal :=
  p h r c * (dp h r c - dd h r)

/-- Reading a list of stored pieces as one function. -/
theorem canon_to {S : Shape} {e : EltTy} (L : List (View.Piece (Elt Ideal) S e)) (G : S.Idx → Elt Ideal e)
    (h : View.canon L = G) : View.canon L = G := h

/-- At an index that one of the first `n` pieces holds, the later ones do not matter. -/
theorem canon_take {S : Shape} {e : EltTy} (y : S.Idx) : ∀ (n : ℕ) (L : List (View.Piece (Elt Ideal) S e)),
    (∃ p ∈ L.take n, y ∈ p.1.set) → View.canon L y = View.canon (L.take n) y
  | 0, _, hc => by obtain ⟨p, hp, _⟩ := hc; simp at hp
  | _ + 1, [], hc => by obtain ⟨p, hp, _⟩ := hc; simp at hp
  | n + 1, p :: L, hc => by
    rw [List.take_succ_cons] at hc ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_take y n L ?_
      obtain ⟨q, hq, hyq⟩ := hc
      rcases List.mem_cons.mp hq with rfl | hq'
      · exact absurd hyq hm
      · exact ⟨q, hq', hyq⟩

/-- Sixteen chunks of 32 rows, the last written first in the list. -/
def cov16 : LoadRect.Cov :=
  .split 1 32 (.leaf 15) (.split 1 32 (.leaf 14) (.split 1 32 (.leaf 13) (.split 1 32 (.leaf 12) (.split 1 32 (.leaf 11)
  (.split 1 32 (.leaf 10) (.split 1 32 (.leaf 9) (.split 1 32 (.leaf 8) (.split 1 32 (.leaf 7) (.split 1 32 (.leaf 6)
  (.split 1 32 (.leaf 5) (.split 1 32 (.leaf 4) (.split 1 32 (.leaf 3) (.split 1 32 (.leaf 2) (.split 1 32 (.leaf 1) (.leaf 0)))))))))))))))

/-- A load of one head's half of a scratch, whose last sixteen stores are that head's chunks of rows of one function. -/
theorem half_to {sig : RefSig} {κ : Kind} {sp : Space} {S : Shape} {e : EltTy} (v : View sig κ sp S e)
    (L : List (View.Piece (Elt Ideal) S e)) (B : LoadRect S) (G : S.Idx → Elt Ideal e)
    (hc : LoadRect.covChk ((L.take 16).map Sigma.fst) B cov16 = true)
    (hL : ∀ y, (∃ p ∈ L.take 16, y ∈ p.1.set) → View.canon (L.take 16) y = G y) : v.readCov L B = fun j => G (B.idx j) := by
  rw [View.readCov_eq_canon']
  exact funext fun j => (canon_take _ 16 L (LoadRect.cover_of_covChk (L.take 16) B cov16 hc j)).trans
    (hL _ (LoadRect.cover_of_covChk (L.take 16) B cov16 hc j))

/-- The comparison of a lane's number with 64 that selects the first head. -/
theorem cmp_lt : ∀ l : Fin 128, IntOp.cmpi .slt (BitVec.ofNat 32 l.val) 64#32 = if act 0 l then 1#1 else 0#1 := by decide +kernel
/-- The comparison of a lane's number with 64 that selects the second head. -/
theorem cmp_ge : ∀ l : Fin 128, IntOp.cmpi .sge (BitVec.ofNat 32 l.val) 64#32 = if act 1 l then 1#1 else 0#1 := by decide +kernel

/-- The lanes of head 0. -/
theorem sel_lt {α : Type} (l : Fin 128) (a b : α) : Scalar.select (IntOp.cmpi .slt (BitVec.ofNat 32 l.val) 64#32) a b = if act 0 l then a else b := by
  rw [cmp_lt]; by_cases h : act 0 l <;> simp [h, Scalar.select]

/-- The lanes of head 1. -/
theorem sel_ge {α : Type} (l : Fin 128) (a b : α) : Scalar.select (IntOp.cmpi .sge (BitVec.ofNat 32 l.val) 64#32) a b = if act 1 l then a else b := by
  rw [cmp_ge]; by_cases h : act 1 l <;> simp [h, Scalar.select]

/-- The word for 1/8. -/
theorem eighth : Ideal.ofBits .f32 1040187392#32 = ((1 / 8 : ℝ) : EReal) := by
  simp [Ideal.ofBits, Ideal.ieee, -EReal.coe_mul]; norm_num

/-- The number one stands exactly in the spare lanes of the first head. -/
theorem spare0_word : ∀ l : Fin 128, (BitVec.setWidth 32 (IntOp.andi (IntOp.cmpi .sge (BitVec.ofNat 32 l.val) 64#32) (IntOp.cmpi .slt (BitVec.ofNat 32 l.val) 67#32)) : BitVec 32)
    = if 64 ≤ l.val ∧ l.val < 67 then 1#32 else 0#32 := by decide +kernel
/-- The number one stands exactly in the spare lanes of the second head. -/
theorem spare1_word : ∀ l : Fin 128, (BitVec.setWidth 32 (IntOp.andi (IntOp.cmpi .sge (BitVec.ofNat 32 l.val) 0#32) (IntOp.cmpi .slt (BitVec.ofNat 32 l.val) 3#32)) : BitVec 32)
    = if l.val < 3 then 1#32 else 0#32 := by decide +kernel

/-- The lanes of the other half that carry a one, of head 0. -/
theorem spare0 (l : Fin 128) : (FloatOps.sitofp (F := Ideal) FTy.f32 (BitVec.setWidth 32 (IntOp.andi (IntOp.cmpi .sge (BitVec.ofNat 32 l.val) 64#32) (IntOp.cmpi .slt (BitVec.ofNat 32 l.val) 67#32)) : BitVec 32) : EReal)
    = if 64 ≤ l.val ∧ l.val < 67 then 1 else 0 := by
  rw [spare0_word]
  show (((if 64 ≤ l.val ∧ l.val < 67 then 1#32 else 0#32 : BitVec 32).toInt : ℝ) : EReal) = _
  split <;> simp

/-- The same of head 1. -/
theorem spare1 (l : Fin 128) : (FloatOps.sitofp (F := Ideal) FTy.f32 (BitVec.setWidth 32 (IntOp.andi (IntOp.cmpi .sge (BitVec.ofNat 32 l.val) 0#32) (IntOp.cmpi .slt (BitVec.ofNat 32 l.val) 3#32)) : BitVec 32) : EReal)
    = if l.val < 3 then 1 else 0 := by
  rw [spare1_word]
  show (((if l.val < 3 then 1#32 else 0#32 : BitVec 32).toInt : ℝ) : EReal) = _
  split <;> simp

/-- The queries of the first head: the other head's lanes are zero. -/
theorem QA0 (x0 : FVec Ideal S512x128 .f32) (r : Fin 512) (l : Fin 128) :
    (if act 0 l then x0 (ix2 r l) * Ideal.ofBits .f32 1040187392#32 else if 64 ≤ l.val ∧ l.val < 67 then 1 else 0 : EReal) = QA x0 0 r l := by
  unfold QA; rw [eighth]
  by_cases h : act 0 l
  · simp [h]
  · simp only [h]
    have : ¬ l.val / 64 = 0 := by simpa [act] using h
    have := l.isLt
    simp only [Bool.false_eq_true, if_false]
    exact if_congr (by omega) rfl rfl

/-- The queries of the second head: the other head's lanes are zero. -/
theorem QA1 (x0 : FVec Ideal S512x128 .f32) (r : Fin 512) (l : Fin 128) :
    (if act 1 l then x0 (ix2 r l) * Ideal.ofBits .f32 1040187392#32 else if l.val < 3 then 1 else 0 : EReal) = QA x0 1 r l := by
  unfold QA; rw [eighth]
  by_cases h : act 1 l
  · simp [h]
  · simp only [h]
    have : ¬ l.val / 64 = 1 := by simpa [act] using h
    have := l.isLt
    simp only [Bool.false_eq_true, if_false]
    exact if_congr (by omega) rfl rfl

/-- The comparison of a row with a column on a chunk of 32 rows. -/
theorem cmp_dg (o : ℕ) (x : Fin 32) (c : Fin 512) (ho : o + 32 ≤ 512) :
    IntOp.cmpi .sge (IntOp.addi (BitVec.ofNat 32 x.val) (BitVec.ofNat 32 o)) (BitVec.ofNat 32 c.val) = if o + x.val < c.val then 0#1 else 1#1 := by
  have h : IntOp.addi (BitVec.ofNat 32 x.val) (BitVec.ofNat 32 o) = BitVec.ofNat 32 (o + x.val) := by
    show BitVec.ofNat 32 x.val + BitVec.ofNat 32 o = _
    rw [← BitVec.ofNat_add, Nat.add_comm]
  rw [h]
  have hx := x.isLt
  have hc := c.isLt
  show BitVec.ofBool (BitVec.sle (BitVec.ofNat 32 c.val) (BitVec.ofNat 32 (o + x.val))) = _
  have e : BitVec.sle (BitVec.ofNat 32 c.val) (BitVec.ofNat 32 (o + x.val)) = decide (c.val ≤ o + x.val) := by
    unfold BitVec.sle
    rw [BitVec.toInt_ofNat', BitVec.toInt_ofNat']
    congr 1
    rw [Int.bmod_eq_of_le (by omega) (by omega), Int.bmod_eq_of_le (by omega) (by omega)]
    exact propext Int.ofNat_le
  rw [e]
  by_cases hh : c.val ≤ o + x.val
  · rw [if_neg (by omega), decide_eq_true hh]; rfl
  · rw [if_pos (by omega), decide_eq_false hh]; rfl

/-- A chunk of the scores on the diagonal: above it the mask's constant, which is -∞. -/
theorem sel_dg (o : ℕ) (x : Fin 32) (c : Fin 512) (a : EReal) (ho : o + 32 ≤ 512) :
    (Scalar.select (IntOp.cmpi .sge (IntOp.addi (BitVec.ofNat 32 x.val) (BitVec.ofNat 32 o)) (BitVec.ofNat 32 c.val)) a
      (Named.named (F := Ideal) (φ := .f32) κ "mask" 0xF149F2CA#32) : EReal) = if o + x.val < c.val then ⊥ else a := by
  rw [cmp_dg o x c ho, show (Named.named (F := Ideal) (φ := .f32) κ "mask" 0xF149F2CA#32 : EReal) = ⊥ from IdealRules.named_const.ideal_named_scalar _ _ _ _ rfl]
  by_cases h : o + x.val < c.val <;> simp [h, Scalar.select]

/-- The scores of a tile for the first head. -/
theorem SC0_of (x0 x1 : FVec Ideal S512x128 .f32) (x3 : FVec Ideal S512x128 .bf16) (a : Fin 2) (r c r' c' : Fin 512)
    (ha : a.val = 0) (hr : r'.val = r.val) (hc : c'.val = c.val) :
    (∑ l : Fin 128, (if act 0 l then x0 (ix2 r l) * Ideal.ofBits .f32 1040187392#32 else if 64 ≤ l.val ∧ l.val < 67 then 1 else 0 : EReal)
      * (if act 0 l then x1 (ix2 c l) else x3 (ix2 c l))) = SC x0 x1 x3 a r' c' := by
  obtain rfl : a = 0 := Fin.ext ha
  obtain rfl : r' = r := Fin.ext hr
  obtain rfl : c' = c := Fin.ext hc
  exact Finset.sum_congr rfl fun l _ => congrArg₂ (· * ·) (QA0 _ _ _) rfl

/-- The scores of a tile for the second head. -/
theorem SC1_of (x0 x1 : FVec Ideal S512x128 .f32) (x3 : FVec Ideal S512x128 .bf16) (a : Fin 2) (r c r' c' : Fin 512)
    (ha : a.val = 1) (hr : r'.val = r.val) (hc : c'.val = c.val) :
    (∑ l : Fin 128, (if act 1 l then x0 (ix2 r l) * Ideal.ofBits .f32 1040187392#32 else if l.val < 3 then 1 else 0 : EReal)
      * (if act 1 l then x1 (ix2 c l) else x3 (ix2 c l))) = SC x0 x1 x3 a r' c' := by
  obtain rfl : a = 1 := Fin.ext ha
  obtain rfl : r' = r := Fin.ext hr
  obtain rfl : c' = c := Fin.ext hc
  exact Finset.sum_congr rfl fun l _ => congrArg₂ (· * ·) (QA1 _ _ _) rfl

/-- The weights of a tile with no mask for the first head. -/
theorem PPu0_of (s : Fin 2 → Fin 512 → Fin 512 → EReal) (x5 : FVec Ideal S512x128 .f32)
    (a : Fin 2) (r c r' c' q : Fin 512) (l : Fin 128) (ha : a.val = 0) (hr : r'.val = r.val) (hc : c'.val = c.val)
    (hq : r'.val = q.val) (hl : l.val = 0) :
    Ideal.exp (s 0 r c - x5 (ix2 q l)) = PP false s x5 a r' c' := by
  obtain rfl : a = 0 := Fin.ext ha
  obtain rfl : r' = r := Fin.ext hr
  obtain rfl : c' = c := Fin.ext hc
  obtain rfl : r' = q := Fin.ext hq
  rw [show l = ⟨0, by omega⟩ from Fin.ext hl]
  rfl

/-- The weights of a tile with no mask for the second head. -/
theorem PPu1_of (s : Fin 2 → Fin 512 → Fin 512 → EReal) (x5 : FVec Ideal S512x128 .f32)
    (a : Fin 2) (r c r' c' q : Fin 512) (l : Fin 128) (ha : a.val = 1) (hr : r'.val = r.val) (hc : c'.val = c.val)
    (hq : r'.val = q.val) (hl : l.val = 64) :
    Ideal.exp (s 1 r c - x5 (ix2 q l)) = PP false s x5 a r' c' := by
  obtain rfl : a = 1 := Fin.ext ha
  obtain rfl : r' = r := Fin.ext hr
  obtain rfl : c' = c := Fin.ext hc
  obtain rfl : r' = q := Fin.ext hq
  rw [show l = ⟨64, by omega⟩ from Fin.ext hl]
  rfl

/-- The inner product of output and output's gradient for the first head. -/
theorem DD0_of (x4 x6 : FVec Ideal S512x128 .f32) (a : Fin 2) (r r' : Fin 512) (ha : a.val = 0) (hr : r'.val = r.val) :
    (∑ l : Fin 128, if act 0 l then x6 (ix2 r l) * x4 (ix2 r l) else 0 : EReal) = DD x4 x6 a r' := by
  obtain rfl : a = 0 := Fin.ext ha
  obtain rfl : r' = r := Fin.ext hr
  rfl

/-- The weights' gradient of a tile for the first head. -/
theorem DP0_of (x2 x6 : FVec Ideal S512x128 .f32) (a : Fin 2) (r c r' c' : Fin 512) (ha : a.val = 0) (hr : r'.val = r.val) (hc : c'.val = c.val) :
    (∑ l : Fin 128, if act 0 l then (if act 0 l then x6 (ix2 r l) * x2 (ix2 c l) else 0) else 0 : EReal) = DP x2 x6 a r' c' := by
  obtain rfl : a = 0 := Fin.ext ha
  obtain rfl : r' = r := Fin.ext hr
  obtain rfl : c' = c := Fin.ext hc
  exact Finset.sum_congr rfl fun l _ => by by_cases hl : act 0 l <;> simp [hl]

/-- The weights of a tile on the diagonal for the first head: zero above it. -/
theorem PPd0_of (s : Fin 2 → Fin 512 → Fin 512 → EReal) (x5 : FVec Ideal S512x128 .f32)
    (a : Fin 2) (r c r' c' q : Fin 512) (l : Fin 128) (o : ℕ) (x : Fin 32) (ha : a.val = 0) (hr : r'.val = r.val) (hc : c'.val = c.val)
    (hq : r'.val = q.val) (hl : l.val = 0) (ho : o + 32 ≤ 512) (hx : r'.val = o + x.val) :
    Ideal.exp (Scalar.select (IntOp.cmpi .sge (IntOp.addi (BitVec.ofNat 32 x.val) (BitVec.ofNat 32 o)) (BitVec.ofNat 32 c.val)) (s 0 r c)
      (Named.named (F := Ideal) (φ := .f32) κ "mask" 0xF149F2CA#32) - x5 (ix2 q l)) = PP true s x5 a r' c' := by
  rw [sel_dg o x c _ ho, ← hx, show (if r'.val < c.val then (⊥ : EReal) else s 0 r c) = if true && decide (r'.val < c.val) then (⊥ : EReal) else s 0 r c by simp]
  obtain rfl : a = 0 := Fin.ext ha
  obtain rfl : r' = r := Fin.ext hr
  obtain rfl : c' = c := Fin.ext hc
  obtain rfl : r' = q := Fin.ext hq
  rw [show l = ⟨0, by omega⟩ from Fin.ext hl]
  rfl

/-- The scores' gradient of a tile with no mask for the first head. -/
theorem DSu0_of (s dp : Fin 2 → Fin 512 → Fin 512 → EReal) (dd : Fin 2 → Fin 512 → EReal) (x5 : FVec Ideal S512x128 .f32)
    (a : Fin 2) (r c r' c' q r1 c1 r2 : Fin 512) (l : Fin 128) (ha : a.val = 0) (hr : r'.val = r.val) (hc : c'.val = c.val)
    (hq : r'.val = q.val) (hl : l.val = 0) (hr1 : r'.val = r1.val) (hc1 : c'.val = c1.val) (hr2 : r'.val = r2.val) :
    Ideal.exp (s 0 r c - x5 (ix2 q l)) * (dp 0 r1 c1 - dd 0 r2) = DS (PP false s x5) dp dd a r' c' := by
  rw [PPu0_of s x5 a r c r' c' q l ha hr hc hq hl]
  obtain rfl : a = 0 := Fin.ext ha
  obtain rfl : r' = r1 := Fin.ext hr1
  obtain rfl : c' = c1 := Fin.ext hc1
  obtain rfl : r' = r2 := Fin.ext hr2
  rfl

/-- The scores' gradient of a tile on the diagonal for the first head. -/
theorem DSd0_of (s dp : Fin 2 → Fin 512 → Fin 512 → EReal) (dd : Fin 2 → Fin 512 → EReal) (x5 : FVec Ideal S512x128 .f32)
    (a : Fin 2) (r c r' c' q r1 c1 r2 : Fin 512) (l : Fin 128) (o : ℕ) (x : Fin 32) (ha : a.val = 0) (hr : r'.val = r.val) (hc : c'.val = c.val)
    (hq : r'.val = q.val) (hl : l.val = 0) (hr1 : r'.val = r1.val) (hc1 : c'.val = c1.val) (hr2 : r'.val = r2.val) (ho : o + 32 ≤ 512) (hx : r'.val = o + x.val) :
    Ideal.exp (Scalar.select (IntOp.cmpi .sge (IntOp.addi (BitVec.ofNat 32 x.val) (BitVec.ofNat 32 o)) (BitVec.ofNat 32 c.val)) (s 0 r c)
      (Named.named (F := Ideal) (φ := .f32) κ "mask" 0xF149F2CA#32) - x5 (ix2 q l)) * (dp 0 r1 c1 - dd 0 r2) = DS (PP true s x5) dp dd a r' c' := by
  rw [PPd0_of s x5 a r c r' c' q l o x ha hr hc hq hl ho hx]
  obtain rfl : a = 0 := Fin.ext ha
  obtain rfl : r' = r1 := Fin.ext hr1
  obtain rfl : c' = c1 := Fin.ext hc1
  obtain rfl : r' = r2 := Fin.ext hr2
  rfl

/-- The inner product of output and output's gradient for the second head. -/
theorem DD1_of (x4 x6 : FVec Ideal S512x128 .f32) (a : Fin 2) (r r' : Fin 512) (ha : a.val = 1) (hr : r'.val = r.val) :
    (∑ l : Fin 128, if act 1 l then x6 (ix2 r l) * x4 (ix2 r l) else 0 : EReal) = DD x4 x6 a r' := by
  obtain rfl : a = 1 := Fin.ext ha
  obtain rfl : r' = r := Fin.ext hr
  rfl

/-- The weights' gradient of a tile for the second head. -/
theorem DP1_of (x2 x6 : FVec Ideal S512x128 .f32) (a : Fin 2) (r c r' c' : Fin 512) (ha : a.val = 1) (hr : r'.val = r.val) (hc : c'.val = c.val) :
    (∑ l : Fin 128, if act 1 l then (if act 1 l then x6 (ix2 r l) * x2 (ix2 c l) else 0) else 0 : EReal) = DP x2 x6 a r' c' := by
  obtain rfl : a = 1 := Fin.ext ha
  obtain rfl : r' = r := Fin.ext hr
  obtain rfl : c' = c := Fin.ext hc
  exact Finset.sum_congr rfl fun l _ => by by_cases hl : act 1 l <;> simp [hl]

/-- The weights of a tile on the diagonal for the second head: zero above it. -/
theorem PPd1_of (s : Fin 2 → Fin 512 → Fin 512 → EReal) (x5 : FVec Ideal S512x128 .f32)
    (a : Fin 2) (r c r' c' q : Fin 512) (l : Fin 128) (o : ℕ) (x : Fin 32) (ha : a.val = 1) (hr : r'.val = r.val) (hc : c'.val = c.val)
    (hq : r'.val = q.val) (hl : l.val = 64) (ho : o + 32 ≤ 512) (hx : r'.val = o + x.val) :
    Ideal.exp (Scalar.select (IntOp.cmpi .sge (IntOp.addi (BitVec.ofNat 32 x.val) (BitVec.ofNat 32 o)) (BitVec.ofNat 32 c.val)) (s 1 r c)
      (Named.named (F := Ideal) (φ := .f32) κ "mask" 0xF149F2CA#32) - x5 (ix2 q l)) = PP true s x5 a r' c' := by
  rw [sel_dg o x c _ ho, ← hx, show (if r'.val < c.val then (⊥ : EReal) else s 1 r c) = if true && decide (r'.val < c.val) then (⊥ : EReal) else s 1 r c by simp]
  obtain rfl : a = 1 := Fin.ext ha
  obtain rfl : r' = r := Fin.ext hr
  obtain rfl : c' = c := Fin.ext hc
  obtain rfl : r' = q := Fin.ext hq
  rw [show l = ⟨64, by omega⟩ from Fin.ext hl]
  rfl

/-- The scores' gradient of a tile with no mask for the second head. -/
theorem DSu1_of (s dp : Fin 2 → Fin 512 → Fin 512 → EReal) (dd : Fin 2 → Fin 512 → EReal) (x5 : FVec Ideal S512x128 .f32)
    (a : Fin 2) (r c r' c' q r1 c1 r2 : Fin 512) (l : Fin 128) (ha : a.val = 1) (hr : r'.val = r.val) (hc : c'.val = c.val)
    (hq : r'.val = q.val) (hl : l.val = 64) (hr1 : r'.val = r1.val) (hc1 : c'.val = c1.val) (hr2 : r'.val = r2.val) :
    Ideal.exp (s 1 r c - x5 (ix2 q l)) * (dp 1 r1 c1 - dd 1 r2) = DS (PP false s x5) dp dd a r' c' := by
  rw [PPu1_of s x5 a r c r' c' q l ha hr hc hq hl]
  obtain rfl : a = 1 := Fin.ext ha
  obtain rfl : r' = r1 := Fin.ext hr1
  obtain rfl : c' = c1 := Fin.ext hc1
  obtain rfl : r' = r2 := Fin.ext hr2
  rfl

/-- The scores' gradient of a tile on the diagonal for the second head. -/
theorem DSd1_of (s dp : Fin 2 → Fin 512 → Fin 512 → EReal) (dd : Fin 2 → Fin 512 → EReal) (x5 : FVec Ideal S512x128 .f32)
    (a : Fin 2) (r c r' c' q r1 c1 r2 : Fin 512) (l : Fin 128) (o : ℕ) (x : Fin 32) (ha : a.val = 1) (hr : r'.val = r.val) (hc : c'.val = c.val)
    (hq : r'.val = q.val) (hl : l.val = 64) (hr1 : r'.val = r1.val) (hc1 : c'.val = c1.val) (hr2 : r'.val = r2.val) (ho : o + 32 ≤ 512) (hx : r'.val = o + x.val) :
    Ideal.exp (Scalar.select (IntOp.cmpi .sge (IntOp.addi (BitVec.ofNat 32 x.val) (BitVec.ofNat 32 o)) (BitVec.ofNat 32 c.val)) (s 1 r c)
      (Named.named (F := Ideal) (φ := .f32) κ "mask" 0xF149F2CA#32) - x5 (ix2 q l)) * (dp 1 r1 c1 - dd 1 r2) = DS (PP true s x5) dp dd a r' c' := by
  rw [PPd1_of s x5 a r c r' c' q l o x ha hr hc hq hl ho hx]
  obtain rfl : a = 1 := Fin.ext ha
  obtain rfl : r' = r1 := Fin.ext hr1
  obtain rfl : c' = c1 := Fin.ext hc1
  obtain rfl : r' = r2 := Fin.ext hr2
  rfl

/-- What a tile adds to the gradient of the values. -/
def VS (p : Fin 2 → Fin 512 → Fin 512 → EReal) (x6 : FVec Ideal S512x128 .f32) (j : Fin 512) (k : Fin 128) : EReal :=
  if act 0 k then ∑ x : Fin 512, p 0 x j * x6 (ix2 x k) else ∑ x : Fin 512, p 1 x j * x6 (ix2 x k)

/-- What a tile adds to the gradient of the key operand of head `h`. -/
def KS (ds : Fin 2 → Fin 512 → Fin 512 → EReal) (x0 : FVec Ideal S512x128 .f32) (h : Fin 2) (j : Fin 512) (k : Fin 128) : EReal :=
  ∑ x : Fin 512, ds h x j * QA x0 h x k

/-- What a tile adds to the gradient of the queries, before the factor 1/8. -/
def QS (ds : Fin 2 → Fin 512 → Fin 512 → EReal) (x1 : FVec Ideal S512x128 .f32) (r : Fin 512) (k : Fin 128) : EReal :=
  if act 0 k then ∑ x : Fin 512, ds 0 r x * x1 (ix2 x k) else ∑ x : Fin 512, ds 1 r x * x1 (ix2 x k)

/-- What a tile adds to the gradient of the gate lanes of the queries. -/
def RS (ds : Fin 2 → Fin 512 → Fin 512 → EReal) (x3 : FVec Ideal S512x128 .bf16) (r : Fin 512) (k : Fin 128) : EReal :=
  if act 0 k then ∑ x : Fin 512, ds 1 r x * x3 (ix2 x k) else ∑ x : Fin 512, ds 0 r x * x3 (ix2 x k)

/-- A lane belongs to the second head exactly when it does not belong to the first. -/
theorem act_not (k : Fin 128) : act 1 k = !act 0 k := by revert k; decide

/-- The queries of the first head with its spare lanes, as the keys' gradient takes them. -/
theorem QW0 (x0 : FVec Ideal S512x128 .f32) (r : Fin 512) (l : Fin 128) :
    Scalar.select (IntOp.cmpi .slt (BitVec.ofNat 32 l.val) 64#32) (x0 (ix2 r l) * Ideal.ofBits .f32 1040187392#32)
      (FloatOps.sitofp (F := Ideal) FTy.f32 (BitVec.setWidth 32 (IntOp.andi (IntOp.cmpi .sge (BitVec.ofNat 32 l.val) 64#32) (IntOp.cmpi .slt (BitVec.ofNat 32 l.val) 67#32)) : BitVec 32) : EReal)
      = QA x0 0 r l := by
  rw [sel_lt, spare0]; exact QA0 x0 r l

/-- The queries of the second head with its spare lanes, as the keys' gradient takes them. -/
theorem QW1 (x0 : FVec Ideal S512x128 .f32) (r : Fin 512) (l : Fin 128) :
    Scalar.select (IntOp.cmpi .sge (BitVec.ofNat 32 l.val) 64#32) (x0 (ix2 r l) * Ideal.ofBits .f32 1040187392#32)
      (FloatOps.sitofp (F := Ideal) FTy.f32 (BitVec.setWidth 32 (IntOp.andi (IntOp.cmpi .sge (BitVec.ofNat 32 l.val) 0#32) (IntOp.cmpi .slt (BitVec.ofNat 32 l.val) 3#32)) : BitVec 32) : EReal)
      = QA x0 1 r l := by
  rw [sel_ge, spare1]; exact QA1 x0 r l

/-- The keys' gradient of a tile for the first head, added to what was there. -/
theorem KS0_of (ds : Fin 2 → Fin 512 → Fin 512 → EReal) (x0 : FVec Ideal S512x128 .f32) (PREV : FVec Ideal S2x512x128 .f32)
    (x : S1x512x128.Idx) (y : S2x512x128.Idx) (h0 : (y 0).val = 0) (h1 : (y 1).val = (x 1).val) (h2 : (y 2).val = (x 2).val) :
    (PREV (ix3 0 (x 1) (x 2)) : EReal) + (∑ r : Fin 512, ds 0 r (x 1) * Scalar.select (IntOp.cmpi .slt (BitVec.ofNat 32 (x 2).val) 64#32) (x0 (ix2 r (x 2)) * Ideal.ofBits .f32 1040187392#32)
      (FloatOps.sitofp (F := Ideal) FTy.f32 (BitVec.setWidth 32 (IntOp.andi (IntOp.cmpi .sge (BitVec.ofNat 32 (x 2).val) 64#32) (IntOp.cmpi .slt (BitVec.ofNat 32 (x 2).val) 67#32)) : BitVec 32) : EReal))
      = PREV y + KS ds x0 (y 0) (y 1) (y 2) := by
  rw [show y = ix3 0 (x 1) (x 2) from funext (Fin.forall_fin_succ.mpr ⟨Fin.ext h0, Fin.forall_fin_two.mpr ⟨Fin.ext h1, Fin.ext h2⟩⟩)]
  exact congrArg₂ (· + ·) rfl (Finset.sum_congr rfl fun r _ => congrArg₂ (· * ·) rfl (QW0 x0 r (x 2)))

/-- The keys' gradient of a tile for the second head, added to what was there. -/
theorem KS1_of (ds : Fin 2 → Fin 512 → Fin 512 → EReal) (x0 : FVec Ideal S512x128 .f32) (PREV : FVec Ideal S2x512x128 .f32)
    (x : S1x512x128.Idx) (y : S2x512x128.Idx) (h0 : (y 0).val = 1) (h1 : (y 1).val = (x 1).val) (h2 : (y 2).val = (x 2).val) :
    (PREV (ix3 1 (x 1) (x 2)) : EReal) + (∑ r : Fin 512, ds 1 r (x 1) * Scalar.select (IntOp.cmpi .sge (BitVec.ofNat 32 (x 2).val) 64#32) (x0 (ix2 r (x 2)) * Ideal.ofBits .f32 1040187392#32)
      (FloatOps.sitofp (F := Ideal) FTy.f32 (BitVec.setWidth 32 (IntOp.andi (IntOp.cmpi .sge (BitVec.ofNat 32 (x 2).val) 0#32) (IntOp.cmpi .slt (BitVec.ofNat 32 (x 2).val) 3#32)) : BitVec 32) : EReal))
      = PREV y + KS ds x0 (y 0) (y 1) (y 2) := by
  rw [show y = ix3 1 (x 1) (x 2) from funext (Fin.forall_fin_succ.mpr ⟨Fin.ext h0, Fin.forall_fin_two.mpr ⟨Fin.ext h1, Fin.ext h2⟩⟩)]
  exact congrArg₂ (· + ·) rfl (Finset.sum_congr rfl fun r _ => congrArg₂ (· * ·) rfl (QW1 x0 r (x 2)))

/-- The queries' gradient of a tile from the tile's scores' gradient. -/
theorem QS_of (ds : Fin 2 → Fin 512 → Fin 512 → EReal) (x1 : FVec Ideal S512x128 .f32) (x3 : FVec Ideal S512x128 .bf16) (r : Fin 512) (k : Fin 128) :
    (if act 0 k then ∑ x : Fin 512, ds 0 r x * (if act 0 k then x1 (ix2 x k) else x3 (ix2 x k))
      else ∑ x : Fin 512, ds 1 r x * (if act 1 k then x1 (ix2 x k) else x3 (ix2 x k)) : EReal) = QS ds x1 r k := by
  unfold QS; rw [act_not]; by_cases h : act 0 k <;> simp [h]

/-- The row sums of a tile from the tile's scores' gradient. -/
theorem RS_of (ds : Fin 2 → Fin 512 → Fin 512 → EReal) (x1 : FVec Ideal S512x128 .f32) (x3 : FVec Ideal S512x128 .bf16) (r : Fin 512) (k : Fin 128) :
    (if act 0 k then ∑ x : Fin 512, ds 1 r x * (if act 1 k then x1 (ix2 x k) else x3 (ix2 x k))
      else ∑ x : Fin 512, ds 0 r x * (if act 0 k then x1 (ix2 x k) else x3 (ix2 x k)) : EReal) = RS ds x3 r k := by
  unfold RS; rw [act_not]; by_cases h : act 0 k <;> simp [h]

/-- The values' gradient of a tile added to what was there. -/
theorem VS_of (p : Fin 2 → Fin 512 → Fin 512 → EReal) (x6 : FVec Ideal S512x128 .f32) (a : EReal) (j : Fin 512) (k : Fin 128) :
    a + (∑ x : Fin 512, if act 0 k then p 0 x j * x6 (ix2 x k) else 0 : EReal)
      + (∑ x : Fin 512, if act 1 k then p 1 x j * x6 (ix2 x k) else 0 : EReal) = a + VS p x6 j k := by
  unfold VS; rw [act_not]; by_cases h : act 0 k <;> simp [h]

/-- The values' gradient of a tile added to zero. -/
theorem VSz_of (p : Fin 2 → Fin 512 → Fin 512 → EReal) (x6 : FVec Ideal S512x128 .f32) (j : Fin 512) (k : Fin 128) :
    (∑ x : Fin 512, if act 0 k then p 0 x j * x6 (ix2 x k) else 0 : EReal)
      + (∑ x : Fin 512, if act 1 k then p 1 x j * x6 (ix2 x k) else 0 : EReal) = VS p x6 j k := by
  unfold VS; rw [act_not]; by_cases h : act 0 k <;> simp [h]

/-- The keys' gradient of a tile for the first head, added to zero. -/
theorem KSz0_of (ds : Fin 2 → Fin 512 → Fin 512 → EReal) (x0 : FVec Ideal S512x128 .f32)
    (x : S1x512x128.Idx) (y : S2x512x128.Idx) (h0 : (y 0).val = 0) (h1 : (y 1).val = (x 1).val) (h2 : (y 2).val = (x 2).val) :
    (∑ r : Fin 512, ds 0 r (x 1) * Scalar.select (IntOp.cmpi .slt (BitVec.ofNat 32 (x 2).val) 64#32) (x0 (ix2 r (x 2)) * Ideal.ofBits .f32 1040187392#32)
      (FloatOps.sitofp (F := Ideal) FTy.f32 (BitVec.setWidth 32 (IntOp.andi (IntOp.cmpi .sge (BitVec.ofNat 32 (x 2).val) 64#32) (IntOp.cmpi .slt (BitVec.ofNat 32 (x 2).val) 67#32)) : BitVec 32) : EReal))
      = KS ds x0 (y 0) (y 1) (y 2) := by
  rw [show y = ix3 0 (x 1) (x 2) from funext (Fin.forall_fin_succ.mpr ⟨Fin.ext h0, Fin.forall_fin_two.mpr ⟨Fin.ext h1, Fin.ext h2⟩⟩)]
  exact (Finset.sum_congr rfl fun r _ => congrArg₂ (· * ·) rfl (QW0 x0 r (x 2)))

/-- The keys' gradient of a tile for the second head, added to zero. -/
theorem KSz1_of (ds : Fin 2 → Fin 512 → Fin 512 → EReal) (x0 : FVec Ideal S512x128 .f32)
    (x : S1x512x128.Idx) (y : S2x512x128.Idx) (h0 : (y 0).val = 1) (h1 : (y 1).val = (x 1).val) (h2 : (y 2).val = (x 2).val) :
    (∑ r : Fin 512, ds 1 r (x 1) * Scalar.select (IntOp.cmpi .sge (BitVec.ofNat 32 (x 2).val) 64#32) (x0 (ix2 r (x 2)) * Ideal.ofBits .f32 1040187392#32)
      (FloatOps.sitofp (F := Ideal) FTy.f32 (BitVec.setWidth 32 (IntOp.andi (IntOp.cmpi .sge (BitVec.ofNat 32 (x 2).val) 0#32) (IntOp.cmpi .slt (BitVec.ofNat 32 (x 2).val) 3#32)) : BitVec 32) : EReal))
      = KS ds x0 (y 0) (y 1) (y 2) := by
  rw [show y = ix3 1 (x 1) (x 2) from funext (Fin.forall_fin_succ.mpr ⟨Fin.ext h0, Fin.forall_fin_two.mpr ⟨Fin.ext h1, Fin.ext h2⟩⟩)]
  exact (Finset.sum_congr rfl fun r _ => congrArg₂ (· * ·) rfl (QW1 x0 r (x 2)))

/-- The gradients of the scores at the grid point `t`, from the blocks it reads. -/
def DSB (dg : Bool) (x0 x1 x2 : FVec Ideal S512x128 .f32) (x3 : FVec Ideal S512x128 .bf16) (x4 x5 x6 : FVec Ideal S512x128 .f32) :
    Fin 2 → Fin 512 → Fin 512 → EReal := DS (PP dg (SC x0 x1 x3) x5) (DP x2 x6) (DD x4 x6)

/-- A store of whole rows, read inside those rows. -/
theorem rows_mem {sig : RefSig} {κ : Kind} {sp : Space} (v : View sig κ sp S4096x128 .f32) (f : v.ty.Contents (Elt Ideal))
    {off : Fin S4096x128.rank → ℕ} (inb : ∀ a, off a + S512x128.size a ≤ S4096x128.size a)
    (w : (Rect.unit off S512x128.size inb).shape.Idx → Elt Ideal .f32) (L : List (View.Piece (Elt Ideal) S4096x128 .f32))
    (n : ℕ) (hoff : off = ![n, 0]) (r : Fin 512) (k : Fin 128) (hn : n + r.val < 4096) :
    v.read (Elt Ideal) (v.writes (Elt Ideal) f ((⟨Rect.unit off S512x128.size inb, w⟩ : View.Piece (Elt Ideal) S4096x128 .f32) :: L)) (ix2 ⟨n + r.val, hn⟩ k)
      = w (ix2 r k) :=
  View.read_writes_cons_unit_of_mem v f inb w L _ _ hoff (Fin.forall_fin_two.mpr ⟨rfl, (Nat.zero_add _).symm⟩)

/-- A store of whole rows, read outside those rows. -/
theorem rows_not_mem {sig : RefSig} {κ : Kind} {sp : Space} (v : View sig κ sp S4096x128 .f32) (f : v.ty.Contents (Elt Ideal))
    {off : Fin S4096x128.rank → ℕ} (inb : ∀ a, off a + S512x128.size a ≤ S4096x128.size a)
    (w : (Rect.unit off S512x128.size inb).shape.Idx → Elt Ideal .f32) (L : List (View.Piece (Elt Ideal) S4096x128 .f32))
    (n : ℕ) (hoff : off = ![n, 0]) (j : Fin 4096) (k : Fin 128) (hn : j.val < n ∨ n + 512 ≤ j.val) :
    v.read (Elt Ideal) (v.writes (Elt Ideal) f ((⟨Rect.unit off S512x128.size inb, w⟩ : View.Piece (Elt Ideal) S4096x128 .f32) :: L)) (ix2 j k)
      = v.read (Elt Ideal) (v.writes (Elt Ideal) f L) (ix2 j k) :=
  View.read_writes_cons_unit_of_not_mem v f inb w L _ hoff 0 hn

/-- The newest store of whole rows, read inside those rows. -/
theorem canon_rows_mem {off : Fin S4096x128.rank → ℕ} (inb : ∀ a, off a + S512x128.size a ≤ S4096x128.size a)
    (w : (Rect.unit off S512x128.size inb).shape.Idx → Elt Ideal .f32) (L : List (View.Piece (Elt Ideal) S4096x128 .f32))
    (n : ℕ) (hoff : off = ![n, 0]) (r : Fin 512) (k : Fin 128) (hn : n + r.val < 4096) :
    View.canon ((⟨Rect.unit off S512x128.size inb, w⟩ : View.Piece (Elt Ideal) S4096x128 .f32) :: L) (ix2 ⟨n + r.val, hn⟩ k) = w (ix2 r k) := by
  subst hoff
  have hy : (Rect.unit (s := S4096x128) ![n, 0] S512x128.size inb).emb (ix2 r k) = ix2 ⟨n + r.val, hn⟩ k :=
    funext (Fin.forall_fin_two.mpr ⟨Fin.ext (by show n + 1 * r.val = n + r.val; omega), Fin.ext (by show 0 + 1 * k.val = k.val; omega)⟩)
  rw [← hy]
  exact View.canon_cons_emb (Rect.unit (s := S4096x128) ![n, 0] S512x128.size inb) w L (ix2 r k)

/-- The newest store of whole rows, read outside those rows. -/
theorem canon_rows_not_mem {off : Fin S4096x128.rank → ℕ} (inb : ∀ a, off a + S512x128.size a ≤ S4096x128.size a)
    (w : (Rect.unit off S512x128.size inb).shape.Idx → Elt Ideal .f32) (L : List (View.Piece (Elt Ideal) S4096x128 .f32))
    (n : ℕ) (hoff : off = ![n, 0]) (j : Fin 4096) (k : Fin 128) (hn : j.val < n ∨ n + 512 ≤ j.val) :
    View.canon ((⟨Rect.unit off S512x128.size inb, w⟩ : View.Piece (Elt Ideal) S4096x128 .f32) :: L) (ix2 j k) = View.canon L (ix2 j k) := by
  subst hoff
  refine View.canon_cons_of_not_mem _ _ ?_
  rw [Rect.mem_set_unit]
  intro hall
  have h : n ≤ j.val ∧ j.val < n + 512 := hall 0
  omega

/-- The two halves of the keys' accumulator hide what was stored before them. -/
theorem canon_two (i1 : ∀ a, (![1, 0, 0] : Fin S2x512x128.rank → ℕ) a + (![1, 512, 128] : Fin S2x512x128.rank → ℕ) a ≤ S2x512x128.size a)
    (i0 : ∀ a, (![0, 0, 0] : Fin S2x512x128.rank → ℕ) a + (![1, 512, 128] : Fin S2x512x128.rank → ℕ) a ≤ S2x512x128.size a)
    (w1 w0 : (⟨3, ![1, 512, 128]⟩ : Shape).Idx → Elt Ideal .f32) (L : List (View.Piece (Elt Ideal) S2x512x128 .f32)) (y : S2x512x128.Idx) :
    View.canon ((⟨Rect.unit ![1, 0, 0] ![1, 512, 128] i1, w1⟩ : View.Piece (Elt Ideal) S2x512x128 .f32) ::
      (⟨Rect.unit ![0, 0, 0] ![1, 512, 128] i0, w0⟩ : View.Piece (Elt Ideal) S2x512x128 .f32) :: L) y
    = View.canon [(⟨Rect.unit ![1, 0, 0] ![1, 512, 128] i1, w1⟩ : View.Piece (Elt Ideal) S2x512x128 .f32),
      (⟨Rect.unit ![0, 0, 0] ![1, 512, 128] i0, w0⟩ : View.Piece (Elt Ideal) S2x512x128 .f32)] y := by
  refine canon_take y 2 _ ?_
  have e0 : (y 0).val < 2 := (y 0).isLt
  have e1 : (y 1).val < 512 := (y 1).isLt
  have e2 : (y 2).val < 128 := (y 2).isLt
  by_cases h : (y 0).val = 1
  · refine ⟨_, List.mem_cons_self, ?_⟩
    rw [Rect.mem_set_unit]
    exact Fin.forall_fin_succ.mpr ⟨⟨by show 1 ≤ (y 0).val; omega, by show (y 0).val < 1 + 1; omega⟩, Fin.forall_fin_two.mpr
      ⟨⟨Nat.zero_le _, by show (y 1).val < 0 + 512; omega⟩, ⟨Nat.zero_le _, by show (y 2).val < 0 + 128; omega⟩⟩⟩
  · refine ⟨_, List.mem_cons_of_mem _ List.mem_cons_self, ?_⟩
    rw [Rect.mem_set_unit]
    exact Fin.forall_fin_succ.mpr ⟨⟨Nat.zero_le _, by show (y 0).val < 0 + 1; omega⟩, Fin.forall_fin_two.mpr
      ⟨⟨Nat.zero_le _, by show (y 1).val < 0 + 512; omega⟩, ⟨Nat.zero_le _, by show (y 2).val < 0 + 128; omega⟩⟩⟩

/-- The reset of the keys' accumulator. -/
theorem fill_zero     (y : S2x512x128.Idx) : View.canon [(⟨Rect.unit ![0, 0, 0] ![2, 512, 128] inb_S2x512x128_S2x512x128_0_0_0, k0_pay3 (F := Ideal)⟩ : View.Piece (Elt Ideal) S2x512x128 .f32)] y = (0 : EReal) := by
  canon_tiles x h
  unfold k0_pay3
  pointwise

/-- The keys' accumulator of head 0 is zero after the reset. -/
theorem acc_zero0 :
    (View.whole cc0_scratch0).readCov [(⟨Rect.unit ![0, 0, 0] ![2, 512, 128] inb_S2x512x128_S2x512x128_0_0_0, k0_pay3 (F := Ideal)⟩ : View.Piece (Elt Ideal) S2x512x128 .f32)]
      (Rect.unit ![0, 0, 0] ![1, 512, 128] inb_S2x512x128_S1x512x128_0_0_0).toLoadRect = fun _ => (0 : EReal) := by
  funext j
  rw [View.readCov_eq_canon']
  exact fill_zero _

/-- The same of head 1, after head 0's half has been stored. -/
theorem acc_zero1    (w : (⟨3, ![1, 512, 128]⟩ : Shape).Idx → Elt Ideal .f32) :
    (View.whole cc0_scratch0).readCov [(⟨Rect.unit ![0, 0, 0] ![1, 512, 128] inb_S2x512x128_S1x512x128_0_0_0, w⟩ : View.Piece (Elt Ideal) S2x512x128 .f32),
      (⟨Rect.unit ![0, 0, 0] ![2, 512, 128] inb_S2x512x128_S2x512x128_0_0_0, k0_pay3 (F := Ideal)⟩ : View.Piece (Elt Ideal) S2x512x128 .f32)]
      (Rect.unit ![1, 0, 0] ![1, 512, 128] inb_S2x512x128_S1x512x128_1_0_0).toLoadRect = fun _ => (0 : EReal) := by
  rw [View.readCov_skip _ _ _ _ _ (by rfl)]
  funext j
  rw [View.readCov_eq_canon']
  exact fill_zero _

/-- The last point scales the queries' gradient by 1/8. -/
theorem pay15_apply (X : Vec Ideal S4096x128 .f32) (y : S4096x128.Idx) : (k0_pay15 X y : EReal) = X y * ((1 / 8 : ℝ) : EReal) := by
  rw [← eighth]
  unfold k0_pay15
  pointwise

/-- The keys' gradient picks each head's own half of the accumulator. -/
theorem pay12_apply (L : List (View.Piece (Elt Ideal) S2x512x128 .f32)) (r : Fin 512) (k : Fin 128) :
    (k0_pay12 ((View.whole cc0_scratch0).readCov L (Rect.unit (s := S2x512x128) ![0, 0, 0] ![1, 512, 128] inb_S2x512x128_S1x512x128_0_0_0).toLoadRect)
      ((View.whole cc0_scratch0).readCov L (Rect.unit (s := S2x512x128) ![1, 0, 0] ![1, 512, 128] inb_S2x512x128_S1x512x128_1_0_0).toLoadRect) (ix2 r k) : EReal)
      = if act 0 k then View.canon L (ix3 0 r k) else View.canon L (ix3 1 r k) := by
  rw [View.readCov_eq_canon', View.readCov_eq_canon']
  generalize View.canon L = A
  unfold k0_pay12 k0_pay11
  pointwise
  exact sel_lt _ _ _

/-- The gate lanes of the keys' gradient: the other half of the accumulator. -/
theorem pay13_apply (L : List (View.Piece (Elt Ideal) S2x512x128 .f32)) (r : Fin 512) (k : Fin 128) :
    (k0_pay13 ((View.whole cc0_scratch0).readCov L (Rect.unit (s := S2x512x128) ![1, 0, 0] ![1, 512, 128] inb_S2x512x128_S1x512x128_1_0_0).toLoadRect)
      ((View.whole cc0_scratch0).readCov L (Rect.unit (s := S2x512x128) ![0, 0, 0] ![1, 512, 128] inb_S2x512x128_S1x512x128_0_0_0).toLoadRect) (ix2 r k) : EReal)
      = if act 0 k then View.canon L (ix3 1 r k) else View.canon L (ix3 0 r k) := by
  rw [View.readCov_eq_canon', View.readCov_eq_canon']
  generalize View.canon L = A
  unfold k0_pay13 k0_pay11
  pointwise
  exact sel_lt _ _ _

end Cert.Ker
-- ==== Proof.Math.lean ====
/- The mathematics of the gradient, over the real numbers: softmax attention with a decay bias and a causal mask, its
   weights, the gradient of its scores, and the two ways the weights are computed (with the row maximum subtracted, and
   from the logarithm of the row sum). No program appears here. -/
module

public import Idealize.ShloMosaic.PureOps.Ideal
public import Idealize.ShloMosaic.Lib.Pointwise

@[expose] public section

noncomputable section

namespace Cert.Attn

open Idealize.ShloMosaic

/-- A finite sum of real numbers, read as extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The exact quotient of two real numbers with a nonzero divisor. -/
theorem div_coe_coe (x : ℝ) {y : ℝ} (h : y ≠ 0) : Ideal.div (x : EReal) (y : EReal) = ((x / y : ℝ) : EReal) := by
  rw [Ideal.div_coe h, ← EReal.coe_mul, mul_one_div]

/-- One step's data: queries, keys, values and the upstream gradient of every head and position, and the running sum of
    the logarithms of the forget gates. -/
structure Data where
  q : Fin 16 → Fin 4096 → Fin 64 → ℝ
  k : Fin 16 → Fin 4096 → Fin 64 → ℝ
  v : Fin 16 → Fin 4096 → Fin 64 → ℝ
  g : Fin 16 → Fin 4096 → Fin 64 → ℝ
  c : Fin 16 → Fin 4096 → ℝ

namespace Data

variable (A : Data)

/-- The scaled product of a query and a key. -/
def qk (h : Fin 16) (i j : Fin 4096) : ℝ := (∑ d, A.q h i d * A.k h j d) * (1 / 8)
/-- The score: scaled product plus the decay between the two positions. -/
def z (h : Fin 16) (i j : Fin 4096) : ℝ := A.qk h i j + A.c h i - A.c h j
/-- The exponential of a score with `μ` subtracted, zero above the diagonal. -/
def e (μ : ℝ) (h : Fin 16) (i j : Fin 4096) : ℝ := if j ≤ i then Real.exp (A.z h i j - μ) else 0
/-- The sum of a row of exponentials. -/
def den (μ : ℝ) (h : Fin 16) (i : Fin 4096) : ℝ := ∑ j, A.e μ h i j
/-- The attention weight of position `j` for position `i`. -/
def w (h : Fin 16) (i j : Fin 4096) : ℝ := A.e 0 h i j / A.den 0 h i
/-- The gradient of a weight. -/
def gw (h : Fin 16) (i j : Fin 4096) : ℝ := ∑ d, A.g h i d * A.v h j d
/-- The mean of a row's weight gradients under the weights. -/
def mean (h : Fin 16) (i : Fin 4096) : ℝ := ∑ j, A.w h i j * A.gw h i j
/-- The gradient of a score. -/
def gz (h : Fin 16) (i j : Fin 4096) : ℝ := A.w h i j * (A.gw h i j - A.mean h i)
/-- The gradient of the queries. -/
def gq (h : Fin 16) (i : Fin 4096) (d : Fin 64) : ℝ := (∑ j, A.gz h i j * A.k h j d) * (1 / 8)
/-- The gradient of the keys. -/
def gk (h : Fin 16) (j : Fin 4096) (d : Fin 64) : ℝ := (∑ i, A.gz h i j * A.q h i d) * (1 / 8)
/-- The gradient of the values. -/
def gv (h : Fin 16) (j : Fin 4096) (d : Fin 64) : ℝ := ∑ i, A.w h i j * A.g h i d
/-- The sum of a row of score gradients. -/
def rowSum (h : Fin 16) (i : Fin 4096) : ℝ := ∑ j, A.gz h i j
/-- The sum of a column of score gradients. -/
def colSum (h : Fin 16) (j : Fin 4096) : ℝ := ∑ i, A.gz h i j

/-- An exponential of the softmax is not negative. -/
theorem e_nonneg (μ : ℝ) (h : Fin 16) (i j : Fin 4096) : 0 ≤ A.e μ h i j := by
  unfold e; split
  · exact (Real.exp_pos _).le
  · exact le_refl _

/-- A row sum is positive: the diagonal is never masked. -/
theorem den_pos (μ : ℝ) (h : Fin 16) (i : Fin 4096) : 0 < A.den μ h i := by
  refine Finset.sum_pos' (fun j _ => A.e_nonneg μ h i j) ⟨i, Finset.mem_univ _, ?_⟩
  unfold e; rw [if_pos (le_refl _)]; exact Real.exp_pos _

/-- The softmax's denominator is not zero. -/
theorem den_ne (μ : ℝ) (h : Fin 16) (i : Fin 4096) : A.den μ h i ≠ 0 := (A.den_pos μ h i).ne'

/-- The exponentials under another shift. -/
theorem e_shift (μ : ℝ) (h : Fin 16) (i j : Fin 4096) : A.e μ h i j = Real.exp (-μ) * A.e 0 h i j := by
  unfold e; split
  · rw [← Real.exp_add]; congr 1; ring
  · rw [mul_zero]

/-- The denominator under another shift. -/
theorem den_shift (μ : ℝ) (h : Fin 16) (i : Fin 4096) : A.den μ h i = Real.exp (-μ) * A.den 0 h i := by
  unfold den; rw [Finset.mul_sum]; exact Finset.sum_congr rfl fun j _ => A.e_shift μ h i j

/-- The weights do not depend on what is subtracted from the scores. -/
theorem w_eq (μ : ℝ) (h : Fin 16) (i j : Fin 4096) : A.e μ h i j / A.den μ h i = A.w h i j := by
  rw [e_shift, den_shift, w, mul_div_mul_left _ _ (Real.exp_ne_zero _)]

/-- Above the diagonal the weight is zero. -/
theorem w_above (h : Fin 16) (i j : Fin 4096) (hij : ¬ j ≤ i) : A.w h i j = 0 := by
  unfold w e; rw [if_neg hij, zero_div]

/-- Above the diagonal the scores' gradient is zero. -/
theorem gz_above (h : Fin 16) (i j : Fin 4096) (hij : ¬ j ≤ i) : A.gz h i j = 0 := by
  unfold gz; rw [A.w_above h i j hij, zero_mul]

/-- The weights from the logarithm of the row sum: what the backward pass computes from the saved row statistic. -/
theorem exp_lse (μ : ℝ) (h : Fin 16) (i j : Fin 4096) (hij : j ≤ i) :
    Real.exp (A.qk h i j + -A.c h j - (μ + Real.log (A.den μ h i) - A.c h i)) = A.w h i j := by
  rw [← A.w_eq μ h i j]; unfold e; rw [if_pos hij]
  have : A.qk h i j + -A.c h j - (μ + Real.log (A.den μ h i) - A.c h i)
      = (A.z h i j - μ) - Real.log (A.den μ h i) := by unfold z; ring
  rw [this, Real.exp_sub, Real.exp_log (A.den_pos μ h i)]

/-- The output of the forward pass at one lane. -/
def o (h : Fin 16) (i : Fin 4096) (d : Fin 64) : ℝ := ∑ j, A.w h i j * A.v h j d

/-- The mean of the weight gradients is the product of the output and its gradient. -/
theorem mean_eq (h : Fin 16) (i : Fin 4096) : ∑ d, A.g h i d * A.o h i d = A.mean h i := by
  unfold o mean gw
  simp only [Finset.mul_sum]
  rw [Finset.sum_comm]
  exact Finset.sum_congr rfl fun j _ => Finset.sum_congr rfl fun d _ => by ring

/-- The gradient of a score as the chain rule through exponential, sum and quotient writes it. -/
theorem gz_chain (μ : ℝ) (h : Fin 16) (i j : Fin 4096) :
    (A.gw h i j / A.den μ h i + -(∑ l, A.gw h i l * (1 / (A.den μ h i * A.den μ h i)) * A.e μ h i l)) * A.e μ h i j
      = A.gz h i j := by
  have hd := A.den_ne μ h i
  have hm : ∑ l, A.gw h i l * (1 / (A.den μ h i * A.den μ h i)) * A.e μ h i l = A.mean h i / A.den μ h i := by
    unfold mean; rw [Finset.sum_div]
    refine Finset.sum_congr rfl fun l _ => ?_
    rw [← A.w_eq μ h i l]; field_simp
  rw [hm]; unfold gz; rw [← A.w_eq μ h i j]; field_simp; ring

end Data

end Cert.Attn

end
-- ==== Proof.Point.lean ====
/- One tile of the kernel over the real numbers: what its operands are, its scores, weights and score gradients are those
   of `Cert.Attn.Data` at the tile's positions, and what it adds to each accumulator is the tile's part of a gradient. -/
module

public import proofs.«01_k».proof.Proof.Body
public import proofs.«01_k».proof.Proof.Math

@[expose] public section

set_option maxRecDepth 16384
noncomputable section
namespace Cert.Ker
open Idealize.ShloMosaic Idealize.ShloMosaic.TcCoe Idealize.SL.Sem
open Cert.KernelIdeal Cert.KernelIdeal.Gen
open Cert.Attn (coe_sum)

/-- A lane's place within its head. -/
def dl (l : Fin 128) : Fin 64 := ⟨l.val % 64, by omega⟩

/-- A lane belongs to the head whose number is the lane's half. -/
theorem act_iff (h : Fin 2) (l : Fin 128) : act h l = true ↔ l.val / 64 = h.val := by simp [act]

/-- A sum over the 128 lanes of a pair of heads is one over the lanes of a head and one over the lanes of the other. -/
theorem sum_act (h : Fin 2) (F G : Fin 64 → EReal) :
    (∑ l : Fin 128, if act h l then F (dl l) else G (dl l)) = ∑ d, F d + ∑ d, G d := by
  rw [Fin.sum_univ_tiles 2 64 rfl]
  have key : ∀ a : Fin 2, (∑ d : Fin 64, if act h (⟨a.val * 64 + d.val, by omega⟩ : Fin 128) then F (dl ⟨a.val * 64 + d.val, by omega⟩) else G (dl ⟨a.val * 64 + d.val, by omega⟩))
      = if a = h then ∑ d, F d else ∑ d, G d := by
    intro a
    by_cases e : a = h
    · rw [if_pos e]
      refine Finset.sum_congr rfl fun d _ => ?_
      rw [if_pos (by rw [act_iff, ← e]; show (a.val * 64 + d.val) / 64 = a.val; omega)]
      congr 1; exact Fin.ext (by show (a.val * 64 + d.val) % 64 = d.val; omega)
    · rw [if_neg e]
      refine Finset.sum_congr rfl fun d _ => ?_
      rw [if_neg (by rw [act_iff]; show ¬ (a.val * 64 + d.val) / 64 = h.val; intro q; exact e (Fin.ext (by omega)))]
      congr 1; exact Fin.ext (by show (a.val * 64 + d.val) % 64 = d.val; omega)
  refine (Finset.sum_congr rfl fun a _ => key a).trans ?_
  fin_cases h
  · simp [Fin.sum_univ_two]
  · simp [Fin.sum_univ_two, add_comm]

/-- What is known of the operands of a tile: they are the tile's part of the real data, query positions `I`, key positions `J`. -/
structure Tile (A : Attn.Data) (H : Fin 2 → Fin 16) (I J : Fin 512 → Fin 4096) (μ : Fin 16 → Fin 4096 → ℝ)
    (x0 x1 x2 : FVec Ideal S512x128 .f32) (x3 : FVec Ideal S512x128 .bf16) (x4 x5 x6 : FVec Ideal S512x128 .f32) : Prop where
  q : ∀ h r l, act h l = true → x0 (ix2 r l) = ((A.q (H h) (I r) (dl l) : ℝ) : EReal)
  k : ∀ h r l, act h l = true → x1 (ix2 r l) = ((A.k (H h) (J r) (dl l) : ℝ) : EReal)
  v : ∀ h r l, act h l = true → x2 (ix2 r l) = ((A.v (H h) (J r) (dl l) : ℝ) : EReal)
  o : ∀ h r l, act h l = true → x4 (ix2 r l) = ((A.o (H h) (I r) (dl l) : ℝ) : EReal)
  g : ∀ h r l, act h l = true → x6 (ix2 r l) = ((A.g (H h) (I r) (dl l) : ℝ) : EReal)
  l : ∀ h r l, act h l = true →
    x5 (ix2 r l) = ((μ (H h) (I r) + Real.log (A.den (μ (H h) (I r)) (H h) (I r)) - A.c (H h) (I r) : ℝ) : EReal)
  c0 : ∀ h r l, act h l = false → l.val % 64 = 0 → x3 (ix2 r l) = ((-A.c (H h) (J r) : ℝ) : EReal)
  c1 : ∀ r l, l.val % 64 = 1 → x3 (ix2 r l) = ((0 : ℝ) : EReal)
  c2 : ∀ r l, l.val % 64 = 2 → x3 (ix2 r l) = ((0 : ℝ) : EReal)
  c3 : ∀ r l, l.val % 64 = 3 → x3 (ix2 r l) = ((1 : ℝ) : EReal)

variable {A : Attn.Data} {H : Fin 2 → Fin 16} {I J : Fin 512 → Fin 4096} {μ : Fin 16 → Fin 4096 → ℝ}
  {x0 x1 x2 : FVec Ideal S512x128 .f32} {x3 : FVec Ideal S512x128 .bf16} {x4 x5 x6 : FVec Ideal S512x128 .f32}

/-- The products of the upstream gradient with the values. -/
theorem Tile.DP_eq (T : Tile A H I J μ x0 x1 x2 x3 x4 x5 x6) (h : Fin 2) (r c : Fin 512) :
    DP x2 x6 h r c = ((A.gw (H h) (I r) (J c) : ℝ) : EReal) := by
  have e : ∀ l : Fin 128, (if act h l then x6 (ix2 r l) * x2 (ix2 c l) else 0)
      = if act h l then (fun d => ((A.g (H h) (I r) d * A.v (H h) (J c) d : ℝ) : EReal)) (dl l) else (fun _ => 0) (dl l) := by
    intro l
    by_cases a : act h l = true
    · rw [if_pos a, if_pos a, T.g h r l a, T.v h c l a, ← EReal.coe_mul]
    · rw [if_neg a, if_neg a]
  refine (Finset.sum_congr rfl fun l _ => e l).trans ((sum_act h (fun d => ((A.g (H h) (I r) d * A.v (H h) (J c) d : ℝ) : EReal)) (fun _ => 0)).trans ?_)
  rw [Finset.sum_const_zero, add_zero, ← coe_sum]; rfl

/-- The row means. -/
theorem Tile.DD_eq (T : Tile A H I J μ x0 x1 x2 x3 x4 x5 x6) (h : Fin 2) (r : Fin 512) :
    DD x4 x6 h r = ((A.mean (H h) (I r) : ℝ) : EReal) := by
  have e : ∀ l : Fin 128, (if act h l then x6 (ix2 r l) * x4 (ix2 r l) else 0)
      = if act h l then (fun d => ((A.g (H h) (I r) d * A.o (H h) (I r) d : ℝ) : EReal)) (dl l) else (fun _ => 0) (dl l) := by
    intro l
    by_cases a : act h l = true
    · rw [if_pos a, if_pos a, T.g h r l a, T.o h r l a, ← EReal.coe_mul]
    · rw [if_neg a, if_neg a]
  refine (Finset.sum_congr rfl fun l _ => e l).trans ((sum_act h (fun d => ((A.g (H h) (I r) d * A.o (H h) (I r) d : ℝ) : EReal)) (fun _ => 0)).trans ?_)
  rw [Finset.sum_const_zero, add_zero, ← coe_sum, A.mean_eq]

/-- The scores, less the query's part of the gate. -/
theorem Tile.SC_eq (T : Tile A H I J μ x0 x1 x2 x3 x4 x5 x6) (h : Fin 2) (r c : Fin 512) :
    SC x0 x1 x3 h r c = ((A.qk (H h) (I r) (J c) + -A.c (H h) (J c) : ℝ) : EReal) := by
  have e : ∀ l : Fin 128, QA x0 h r l * KA x1 x3 h c l
      = if act h l then (fun d => ((A.q (H h) (I r) d * A.k (H h) (J c) d * (1/8) : ℝ) : EReal)) (dl l)
        else (fun d : Fin 64 => ((if d = 0 then -A.c (H h) (J c) else 0 : ℝ) : EReal)) (dl l) := by
    intro l
    by_cases a : act h l = true
    · unfold QA KA
      rw [if_pos a, if_pos a, if_pos a, T.q h r l a, T.k h c l a, ← EReal.coe_mul, ← EReal.coe_mul]
      exact congrArg _ (by ring)
    · have a' : act h l = false := by simpa using a
      unfold QA KA
      rw [if_neg a, if_neg a, if_neg a]
      by_cases z : l.val % 64 = 0
      · have z' : dl l = 0 := Fin.ext z
        rw [if_pos (by omega), T.c0 h c l a' z, z', one_mul]; simp
      · have z' : ¬ dl l = 0 := fun q => z (congrArg Fin.val q)
        show _ = ((if dl l = 0 then -A.c (H h) (J c) else 0 : ℝ) : EReal)
        rw [if_neg z']
        by_cases s : l.val % 64 < 3
        · rw [if_pos s, one_mul]
          rcases (by omega : l.val % 64 = 1 ∨ l.val % 64 = 2) with u | u
          · exact T.c1 c l u
          · exact T.c2 c l u
        · rw [if_neg s, zero_mul]; rfl
  refine (Finset.sum_congr rfl fun l _ => e l).trans ((sum_act h (fun d => ((A.q (H h) (I r) d * A.k (H h) (J c) d * (1/8) : ℝ) : EReal)) (fun d => ((if d = 0 then -A.c (H h) (J c) else 0 : ℝ) : EReal))).trans ?_)
  rw [← coe_sum, ← coe_sum, ← EReal.coe_add]
  refine congrArg _ ?_
  rw [Finset.sum_ite_eq' Finset.univ (0 : Fin 64) (fun _ => -A.c (H h) (J c)), if_pos (Finset.mem_univ _), ← Finset.sum_mul]
  rfl

/-- The weights. -/
theorem Tile.PP_eq (T : Tile A H I J μ x0 x1 x2 x3 x4 x5 x6) (dg : Bool)
    (hd : ∀ r c : Fin 512, (dg && decide (r.val < c.val)) = true ↔ ¬ J c ≤ I r) (h : Fin 2) (r c : Fin 512) :
    PP dg (SC x0 x1 x3) x5 h r c = ((A.w (H h) (I r) (J c) : ℝ) : EReal) := by
  unfold PP
  have a : act h (⟨h.val * 64, by omega⟩ : Fin 128) = true := by rw [act_iff]; show h.val * 64 / 64 = h.val; omega
  rw [T.l h r _ a]
  by_cases e : J c ≤ I r
  · rw [if_neg (fun q => (hd r c).1 q e), T.SC_eq, ← EReal.coe_sub, ← A.exp_lse (μ (H h) (I r)) (H h) (I r) (J c) e]
    rfl
  · rw [if_pos ((hd r c).2 e), A.w_above (hij := e), EReal.bot_sub]
    rfl

/-- The gradients of the scores. -/
theorem Tile.DSB_eq (T : Tile A H I J μ x0 x1 x2 x3 x4 x5 x6) (dg : Bool)
    (hd : ∀ r c : Fin 512, (dg && decide (r.val < c.val)) = true ↔ ¬ J c ≤ I r) (h : Fin 2) (r c : Fin 512) :
    DSB dg x0 x1 x2 x3 x4 x5 x6 h r c = ((A.gz (H h) (I r) (J c) : ℝ) : EReal) := by
  unfold DSB DS
  rw [T.PP_eq dg hd, T.DP_eq, T.DD_eq, ← EReal.coe_sub, ← EReal.coe_mul]; rfl

/-- The head of the pair a lane belongs to, and the other one. -/
def hh (k : Fin 128) : Fin 2 := ⟨k.val / 64, by omega⟩
/-- The head a lane does not belong to. -/
def ho (k : Fin 128) : Fin 2 := ⟨1 - k.val / 64, by omega⟩

/-- A lane belongs to its own head. -/
theorem act_hh (k : Fin 128) : act (hh k) k = true := by rw [act_iff]; rfl
/-- A lane does not belong to the other head. -/
theorem act_ho (k : Fin 128) : act (ho k) k = false := by revert k; decide
/-- The two halves of the lanes. -/
theorem hh_cases (k : Fin 128) : (act 0 k = true ∧ hh k = 0 ∧ ho k = 1) ∨ (act 0 k = false ∧ hh k = 1 ∧ ho k = 0) := by
  revert k; decide

/-- The tile's part of the gradient of the values. -/
theorem Tile.VS_eq (T : Tile A H I J μ x0 x1 x2 x3 x4 x5 x6) (dg : Bool)
    (hd : ∀ r c : Fin 512, (dg && decide (r.val < c.val)) = true ↔ ¬ J c ≤ I r) (j : Fin 512) (k : Fin 128) :
    VS (PP dg (SC x0 x1 x3) x5) x6 j k
      = ((∑ x, A.w (H (hh k)) (I x) (J j) * A.g (H (hh k)) (I x) (dl k) : ℝ) : EReal) := by
  have e : ∀ x, PP dg (SC x0 x1 x3) x5 (hh k) x j * x6 (ix2 x k) = ((A.w (H (hh k)) (I x) (J j) * A.g (H (hh k)) (I x) (dl k) : ℝ) : EReal) := by
    intro x
    rw [T.PP_eq dg hd, T.g (hh k) x k (act_hh k), ← EReal.coe_mul]
  rw [coe_sum, ← Finset.sum_congr rfl fun x _ => e x]
  unfold VS
  rcases hh_cases k with ⟨a, b, -⟩ | ⟨a, b, -⟩
  · rw [a, b]; rfl
  · rw [a, b]; rfl

/-- The tile's part of the gradient of the queries, before the factor 1/8. -/
theorem Tile.QS_eq (T : Tile A H I J μ x0 x1 x2 x3 x4 x5 x6) (dg : Bool)
    (hd : ∀ r c : Fin 512, (dg && decide (r.val < c.val)) = true ↔ ¬ J c ≤ I r) (r : Fin 512) (k : Fin 128) :
    QS (DSB dg x0 x1 x2 x3 x4 x5 x6) x1 r k
      = ((∑ x, A.gz (H (hh k)) (I r) (J x) * A.k (H (hh k)) (J x) (dl k) : ℝ) : EReal) := by
  have e : ∀ x, DSB dg x0 x1 x2 x3 x4 x5 x6 (hh k) r x * x1 (ix2 x k) = ((A.gz (H (hh k)) (I r) (J x) * A.k (H (hh k)) (J x) (dl k) : ℝ) : EReal) := by
    intro x
    rw [T.DSB_eq dg hd, T.k (hh k) x k (act_hh k), ← EReal.coe_mul]
  rw [coe_sum, ← Finset.sum_congr rfl fun x _ => e x]
  unfold QS
  rcases hh_cases k with ⟨a, b, -⟩ | ⟨a, b, -⟩
  · rw [a, b]; rfl
  · rw [a, b]; rfl

/-- The tile's part of the row sums, at the lane that carries them. -/
theorem Tile.RS_eq (T : Tile A H I J μ x0 x1 x2 x3 x4 x5 x6) (dg : Bool)
    (hd : ∀ r c : Fin 512, (dg && decide (r.val < c.val)) = true ↔ ¬ J c ≤ I r) (r : Fin 512) (k : Fin 128) (hk : k.val % 64 = 3) :
    RS (DSB dg x0 x1 x2 x3 x4 x5 x6) x3 r k = ((∑ x, A.gz (H (ho k)) (I r) (J x) : ℝ) : EReal) := by
  have e : ∀ x, DSB dg x0 x1 x2 x3 x4 x5 x6 (ho k) r x * x3 (ix2 x k) = ((A.gz (H (ho k)) (I r) (J x) : ℝ) : EReal) := by
    intro x
    rw [T.DSB_eq dg hd, T.c3 x k hk, ← EReal.coe_mul, mul_one]
  rw [coe_sum, ← Finset.sum_congr rfl fun x _ => e x]
  unfold RS
  rcases hh_cases k with ⟨a, -, b⟩ | ⟨a, -, b⟩
  · rw [a, b]; rfl
  · rw [a, b]; rfl

/-- The tile's part of the gradient of the keys, at the lanes of the head. -/
theorem Tile.KS_own (T : Tile A H I J μ x0 x1 x2 x3 x4 x5 x6) (dg : Bool)
    (hd : ∀ r c : Fin 512, (dg && decide (r.val < c.val)) = true ↔ ¬ J c ≤ I r) (j : Fin 512) (k : Fin 128) :
    KS (DSB dg x0 x1 x2 x3 x4 x5 x6) x0 (hh k) j k
      = ((∑ x, A.gz (H (hh k)) (I x) (J j) * (A.q (H (hh k)) (I x) (dl k) * (1/8)) : ℝ) : EReal) := by
  rw [coe_sum]
  refine Finset.sum_congr rfl fun x _ => ?_
  unfold QA
  rw [if_pos (act_hh k), T.DSB_eq dg hd, T.q (hh k) x k (act_hh k), ← EReal.coe_mul, ← EReal.coe_mul]

/-- The tile's part of the column sums, at the first lane of the other head. -/
theorem Tile.KS_other (T : Tile A H I J μ x0 x1 x2 x3 x4 x5 x6) (dg : Bool)
    (hd : ∀ r c : Fin 512, (dg && decide (r.val < c.val)) = true ↔ ¬ J c ≤ I r) (j : Fin 512) (k : Fin 128) (hk : k.val % 64 = 0) :
    KS (DSB dg x0 x1 x2 x3 x4 x5 x6) x0 (ho k) j k = ((∑ x, A.gz (H (ho k)) (I x) (J j) : ℝ) : EReal) := by
  rw [coe_sum]
  refine Finset.sum_congr rfl fun x _ => ?_
  unfold QA
  rw [if_neg (by rw [act_ho]; exact Bool.false_ne_true), if_pos (by omega), T.DSB_eq dg hd, mul_one]

end Cert.Ker
-- ==== Proof.Blocks.lean ====
/- The blocks the kernel's windows read at a grid point, as parts of the arrays it is called on. -/
module

public import proofs.«01_k».proof.Proof.Gen.KernelIdeal.Frame
public import Idealize.ShloMosaic.Lib.Pipeline.ValueKit
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The point's number is below 512. -/
theorem pt_lt (t : Fin cfg0.N) : t.val < 512 := lt_of_lt_of_eq t.isLt N_0

/-- The position of row `r` of the query tile that a point reads. -/
def qrow (t : Fin cfg0.N) (r : Fin 512) : Fin 4096 := ⟨512 * max (t.val % 8) (t.val / 8 % 8) + r.val, by have := r.isLt; omega⟩
/-- The position of row `r` of the key tile that a point reads. -/
def krow (t : Fin cfg0.N) (r : Fin 512) : Fin 4096 := ⟨512 * (t.val / 8 % 8) + r.val, by have := r.isLt; omega⟩
/-- The place, among the 1024 lanes of all heads, of lane `l` of the pair of heads of a point. -/
def lane (t : Fin cfg0.N) (l : Fin 128) : Fin 1024 := ⟨128 * (t.val / 64) + l.val, by have := l.isLt; have := pt_lt t; omega⟩

/-- The block that window 0 (the queries) takes at a point: its row tile and its pair of heads. -/
theorem idx0 : ∀ t : Fin cfg0.N, win0_0.index t 0 = max (t.val % 8) (t.val / 8 % 8) ∧ win0_0.index t 1 = 16 + t.val / 64 :=
  (by decide +kernel : ∀ t : Fin grid0.N, win0_0.index t 0 = max (t.val % 8) (t.val / 8 % 8) ∧ win0_0.index t 1 = 16 + t.val / 64)

/-- A read of any contents of the array of window 0 through its block. -/
theorem rd0 (c : Dev nD) (X : Buf (Elt Ideal) ((c : Thread nD τ).loc main_arg0)) (t : Fin cfg0.N) (r : Fin 512) (l : Fin 128) :
    ((cfg0.win 0).blk t).view.read (Elt Ideal) X (ix2 r l) = X (ix2 (qrow t r) ⟨2048 + (lane t l).val, by have := (lane t l).isLt; omega⟩) := by
  show X (((cfg0.win 0).blk t).view.emb (ix2 r l)) = _
  refine congrArg X ?_
  funext a
  refine Fin.ext ?_
  match a with
  | ⟨0, _⟩ =>
    show win0_0.index t 0 * 512 + 1 * r.val = 512 * (max (t.val % 8) (t.val / 8 % 8)) + r.val
    rw [(idx0 t).1]; omega
  | ⟨1, _⟩ =>
    show win0_0.index t 1 * 128 + 1 * l.val = 2048 + (128 * (t.val / 64) + l.val)
    rw [(idx0 t).2]; omega

/-- The block of window 0. -/
theorem blk0 (c : Dev nD) (t : Fin cfg0.N) (r : Fin 512) (l : Fin 128) :
    iblk m c 0 t (ix2 r l) = V m c main_arg0 (ix2 (qrow t r) ⟨2048 + (lane t l).val, by have := (lane t l).isLt; omega⟩) := rd0 c (V m c main_arg0) t r l

/-- The block that window 1 (the keys) takes at a point: its row tile and its pair of heads. -/
theorem idx1 : ∀ t : Fin cfg0.N, win0_1.index t 0 = t.val / 8 % 8 ∧ win0_1.index t 1 = 24 + t.val / 64 :=
  (by decide +kernel : ∀ t : Fin grid0.N, win0_1.index t 0 = t.val / 8 % 8 ∧ win0_1.index t 1 = 24 + t.val / 64)

/-- A read of any contents of the array of window 1 through its block. -/
theorem rd1 (c : Dev nD) (X : Buf (Elt Ideal) ((c : Thread nD τ).loc main_arg0)) (t : Fin cfg0.N) (r : Fin 512) (l : Fin 128) :
    ((cfg0.win 1).blk t).view.read (Elt Ideal) X (ix2 r l) = X (ix2 (krow t r) ⟨3072 + (lane t l).val, by have := (lane t l).isLt; omega⟩) := by
  show X (((cfg0.win 1).blk t).view.emb (ix2 r l)) = _
  refine congrArg X ?_
  funext a
  refine Fin.ext ?_
  match a with
  | ⟨0, _⟩ =>
    show win0_1.index t 0 * 512 + 1 * r.val = 512 * (t.val / 8 % 8) + r.val
    rw [(idx1 t).1]; omega
  | ⟨1, _⟩ =>
    show win0_1.index t 1 * 128 + 1 * l.val = 3072 + (128 * (t.val / 64) + l.val)
    rw [(idx1 t).2]; omega

/-- The block of window 1. -/
theorem blk1 (c : Dev nD) (t : Fin cfg0.N) (r : Fin 512) (l : Fin 128) :
    iblk m c 1 t (ix2 r l) = V m c main_arg0 (ix2 (krow t r) ⟨3072 + (lane t l).val, by have := (lane t l).isLt; omega⟩) := rd1 c (V m c main_arg0) t r l

/-- The block that window 2 (the values) takes at a point: its row tile and its pair of heads. -/
theorem idx2 : ∀ t : Fin cfg0.N, win0_2.index t 0 = t.val / 8 % 8 ∧ win0_2.index t 1 = 32 + t.val / 64 :=
  (by decide +kernel : ∀ t : Fin grid0.N, win0_2.index t 0 = t.val / 8 % 8 ∧ win0_2.index t 1 = 32 + t.val / 64)

/-- A read of any contents of the array of window 2 through its block. -/
theorem rd2 (c : Dev nD) (X : Buf (Elt Ideal) ((c : Thread nD τ).loc main_arg0)) (t : Fin cfg0.N) (r : Fin 512) (l : Fin 128) :
    ((cfg0.win 2).blk t).view.read (Elt Ideal) X (ix2 r l) = X (ix2 (krow t r) ⟨4096 + (lane t l).val, by have := (lane t l).isLt; omega⟩) := by
  show X (((cfg0.win 2).blk t).view.emb (ix2 r l)) = _
  refine congrArg X ?_
  funext a
  refine Fin.ext ?_
  match a with
  | ⟨0, _⟩ =>
    show win0_2.index t 0 * 512 + 1 * r.val = 512 * (t.val / 8 % 8) + r.val
    rw [(idx2 t).1]; omega
  | ⟨1, _⟩ =>
    show win0_2.index t 1 * 128 + 1 * l.val = 4096 + (128 * (t.val / 64) + l.val)
    rw [(idx2 t).2]; omega

/-- The block of window 2. -/
theorem blk2 (c : Dev nD) (t : Fin cfg0.N) (r : Fin 512) (l : Fin 128) :
    iblk m c 2 t (ix2 r l) = V m c main_arg0 (ix2 (krow t r) ⟨4096 + (lane t l).val, by have := (lane t l).isLt; omega⟩) := rd2 c (V m c main_arg0) t r l

/-- The block that window 3 (the unit lanes of the keys) takes at a point: its row tile and its pair of heads. -/
theorem idx3 : ∀ t : Fin cfg0.N, win0_3.index t 0 = t.val / 8 % 8 ∧ win0_3.index t 1 = t.val / 64 :=
  (by decide +kernel : ∀ t : Fin grid0.N, win0_3.index t 0 = t.val / 8 % 8 ∧ win0_3.index t 1 = t.val / 64)

/-- A read of any contents of the array of window 3 through its block. -/
theorem rd3 (c : Dev nD) (X : Buf (Elt Ideal) ((c : Thread nD τ).loc main_v73)) (t : Fin cfg0.N) (r : Fin 512) (l : Fin 128) :
    ((cfg0.win 3).blk t).view.read (Elt Ideal) X (ix2 r l) = X (ix2 (krow t r) (lane t l)) := by
  show X (((cfg0.win 3).blk t).view.emb (ix2 r l)) = _
  refine congrArg X ?_
  funext a
  refine Fin.ext ?_
  match a with
  | ⟨0, _⟩ =>
    show win0_3.index t 0 * 512 + 1 * r.val = 512 * (t.val / 8 % 8) + r.val
    rw [(idx3 t).1]; omega
  | ⟨1, _⟩ =>
    show win0_3.index t 1 * 128 + 1 * l.val = 128 * (t.val / 64) + l.val
    rw [(idx3 t).2]; omega

/-- The block of window 3. -/
theorem blk3 (c : Dev nD) (t : Fin cfg0.N) (r : Fin 512) (l : Fin 128) :
    iblk m c 3 t (ix2 r l) = V m c main_v73 (ix2 (krow t r) (lane t l)) := rd3 c (V m c main_v73) t r l

/-- The block that window 4 (the attention's output) takes at a point: its row tile and its pair of heads. -/
theorem idx4 : ∀ t : Fin cfg0.N, win0_4.index t 0 = max (t.val % 8) (t.val / 8 % 8) ∧ win0_4.index t 1 = t.val / 64 :=
  (by decide +kernel : ∀ t : Fin grid0.N, win0_4.index t 0 = max (t.val % 8) (t.val / 8 % 8) ∧ win0_4.index t 1 = t.val / 64)

/-- A read of any contents of the array of window 4 through its block. -/
theorem rd4 (c : Dev nD) (X : Buf (Elt Ideal) ((c : Thread nD τ).loc main_v44)) (t : Fin cfg0.N) (r : Fin 512) (l : Fin 128) :
    ((cfg0.win 4).blk t).view.read (Elt Ideal) X (ix2 r l) = X (ix2 (qrow t r) (lane t l)) := by
  show X (((cfg0.win 4).blk t).view.emb (ix2 r l)) = _
  refine congrArg X ?_
  funext a
  refine Fin.ext ?_
  match a with
  | ⟨0, _⟩ =>
    show win0_4.index t 0 * 512 + 1 * r.val = 512 * (max (t.val % 8) (t.val / 8 % 8)) + r.val
    rw [(idx4 t).1]; omega
  | ⟨1, _⟩ =>
    show win0_4.index t 1 * 128 + 1 * l.val = 128 * (t.val / 64) + l.val
    rw [(idx4 t).2]; omega

/-- The block of window 4. -/
theorem blk4 (c : Dev nD) (t : Fin cfg0.N) (r : Fin 512) (l : Fin 128) :
    iblk m c 4 t (ix2 r l) = V m c main_v44 (ix2 (qrow t r) (lane t l)) := rd4 c (V m c main_v44) t r l

/-- The block that window 5 (the the row constants (lse)) takes at a point: its row tile and its pair of heads. -/
theorem idx5 : ∀ t : Fin cfg0.N, win0_5.index t 0 = max (t.val % 8) (t.val / 8 % 8) ∧ win0_5.index t 1 = t.val / 64 :=
  (by decide +kernel : ∀ t : Fin grid0.N, win0_5.index t 0 = max (t.val % 8) (t.val / 8 % 8) ∧ win0_5.index t 1 = t.val / 64)

/-- A read of any contents of the array of window 5 through its block. -/
theorem rd5 (c : Dev nD) (X : Buf (Elt Ideal) ((c : Thread nD τ).loc main_v51)) (t : Fin cfg0.N) (r : Fin 512) (l : Fin 128) :
    ((cfg0.win 5).blk t).view.read (Elt Ideal) X (ix2 r l) = X (ix2 (qrow t r) (lane t l)) := by
  show X (((cfg0.win 5).blk t).view.emb (ix2 r l)) = _
  refine congrArg X ?_
  funext a
  refine Fin.ext ?_
  match a with
  | ⟨0, _⟩ =>
    show win0_5.index t 0 * 512 + 1 * r.val = 512 * (max (t.val % 8) (t.val / 8 % 8)) + r.val
    rw [(idx5 t).1]; omega
  | ⟨1, _⟩ =>
    show win0_5.index t 1 * 128 + 1 * l.val = 128 * (t.val / 64) + l.val
    rw [(idx5 t).2]; omega

/-- The block of window 5. -/
theorem blk5 (c : Dev nD) (t : Fin cfg0.N) (r : Fin 512) (l : Fin 128) :
    iblk m c 5 t (ix2 r l) = V m c main_v51 (ix2 (qrow t r) (lane t l)) := rd5 c (V m c main_v51) t r l

/-- The block that window 6 (the output's gradient) takes at a point: its row tile and its pair of heads. -/
theorem idx6 : ∀ t : Fin cfg0.N, win0_6.index t 0 = max (t.val % 8) (t.val / 8 % 8) ∧ win0_6.index t 1 = 8 + t.val / 64 :=
  (by decide +kernel : ∀ t : Fin grid0.N, win0_6.index t 0 = max (t.val % 8) (t.val / 8 % 8) ∧ win0_6.index t 1 = 8 + t.val / 64)

/-- A read of any contents of the array of window 6 through its block. -/
theorem rd6 (c : Dev nD) (X : Buf (Elt Ideal) ((c : Thread nD τ).loc main_arg2)) (t : Fin cfg0.N) (r : Fin 512) (l : Fin 128) :
    ((cfg0.win 6).blk t).view.read (Elt Ideal) X (ix2 r l) = X (ix2 (qrow t r) ⟨1024 + (lane t l).val, by have := (lane t l).isLt; omega⟩) := by
  show X (((cfg0.win 6).blk t).view.emb (ix2 r l)) = _
  refine congrArg X ?_
  funext a
  refine Fin.ext ?_
  match a with
  | ⟨0, _⟩ =>
    show win0_6.index t 0 * 512 + 1 * r.val = 512 * (max (t.val % 8) (t.val / 8 % 8)) + r.val
    rw [(idx6 t).1]; omega
  | ⟨1, _⟩ =>
    show win0_6.index t 1 * 128 + 1 * l.val = 1024 + (128 * (t.val / 64) + l.val)
    rw [(idx6 t).2]; omega

/-- The block of window 6. -/
theorem blk6 (c : Dev nD) (t : Fin cfg0.N) (r : Fin 512) (l : Fin 128) :
    iblk m c 6 t (ix2 r l) = V m c main_arg2 (ix2 (qrow t r) ⟨1024 + (lane t l).val, by have := (lane t l).isLt; omega⟩) := rd6 c (V m c main_arg2) t r l

end Cert.Ker
-- ==== Proof.Ref.lean ====
/- The reference's stages and results, read at an index, as the real quantities of `Cert.Attn.Data`. -/
module

public import proofs.«01_k».proof.Proof.Gen.ReferenceIdeal.Read
public import proofs.«01_k».proof.Proof.Math
public import Idealize.ShloMosaic.Lib.Pointwise
public import Idealize.ShloMosaic.Lib.WordCmp

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read

attribute [local irreducible] val_main_v0 val_main_v1 val_main_v2 val_main_v3 val_main_v4 val_main_v5 val_main_v6 val_main_call0_v0 val_main_call0_call0_cst val_main_call0_call0_v0 val_main_call0_call0_v1 val_main_call0_call0_v2 val_main_call0_call0_v3 val_main_call0_call0_v4 val_main_call0_call0_v5 val_main_call0_call0_v6 val_main_call0_call0_v7 val_main_call0_call0_v8 val_main_call0_call0_v9 val_main_call0_call0_v10 val_main_call0_call0_v11 val_main_call0_v1 val_main_v7 val_main_v8 val_main_call1_call0_cst val_main_call1_call0_v0 val_main_v9 val_main_v10 val_main_v11 val_main_v12 val_main_v13 val_main_v14 val_main_v15 val_main_v16 val_main_cst val_main_v17 val_main_v18 val_main_v19 val_main_v20 val_main_v21 val_main_v22 val_main_v23 val_main_v24 val_main_v25 val_main_v26 val_main_v27 val_main_v28 val_main_v29 val_main_v30 val_main_v31 val_main_cst_0 val_main_call2_v0 val_main_v32_1 val_main_call2_v2 val_main_v32_0 val_main_call2_cst val_main_v32_2 val_main_cst_1 val_main_v33 val_main_v34 val_main_v35 val_main_v36 val_main_v37 val_main_cst_2 val_main_v38 val_main_cst_3 val_main_v39 val_main_v40 val_main_cst_4 val_main_v41 val_main_v42 val_main_cst_5 val_main_v43 val_main_v44 val_main_cst_6 val_main_v45 val_main_cst_7 val_main_v46 val_main_cst_8 val_main_v47 val_main_v48 val_main_v49 val_main_v50 val_main_v51 val_main_v52 val_main_v53 val_main_cst_9 val_main_v54 val_main_v55 val_main_v56 val_main_v57 val_main_v58 val_main_cst_10 val_main_v59 val_main_v60 val_main_v61 val_main_v62 val_main_v63 val_main_v64 val_main_v65 val_main_v66 val_main_v67 val_main_v68 val_main_v69 val_main_v70 val_main_v71 val_main_v72 val_main_cst_11 val_main_v73 val_main_v74 val_main_v75 val_main_v76 val_main_v77 val_main_cst_12 val_main_v78 val_main_v79 val_main_v80 val_main_v81 val_main_call3_cst val_main_call3_v0 val_main_v82 val_main_v83 val_main_cst_13 val_main_v84 val_main_v85 val_main_cst_14 val_main_v86 val_main_cst_15 val_main_v87 val_main_v88 val_main_cst_16 val_main_v89 val_main_cst_17 val_main_v90 val_main_v91 val_main_v92 val_main_v93 val_main_v94 val_main_v95 val_main_v96 val_main_v97 val_main_v98 val_main_v99 val_main_v100 val_main_v101 val_main_v102 val_main_v103 val_main_v104 val_main_v105 val_main_v106 val_main_v107 val_main_v108 val_main_v109 val_main_v110 val_main_v111 val_main_v112

variable (X0 : FVec Ideal S4096x5632 .f32) (X1 : FVec Ideal S16 .f32) (X2 : FVec Ideal S4096x2048 .f32)

/-- The running sum of the logarithms of the forget gates. -/
def cR (h : Fin 16) (i : Fin 4096) : ℝ := EReal.toReal (val_main_v9 (F := Ideal) X0 X1 (ix2 h i))

/-- The data of the gradient in the three argument arrays. -/
def dat : Attn.Data where
  q h i d := (X0 (ix2 i ⟨2048 + (h.val * 64 + d.val), by omega⟩)).toReal
  k h i d := (X0 (ix2 i ⟨3072 + (h.val * 64 + d.val), by omega⟩)).toReal
  v h i d := (X0 (ix2 i ⟨4096 + (h.val * 64 + d.val), by omega⟩)).toReal
  g h i d := (X2 (ix2 i ⟨1024 + (h.val * 64 + d.val), by omega⟩)).toReal
  c := cR X0 X1

/-- An extended real that is some real number is the real number of it. -/
theorem toReal_of {x : EReal} (h : ∃ r : ℝ, x = (r : EReal)) : x = (x.toReal : EReal) := by
  obtain ⟨r, rfl⟩ := h; rfl

/-- The pattern of one eighth. -/
theorem eighth : Ideal.ofBits .f32 0x3E000000#32 = ((1 / 8 : ℝ) : EReal) := by
  simp [Ideal.ofBits, Ideal.ieee, -EReal.coe_mul]; norm_num

/-- The pattern of minus infinity. -/
theorem neg_inf : Ideal.ofBits .f32 0xFF800000#32 = (⊥ : EReal) := by
  simp [Ideal.ofBits, Ideal.ieee]

/-- The larger of two real numbers, read as extended reals. -/
theorem max_coe (x y : ℝ) : max (x : EReal) (y : EReal) = ((max x y : ℝ) : EReal) := by
  exact (EReal.coe_strictMono.monotone.map_max (a := x) (b := y)).symm

/-- The logarithm of the forget gate of a finite input is finite. -/
theorem log_gate_real (a b : ℝ) : ∃ r : ℝ,
    (-(max (-((a : EReal) + (b : EReal))) 0 + Ideal.log1p (Ideal.exp (-FloatOps.absf (φ := .f32) (F := Ideal) (-((a : EReal) + (b : EReal))))))) = (r : EReal) := by
  have h : FloatOps.absf (φ := .f32) (F := Ideal) (-((a : EReal) + (b : EReal))) = ((|a + b| : ℝ) : EReal) := by
    rw [← EReal.coe_add, ← EReal.coe_neg]
    show max ((-(a + b) : ℝ) : EReal) (-((-(a + b) : ℝ) : EReal)) = _
    rw [← EReal.coe_neg, max_coe, neg_neg, max_comm, ← abs_eq_max_neg]
  rw [h, ← EReal.coe_add, ← EReal.coe_neg, ← EReal.coe_neg, Ideal.exp_coe, Ideal.log1p, ← EReal.coe_one, ← EReal.coe_add, Ideal.log_coe,
    if_neg (by have := Real.exp_pos (-|a + b|); linarith), ← EReal.coe_zero, max_coe, ← EReal.coe_add, ← EReal.coe_neg]
  exact ⟨_, rfl⟩

/-- A left fold of sums of finite terms is finite. -/
theorem foldl_real {ι : Type*} (l : List ι) (f : ι → EReal) (hf : ∀ n, ∃ r : ℝ, f n = (r : EReal)) (x : EReal)
    (hx : ∃ r : ℝ, x = (r : EReal)) : ∃ r : ℝ, l.foldl (fun r n => r + f n) x = (r : EReal) := by
  induction l generalizing x with
  | nil => exact hx
  | cons a l ih =>
    rw [List.foldl_cons]
    refine ih _ ?_
    obtain ⟨r, hr⟩ := hx; obtain ⟨s, hs⟩ := hf a
    exact ⟨r + s, by rw [hr, hs, EReal.coe_add]⟩

/-- A window sum of finite terms is finite. -/
theorem window_real {s t u : Shape} (window strides lo hi : Fin s.rank → Nat) (x : FVec Ideal s .f32) (init : FVec Ideal u .f32)
    (h : s.ReduceWindows window strides lo hi t) (hu : 0 < u.numel) (hx : ∀ i, ∃ r : ℝ, x i = (r : EReal))
    (hi' : ∀ i, ∃ r : ℝ, init i = (r : EReal)) (j : t.Idx) :
    ∃ r : ℝ, Host.reduceWindowAdd window strides lo hi x init h hu j = (r : EReal) := by
  unfold Host.reduceWindowAdd
  rw [Ideal.hostReduceWindowAdd_def]
  unfold Ideal.hostReduceWindowAdd Host.reduceWindow
  refine foldl_real _ _ (fun n => ?_) _ (hi' _)
  dsimp only
  split
  · exact hx _
  · exact hi' _

section Stages

variable (h0 : ∀ i, X0 i = ((X0 i).toReal : EReal)) (h1 : ∀ i, X1 i = ((X1 i).toReal : EReal))
  (h2 : ∀ i, X2 i = ((X2 i).toReal : EReal))

include h0 in
/-- The reference's queries. -/
theorem q_eq (h : Fin 16) (i : Fin 4096) (d : Fin 64) :
    val_main_v11 (F := Ideal) X0 (ix3 h i d) = (((dat X0 X1 X2).q h i d : ℝ) : EReal) := by
  pointwise [val_main_v11, val_main_v10, val_main_v0]
  exact h0 _

include h0 in
/-- The reference's keys. -/
theorem k_eq (h : Fin 16) (i : Fin 4096) (d : Fin 64) :
    val_main_v13 (F := Ideal) X0 (ix3 h i d) = (((dat X0 X1 X2).k h i d : ℝ) : EReal) := by
  pointwise [val_main_v13, val_main_v12, val_main_v1]
  exact h0 _

include h0 in
/-- The reference's values. -/
theorem v_eq (h : Fin 16) (i : Fin 4096) (d : Fin 64) :
    val_main_v15 (F := Ideal) X0 (ix3 h i d) = (((dat X0 X1 X2).v h i d : ℝ) : EReal) := by
  pointwise [val_main_v15, val_main_v14, val_main_v2]
  exact h0 _

include h2 in
/-- The reference's gradient of the output. -/
theorem g_eq (h : Fin 16) (i : Fin 4096) (d : Fin 64) :
    val_main_v66 (F := Ideal) X2 (ix3 h i d) = (((dat X0 X1 X2).g h i d : ℝ) : EReal) := by
  pointwise [val_main_v66, val_main_v65, val_main_v64]
  exact h2 _

include h0 h1 in
/-- The logarithms of the forget gates are finite. -/
theorem gate_real (i : S16x4096.Idx) : ∃ r : ℝ, val_main_v8 (F := Ideal) X0 X1 i = (r : EReal) := by
  idx_vars i
  pointwise [val_main_v8, val_main_v7, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v6, val_main_v5, val_main_v4, val_main_v3]
  rw [if_neg (fun h => h rfl), h0, h1]
  exact log_gate_real _ _

/-- The sum of the reference's gates starts at zero. -/
theorem zero_init (i : S_.Idx) : val_main_call1_call0_v0 (F := Ideal) i = ((0 : ℝ) : EReal) := by
  pointwise [val_main_call1_call0_v0, val_main_call1_call0_cst]; exact EReal.coe_zero.symm

include h0 h1 in
/-- The running sums of the logarithms are finite. -/
theorem c_eq (h : Fin 16) (i : Fin 4096) :
    val_main_v9 (F := Ideal) X0 X1 (ix2 h i) = (((dat X0 X1 X2).c h i : ℝ) : EReal) := by
  show val_main_v9 (F := Ideal) X0 X1 (ix2 h i) = ((cR X0 X1 h i : ℝ) : EReal)
  unfold cR
  refine toReal_of ?_
  have hg := gate_real X0 X1 h0 h1
  have hz : ∀ i : S_.Idx, ∃ r : ℝ, val_main_call1_call0_v0 (F := Ideal) i = (r : EReal) := fun i => ⟨0, zero_init i⟩
  unfold val_main_v9
  generalize val_main_v8 (F := Ideal) X0 X1 = y at hg ⊢
  generalize val_main_call1_call0_v0 (F := Ideal) = y0 at hz ⊢
  apply window_real
  · exact hg
  · exact hz

include h0 h1 in
/-- The reference's scores. -/
theorem z_eq (h : Fin 16) (i j : Fin 4096) :
    val_main_v24 (F := Ideal) X0 X1 (ix3 h i j) = (((dat X0 X1 X2).z h i j : ℝ) : EReal) := by
  have hc := c_eq X0 X1 X2 h0 h1 h
  have hq := q_eq X0 X1 X2 h0 h i
  have hk := k_eq X0 X1 X2 h0 h j
  unfold val_main_v24 val_main_v23 val_main_v22 val_main_v21 val_main_v20 val_main_v19 val_main_v18 val_main_v17 val_main_cst
    val_main_v16 Attn.Data.z Attn.Data.qk
  generalize val_main_v9 (F := Ideal) X0 X1 = C at hc ⊢
  generalize val_main_v11 (F := Ideal) X0 = Q at hq ⊢
  generalize val_main_v13 (F := Ideal) X0 = K at hk ⊢
  pointwise
  rw [hc, hc, eighth]
  simp only [hq, hk, ← EReal.coe_mul, ← Attn.coe_sum, ← EReal.coe_add, ← EReal.coe_sub]

/-- The comparison of positions under the mask. -/
theorem sge_eq (i j : Fin 4096) (x y : EReal) :
    Scalar.select (IntOp.cmpi CmpIPredicate.sge (BitVec.ofNat 32 i.val) (BitVec.ofNat 32 j.val)) x y = if j ≤ i then x else y := by
  have hi := i.isLt; have hj := j.isLt
  by_cases h : j ≤ i
  · rw [if_pos h]; rw [← Fin.val_fin_le] at h; word_cmp; exact if_pos h
  · rw [if_neg h]; rw [← Fin.val_fin_le] at h; word_cmp; exact if_neg h

/-- The reference's mask: an entry on or below the diagonal, minus infinity above it. -/
theorem mask_eq (h : Fin 16) (i j : Fin 4096) (x y : EReal):
    Scalar.select (val_main_v32_1 (F := Ideal) (ix3 h i j)) x y = if j ≤ i then x else y := by
  pointwise [val_main_v32_1, val_main_v31, val_main_v30, val_main_v29, val_main_v28, val_main_v27, val_main_v26, val_main_v25]
  exact sge_eq i j x y

include h0 h1 in
/-- The masked scores. -/
theorem masked_eq (h : Fin 16) (i j : Fin 4096) :
    val_main_v32_0 (F := Ideal) X0 X1 (ix3 h i j) = if j ≤ i then (((dat X0 X1 X2).z h i j : ℝ) : EReal) else ⊥ := by
  have hz := z_eq X0 X1 X2 h0 h1 h i j
  have hm := mask_eq h i j
  unfold val_main_v32_0 val_main_call2_v2 val_main_call2_v0 val_main_cst_0
  generalize val_main_v24 (F := Ideal) X0 X1 = Z at hz ⊢
  generalize val_main_v32_1 (F := Ideal) = M at hm ⊢
  pointwise
  rw [hm, hz]
  exact if_congr Iff.rfl rfl neg_inf

include h0 h1 in
/-- A row's largest score is a real number. -/
theorem max_real (X2 : FVec Ideal S4096x2048 .f32) (h : Fin 16) (i : Fin 4096) : ∃ μ : ℝ, val_main_v33 (F := Ideal) X0 X1 (ix2 h i) = (μ : EReal) := by
  have hM := masked_eq X0 X1 X2 h0 h1 h i
  unfold val_main_v33 val_main_cst_1
  generalize val_main_v32_0 (F := Ideal) X0 X1 = M at hM ⊢
  pointwise
  simp only [hM, neg_inf]
  set f : Fin 4096 → EReal := fun j => if j ≤ i then (((dat X0 X1 X2).z h i j : ℝ) : EReal) else ⊥ with hf
  have hs : Finset.fold max ⊥ f Finset.univ = Finset.univ.sup f := rfl
  rw [hs]
  have hlt : Finset.univ.sup f < ⊤ := by
    rw [Finset.sup_lt_iff (by exact bot_lt_top)]
    intro j _; rw [hf]; dsimp only; split
    · exact EReal.coe_lt_top _
    · exact bot_lt_top
  have hgt : ⊥ < Finset.univ.sup f := by
    refine lt_of_lt_of_le ?_ (Finset.le_sup (f := f) (Finset.mem_univ i))
    rw [hf]; dsimp only; rw [if_pos (le_refl _)]; exact EReal.bot_lt_coe _
  exact ⟨_, (EReal.coe_toReal hlt.ne hgt.ne').symm⟩

/-- What is subtracted from a row of scores. -/
def mu (h : Fin 16) (i : Fin 4096) : ℝ := (val_main_v33 (F := Ideal) X0 X1 (ix2 h i)).toReal

include h0 h1 in
/-- The reference's row maximum is the real number mu. -/
theorem max_eq (X2 : FVec Ideal S4096x2048 .f32) (h : Fin 16) (i : Fin 4096) : val_main_v33 (F := Ideal) X0 X1 (ix2 h i) = ((mu X0 X1 h i : ℝ) : EReal) := by
  unfold mu
  exact toReal_of (max_real X0 X1 h0 h1 X2 h i)

include h0 h1 in
/-- The reference's exponentials. -/
theorem e_eq (h : Fin 16) (i j : Fin 4096) :
    val_main_v53 (F := Ideal) X0 X1 (ix3 h i j) = (((dat X0 X1 X2).e (mu X0 X1 h i) h i j : ℝ) : EReal) := by
  have hM := masked_eq X0 X1 X2 h0 h1 h i j
  have hm := max_eq X0 X1 h0 h1 X2 h i
  have h40 : val_main_v40 (F := Ideal) X0 X1 (ix2 h i) = ((mu X0 X1 h i : ℝ) : EReal) := by
    rw [val_main_v40_apply, val_main_v39_apply, val_main_cst_3_apply, hm]
    exact (congrArg (fun b : EReal => max b _) neg_inf).trans (max_eq_right bot_le)
  have h51 : val_main_v51 (F := Ideal) X0 X1 (ix3 h i j) = ((mu X0 X1 h i : ℝ) : EReal) := by
    rw [val_main_v51_apply, val_main_v50_apply]
    have e : idx_main_v50 (idx_main_v51 (ix3 h i j)) = ix2 h i := by
      funext a; match a with
      | ⟨0, _⟩ => rfl
      | ⟨1, _⟩ => rfl
    rw [e]; exact h40
  rw [val_main_v53_apply, val_main_v52_apply, hM, h51]
  show Ideal.exp ((if j ≤ i then (((dat X0 X1 X2).z h i j : ℝ) : EReal) else ⊥) - ((mu X0 X1 h i : ℝ) : EReal)) = _
  unfold Attn.Data.e
  split
  · rw [← EReal.coe_sub, Ideal.exp_coe]
  · rw [EReal.bot_sub, Ideal.exp_bot, EReal.coe_zero]

include h0 h1 in
/-- The reference's denominators. -/
theorem den_eq (h : Fin 16) (i : Fin 4096) :
    val_main_v54 (F := Ideal) X0 X1 (ix2 h i) = (((dat X0 X1 X2).den (mu X0 X1 h i) h i : ℝ) : EReal) := by
  have he := e_eq X0 X1 X2 h0 h1 h i
  unfold val_main_v54 val_main_cst_9 Attn.Data.den
  generalize val_main_v53 (F := Ideal) X0 X1 = E at he ⊢
  pointwise
  simp only [he, ← Attn.coe_sum, zero_add]

include h0 h1 in
/-- The reference's weights. -/
theorem w_eq (h : Fin 16) (i j : Fin 4096) :
    val_main_v57 (F := Ideal) X0 X1 (ix3 h i j) = (((dat X0 X1 X2).w h i j : ℝ) : EReal) := by
  have he := e_eq X0 X1 X2 h0 h1 h i j
  have hd := den_eq X0 X1 X2 h0 h1 h i
  unfold val_main_v57 val_main_v56 val_main_v55
  generalize val_main_v53 (F := Ideal) X0 X1 = E at he ⊢
  generalize val_main_v54 (F := Ideal) X0 X1 = D at hd ⊢
  pointwise
  rw [he, hd, Attn.div_coe_coe _ (Attn.Data.den_ne _ _ _ _), Attn.Data.w_eq]

include h0 h2 in
/-- The reference's gradient of the weights. -/
theorem gw_eq (h : Fin 16) (i j : Fin 4096) :
    val_main_v69 (F := Ideal) X0 X2 (ix3 h i j) = (((dat X0 X1 X2).gw h i j : ℝ) : EReal) := by
  have hv := v_eq X0 X1 X2 h0 h j
  have hg := g_eq X0 X1 X2 h2 h i
  unfold val_main_v69 Attn.Data.gw
  generalize val_main_v15 (F := Ideal) X0 = V at hv ⊢
  generalize val_main_v66 (F := Ideal) X2 = G at hg ⊢
  pointwise
  simp only [hv, hg, ← EReal.coe_mul, ← Attn.coe_sum]

include h0 h1 h2 in
/-- The reference's gradient of the scores. -/
theorem gz_eq (h : Fin 16) (i j : Fin 4096) :
    val_main_v82 (F := Ideal) X0 X1 X2 (ix3 h i j) = (((dat X0 X1 X2).gz h i j : ℝ) : EReal) := by
  have hne := (dat X0 X1 X2).den_ne (mu X0 X1 h i) h i
  have he := e_eq X0 X1 X2 h0 h1 h i
  have hd := den_eq X0 X1 X2 h0 h1 h i
  have hw := gw_eq X0 X1 X2 h0 h2 h i
  have hm := mask_eq h i j
  unfold val_main_v82 val_main_call3_v0 val_main_call3_cst val_main_v81 val_main_v80 val_main_v79 val_main_v78 val_main_cst_12
    val_main_v77 val_main_v76 val_main_v75 val_main_v74 val_main_v73 val_main_cst_11 val_main_v72 val_main_v71 val_main_v70
    val_main_v60 val_main_v59 val_main_cst_10 val_main_v58 val_main_v55
  generalize val_main_v53 (F := Ideal) X0 X1 = E at he ⊢
  generalize val_main_v54 (F := Ideal) X0 X1 = D at hd ⊢
  generalize val_main_v69 (F := Ideal) X0 X2 = W at hw ⊢
  generalize val_main_v32_1 (F := Ideal) = M at hm ⊢
  pointwise
  rw [hm]
  simp only [he, hd, hw, ← EReal.coe_mul, ← EReal.coe_one,
    Attn.div_coe_coe _ hne, Attn.div_coe_coe _ (mul_ne_zero hne hne), ← Attn.coe_sum, zero_add, Fin.sum_univ_one, Finset.sum_const, Finset.card_univ, Fintype.card_fin, one_smul, ← EReal.coe_neg, ← EReal.coe_add,
    Attn.Data.gz_chain]
  split
  · rfl
  · rename_i hij; rw [Attn.Data.gz_above _ _ _ _ hij]; rfl

end Stages

end Cert.Ref

end
-- ==== Proof.Ref2.lean ====
/- The reference's five results, read at an index, as the gradients of `Cert.Attn.Data`. -/
module

public import proofs.«01_k».proof.Proof.Ref

@[expose] public section

set_option maxRecDepth 16384

noncomputable section

namespace Cert.Ref

open Idealize.ShloMosaic Idealize.ShloMosaic.TcCoe Idealize.SL.Sem
open Cert.ReferenceIdeal Cert.ReferenceIdeal.Gen Cert.ReferenceIdeal.Read

attribute [local irreducible] val_main_v0 val_main_v1 val_main_v2 val_main_v3 val_main_v4 val_main_v5 val_main_v6 val_main_call0_v0 val_main_call0_call0_cst val_main_call0_call0_v0 val_main_call0_call0_v1 val_main_call0_call0_v2 val_main_call0_call0_v3 val_main_call0_call0_v4 val_main_call0_call0_v5 val_main_call0_call0_v6 val_main_call0_call0_v7 val_main_call0_call0_v8 val_main_call0_call0_v9 val_main_call0_call0_v10 val_main_call0_call0_v11 val_main_call0_v1 val_main_v7 val_main_v8 val_main_call1_call0_cst val_main_call1_call0_v0 val_main_v9 val_main_v10 val_main_v11 val_main_v12 val_main_v13 val_main_v14 val_main_v15 val_main_v16 val_main_cst val_main_v17 val_main_v18 val_main_v19 val_main_v20 val_main_v21 val_main_v22 val_main_v23 val_main_v24 val_main_v25 val_main_v26 val_main_v27 val_main_v28 val_main_v29 val_main_v30 val_main_v31 val_main_cst_0 val_main_call2_v0 val_main_v32_1 val_main_call2_v2 val_main_v32_0 val_main_call2_cst val_main_v32_2 val_main_cst_1 val_main_v33 val_main_v34 val_main_v35 val_main_v36 val_main_v37 val_main_cst_2 val_main_v38 val_main_cst_3 val_main_v39 val_main_v40 val_main_cst_4 val_main_v41 val_main_v42 val_main_cst_5 val_main_v43 val_main_v44 val_main_cst_6 val_main_v45 val_main_cst_7 val_main_v46 val_main_cst_8 val_main_v47 val_main_v48 val_main_v49 val_main_v50 val_main_v51 val_main_v52 val_main_v53 val_main_cst_9 val_main_v54 val_main_v55 val_main_v56 val_main_v57 val_main_v58 val_main_cst_10 val_main_v59 val_main_v60 val_main_v61 val_main_v62 val_main_v63 val_main_v64 val_main_v65 val_main_v66 val_main_v67 val_main_v68 val_main_v69 val_main_v70 val_main_v71 val_main_v72 val_main_cst_11 val_main_v73 val_main_v74 val_main_v75 val_main_v76 val_main_v77 val_main_cst_12 val_main_v78 val_main_v79 val_main_v80 val_main_v81 val_main_call3_cst val_main_call3_v0 val_main_v82 val_main_v83 val_main_cst_13 val_main_v84 val_main_v85 val_main_cst_14 val_main_v86 val_main_cst_15 val_main_v87 val_main_v88 val_main_cst_16 val_main_v89 val_main_cst_17 val_main_v90 val_main_v91 val_main_v92 val_main_v93 val_main_v94 val_main_v95 val_main_v96 val_main_v97 val_main_v98 val_main_v99 val_main_v100 val_main_v101 val_main_v102 val_main_v103 val_main_v104 val_main_v105 val_main_v106 val_main_v107 val_main_v108 val_main_v109 val_main_v110 val_main_v111 val_main_v112

/-- The head a lane of a row of 1024 belongs to. -/
def hd (n : Fin 1024) : Fin 16 := ⟨n.val / 64, by omega⟩
/-- The lane within its head. -/
def ln (n : Fin 1024) : Fin 64 := ⟨n.val % 64, by omega⟩
/-- The other head of the pair of heads a lane belongs to. -/
def oh (n : Fin 1024) : Fin 16 := ⟨n.val / 128 * 2 + (1 - n.val / 64 % 2), by omega⟩

variable (X0 : FVec Ideal S4096x5632 .f32) (X1 : FVec Ideal S16 .f32) (X2 : FVec Ideal S4096x2048 .f32)
variable (h0 : ∀ i, X0 i = ((X0 i).toReal : EReal)) (h1 : ∀ i, X1 i = ((X1 i).toReal : EReal))
  (h2 : ∀ i, X2 i = ((X2 i).toReal : EReal))

include h0 h1 h2 in
/-- The gradient of the queries. -/
theorem v99_eq (i : Fin 4096) (n : Fin 1024) :
    val_main_v99 (F := Ideal) X0 X1 X2 (ix2 i n) = (((dat X0 X1 X2).gq (hd n) i (ln n) : ℝ) : EReal) := by
  have hg := gz_eq X0 X1 X2 h0 h1 h2
  have hk := k_eq X0 X1 X2 h0
  unfold val_main_v99 val_main_v98 val_main_v93 val_main_v91 val_main_v90 val_main_cst_17 Attn.Data.gq
  generalize val_main_v82 (F := Ideal) X0 X1 X2 = Z at hg ⊢
  generalize val_main_v13 (F := Ideal) X0 = K at hk ⊢
  pointwise
  rw [Finset.sum_mul, Attn.coe_sum]
  refine Finset.sum_congr rfl fun j _ => ?_
  rw [eighth]
  refine (congrArg₂ (fun a b : EReal => a * ((1 / 8 : ℝ) : EReal) * b) (hg (hd n) i j) (hk (hd n) j (ln n))).trans ?_
  rw [← EReal.coe_mul, ← EReal.coe_mul]; congr 1; ring

include h0 h1 h2 in
/-- The gradient of the keys. -/
theorem v100_eq (j : Fin 4096) (n : Fin 1024) :
    val_main_v100 (F := Ideal) X0 X1 X2 (ix2 j n) = (((dat X0 X1 X2).gk (hd n) j (ln n) : ℝ) : EReal) := by
  have hg := gz_eq X0 X1 X2 h0 h1 h2
  have hq := q_eq X0 X1 X2 h0
  unfold val_main_v100 val_main_v97 val_main_v96 val_main_v92 val_main_v91 val_main_v90 val_main_cst_17 Attn.Data.gk
  generalize val_main_v82 (F := Ideal) X0 X1 X2 = Z at hg ⊢
  generalize val_main_v11 (F := Ideal) X0 = K at hq ⊢
  pointwise
  rw [Finset.sum_mul, Attn.coe_sum]
  refine Finset.sum_congr rfl fun i _ => ?_
  rw [eighth]
  refine (congrArg₂ (fun a b : EReal => a * ((1 / 8 : ℝ) : EReal) * b) (hg (hd n) i j) (hq (hd n) i (ln n))).trans ?_
  rw [← EReal.coe_mul, ← EReal.coe_mul]; congr 1; ring

include h0 h1 h2 in
/-- The gradient of the values. -/
theorem v101_eq (j : Fin 4096) (n : Fin 1024) :
    val_main_v101 (F := Ideal) X0 X1 X2 (ix2 j n) = (((dat X0 X1 X2).gv (hd n) j (ln n) : ℝ) : EReal) := by
  have hg := w_eq X0 X1 X2 h0 h1
  have hq := g_eq X0 X1 X2 h2
  unfold val_main_v101 val_main_v95 val_main_v94 val_main_v68 val_main_v67 Attn.Data.gv
  generalize val_main_v57 (F := Ideal) X0 X1 = Z at hg ⊢
  generalize val_main_v66 (F := Ideal) X2 = K at hq ⊢
  pointwise
  rw [Attn.coe_sum]
  refine Finset.sum_congr rfl fun i _ => ?_
  refine (congrArg₂ (fun a b : EReal => a * b) (hq (hd n) i (ln n)) (hg (hd n) i j)).trans ?_
  rw [← EReal.coe_mul]; congr 1; ring

include h0 h1 h2 in
/-- The sum of a column of score gradients, on the lanes of the other head of its pair. -/
theorem v107_eq (j : Fin 4096) (n : Fin 1024) :
    val_main_v107 (F := Ideal) X0 X1 X2 (ix2 j n) = (((dat X0 X1 X2).colSum (oh n) j : ℝ) : EReal) := by
  have hg := gz_eq X0 X1 X2 h0 h1 h2
  unfold val_main_v107 val_main_v106 val_main_v105 val_main_v104 val_main_v103 val_main_v102 val_main_v86 val_main_v85 val_main_v84 val_main_v83 val_main_cst_14 val_main_cst_13 Attn.Data.colSum
  generalize val_main_v82 (F := Ideal) X0 X1 X2 = Z at hg ⊢
  pointwise
  refine (congrArg (fun h : Fin 16 => -∑ x : Fin 1, ∑ i : Fin 4096, -Z (ix3 h i j)) (?_ : _ = oh n)).trans ?_
  · refine Fin.ext ?_
    show n.val / 128 * 2 + (2 - (n.val / 64 % 2 + 1)) = n.val / 128 * 2 + (1 - n.val / 64 % 2)
    omega
  · simp only [hg, Fin.sum_univ_one, ← EReal.coe_neg, ← Attn.coe_sum, Finset.sum_neg_distrib, neg_neg]

include h0 h1 h2 in
/-- The sum of a row of score gradients, on the lanes of the other head of its pair. -/
theorem v112_eq (i : Fin 4096) (n : Fin 1024) :
    val_main_v112 (F := Ideal) X0 X1 X2 (ix2 i n) = (((dat X0 X1 X2).rowSum (oh n) i : ℝ) : EReal) := by
  have hg := gz_eq X0 X1 X2 h0 h1 h2
  unfold val_main_v112 val_main_v111 val_main_v110 val_main_v109 val_main_v108 val_main_v89 val_main_v88 val_main_v87 val_main_cst_15 val_main_cst_16 Attn.Data.rowSum
  generalize val_main_v82 (F := Ideal) X0 X1 X2 = Z at hg ⊢
  pointwise
  refine (congrArg (fun h : Fin 16 => ∑ x : Fin 1, ∑ j : Fin 4096, Z (ix3 h i j)) (?_ : _ = oh n)).trans ?_
  · refine Fin.ext ?_
    show n.val / 128 * 2 + (2 - (n.val / 64 % 2 + 1)) = n.val / 128 * 2 + (1 - n.val / 64 % 2)
    omega
  · simp only [hg, Fin.sum_univ_one, ← Attn.coe_sum]

end Cert.Ref

end
-- ==== Proof.Host.lean ====
/- What the host lines of the kernel's program hand to the kernel, as real numbers: the output of the forward pass, the
   logarithm of each row's sum less the gates' running sum, and the gate lanes. -/
module

public import proofs.«01_k».proof.Proof.Ref2
public import proofs.«01_k».proof.Proof.Gen.KernelIdeal.Frame
public import Idealize.ShloMosaic.Lib.StableHlo.RunRead

@[expose] public section

set_option maxRecDepth 16384

noncomputable section
namespace Cert.Host
open Idealize.ShloMosaic Idealize.ShloMosaic.TcCoe Idealize.SL.Sem Idealize.ShloMosaic.StableHlo
open Cert.KernelIdeal Cert.KernelIdeal.Gen
open Cert.Ref (hd ln oh dat mu)

/-- The exponentials of masked scores with the row's largest subtracted. -/
def hE (M : FVec Ideal S16x4096x4096 .f32) (MX : FVec Ideal S16x4096 .f32) : FVec Ideal S16x4096x4096 .f32 :=
  Host.exp (subf M (broadcastInDim S16x4096x4096 ![0, 1, 2] bcast_S16x4096x1_S16x4096x4096_0_1_2
    (broadcastInDim S16x4096x1 ![0, 1] bcast_S16x4096_S16x4096x1_0_1 MX)))

/-- The sums of the rows of exponentials. -/
def hD (E : FVec Ideal S16x4096x4096 .f32) : FVec Ideal S16x4096 .f32 :=
  Host.reduceAdd E (constant S_ .f32 0x00000000#32 : FVec Ideal S_ .f32) reducesTo_S16x4096x4096_S16x4096_d2 h_S_

/-- The output of the forward pass, heads side by side. -/
def hO (E : FVec Ideal S16x4096x4096 .f32) (D : FVec Ideal S16x4096 .f32) (W : FVec Ideal S16x4096x64 .f32) : FVec Ideal S4096x1024 .f32 :=
  shapeCast S4096x1024 (transpose S4096x16x64 [1, 0, 2]
    (Host.dotGeneral dot_S16x4096x4096_S16x4096x64_S16x4096x64_2_1_1_2_0_0 none
      (Host.divf E (broadcastInDim S16x4096x4096 ![0, 1, 2] bcast_S16x4096x1_S16x4096x4096_0_1_2
        (broadcastInDim S16x4096x1 ![0, 1] bcast_S16x4096_S16x4096x1_0_1 D))) W)
    transposes_S16x4096x64_S4096x16x64_1_0_2) shapeCasts_S4096x16x64_S4096x1024

/-- The row statistic, repeated on the lanes of its head. -/
def hL (MX D C : FVec Ideal S16x4096 .f32) : FVec Ideal S4096x1024 .f32 :=
  shapeCast S4096x1024 (transpose S4096x16x64 [1, 0, 2]
    (broadcastInDim S16x4096x64 ![0, 1, 2] bcast_S16x4096x1_S16x4096x64_0_1_2
      (broadcastInDim S16x4096x1 ![0, 1] bcast_S16x4096_S16x4096x1_0_1 (subf (addf MX (Host.log D)) C)))
    transposes_S16x4096x64_S4096x16x64_1_0_2) shapeCasts_S4096x16x64_S4096x1024

variable (m : (ℓ : Loc nD τ sig) → Buf (Elt Ideal) ℓ) (c : Dev nD)

set_option maxHeartbeats 4000000 in
/-- The output of the forward pass as the kernel finds it. -/
theorem V44 : V m c main_v44 = hO (hE (ReferenceIdeal.Read.val_main_v32_0 (F := Ideal) (m ((c : Thread nD τ).loc main_arg0)) (m ((c : Thread nD τ).loc main_arg1)))
      (ReferenceIdeal.Read.val_main_v33 (F := Ideal) (m ((c : Thread nD τ).loc main_arg0)) (m ((c : Thread nD τ).loc main_arg1))))
    (hD (hE (ReferenceIdeal.Read.val_main_v32_0 (F := Ideal) (m ((c : Thread nD τ).loc main_arg0)) (m ((c : Thread nD τ).loc main_arg1)))
      (ReferenceIdeal.Read.val_main_v33 (F := Ideal) (m ((c : Thread nD τ).loc main_arg0)) (m ((c : Thread nD τ).loc main_arg1)))))
    (ReferenceIdeal.Read.val_main_v15 (F := Ideal) (m ((c : Thread nD τ).loc main_arg0))) := by
  unfold V
  unfold_abbrev_sides
  after_reads_simp
  rfl

set_option maxHeartbeats 4000000 in
/-- The row statistic as the kernel finds it. -/
theorem V51 : V m c main_v51 = hL (ReferenceIdeal.Read.val_main_v33 (F := Ideal) (m ((c : Thread nD τ).loc main_arg0)) (m ((c : Thread nD τ).loc main_arg1)))
    (hD (hE (ReferenceIdeal.Read.val_main_v32_0 (F := Ideal) (m ((c : Thread nD τ).loc main_arg0)) (m ((c : Thread nD τ).loc main_arg1)))
      (ReferenceIdeal.Read.val_main_v33 (F := Ideal) (m ((c : Thread nD τ).loc main_arg0)) (m ((c : Thread nD τ).loc main_arg1)))))
    (ReferenceIdeal.Read.val_main_v9 (F := Ideal) (m ((c : Thread nD τ).loc main_arg0)) (m ((c : Thread nD τ).loc main_arg1))) := by
  unfold V
  unfold_abbrev_sides
  after_reads_simp
  rfl

/-- Four columns side by side. -/
def hK4 (a b d e : FVec Ideal S4096x16x1 .bf16) : FVec Ideal S4096x16x4 .bf16 :=
  concatenate S4096x16x4 2 [⟨S4096x16x1, a⟩, ⟨S4096x16x1, b⟩, ⟨S4096x16x1, d⟩, ⟨S4096x16x1, e⟩]
    concatenates_S4096x16x1_S4096x16x1_S4096x16x1_S4096x16x1_S4096x16x4_d2

/-- The gate lanes: four columns and sixty of zeros for each head, the two heads of a pair exchanged. -/
def hA (P : FVec Ideal S4096x16x4 .bf16) (Z : FVec Ideal S4096x16x60 .bf16) : FVec Ideal S4096x1024 .bf16 :=
  shapeCast S4096x1024 (Host.reverse [2] (shapeCast S4096x8x2x64
    (concatenate S4096x16x64 2 [⟨S4096x16x4, P⟩, ⟨S4096x16x60, Z⟩] concatenates_S4096x16x4_S4096x16x60_S4096x16x64_d2)
    shapeCasts_S4096x16x64_S4096x8x2x64)) shapeCasts_S4096x8x2x64_S4096x1024

/-- The running sums with the sign changed. -/
def hN (C : FVec Ideal S16x4096 .f32) : FVec Ideal S16x4096 .f32 := Host.negf C
/-- What is left of an array once its bf16 part is taken away. -/
def hS (x : FVec Ideal S16x4096 .f32) : FVec Ideal S16x4096 .f32 := subf x (extf .f32 (truncf .bf16 x bitsLt_bf16_f32) bitsLt_bf16_f32)
/-- The bf16 part of an array as a column for each head. -/
def hCol (x : FVec Ideal S16x4096 .f32) : FVec Ideal S4096x16x1 .bf16 :=
  broadcastInDim S4096x16x1 ![0, 1] bcast_S4096x16_S4096x16x1_0_1
    (transpose S4096x16 [1, 0] (truncf .bf16 x bitsLt_bf16_f32) transposes_S16x4096_S4096x16_1_0)
/-- The column of ones. -/
def hOne : FVec Ideal S4096x16x1 .bf16 :=
  broadcastInDim S4096x16x1 ![0, 1] bcast_S4096x16_S4096x16x1_0_1
    (broadcastInDim S4096x16 ![] bcast_S_S4096x16 (constant S_ .bf16 0x3F80#16 : FVec Ideal S_ .bf16))
/-- The columns of zeros. -/
def hZ : FVec Ideal S4096x16x60 .bf16 := broadcastInDim S4096x16x60 ![] bcast_S_S4096x16x60 (constant S_ .bf16 0x0000#16 : FVec Ideal S_ .bf16)

set_option maxHeartbeats 4000000 in
/-- The host's first column of the gate lanes when the call starts: the negated running sum of the gates. -/
theorem U64 : upto [hostOps0, hostOps0_1, hostOps0_2, hostOps0_3, hostOps0_4, hostOps0_5, hostOps0_6].flatten (fun b => m (c, b)) 93 (Proc.tc.devRef main_v64) = hCol (hN (ReferenceIdeal.Read.val_main_v9 (F := Ideal) (m ((c : Thread nD τ).loc main_arg0)) (m ((c : Thread nD τ).loc main_arg1)))) := by
  after_reads_simp
  rfl
set_option maxHeartbeats 4000000 in
/-- The second column: what rounding the first leaves. -/
theorem U65 : upto [hostOps0, hostOps0_1, hostOps0_2, hostOps0_3, hostOps0_4, hostOps0_5, hostOps0_6].flatten (fun b => m (c, b)) 93 (Proc.tc.devRef main_v65) = hCol (hS (hN (ReferenceIdeal.Read.val_main_v9 (F := Ideal) (m ((c : Thread nD τ).loc main_arg0)) (m ((c : Thread nD τ).loc main_arg1))))) := by
  after_reads_simp
  rfl
set_option maxHeartbeats 4000000 in
/-- The third column: what rounding the first two leaves. -/
theorem U66 : upto [hostOps0, hostOps0_1, hostOps0_2, hostOps0_3, hostOps0_4, hostOps0_5, hostOps0_6].flatten (fun b => m (c, b)) 93 (Proc.tc.devRef main_v66) = hCol (hS (hS (hN (ReferenceIdeal.Read.val_main_v9 (F := Ideal) (m ((c : Thread nD τ).loc main_arg0)) (m ((c : Thread nD τ).loc main_arg1)))))) := by
  after_reads_simp
  rfl
set_option maxHeartbeats 4000000 in
/-- The fourth column: ones. -/
theorem U67 : upto [hostOps0, hostOps0_1, hostOps0_2, hostOps0_3, hostOps0_4, hostOps0_5, hostOps0_6].flatten (fun b => m (c, b)) 93 (Proc.tc.devRef main_v67) = hOne := by
  after_reads_simp
  rfl
set_option maxHeartbeats 4000000 in
/-- The four columns side by side. -/
theorem U68 : upto [hostOps0, hostOps0_1, hostOps0_2, hostOps0_3, hostOps0_4, hostOps0_5, hostOps0_6].flatten (fun b => m (c, b)) 96 (Proc.tc.devRef main_v68) = hK4 (hCol (hN (ReferenceIdeal.Read.val_main_v9 (F := Ideal) (m ((c : Thread nD τ).loc main_arg0)) (m ((c : Thread nD τ).loc main_arg1))))) (hCol (hS (hN (ReferenceIdeal.Read.val_main_v9 (F := Ideal) (m ((c : Thread nD τ).loc main_arg0)) (m ((c : Thread nD τ).loc main_arg1)))))) (hCol (hS (hS (hN (ReferenceIdeal.Read.val_main_v9 (F := Ideal) (m ((c : Thread nD τ).loc main_arg0)) (m ((c : Thread nD τ).loc main_arg1))))))) hOne := by
  have h64 := U64 m c
  have h65 := U65 m c
  have h66 := U66 m c
  have h67 := U67 m c
  rw [← h64, ← h65, ← h66, ← h67]
  rw [StableHlo.upto_last_write (i := 93) [main_cst_4, main_v69] rfl rfl (by decide)]
  rfl
set_option maxHeartbeats 4000000 in
/-- The columns of zeros beside them. -/
theorem U69 : upto [hostOps0, hostOps0_1, hostOps0_2, hostOps0_3, hostOps0_4, hostOps0_5, hostOps0_6].flatten (fun b => m (c, b)) 96 (Proc.tc.devRef main_v69) = hZ := by
  after_reads_simp
  rfl

set_option maxHeartbeats 4000000 in
/-- The gate lanes as the kernel finds them. -/
theorem V73 : V m c main_v73 = hA (hK4 (hCol (hN (ReferenceIdeal.Read.val_main_v9 (F := Ideal) (m ((c : Thread nD τ).loc main_arg0)) (m ((c : Thread nD τ).loc main_arg1))))) (hCol (hS (hN (ReferenceIdeal.Read.val_main_v9 (F := Ideal) (m ((c : Thread nD τ).loc main_arg0)) (m ((c : Thread nD τ).loc main_arg1)))))) (hCol (hS (hS (hN (ReferenceIdeal.Read.val_main_v9 (F := Ideal) (m ((c : Thread nD τ).loc main_arg0)) (m ((c : Thread nD τ).loc main_arg1))))))) hOne) hZ := by
  rw [← U68 m c, ← U69 m c]
  unfold V
  unfold_abbrev_sides
  after_reads_simp
  rfl

end Cert.Host
-- ==== Proof.Host2.lean ====
/- The arrays that the host lines hand to the kernel, read at an index, as the real quantities of `Cert.Attn.Data`. -/
module

public import proofs.«01_k».proof.Proof.Host

@[expose] public section

set_option maxRecDepth 16384

noncomputable section
namespace Cert.Host
open Idealize.ShloMosaic Idealize.ShloMosaic.TcCoe Idealize.SL.Sem
open Cert.KernelIdeal Cert.KernelIdeal.Gen
open Cert.Ref (hd ln oh dat mu)
open Cert.ReferenceIdeal.Read (val_main_v9 val_main_v15 val_main_v32_0 val_main_v33)

variable (X0 : FVec Ideal S4096x5632 .f32) (X1 : FVec Ideal S16 .f32) (X2 : FVec Ideal S4096x2048 .f32)
variable (h0 : ∀ i, X0 i = ((X0 i).toReal : EReal)) (h1 : ∀ i, X1 i = ((X1 i).toReal : EReal))

/-- The exponentials. -/
theorem hE_eq (A : Attn.Data) (M : FVec Ideal S16x4096x4096 .f32) (MX : FVec Ideal S16x4096 .f32) (μ : Fin 16 → Fin 4096 → ℝ)
    (hM : ∀ h i j, M (ix3 h i j) = if j ≤ i then ((A.z h i j : ℝ) : EReal) else ⊥)
    (hX : ∀ h i, MX (ix2 h i) = ((μ h i : ℝ) : EReal)) (h : Fin 16) (i j : Fin 4096) :
    hE M MX (ix3 h i j) = ((A.e (μ h i) h i j : ℝ) : EReal) := by
  unfold hE Attn.Data.e
  pointwise
  rw [hM, hX]
  split
  · rw [← EReal.coe_sub, Ideal.exp_coe]
  · rw [EReal.bot_sub, Ideal.exp_bot, EReal.coe_zero]

/-- The row sums. -/
theorem hD_eq (A : Attn.Data) (E : FVec Ideal S16x4096x4096 .f32) (μ : Fin 16 → Fin 4096 → ℝ)
    (hE : ∀ h i j, E (ix3 h i j) = ((A.e (μ h i) h i j : ℝ) : EReal)) (h : Fin 16) (i : Fin 4096) :
    hD E (ix2 h i) = ((A.den (μ h i) h i : ℝ) : EReal) := by
  unfold hD Attn.Data.den
  pointwise
  simp only [hE, ← Attn.coe_sum, zero_add]

/-- The output of the forward pass. -/
theorem hO_eq (A : Attn.Data) (E : FVec Ideal S16x4096x4096 .f32) (D : FVec Ideal S16x4096 .f32) (W : FVec Ideal S16x4096x64 .f32) (μ : Fin 16 → Fin 4096 → ℝ)
    (hE : ∀ h i j, E (ix3 h i j) = ((A.e (μ h i) h i j : ℝ) : EReal)) (hD : ∀ h i, D (ix2 h i) = ((A.den (μ h i) h i : ℝ) : EReal))
    (hW : ∀ h i d, W (ix3 h i d) = ((A.v h i d : ℝ) : EReal)) (i : Fin 4096) (n : Fin 1024) :
    hO E D W (ix2 i n) = ((A.o (hd n) i (ln n) : ℝ) : EReal) := by
  unfold hO Attn.Data.o
  pointwise
  rw [Attn.coe_sum]
  refine Finset.sum_congr rfl fun j _ => ?_
  rw [hE, hD, hW, Attn.div_coe_coe _ (Attn.Data.den_ne _ _ _ _), Attn.Data.w_eq, ← EReal.coe_mul]
  rfl

/-- The row statistic. -/
theorem hL_eq (A : Attn.Data) (MX D C : FVec Ideal S16x4096 .f32) (μ : Fin 16 → Fin 4096 → ℝ)
    (hX : ∀ h i, MX (ix2 h i) = ((μ h i : ℝ) : EReal)) (hD : ∀ h i, D (ix2 h i) = ((A.den (μ h i) h i : ℝ) : EReal))
    (hC : ∀ h i, C (ix2 h i) = ((A.c h i : ℝ) : EReal)) (i : Fin 4096) (n : Fin 1024) :
    hL MX D C (ix2 i n) = ((μ (hd n) i + Real.log (A.den (μ (hd n) i) (hd n) i) - A.c (hd n) i : ℝ) : EReal) := by
  unfold hL
  pointwise
  rw [hX, hD, hC, Ideal.log_coe, if_neg (not_le.mpr (Attn.Data.den_pos _ _ _ _)), ← EReal.coe_add, ← EReal.coe_sub]
  rfl

/-- A column at an index. -/
theorem hCol_eq (x : FVec Ideal S16x4096 .f32) (j : Fin 4096) (h : Fin 16) (z : Fin 1) : hCol x (ix3 j h z) = x (ix2 h j) := by
  unfold hCol; pointwise

/-- A negated entry. -/
theorem hN_eq (x : FVec Ideal S16x4096 .f32) (j : Fin 4096) (h : Fin 16) : hN x (ix2 h j) = -x (ix2 h j) := by
  unfold hN; pointwise

/-- An entry less itself. -/
theorem hS_eq (x : FVec Ideal S16x4096 .f32) (j : Fin 4096) (h : Fin 16) : hS x (ix2 h j) = x (ix2 h j) - x (ix2 h j) := by
  unfold hS; pointwise

/-- The array of ones. -/
theorem hOne_eq (j : Fin 4096) (h : Fin 16) (z : Fin 1) : hOne (ix3 j h z) = 1 := by
  unfold hOne; pointwise

/-- The gate lane 0 of a head is column 0 of the other head of its pair. -/
theorem hA_0 (a b d e : FVec Ideal S4096x16x1 .bf16) (Z : FVec Ideal S4096x16x60 .bf16) (j : Fin 4096) (n : Fin 1024) (hn : n.val % 64 = 0) :
    hA (hK4 a b d e) Z (ix2 j n) = a (ix3 j (oh n) 0) := by
  unfold hA hK4
  pointwise
  refine (dif_pos (by show n.val % 64 < 4; omega)).trans ?_
  refine (dif_pos (by show n.val % 64 < 1; omega)).trans ?_
  refine congrArg a ?_
  funext q
  match q with
  | ⟨0, _⟩ => rfl
  | ⟨1, _⟩ =>
    refine Fin.ext ?_
    show n.val / 128 * 2 + (2 - (n.val / 64 % 2 + 1)) = n.val / 128 * 2 + (1 - n.val / 64 % 2)
    omega
  | ⟨2, _⟩ => refine Fin.ext ?_; show n.val % 64 = 0; omega

/-- The gate lane 1 of a head is column 1 of the other head of its pair. -/
theorem hA_1 (a b d e : FVec Ideal S4096x16x1 .bf16) (Z : FVec Ideal S4096x16x60 .bf16) (j : Fin 4096) (n : Fin 1024) (hn : n.val % 64 = 1) :
    hA (hK4 a b d e) Z (ix2 j n) = b (ix3 j (oh n) 0) := by
  unfold hA hK4
  pointwise
  refine (dif_pos (by show n.val % 64 < 4; omega)).trans ?_
  refine (dif_neg (by show ¬ (n.val % 64 < 1); omega)).trans ?_
  refine (dif_pos (by show n.val % 64 - 1 < 1; omega)).trans ?_
  refine congrArg b ?_
  funext q
  match q with
  | ⟨0, _⟩ => rfl
  | ⟨1, _⟩ =>
    refine Fin.ext ?_
    show n.val / 128 * 2 + (2 - (n.val / 64 % 2 + 1)) = n.val / 128 * 2 + (1 - n.val / 64 % 2)
    omega
  | ⟨2, _⟩ => refine Fin.ext ?_; show n.val % 64 - 1 = 0; omega

/-- The gate lane 2 of a head is column 2 of the other head of its pair. -/
theorem hA_2 (a b d e : FVec Ideal S4096x16x1 .bf16) (Z : FVec Ideal S4096x16x60 .bf16) (j : Fin 4096) (n : Fin 1024) (hn : n.val % 64 = 2) :
    hA (hK4 a b d e) Z (ix2 j n) = d (ix3 j (oh n) 0) := by
  unfold hA hK4
  pointwise
  refine (dif_pos (by show n.val % 64 < 4; omega)).trans ?_
  refine (dif_neg (by show ¬ (n.val % 64 < 1); omega)).trans ?_
  refine (dif_neg (by show ¬ (n.val % 64 - 1 < 1); omega)).trans ?_
  refine (dif_pos (by show n.val % 64 - 1 - 1 < 1; omega)).trans ?_
  refine congrArg d ?_
  funext q
  match q with
  | ⟨0, _⟩ => rfl
  | ⟨1, _⟩ =>
    refine Fin.ext ?_
    show n.val / 128 * 2 + (2 - (n.val / 64 % 2 + 1)) = n.val / 128 * 2 + (1 - n.val / 64 % 2)
    omega
  | ⟨2, _⟩ => refine Fin.ext ?_; show n.val % 64 - 1 - 1 = 0; omega

/-- The gate lane 3 of a head is column 3 of the other head of its pair. -/
theorem hA_3 (a b d e : FVec Ideal S4096x16x1 .bf16) (Z : FVec Ideal S4096x16x60 .bf16) (j : Fin 4096) (n : Fin 1024) (hn : n.val % 64 = 3) :
    hA (hK4 a b d e) Z (ix2 j n) = e (ix3 j (oh n) 0) := by
  unfold hA hK4
  pointwise
  refine (dif_pos (by show n.val % 64 < 4; omega)).trans ?_
  refine (dif_neg (by show ¬ (n.val % 64 < 1); omega)).trans ?_
  refine (dif_neg (by show ¬ (n.val % 64 - 1 < 1); omega)).trans ?_
  refine (dif_neg (by show ¬ (n.val % 64 - 1 - 1 < 1); omega)).trans ?_
  refine congrArg e ?_
  funext q
  match q with
  | ⟨0, _⟩ => rfl
  | ⟨1, _⟩ =>
    refine Fin.ext ?_
    show n.val / 128 * 2 + (2 - (n.val / 64 % 2 + 1)) = n.val / 128 * 2 + (1 - n.val / 64 % 2)
    omega
  | ⟨2, _⟩ => refine Fin.ext ?_; show n.val % 64 - 1 - 1 - 1 = 0; omega

/-- The gate lanes that hold the running sums: lane 0 has the sum with its sign changed. -/
theorem ka_0 (A : Attn.Data) (C : FVec Ideal S16x4096 .f32) (Z : FVec Ideal S4096x16x60 .bf16) (hC : ∀ h i, C (ix2 h i) = ((A.c h i : ℝ) : EReal))
    (j : Fin 4096) (n : Fin 1024) (hn : n.val % 64 = 0) :
    hA (hK4 (hCol (hN C)) (hCol (hS (hN C))) (hCol (hS (hS (hN C)))) hOne) Z (ix2 j n) = ((-A.c (oh n) j : ℝ) : EReal) := by
  rw [hA_0 _ _ _ _ _ _ _ hn, hCol_eq, hN_eq, hC, ← EReal.coe_neg]

/-- Lane 1 has what the first part leaves, which is nothing. -/
theorem ka_1 (A : Attn.Data) (C : FVec Ideal S16x4096 .f32) (Z : FVec Ideal S4096x16x60 .bf16) (hC : ∀ h i, C (ix2 h i) = ((A.c h i : ℝ) : EReal))
    (j : Fin 4096) (n : Fin 1024) (hn : n.val % 64 = 1) :
    hA (hK4 (hCol (hN C)) (hCol (hS (hN C))) (hCol (hS (hS (hN C)))) hOne) Z (ix2 j n) = ((0 : ℝ) : EReal) := by
  rw [hA_1 _ _ _ _ _ _ _ hn, hCol_eq, hS_eq, hN_eq, hC, ← EReal.coe_neg, ← EReal.coe_sub, sub_self]

/-- Lane 2 has what the first two parts leave. -/
theorem ka_2 (A : Attn.Data) (C : FVec Ideal S16x4096 .f32) (Z : FVec Ideal S4096x16x60 .bf16) (hC : ∀ h i, C (ix2 h i) = ((A.c h i : ℝ) : EReal))
    (j : Fin 4096) (n : Fin 1024) (hn : n.val % 64 = 2) :
    hA (hK4 (hCol (hN C)) (hCol (hS (hN C))) (hCol (hS (hS (hN C)))) hOne) Z (ix2 j n) = ((0 : ℝ) : EReal) := by
  rw [hA_2 _ _ _ _ _ _ _ hn, hCol_eq, hS_eq, hS_eq, hN_eq, hC, ← EReal.coe_neg, ← EReal.coe_sub, ← EReal.coe_sub, sub_self]

/-- Lane 3 has ones. -/
theorem ka_3 (C : FVec Ideal S16x4096 .f32) (Z : FVec Ideal S4096x16x60 .bf16)
    (j : Fin 4096) (n : Fin 1024) (hn : n.val % 64 = 3) :
    hA (hK4 (hCol (hN C)) (hCol (hS (hN C))) (hCol (hS (hS (hN C)))) hOne) Z (ix2 j n) = ((1 : ℝ) : EReal) := by
  rw [hA_3 _ _ _ _ _ _ _ hn, hOne_eq, EReal.coe_one]

end Cert.Host
-- ==== Proof.Tile.lean ====
/- The blocks of a grid point are the point's part of the real data of the step. -/
module

public import proofs.«01_k».proof.Proof.Point
public import proofs.«01_k».proof.Proof.Blocks
public import proofs.«01_k».proof.Proof.Host2
public import proofs.«01_k».proof.Proof.Ref2

@[expose] public section

set_option maxRecDepth 16384
noncomputable section
namespace Cert.Ker
open Idealize.ShloMosaic Idealize.ShloMosaic.TcCoe Idealize.SL.Sem
open Cert.KernelIdeal Cert.KernelIdeal.Gen
open Cert.Ref (dat mu hd ln oh)

/-- The two heads of a grid point. -/
def Hd (t : Fin cfg0.N) (h : Fin 2) : Fin 16 := ⟨t.val / 64 * 2 + h.val, by have := pt_lt t; omega⟩

/-- The head of a lane of a block. -/
theorem hd_lane (t : Fin cfg0.N) (h : Fin 2) (l : Fin 128) (a : act h l = true) : hd (lane t l) = Hd t h := by
  rw [act_iff] at a
  refine Fin.ext ?_
  show (128 * (t.val / 64) + l.val) / 64 = t.val / 64 * 2 + h.val
  omega

/-- The place of a lane in its head. -/
theorem ln_lane (t : Fin cfg0.N) (l : Fin 128) : ln (lane t l) = dl l := by
  refine Fin.ext ?_
  show (128 * (t.val / 64) + l.val) % 64 = l.val % 64
  omega

/-- The other head of a lane's pair. -/
theorem oh_lane (t : Fin cfg0.N) (h : Fin 2) (l : Fin 128) (a : act h l = false) : oh (lane t l) = Hd t h := by
  have a' : ¬ l.val / 64 = h.val := by rw [← act_iff, a]; exact Bool.false_ne_true
  refine Fin.ext ?_
  show (128 * (t.val / 64) + l.val) / 128 * 2 + (1 - (128 * (t.val / 64) + l.val) / 64 % 2) = t.val / 64 * 2 + h.val
  omega

/-- The three argument arrays of a device, all of whose entries are real numbers. -/
structure Args (m : (ℓ : Loc nD τ sig) → Buf (Elt Ideal) ℓ) (c : Dev nD)
    (X0 : FVec Ideal S4096x5632 .f32) (X1 : FVec Ideal S16 .f32) (X2 : FVec Ideal S4096x2048 .f32) : Prop where
  e0 : m ((c : Thread nD τ).loc main_arg0) = X0
  e1 : m ((c : Thread nD τ).loc main_arg1) = X1
  e2 : m ((c : Thread nD τ).loc main_arg2) = X2
  h0 : ∀ i, X0 i = ((X0 i).toReal : EReal)
  h1 : ∀ i, X1 i = ((X1 i).toReal : EReal)
  h2 : ∀ i, X2 i = ((X2 i).toReal : EReal)

variable {m : (ℓ : Loc nD τ sig) → Buf (Elt Ideal) ℓ} {c : Dev nD}
  {X0 : FVec Ideal S4096x5632 .f32} {X1 : FVec Ideal S16 .f32} {X2 : FVec Ideal S4096x2048 .f32}

set_option maxHeartbeats 2000000 in
/-- The blocks of a grid point. -/
theorem Args.tile (a : Args m c X0 X1 X2) (t : Fin cfg0.N) :
    Tile (dat X0 X1 X2) (Hd t) (qrow t) (krow t) (mu X0 X1)
      (iblk m c 0 t) (iblk m c 1 t) (iblk m c 2 t) (iblk m c 3 t) (iblk m c 4 t) (iblk m c 5 t) (iblk m c 6 t) := by
  have hM := Ref.masked_eq X0 X1 X2 a.h0 a.h1
  have hX := Ref.max_eq X0 X1 a.h0 a.h1 X2
  have hE := Host.hE_eq (dat X0 X1 X2) _ _ (mu X0 X1) hM hX
  have hD := Host.hD_eq (dat X0 X1 X2) _ (mu X0 X1) hE
  have hC := Ref.c_eq X0 X1 X2 a.h0 a.h1
  have v0 := (V_main_arg0 m c).trans a.e0
  have v2 := (V_main_arg2 m c).trans a.e2
  have v44 := Host.V44 m c
  have v51 := Host.V51 m c
  have v73 := Host.V73 m c
  rw [a.e0, a.e1] at v44 v51 v73
  refine ⟨?_, ?_, ?_, ?_, ?_, ?_, ?_, ?_, ?_, ?_⟩
  · intro h r l e
    rw [← hd_lane t h l e, ← ln_lane t l]
    refine (blk0 m c t r l).trans ((congrFun v0 _).trans ((a.h0 _).trans ?_))
    show _ = (((X0 _).toReal : ℝ) : EReal)
    congr 4
    refine Fin.ext ?_
    show 2048 + (lane t l).val = 2048 + ((lane t l).val / 64 * 64 + (lane t l).val % 64)
    omega
  · intro h r l e
    rw [← hd_lane t h l e, ← ln_lane t l]
    refine (blk1 m c t r l).trans ((congrFun v0 _).trans ((a.h0 _).trans ?_))
    show _ = (((X0 _).toReal : ℝ) : EReal)
    congr 4
    refine Fin.ext ?_
    show 3072 + (lane t l).val = 3072 + ((lane t l).val / 64 * 64 + (lane t l).val % 64)
    omega
  · intro h r l e
    rw [← hd_lane t h l e, ← ln_lane t l]
    refine (blk2 m c t r l).trans ((congrFun v0 _).trans ((a.h0 _).trans ?_))
    show _ = (((X0 _).toReal : ℝ) : EReal)
    congr 4
    refine Fin.ext ?_
    show 4096 + (lane t l).val = 4096 + ((lane t l).val / 64 * 64 + (lane t l).val % 64)
    omega
  · intro h r l e
    rw [← hd_lane t h l e, ← ln_lane t l]
    exact (blk4 m c t r l).trans ((congrFun v44 _).trans
      (Host.hO_eq (dat X0 X1 X2) _ _ _ (mu X0 X1) hE hD (Ref.v_eq X0 X1 X2 a.h0) (qrow t r) (lane t l)))
  · intro h r l e
    rw [← hd_lane t h l e, ← ln_lane t l]
    refine (blk6 m c t r l).trans ((congrFun v2 _).trans ((a.h2 _).trans ?_))
    show _ = (((X2 _).toReal : ℝ) : EReal)
    congr 4
    refine Fin.ext ?_
    show 1024 + (lane t l).val = 1024 + ((lane t l).val / 64 * 64 + (lane t l).val % 64)
    omega
  · intro h r l e
    rw [← hd_lane t h l e]
    exact (blk5 m c t r l).trans ((congrFun v51 _).trans
      (Host.hL_eq (dat X0 X1 X2) _ _ _ (mu X0 X1) hX hD hC (qrow t r) (lane t l)))
  · intro h r l e z
    rw [← oh_lane t h l e]
    exact (blk3 m c t r l).trans ((congrFun v73 _).trans
      (Host.ka_0 (dat X0 X1 X2) _ _ hC (krow t r) (lane t l) (by show (128 * (t.val / 64) + l.val) % 64 = 0; omega)))
  · intro r l z
    exact (blk3 m c t r l).trans ((congrFun v73 _).trans
      (Host.ka_1 (dat X0 X1 X2) _ _ hC (krow t r) (lane t l) (by show (128 * (t.val / 64) + l.val) % 64 = 1; omega)))
  · intro r l z
    exact (blk3 m c t r l).trans ((congrFun v73 _).trans
      (Host.ka_2 (dat X0 X1 X2) _ _ hC (krow t r) (lane t l) (by show (128 * (t.val / 64) + l.val) % 64 = 2; omega)))
  · intro r l z
    exact (blk3 m c t r l).trans ((congrFun v73 _).trans
      (Host.ka_3 _ _ (krow t r) (lane t l) (by show (128 * (t.val / 64) + l.val) % 64 = 3; omega)))

/-- On the tiles below the diagonal nothing is cut off. -/
theorem below (t : Fin cfg0.N) (h : t.val / 8 % 8 + 1 ≤ t.val % 8) (r c : Fin 512) :
    (false && decide (r.val < c.val)) = true ↔ ¬ krow t c ≤ qrow t r := by
  rw [← Fin.val_fin_le]
  show _ ↔ ¬ (512 * (t.val / 8 % 8) + c.val ≤ 512 * max (t.val % 8) (t.val / 8 % 8) + r.val)
  simp only [Bool.false_and, Bool.false_eq_true, false_iff, not_not]
  omega

/-- On a tile of the diagonal the entries above it are. -/
theorem diag (t : Fin cfg0.N) (h : t.val / 8 % 8 = t.val % 8) (r c : Fin 512) :
    (true && decide (r.val < c.val)) = true ↔ ¬ krow t c ≤ qrow t r := by
  rw [← Fin.val_fin_le]
  show _ ↔ ¬ (512 * (t.val / 8 % 8) + c.val ≤ 512 * max (t.val % 8) (t.val / 8 % 8) + r.val)
  simp only [Bool.true_and, decide_eq_true_eq]
  omega

end Cert.Ker
-- ==== Proof.BAv.lean ====
/- The accumulator of the values' gradient after the first point of a pair of heads, whose tile is on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the values' gradient after the first point of a pair of heads, whose tile is on the diagonal. -/
theorem tA_dv (c : Dev nD) (t : Fin cfg0.N) (h0 : t.val % 64 = 0) (h1 : t.val % 8 = 0) (h2 : ¬(t.val / 8 % 8 + 1 ≤ t.val % 8)) (h3 : t.val / 8 % 8 = t.val % 8) (h4 : ¬t.val % 8 = 7) (h5 : ¬t.val % 64 = 63) (j : Fin 512) (k : Fin 128) : (outsAt0 m c t.val t.isLt).2.2.2.2.2.2 (ix2 j k) = VS (PP true (SC (iblk m c 0 t) (iblk m c 1 t) (iblk m c 3 t)) (iblk m c 5 t)) (iblk m c 6 t) j k := by
  rw [outsAt0_A m c t h0 h1 h2 h3 h4 h5]
  frame_out
  clear h0 h1 h2 h3 h4 h5
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  simp only [hs, hp]
  rw [half_to (S := S2x512x512) (e := .bf16) _ _ _ (fun i => p (i 0) (i 1) (i 2)) (by rfl) ?_]
  rw [half_to (S := S2x512x512) (e := .bf16) _ _ _ (fun i => p (i 0) (i 1) (i 2)) (by rfl) ?_]
  · clear hs hp
    open_payloads
    pointwise
    simp only [sel_lt, sel_ge]
    exact VSz_of _ _ _ _
  all_goals
    simp only [View.readCov_eq_canon']
    rw [canon_to (S := S2x512x512) (e := .f32) _ (fun i => s (i 0) (i 1) (i 2)) ?_]
    · intro y hy
      simp only [List.take_succ_cons, List.take_zero] at hy ⊢
      subst hp
      clear hs
      canon_tiles x h using hy
      all_goals
        clear hy
        open_payloads
        pointwise
        first
          | have hy0 : (y 0).val = 1 := by omega
            exact PPd1_of _ _ _ _ _ _ _ _ _ _ _ (by omega) (by omega) (by omega) (by omega) (by rfl) (by norm_num) (by omega)
          | have hy0 : (y 0).val = 0 := by omega
            exact PPd0_of _ _ _ _ _ _ _ _ _ _ _ (by omega) (by omega) (by omega) (by omega) (by rfl) (by norm_num) (by omega)

    · funext y
      subst hs
      clear hp
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BAk.lean ====
/- The accumulator of the keys' gradient after the first point of a pair of heads, whose tile is on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 1000000 in
/-- The accumulator of the keys' gradient after the first point of a pair of heads, whose tile is on the diagonal. -/
theorem tA_dk (c : Dev nD) (t : Fin cfg0.N) (h0 : t.val % 64 = 0) (h1 : t.val % 8 = 0) (h2 : ¬(t.val / 8 % 8 + 1 ≤ t.val % 8)) (h3 : t.val / 8 % 8 = t.val % 8) (h4 : ¬t.val % 8 = 7) (h5 : ¬t.val % 64 = 63) (y : S2x512x128.Idx) : (outsAt0 m c t.val t.isLt).2.2.2.2.2.1 (y) = KS (DSB true (iblk m c 0 t) (iblk m c 1 t) (iblk m c 2 t) (iblk m c 3 t) (iblk m c 4 t) (iblk m c 5 t) (iblk m c 6 t)) (iblk m c 0 t) (y 0) (y 1) (y 2) := by
  rw [outsAt0_A m c t h0 h1 h2 h3 h4 h5]
  frame_out
  clear h0 h1 h2 h3 h4 h5
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [acc_zero1, acc_zero0]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    rw [canon_two]
    canon_tiles x h
    · open_payloads
      pointwise
      exact KSz1_of _ _ _ _ (by omega) (by omega) (by omega)
    · open_payloads
      pointwise
      exact KSz0_of _ _ _ _ (by omega) (by omega) (by omega)
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BAd.lean ====
/- The block of the queries' gradient after the first point of a pair of heads, whose tile is on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The queries' gradient after the first point of a pair of heads, whose tile is on the diagonal, in the rows of its query tile. -/
theorem tA_dq_in (c : Dev nD) (t : Fin cfg0.N) (h0 : t.val % 64 = 0) (h1 : t.val % 8 = 0) (h2 : ¬(t.val / 8 % 8 + 1 ≤ t.val % 8)) (h3 : t.val / 8 % 8 = t.val % 8) (h4 : ¬t.val % 8 = 7) (h5 : ¬t.val % 64 = 63) (r : Fin 512) (k : Fin 128) : (outsAt0 m c t.val t.isLt).1 (ix2 ⟨512*(t.val%8)+r.val, by omega⟩ k) = QS (DSB true (iblk m c 0 t) (iblk m c 1 t) (iblk m c 2 t) (iblk m c 3 t) (iblk m c 4 t) (iblk m c 5 t) (iblk m c 6 t)) (iblk m c 1 t) r k := by
  rw [outsAt0_A m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (canon_rows_mem _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    exact QS_of _ _ _ _ _
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The queries' gradient after the first point of a pair of heads, whose tile is on the diagonal, in the other rows. -/
theorem tA_dq_out (c : Dev nD) (t : Fin cfg0.N) (h0 : t.val % 64 = 0) (h1 : t.val % 8 = 0) (h2 : ¬(t.val / 8 % 8 + 1 ≤ t.val % 8)) (h3 : t.val / 8 % 8 = t.val % 8) (h4 : ¬t.val % 8 = 7) (h5 : ¬t.val % 64 = 63) (j : Fin 4096) (k : Fin 128) (hj : ¬ j.val / 512 = t.val % 8) : (outsAt0 m c t.val t.isLt).1 (ix2 j k) = 0 := by
  rw [outsAt0_A m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (canon_rows_not_mem _ _ _ _ hoff j k (by omega)).trans ?_
  generalize ix2 j k = y
  canon_tiles x h
  open_payloads
  pointwise

end Cert.Ker
-- ==== Proof.BAr.lean ====
/- The block of the row sums after the first point of a pair of heads, whose tile is on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The row sums after the first point of a pair of heads, whose tile is on the diagonal, in the rows of its query tile. -/
theorem tA_rs_in (c : Dev nD) (t : Fin cfg0.N) (h0 : t.val % 64 = 0) (h1 : t.val % 8 = 0) (h2 : ¬(t.val / 8 % 8 + 1 ≤ t.val % 8)) (h3 : t.val / 8 % 8 = t.val % 8) (h4 : ¬t.val % 8 = 7) (h5 : ¬t.val % 64 = 63) (r : Fin 512) (k : Fin 128) : (outsAt0 m c t.val t.isLt).2.2.2.2.1 (ix2 ⟨512*(t.val%8)+r.val, by omega⟩ k) = RS (DSB true (iblk m c 0 t) (iblk m c 1 t) (iblk m c 2 t) (iblk m c 3 t) (iblk m c 4 t) (iblk m c 5 t) (iblk m c 6 t)) (iblk m c 3 t) r k := by
  rw [outsAt0_A m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (canon_rows_mem _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    exact RS_of _ _ _ _ _
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The row sums after the first point of a pair of heads, whose tile is on the diagonal, in the other rows. -/
theorem tA_rs_out (c : Dev nD) (t : Fin cfg0.N) (h0 : t.val % 64 = 0) (h1 : t.val % 8 = 0) (h2 : ¬(t.val / 8 % 8 + 1 ≤ t.val % 8)) (h3 : t.val / 8 % 8 = t.val % 8) (h4 : ¬t.val % 8 = 7) (h5 : ¬t.val % 64 = 63) (j : Fin 4096) (k : Fin 128) (hj : ¬ j.val / 512 = t.val % 8) : (outsAt0 m c t.val t.isLt).2.2.2.2.1 (ix2 j k) = 0 := by
  rw [outsAt0_A m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (canon_rows_not_mem _ _ _ _ hoff j k (by omega)).trans ?_
  generalize ix2 j k = y
  canon_tiles x h
  open_payloads
  pointwise

end Cert.Ker
-- ==== Proof.BBv.lean ====
/- The accumulator of the values' gradient after a point below the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the values' gradient after a point below the diagonal. -/
theorem tB_dv (c : Dev nD) (t : Fin cfg0.N) (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) (j : Fin 512) (k : Fin 128) : (outsAt0 m c t.val t.isLt).2.2.2.2.2.2 (ix2 j k) = (outsAt0 m c (t.val - 1) (lt_of_le_of_lt (Nat.sub_le _ _) t.isLt)).2.2.2.2.2.2 (ix2 j k) + VS (PP false (SC (iblk m c 0 t) (iblk m c 1 t) (iblk m c 3 t)) (iblk m c 5 t)) (iblk m c 6 t) j k := by
  rw [outsAt0_B m c t h0 h1 h2 h3 h4 h5]
  frame_out
  clear h0 h1 h2 h3 h4 h5
  generalize (outsAt0 m c (t.val - 1) _).2.2.2.2.2.2 = PREV
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  simp only [hs, hp]
  rw [half_to (S := S2x512x512) (e := .bf16) _ _ _ (fun i => p (i 0) (i 1) (i 2)) (by rfl) ?_]
  rw [half_to (S := S2x512x512) (e := .bf16) _ _ _ (fun i => p (i 0) (i 1) (i 2)) (by rfl) ?_]
  · clear hs hp
    simp only [read_unread_whole]
    open_payloads
    pointwise
    simp only [sel_lt, sel_ge]
    exact VS_of _ _ _ _ _
  all_goals
    simp only [View.readCov_eq_canon']
    rw [canon_to (S := S2x512x512) (e := .f32) _ (fun i => s (i 0) (i 1) (i 2)) ?_]
    · intro y hy
      simp only [List.take_succ_cons, List.take_zero] at hy ⊢
      subst hp
      clear hs
      canon_tiles x h using hy
      all_goals
        clear hy
        open_payloads
        pointwise
        first
          | exact PPu1_of _ _ _ _ _ _ _ _ _ (by omega) (by omega) (by omega) (by omega) (by rfl)
          | exact PPu0_of _ _ _ _ _ _ _ _ _ (by omega) (by omega) (by omega) (by omega) (by rfl)

    · funext y
      subst hs
      clear hp
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BBk.lean ====
/- The accumulator of the keys' gradient after a point below the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the keys' gradient after a point below the diagonal. -/
theorem tB_dk (c : Dev nD) (t : Fin cfg0.N) (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) (y : S2x512x128.Idx) : (outsAt0 m c t.val t.isLt).2.2.2.2.2.1 (y) = (outsAt0 m c (t.val - 1) (lt_of_le_of_lt (Nat.sub_le _ _) t.isLt)).2.2.2.2.2.1 y + KS (DSB false (iblk m c 0 t) (iblk m c 1 t) (iblk m c 2 t) (iblk m c 3 t) (iblk m c 4 t) (iblk m c 5 t) (iblk m c 6 t)) (iblk m c 0 t) (y 0) (y 1) (y 2) := by
  rw [outsAt0_B m c t h0 h1 h2 h3 h4 h5]
  frame_out
  clear h0 h1 h2 h3 h4 h5
  generalize (outsAt0 m c (t.val - 1) _).2.2.2.2.2.1 = PREV
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    simp only [read_unread_whole]
    canon_tiles x h
    · open_payloads
      pointwise
      exact KS1_of _ _ _ _ _ (by omega) (by omega) (by omega)
    · open_payloads
      pointwise
      exact KS0_of _ _ _ _ _ (by omega) (by omega) (by omega)
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | exact DSu1_of _ _ _ _ _ _ _ _ _ _ _ _ _ _ (by omega) (by omega) (by omega) (by omega) (by rfl) (by omega) (by omega) (by omega)
          | exact DSu0_of _ _ _ _ _ _ _ _ _ _ _ _ _ _ (by omega) (by omega) (by omega) (by omega) (by rfl) (by omega) (by omega) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BBd.lean ====
/- The block of the queries' gradient after a point below the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The queries' gradient after a point below the diagonal, in the rows of its query tile. -/
theorem tB_dq_in (c : Dev nD) (t : Fin cfg0.N) (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) (r : Fin 512) (k : Fin 128) : (outsAt0 m c t.val t.isLt).1 (ix2 ⟨512*(t.val%8)+r.val, by omega⟩ k) = (outsAt0 m c (t.val - 1) (lt_of_le_of_lt (Nat.sub_le _ _) t.isLt)).1 (ix2 ⟨512*(t.val%8)+r.val, by omega⟩ k) + QS (DSB false (iblk m c 0 t) (iblk m c 1 t) (iblk m c 2 t) (iblk m c 3 t) (iblk m c 4 t) (iblk m c 5 t) (iblk m c 6 t)) (iblk m c 1 t) r k := by
  rw [outsAt0_B m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (QS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | exact DSu1_of _ _ _ _ _ _ _ _ _ _ _ _ _ _ (by omega) (by omega) (by omega) (by omega) (by rfl) (by omega) (by omega) (by omega)
          | exact DSu0_of _ _ _ _ _ _ _ _ _ _ _ _ _ _ (by omega) (by omega) (by omega) (by omega) (by rfl) (by omega) (by omega) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The queries' gradient after a point below the diagonal, in the other rows. -/
theorem tB_dq_out (c : Dev nD) (t : Fin cfg0.N) (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) (j : Fin 4096) (k : Fin 128) (hj : ¬ j.val / 512 = t.val % 8) : (outsAt0 m c t.val t.isLt).1 (ix2 j k) = (outsAt0 m c (t.val - 1) (lt_of_le_of_lt (Nat.sub_le _ _) t.isLt)).1 (ix2 j k) := by
  rw [outsAt0_B m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_not_mem _ _ _ _ _ _ hoff j k (by omega)).trans ?_
  simp only [View.writes_nil]
  first | rfl | exact congrFun (Memref.IsWhole.read_unread _ _) _

end Cert.Ker
-- ==== Proof.BBr.lean ====
/- The block of the row sums after a point below the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The row sums after a point below the diagonal, in the rows of its query tile. -/
theorem tB_rs_in (c : Dev nD) (t : Fin cfg0.N) (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) (r : Fin 512) (k : Fin 128) : (outsAt0 m c t.val t.isLt).2.2.2.2.1 (ix2 ⟨512*(t.val%8)+r.val, by omega⟩ k) = (outsAt0 m c (t.val - 1) (lt_of_le_of_lt (Nat.sub_le _ _) t.isLt)).2.2.2.2.1 (ix2 ⟨512*(t.val%8)+r.val, by omega⟩ k) + RS (DSB false (iblk m c 0 t) (iblk m c 1 t) (iblk m c 2 t) (iblk m c 3 t) (iblk m c 4 t) (iblk m c 5 t) (iblk m c 6 t)) (iblk m c 3 t) r k := by
  rw [outsAt0_B m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (RS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | exact DSu1_of _ _ _ _ _ _ _ _ _ _ _ _ _ _ (by omega) (by omega) (by omega) (by omega) (by rfl) (by omega) (by omega) (by omega)
          | exact DSu0_of _ _ _ _ _ _ _ _ _ _ _ _ _ _ (by omega) (by omega) (by omega) (by omega) (by rfl) (by omega) (by omega) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The row sums after a point below the diagonal, in the other rows. -/
theorem tB_rs_out (c : Dev nD) (t : Fin cfg0.N) (h0 : ¬t.val % 64 = 0) (h1 : ¬t.val % 8 = 0) (h2 : t.val / 8 % 8 + 1 ≤ t.val % 8) (h3 : ¬t.val / 8 % 8 = t.val % 8) (h4 : ¬t.val % 8 = 7) (h5 : ¬t.val % 64 = 63) (j : Fin 4096) (k : Fin 128) (hj : ¬ j.val / 512 = t.val % 8) : (outsAt0 m c t.val t.isLt).2.2.2.2.1 (ix2 j k) = (outsAt0 m c (t.val - 1) (lt_of_le_of_lt (Nat.sub_le _ _) t.isLt)).2.2.2.2.1 (ix2 j k) := by
  rw [outsAt0_B m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_not_mem _ _ _ _ _ _ hoff j k (by omega)).trans ?_
  simp only [View.writes_nil]
  first | rfl | exact congrFun (Memref.IsWhole.read_unread _ _) _

end Cert.Ker
-- ==== Proof.BCv.lean ====
/- The accumulator of the values' gradient after a point below the diagonal with the last query tile. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the values' gradient after a point below the diagonal with the last query tile. -/
theorem tC_dv (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (j : Fin 512) (k : Fin 128) : (outsAt0 m c t.val t.isLt).2.2.2.2.2.2 (ix2 j k) = (outsAt0 m c (t.val - 1) (lt_of_le_of_lt (Nat.sub_le _ _) t.isLt)).2.2.2.2.2.2 (ix2 j k) + VS (PP false (SC (iblk m c 0 t) (iblk m c 1 t) (iblk m c 3 t)) (iblk m c 5 t)) (iblk m c 6 t) j k := by
  rw [outsAt0_C m c t h0 h1 h2 h3 h4 h5]
  frame_out
  clear h0 h1 h2 h3 h4 h5
  generalize (outsAt0 m c (t.val - 1) _).2.2.2.2.2.2 = PREV
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  simp only [hs, hp]
  rw [half_to (S := S2x512x512) (e := .bf16) _ _ _ (fun i => p (i 0) (i 1) (i 2)) (by rfl) ?_]
  rw [half_to (S := S2x512x512) (e := .bf16) _ _ _ (fun i => p (i 0) (i 1) (i 2)) (by rfl) ?_]
  · clear hs hp
    simp only [read_unread_whole]
    open_payloads
    pointwise
    simp only [sel_lt, sel_ge]
    exact VS_of _ _ _ _ _
  all_goals
    simp only [View.readCov_eq_canon']
    rw [canon_to (S := S2x512x512) (e := .f32) _ (fun i => s (i 0) (i 1) (i 2)) ?_]
    · intro y hy
      simp only [List.take_succ_cons, List.take_zero] at hy ⊢
      subst hp
      clear hs
      canon_tiles x h using hy
      all_goals
        clear hy
        open_payloads
        pointwise
        first
          | exact PPu1_of _ _ _ _ _ _ _ _ _ (by omega) (by omega) (by omega) (by omega) (by rfl)
          | exact PPu0_of _ _ _ _ _ _ _ _ _ (by omega) (by omega) (by omega) (by omega) (by rfl)

    · funext y
      subst hs
      clear hp
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BCk.lean ====
/- The accumulator of the keys' gradient after a point below the diagonal with the last query tile. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the keys' gradient after a point below the diagonal with the last query tile. -/
theorem tC_dk (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (y : S2x512x128.Idx) : (outsAt0 m c t.val t.isLt).2.2.2.2.2.1 (y) = (outsAt0 m c (t.val - 1) (lt_of_le_of_lt (Nat.sub_le _ _) t.isLt)).2.2.2.2.2.1 y + KS (DSB false (iblk m c 0 t) (iblk m c 1 t) (iblk m c 2 t) (iblk m c 3 t) (iblk m c 4 t) (iblk m c 5 t) (iblk m c 6 t)) (iblk m c 0 t) (y 0) (y 1) (y 2) := by
  rw [outsAt0_C m c t h0 h1 h2 h3 h4 h5]
  frame_out
  clear h0 h1 h2 h3 h4 h5
  generalize (outsAt0 m c (t.val - 1) _).2.2.2.2.2.1 = PREV
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    simp only [read_unread_whole]
    canon_tiles x h
    · open_payloads
      pointwise
      exact KS1_of _ _ _ _ _ (by omega) (by omega) (by omega)
    · open_payloads
      pointwise
      exact KS0_of _ _ _ _ _ (by omega) (by omega) (by omega)
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | exact DSu1_of _ _ _ _ _ _ _ _ _ _ _ _ _ _ (by omega) (by omega) (by omega) (by omega) (by rfl) (by omega) (by omega) (by omega)
          | exact DSu0_of _ _ _ _ _ _ _ _ _ _ _ _ _ _ (by omega) (by omega) (by omega) (by omega) (by rfl) (by omega) (by omega) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BCd.lean ====
/- The block of the queries' gradient after a point below the diagonal with the last query tile. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The queries' gradient after a point below the diagonal with the last query tile, in the rows of its query tile. -/
theorem tC_dq_in (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (r : Fin 512) (k : Fin 128) : (outsAt0 m c t.val t.isLt).1 (ix2 ⟨512*(t.val%8)+r.val, by omega⟩ k) = (outsAt0 m c (t.val - 1) (lt_of_le_of_lt (Nat.sub_le _ _) t.isLt)).1 (ix2 ⟨512*(t.val%8)+r.val, by omega⟩ k) + QS (DSB false (iblk m c 0 t) (iblk m c 1 t) (iblk m c 2 t) (iblk m c 3 t) (iblk m c 4 t) (iblk m c 5 t) (iblk m c 6 t)) (iblk m c 1 t) r k := by
  rw [outsAt0_C m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (QS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | exact DSu1_of _ _ _ _ _ _ _ _ _ _ _ _ _ _ (by omega) (by omega) (by omega) (by omega) (by rfl) (by omega) (by omega) (by omega)
          | exact DSu0_of _ _ _ _ _ _ _ _ _ _ _ _ _ _ (by omega) (by omega) (by omega) (by omega) (by rfl) (by omega) (by omega) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The queries' gradient after a point below the diagonal with the last query tile, in the other rows. -/
theorem tC_dq_out (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (j : Fin 4096) (k : Fin 128) (hj : ¬ j.val / 512 = t.val % 8) : (outsAt0 m c t.val t.isLt).1 (ix2 j k) = (outsAt0 m c (t.val - 1) (lt_of_le_of_lt (Nat.sub_le _ _) t.isLt)).1 (ix2 j k) := by
  rw [outsAt0_C m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_not_mem _ _ _ _ _ _ hoff j k (by omega)).trans ?_
  simp only [View.writes_nil]
  first | rfl | exact congrFun (Memref.IsWhole.read_unread _ _) _

end Cert.Ker
-- ==== Proof.BCr.lean ====
/- The block of the row sums after a point below the diagonal with the last query tile. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The row sums after a point below the diagonal with the last query tile, in the rows of its query tile. -/
theorem tC_rs_in (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (r : Fin 512) (k : Fin 128) : (outsAt0 m c t.val t.isLt).2.2.2.2.1 (ix2 ⟨512*(t.val%8)+r.val, by omega⟩ k) = (outsAt0 m c (t.val - 1) (lt_of_le_of_lt (Nat.sub_le _ _) t.isLt)).2.2.2.2.1 (ix2 ⟨512*(t.val%8)+r.val, by omega⟩ k) + RS (DSB false (iblk m c 0 t) (iblk m c 1 t) (iblk m c 2 t) (iblk m c 3 t) (iblk m c 4 t) (iblk m c 5 t) (iblk m c 6 t)) (iblk m c 3 t) r k := by
  rw [outsAt0_C m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP false s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (RS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | exact DSu1_of _ _ _ _ _ _ _ _ _ _ _ _ _ _ (by omega) (by omega) (by omega) (by omega) (by rfl) (by omega) (by omega) (by omega)
          | exact DSu0_of _ _ _ _ _ _ _ _ _ _ _ _ _ _ (by omega) (by omega) (by omega) (by omega) (by rfl) (by omega) (by omega) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The row sums after a point below the diagonal with the last query tile, in the other rows. -/
theorem tC_rs_out (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (j : Fin 4096) (k : Fin 128) (hj : ¬ j.val / 512 = t.val % 8) : (outsAt0 m c t.val t.isLt).2.2.2.2.1 (ix2 j k) = (outsAt0 m c (t.val - 1) (lt_of_le_of_lt (Nat.sub_le _ _) t.isLt)).2.2.2.2.1 (ix2 j k) := by
  rw [outsAt0_C m c t h0 h1 h2 h3 h4 h5]
  frame_out
  have hc : (grid0.coords t 2).val = t.val / 1 % 8 := Pipeline.Grid.coords_val t 2 (by decide) rfl
  have hoff : k0_off1 (grid0.coords t) = ![512 * (t.val % 8), 0] := by rw [k0_off1_eq, hc, Nat.div_one]
  refine (rows_not_mem _ _ _ _ _ _ hoff j k (by omega)).trans ?_
  simp only [View.writes_nil]
  first | rfl | exact congrFun (Memref.IsWhole.read_unread _ _) _

end Cert.Ker
-- ==== Proof.BEv.lean ====
/- The accumulator of the values' gradient after a point on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the values' gradient after a point on the diagonal. -/
theorem tE_dv (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : ¬t.val % 8 = 7) (h5 : ¬t.val % 64 = 63) (j : Fin 512) (k : Fin 128) : (outsAt0 m c t.val t.isLt).2.2.2.2.2.2 (ix2 j k) = (outsAt0 m c (t.val - 1) (lt_of_le_of_lt (Nat.sub_le _ _) t.isLt)).2.2.2.2.2.2 (ix2 j k) + VS (PP true (SC (iblk m c 0 t) (iblk m c 1 t) (iblk m c 3 t)) (iblk m c 5 t)) (iblk m c 6 t) j k := by
  rw [outsAt0_E m c t h0 h1 h2 h3 h4 h5]
  frame_out
  clear h0 h1 h2 h3 h4 h5
  generalize (outsAt0 m c (t.val - 1) _).2.2.2.2.2.2 = PREV
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  simp only [hs, hp]
  rw [half_to (S := S2x512x512) (e := .bf16) _ _ _ (fun i => p (i 0) (i 1) (i 2)) (by rfl) ?_]
  rw [half_to (S := S2x512x512) (e := .bf16) _ _ _ (fun i => p (i 0) (i 1) (i 2)) (by rfl) ?_]
  · clear hs hp
    simp only [read_unread_whole]
    open_payloads
    pointwise
    simp only [sel_lt, sel_ge]
    exact VS_of _ _ _ _ _
  all_goals
    simp only [View.readCov_eq_canon']
    rw [canon_to (S := S2x512x512) (e := .f32) _ (fun i => s (i 0) (i 1) (i 2)) ?_]
    · intro y hy
      simp only [List.take_succ_cons, List.take_zero] at hy ⊢
      subst hp
      clear hs
      canon_tiles x h using hy
      all_goals
        clear hy
        open_payloads
        pointwise
        first
          | have hy0 : (y 0).val = 1 := by omega
            exact PPd1_of _ _ _ _ _ _ _ _ _ _ _ (by omega) (by omega) (by omega) (by omega) (by rfl) (by norm_num) (by omega)
          | have hy0 : (y 0).val = 0 := by omega
            exact PPd0_of _ _ _ _ _ _ _ _ _ _ _ (by omega) (by omega) (by omega) (by omega) (by rfl) (by norm_num) (by omega)

    · funext y
      subst hs
      clear hp
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BEk.lean ====
/- The accumulator of the keys' gradient after a point on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the keys' gradient after a point on the diagonal. -/
theorem tE_dk (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : ¬t.val % 8 = 7) (h5 : ¬t.val % 64 = 63) (y : S2x512x128.Idx) : (outsAt0 m c t.val t.isLt).2.2.2.2.2.1 (y) = (outsAt0 m c (t.val - 1) (lt_of_le_of_lt (Nat.sub_le _ _) t.isLt)).2.2.2.2.2.1 y + KS (DSB true (iblk m c 0 t) (iblk m c 1 t) (iblk m c 2 t) (iblk m c 3 t) (iblk m c 4 t) (iblk m c 5 t) (iblk m c 6 t)) (iblk m c 0 t) (y 0) (y 1) (y 2) := by
  rw [outsAt0_E m c t h0 h1 h2 h3 h4 h5]
  frame_out
  clear h0 h1 h2 h3 h4 h5
  generalize (outsAt0 m c (t.val - 1) _).2.2.2.2.2.1 = PREV
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    simp only [read_unread_whole]
    canon_tiles x h
    · open_payloads
      pointwise
      exact KS1_of _ _ _ _ _ (by omega) (by omega) (by omega)
    · open_payloads
      pointwise
      exact KS0_of _ _ _ _ _ (by omega) (by omega) (by omega)
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BEd.lean ====
/- The block of the queries' gradient after a point on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The queries' gradient after a point on the diagonal, in the rows of its query tile. -/
theorem tE_dq_in (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : ¬t.val % 8 = 7) (h5 : ¬t.val % 64 = 63) (r : Fin 512) (k : Fin 128) : (outsAt0 m c t.val t.isLt).1 (ix2 ⟨512*(t.val%8)+r.val, by omega⟩ k) = (outsAt0 m c (t.val - 1) (lt_of_le_of_lt (Nat.sub_le _ _) t.isLt)).1 (ix2 ⟨512*(t.val%8)+r.val, by omega⟩ k) + QS (DSB true (iblk m c 0 t) (iblk m c 1 t) (iblk m c 2 t) (iblk m c 3 t) (iblk m c 4 t) (iblk m c 5 t) (iblk m c 6 t)) (iblk m c 1 t) r k := by
  rw [outsAt0_E m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (QS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The queries' gradient after a point on the diagonal, in the other rows. -/
theorem tE_dq_out (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : ¬t.val % 8 = 7) (h5 : ¬t.val % 64 = 63) (j : Fin 4096) (k : Fin 128) (hj : ¬ j.val / 512 = t.val % 8) : (outsAt0 m c t.val t.isLt).1 (ix2 j k) = (outsAt0 m c (t.val - 1) (lt_of_le_of_lt (Nat.sub_le _ _) t.isLt)).1 (ix2 j k) := by
  rw [outsAt0_E m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (rows_not_mem _ _ _ _ _ _ hoff j k (by omega)).trans ?_
  simp only [View.writes_nil]
  first | rfl | exact congrFun (Memref.IsWhole.read_unread _ _) _

end Cert.Ker
-- ==== Proof.BEr.lean ====
/- The block of the row sums after a point on the diagonal. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The row sums after a point on the diagonal, in the rows of its query tile. -/
theorem tE_rs_in (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : ¬t.val % 8 = 7) (h5 : ¬t.val % 64 = 63) (r : Fin 512) (k : Fin 128) : (outsAt0 m c t.val t.isLt).2.2.2.2.1 (ix2 ⟨512*(t.val%8)+r.val, by omega⟩ k) = (outsAt0 m c (t.val - 1) (lt_of_le_of_lt (Nat.sub_le _ _) t.isLt)).2.2.2.2.1 (ix2 ⟨512*(t.val%8)+r.val, by omega⟩ k) + RS (DSB true (iblk m c 0 t) (iblk m c 1 t) (iblk m c 2 t) (iblk m c 3 t) (iblk m c 4 t) (iblk m c 5 t) (iblk m c 6 t)) (iblk m c 3 t) r k := by
  rw [outsAt0_E m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (RS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The row sums after a point on the diagonal, in the other rows. -/
theorem tE_rs_out (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : ¬t.val % 8 = 7) (h5 : ¬t.val % 64 = 63) (j : Fin 4096) (k : Fin 128) (hj : ¬ j.val / 512 = t.val % 8) : (outsAt0 m c t.val t.isLt).2.2.2.2.1 (ix2 j k) = (outsAt0 m c (t.val - 1) (lt_of_le_of_lt (Nat.sub_le _ _) t.isLt)).2.2.2.2.1 (ix2 j k) := by
  rw [outsAt0_E m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (rows_not_mem _ _ _ _ _ _ hoff j k (by omega)).trans ?_
  simp only [View.writes_nil]
  first | rfl | exact congrFun (Memref.IsWhole.read_unread _ _) _

end Cert.Ker
-- ==== Proof.BGv.lean ====
/- The accumulator of the values' gradient after the last point of a pair of heads. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the values' gradient after the last point of a pair of heads. -/
theorem tG_dv (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (j : Fin 512) (k : Fin 128) : (outsAt0 m c t.val t.isLt).2.2.2.2.2.2 (ix2 j k) = (outsAt0 m c (t.val - 1) (lt_of_le_of_lt (Nat.sub_le _ _) t.isLt)).2.2.2.2.2.2 (ix2 j k) + VS (PP true (SC (iblk m c 0 t) (iblk m c 1 t) (iblk m c 3 t)) (iblk m c 5 t)) (iblk m c 6 t) j k := by
  rw [outsAt0_G m c t h0 h1 h2 h3 h4 h5]
  frame_out
  clear h0 h1 h2 h3 h4 h5
  generalize (outsAt0 m c (t.val - 1) _).2.2.2.2.2.2 = PREV
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  simp only [hs, hp]
  rw [half_to (S := S2x512x512) (e := .bf16) _ _ _ (fun i => p (i 0) (i 1) (i 2)) (by rfl) ?_]
  rw [half_to (S := S2x512x512) (e := .bf16) _ _ _ (fun i => p (i 0) (i 1) (i 2)) (by rfl) ?_]
  · clear hs hp
    simp only [read_unread_whole]
    open_payloads
    pointwise
    simp only [sel_lt, sel_ge]
    exact VS_of _ _ _ _ _
  all_goals
    simp only [View.readCov_eq_canon']
    rw [canon_to (S := S2x512x512) (e := .f32) _ (fun i => s (i 0) (i 1) (i 2)) ?_]
    · intro y hy
      simp only [List.take_succ_cons, List.take_zero] at hy ⊢
      subst hp
      clear hs
      canon_tiles x h using hy
      all_goals
        clear hy
        open_payloads
        pointwise
        first
          | have hy0 : (y 0).val = 1 := by omega
            exact PPd1_of _ _ _ _ _ _ _ _ _ _ _ (by omega) (by omega) (by omega) (by omega) (by rfl) (by norm_num) (by omega)
          | have hy0 : (y 0).val = 0 := by omega
            exact PPd0_of _ _ _ _ _ _ _ _ _ _ _ (by omega) (by omega) (by omega) (by omega) (by rfl) (by norm_num) (by omega)

    · funext y
      subst hs
      clear hp
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BGk.lean ====
/- The accumulator of the keys' gradient after the last point of a pair of heads. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The accumulator of the keys' gradient after the last point of a pair of heads. -/
theorem tG_dk (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (y : S2x512x128.Idx) : (outsAt0 m c t.val t.isLt).2.2.2.2.2.1 (y) = (outsAt0 m c (t.val - 1) (lt_of_le_of_lt (Nat.sub_le _ _) t.isLt)).2.2.2.2.2.1 y + KS (DSB true (iblk m c 0 t) (iblk m c 1 t) (iblk m c 2 t) (iblk m c 3 t) (iblk m c 4 t) (iblk m c 5 t) (iblk m c 6 t)) (iblk m c 0 t) (y 0) (y 1) (y 2) := by
  rw [outsAt0_G m c t h0 h1 h2 h3 h4 h5]
  frame_out
  clear h0 h1 h2 h3 h4 h5
  generalize (outsAt0 m c (t.val - 1) _).2.2.2.2.2.1 = PREV
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    simp only [read_unread_whole]
    canon_tiles x h
    · open_payloads
      pointwise
      exact KS1_of _ _ _ _ _ (by omega) (by omega) (by omega)
    · open_payloads
      pointwise
      exact KS0_of _ _ _ _ _ (by omega) (by omega) (by omega)
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

end Cert.Ker
-- ==== Proof.BGd.lean ====
/- The block of the queries' gradient after the last point of a pair of heads. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The queries' gradient after the last point of a pair of heads, in the rows of its query tile. -/
theorem tG_dq_in (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (r : Fin 512) (k : Fin 128) : (outsAt0 m c t.val t.isLt).1 (ix2 ⟨512*(t.val%8)+r.val, by omega⟩ k) = ((outsAt0 m c (t.val - 1) (lt_of_le_of_lt (Nat.sub_le _ _) t.isLt)).1 (ix2 ⟨512*(t.val%8)+r.val, by omega⟩ k) + QS (DSB true (iblk m c 0 t) (iblk m c 1 t) (iblk m c 2 t) (iblk m c 3 t) (iblk m c 4 t) (iblk m c 5 t) (iblk m c 6 t)) (iblk m c 1 t) r k) * ((1 / 8 : ℝ) : EReal) := by
  rw [outsAt0_G m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (pay15_apply _ _).trans (congrArg (· * ((1 / 8 : ℝ) : EReal)) ?_)
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (QS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The queries' gradient after the last point of a pair of heads, in the other rows. -/
theorem tG_dq_out (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (j : Fin 4096) (k : Fin 128) (hj : ¬ j.val / 512 = t.val % 8) : (outsAt0 m c t.val t.isLt).1 (ix2 j k) = ((outsAt0 m c (t.val - 1) (lt_of_le_of_lt (Nat.sub_le _ _) t.isLt)).1 (ix2 j k)) * ((1 / 8 : ℝ) : EReal) := by
  rw [outsAt0_G m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (pay15_apply _ _).trans (congrArg (· * ((1 / 8 : ℝ) : EReal)) ?_)
  refine (rows_not_mem _ _ _ _ _ _ hoff j k (by omega)).trans ?_
  simp only [View.writes_nil]
  first | rfl | exact congrFun (Memref.IsWhole.read_unread _ _) _

end Cert.Ker
-- ==== Proof.BGr.lean ====
/- The block of the row sums after the last point of a pair of heads. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The row sums after the last point of a pair of heads, in the rows of its query tile. -/
theorem tG_rs_in (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (r : Fin 512) (k : Fin 128) : (outsAt0 m c t.val t.isLt).2.2.2.2.1 (ix2 ⟨512*(t.val%8)+r.val, by omega⟩ k) = (outsAt0 m c (t.val - 1) (lt_of_le_of_lt (Nat.sub_le _ _) t.isLt)).2.2.2.2.1 (ix2 ⟨512*(t.val%8)+r.val, by omega⟩ k) + RS (DSB true (iblk m c 0 t) (iblk m c 1 t) (iblk m c 2 t) (iblk m c 3 t) (iblk m c 4 t) (iblk m c 5 t) (iblk m c 6 t)) (iblk m c 3 t) r k := by
  rw [outsAt0_G m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (rows_mem _ _ _ _ _ _ hoff r k _).trans ?_
  unfold DSB
  obtain ⟨x0, hx0⟩ : ∃ x : FVec Ideal S512x128 .f32, iblk m c 0 t = x := ⟨_, rfl⟩
  obtain ⟨x1, hx1⟩ : ∃ x : FVec Ideal S512x128 .f32, iblk m c 1 t = x := ⟨_, rfl⟩
  obtain ⟨x2, hx2⟩ : ∃ x : FVec Ideal S512x128 .f32, iblk m c 2 t = x := ⟨_, rfl⟩
  obtain ⟨x3, hx3⟩ : ∃ x : FVec Ideal S512x128 .bf16, iblk m c 3 t = x := ⟨_, rfl⟩
  obtain ⟨x4, hx4⟩ : ∃ x : FVec Ideal S512x128 .f32, iblk m c 4 t = x := ⟨_, rfl⟩
  obtain ⟨x5, hx5⟩ : ∃ x : FVec Ideal S512x128 .f32, iblk m c 5 t = x := ⟨_, rfl⟩
  obtain ⟨x6, hx6⟩ : ∃ x : FVec Ideal S512x128 .f32, iblk m c 6 t = x := ⟨_, rfl⟩
  simp only [hx0, hx1, hx2, hx3, hx4, hx5, hx6]
  clear hx0 hx1 hx2 hx3 hx4 hx5 hx6
  obtain ⟨s, hs⟩ : ∃ s : Fin 2 → Fin 512 → Fin 512 → EReal, SC x0 x1 x3 = s := ⟨_, rfl⟩
  obtain ⟨p, hp⟩ : ∃ p : Fin 2 → Fin 512 → Fin 512 → EReal, PP true s x5 = p := ⟨_, rfl⟩
  obtain ⟨dp, hdp⟩ : ∃ s : Fin 2 → Fin 512 → Fin 512 → EReal, DP x2 x6 = s := ⟨_, rfl⟩
  obtain ⟨dd, hdd⟩ : ∃ s : Fin 2 → Fin 512 → EReal, DD x4 x6 = s := ⟨_, rfl⟩
  obtain ⟨ds, hds⟩ : ∃ s : Fin 2 → Fin 512 → Fin 512 → EReal, DS p dp dd = s := ⟨_, rfl⟩
  simp only [hs, hp, hdp, hdd, hds]
  rw [half_to (S := S2x512x512) (e := .bf16) _ _ _ (fun i => ds (i 0) (i 1) (i 2)) (by rfl) ?_]
  rw [half_to (S := S2x512x512) (e := .bf16) _ _ _ (fun i => ds (i 0) (i 1) (i 2)) (by rfl) ?_]
  · clear hs hp hds hdp hdd
    open_payloads
    pointwise
    simp only [sel_lt, sel_ge]
    refine congrArg₂ (· + ·) ?_ (RS_of _ _ _ _ _)
    simp only [hoff]
    first | rfl | exact congrArg _ (congrArg₂ ix2 (Fin.ext rfl) (Fin.ext (Nat.zero_add _)))
  all_goals
    simp only [View.readCov_eq_canon']
    rw [canon_to (S := S2x512x512) (e := .f32) _ (fun i => s (i 0) (i 1) (i 2)) ?_]
    rw [canon_to (S := S2x512x512) (e := .f32) _ (fun i => dp (i 0) (i 1) (i 2)) ?_]
    rw [canon_to (S := S2x512x1) (e := .f32) _ (fun i => dd (i 0) (i 1)) ?_]
    · intro y hy
      simp only [List.take_succ_cons, List.take_zero] at hy ⊢
      subst hds
      subst hp
      clear hs hdp hdd
      canon_tiles x h using hy
      all_goals
        clear hy
        open_payloads
        pointwise
        first
          | have hy0 : (y 0).val = 1 := by omega
            exact DSd1_of _ _ _ _ _ _ _ _ _ _ _ _ _ _ _ _ (by omega) (by omega) (by omega) (by omega) (by rfl) (by omega) (by omega) (by omega) (by norm_num) (by omega)
          | have hy0 : (y 0).val = 0 := by omega
            exact DSd0_of _ _ _ _ _ _ _ _ _ _ _ _ _ _ _ _ (by omega) (by omega) (by omega) (by omega) (by rfl) (by omega) (by omega) (by omega) (by norm_num) (by omega)

    · funext y
      subst hdd
      canon_tiles x h
      all_goals
        open_payloads
        pointwise
        simp only [sel_lt, sel_ge]
        first
          | exact DD1_of _ _ _ _ _ (by omega) (by omega)
          | exact DD0_of _ _ _ _ _ (by omega) (by omega)
    · funext y
      subst hdp
      canon_tiles x h
      all_goals
        open_payloads
        pointwise
        simp only [sel_lt, sel_ge]
        first
          | exact DP1_of _ _ _ _ _ _ _ (by omega) (by omega) (by omega)
          | exact DP0_of _ _ _ _ _ _ _ (by omega) (by omega) (by omega)
    · funext y
      subst hs
      clear hp hdp hdd hds
      canon_tiles x h
      all_goals
        open_payloads
        pointwise
        simp only [sel_ge, sel_lt, spare0, spare1]
        first
          | exact SC1_of _ _ _ _ _ _ _ _ (by omega) (by omega) (by omega)
          | exact SC0_of _ _ _ _ _ _ _ _ (by omega) (by omega) (by omega)

set_option maxHeartbeats 4000000 in
/-- The row sums after the last point of a pair of heads, in the other rows. -/
theorem tG_rs_out (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (j : Fin 4096) (k : Fin 128) (hj : ¬ j.val / 512 = t.val % 8) : (outsAt0 m c t.val t.isLt).2.2.2.2.1 (ix2 j k) = (outsAt0 m c (t.val - 1) (lt_of_le_of_lt (Nat.sub_le _ _) t.isLt)).2.2.2.2.1 (ix2 j k) := by
  rw [outsAt0_G m c t h0 h1 h2 h3 h4 h5]
  frame_out
  have hc : (grid0.coords t 2).val = t.val / 1 % 8 := Pipeline.Grid.coords_val t 2 (by decide) rfl
  have hoff : k0_off2 (grid0.coords t) = ![512 * (t.val % 8), 0] := by rw [k0_off2_eq, hc, Nat.div_one]
  refine (rows_not_mem _ _ _ _ _ _ hoff j k (by omega)).trans ?_
  simp only [View.writes_nil]
  first | rfl | exact congrFun (Memref.IsWhole.read_unread _ _) _

end Cert.Ker
-- ==== Proof.BDF.lean ====
/- The points above the diagonal change nothing, but for setting the accumulators to zero at a first query tile. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The queries' gradient after a point above the diagonal with the first query tile. -/
theorem tD_dq (c : Dev nD) (t : Fin cfg0.N) (h0 : ¬t.val % 64 = 0) (h1 : t.val % 8 = 0) (h2 : ¬(t.val / 8 % 8 + 1 ≤ t.val % 8)) (h3 : ¬t.val / 8 % 8 = t.val % 8) (h4 : ¬t.val % 8 = 7) (h5 : ¬t.val % 64 = 63) (y : S4096x128.Idx) : (outsAt0 m c t.val t.isLt).1 (y) = (outsAt0 m c (t.val - 1) (lt_of_le_of_lt (Nat.sub_le _ _) t.isLt)).1 y := by
  rw [outsAt0_D m c t h0 h1 h2 h3 h4 h5]
  frame_out
  rfl

set_option maxHeartbeats 4000000 in
/-- The row sums after a point above the diagonal with the first query tile. -/
theorem tD_rs (c : Dev nD) (t : Fin cfg0.N) (h0 : ¬t.val % 64 = 0) (h1 : t.val % 8 = 0) (h2 : ¬(t.val / 8 % 8 + 1 ≤ t.val % 8)) (h3 : ¬t.val / 8 % 8 = t.val % 8) (h4 : ¬t.val % 8 = 7) (h5 : ¬t.val % 64 = 63) (y : S4096x128.Idx) : (outsAt0 m c t.val t.isLt).2.2.2.2.1 (y) = (outsAt0 m c (t.val - 1) (lt_of_le_of_lt (Nat.sub_le _ _) t.isLt)).2.2.2.2.1 y := by
  rw [outsAt0_D m c t h0 h1 h2 h3 h4 h5]
  frame_out
  rfl

set_option maxHeartbeats 4000000 in
/-- The accumulator of the keys' gradient after a point above the diagonal with the first query tile. -/
theorem tD_dk (c : Dev nD) (t : Fin cfg0.N) (h0 : ¬t.val % 64 = 0) (h1 : t.val % 8 = 0) (h2 : ¬(t.val / 8 % 8 + 1 ≤ t.val % 8)) (h3 : ¬t.val / 8 % 8 = t.val % 8) (h4 : ¬t.val % 8 = 7) (h5 : ¬t.val % 64 = 63) (y : S2x512x128.Idx) : (outsAt0 m c t.val t.isLt).2.2.2.2.2.1 (y) = 0 := by
  rw [outsAt0_D m c t h0 h1 h2 h3 h4 h5]
  frame_out
  unfold k0_pay3
  pointwise

set_option maxHeartbeats 4000000 in
/-- The accumulator of the values' gradient after a point above the diagonal with the first query tile. -/
theorem tD_dv (c : Dev nD) (t : Fin cfg0.N) (h0 : ¬t.val % 64 = 0) (h1 : t.val % 8 = 0) (h2 : ¬(t.val / 8 % 8 + 1 ≤ t.val % 8)) (h3 : ¬t.val / 8 % 8 = t.val % 8) (h4 : ¬t.val % 8 = 7) (h5 : ¬t.val % 64 = 63) (y : S512x128.Idx) : (outsAt0 m c t.val t.isLt).2.2.2.2.2.2 (y) = 0 := by
  rw [outsAt0_D m c t h0 h1 h2 h3 h4 h5]
  frame_out
  unfold k0_pay4
  pointwise

set_option maxHeartbeats 4000000 in
/-- The queries' gradient after a point above the diagonal. -/
theorem tF_dq (c : Dev nD) (t : Fin cfg0.N) (h0 : ¬t.val % 64 = 0) (h1 : ¬t.val % 8 = 0) (h2 : ¬(t.val / 8 % 8 + 1 ≤ t.val % 8)) (h3 : ¬t.val / 8 % 8 = t.val % 8) (h4 : ¬t.val % 8 = 7) (h5 : ¬t.val % 64 = 63) (y : S4096x128.Idx) : (outsAt0 m c t.val t.isLt).1 (y) = (outsAt0 m c (t.val - 1) (lt_of_le_of_lt (Nat.sub_le _ _) t.isLt)).1 y := by
  rw [outsAt0_F m c t h0 h1 h2 h3 h4 h5]
  frame_out
  rfl

set_option maxHeartbeats 4000000 in
/-- The row sums after a point above the diagonal. -/
theorem tF_rs (c : Dev nD) (t : Fin cfg0.N) (h0 : ¬t.val % 64 = 0) (h1 : ¬t.val % 8 = 0) (h2 : ¬(t.val / 8 % 8 + 1 ≤ t.val % 8)) (h3 : ¬t.val / 8 % 8 = t.val % 8) (h4 : ¬t.val % 8 = 7) (h5 : ¬t.val % 64 = 63) (y : S4096x128.Idx) : (outsAt0 m c t.val t.isLt).2.2.2.2.1 (y) = (outsAt0 m c (t.val - 1) (lt_of_le_of_lt (Nat.sub_le _ _) t.isLt)).2.2.2.2.1 y := by
  rw [outsAt0_F m c t h0 h1 h2 h3 h4 h5]
  frame_out
  rfl

set_option maxHeartbeats 4000000 in
/-- The accumulator of the keys' gradient after a point above the diagonal. -/
theorem tF_dk (c : Dev nD) (t : Fin cfg0.N) (h0 : ¬t.val % 64 = 0) (h1 : ¬t.val % 8 = 0) (h2 : ¬(t.val / 8 % 8 + 1 ≤ t.val % 8)) (h3 : ¬t.val / 8 % 8 = t.val % 8) (h4 : ¬t.val % 8 = 7) (h5 : ¬t.val % 64 = 63) (y : S2x512x128.Idx) : (outsAt0 m c t.val t.isLt).2.2.2.2.2.1 (y) = (outsAt0 m c (t.val - 1) (lt_of_le_of_lt (Nat.sub_le _ _) t.isLt)).2.2.2.2.2.1 y := by
  rw [outsAt0_F m c t h0 h1 h2 h3 h4 h5]
  frame_out
  rfl

set_option maxHeartbeats 4000000 in
/-- The accumulator of the values' gradient after a point above the diagonal. -/
theorem tF_dv (c : Dev nD) (t : Fin cfg0.N) (h0 : ¬t.val % 64 = 0) (h1 : ¬t.val % 8 = 0) (h2 : ¬(t.val / 8 % 8 + 1 ≤ t.val % 8)) (h3 : ¬t.val / 8 % 8 = t.val % 8) (h4 : ¬t.val % 8 = 7) (h5 : ¬t.val % 64 = 63) (y : S512x128.Idx) : (outsAt0 m c t.val t.isLt).2.2.2.2.2.2 (y) = (outsAt0 m c (t.val - 1) (lt_of_le_of_lt (Nat.sub_le _ _) t.isLt)).2.2.2.2.2.2 y := by
  rw [outsAt0_F m c t h0 h1 h2 h3 h4 h5]
  frame_out
  rfl

end Cert.Ker
-- ==== Proof.Step.lean ====
/- What one grid point does to each accumulator, over the real numbers: it starts at zero or goes on from the point before,
   and adds the point's part of the gradient, which is zero where the query tile lies above the key tile. -/
module

public import proofs.«01_k».proof.Proof.Tile
public import proofs.«01_k».proof.Proof.BAv
public import proofs.«01_k».proof.Proof.BAk
public import proofs.«01_k».proof.Proof.BAd
public import proofs.«01_k».proof.Proof.BAr
public import proofs.«01_k».proof.Proof.BBv
public import proofs.«01_k».proof.Proof.BBk
public import proofs.«01_k».proof.Proof.BBd
public import proofs.«01_k».proof.Proof.BBr
public import proofs.«01_k».proof.Proof.BCv
public import proofs.«01_k».proof.Proof.BCk
public import proofs.«01_k».proof.Proof.BCd
public import proofs.«01_k».proof.Proof.BCr
public import proofs.«01_k».proof.Proof.BEv
public import proofs.«01_k».proof.Proof.BEk
public import proofs.«01_k».proof.Proof.BEd
public import proofs.«01_k».proof.Proof.BEr
public import proofs.«01_k».proof.Proof.BGv
public import proofs.«01_k».proof.Proof.BGk
public import proofs.«01_k».proof.Proof.BGd
public import proofs.«01_k».proof.Proof.BGr
public import proofs.«01_k».proof.Proof.BDF

@[expose] public section

set_option maxRecDepth 16384
noncomputable section
namespace Cert.Ker
open Idealize.ShloMosaic Idealize.ShloMosaic.TcCoe Idealize.SL.Sem
open Cert.KernelIdeal Cert.KernelIdeal.Gen
open Cert.Ref (dat)

/-- Position `x` of the tile numbered `a`, counted modulo the eight tiles. -/
def pos (a : ℕ) (x : Fin 512) : Fin 4096 := ⟨512 * (a % 8) + x.val, by omega⟩
/-- Head `h` of the pair of heads of the point numbered `n`. -/
def hN (n : ℕ) (h : Fin 2) : Fin 16 := ⟨n / 64 % 8 * 2 + h.val, by omega⟩

variable (A : Attn.Data)

/-- A point's part of the gradient of the values. -/
def cV (n : ℕ) (j : Fin 512) (k : Fin 128) : ℝ :=
  ∑ x, A.w (hN n (hh k)) (pos n x) (pos (n / 8) j) * A.g (hN n (hh k)) (pos n x) (dl k)
/-- A point's part of a sum over the queries of the score gradients, weighted by `u`. -/
def cK (u : Fin 16 → Fin 4096 → ℝ) (n : ℕ) (h : Fin 2) (j : Fin 512) : ℝ :=
  ∑ x, A.gz (hN n h) (pos n x) (pos (n / 8) j) * u (hN n h) (pos n x)
/-- A point's part of a sum over the keys of the score gradients, weighted by `u`: only rows of its query tile have one. -/
def cQ (u : Fin 16 → Fin 4096 → ℝ) (n : ℕ) (h : Fin 2) (i : Fin 4096) : ℝ :=
  if i.val / 512 = n % 8 then ∑ x, A.gz (hN n h) i (pos (n / 8) x) * u (hN n h) (pos (n / 8) x) else 0

/-- A point's head by number. -/
theorem Hd_eq (t : Fin cfg0.N) (h : Fin 2) : Hd t h = hN t.val h := by
  refine Fin.ext ?_
  show t.val / 64 * 2 + h.val = t.val / 64 % 8 * 2 + h.val
  have := pt_lt t; omega

/-- The rows of a point's key tile. -/
theorem krow_eq (t : Fin cfg0.N) (r : Fin 512) : krow t r = pos (t.val / 8) r := rfl

/-- The rows of a point's query tile, when it is not above the diagonal. -/
theorem qrow_eq (t : Fin cfg0.N) (h : t.val / 8 % 8 ≤ t.val % 8) (r : Fin 512) : qrow t r = pos t.val r := by
  refine Fin.ext ?_
  show 512 * max (t.val % 8) (t.val / 8 % 8) + r.val = 512 * (t.val % 8) + r.val
  omega

variable {A}

/-- A query tile before the key tile has no position after a key. -/
theorem above (n : ℕ) (h : n % 8 < n / 8 % 8) (x j : Fin 512) : ¬ pos (n / 8) j ≤ pos n x := by
  rw [← Fin.val_fin_le]
  show ¬ (512 * (n / 8 % 8) + j.val ≤ 512 * (n % 8) + x.val)
  omega

/-- A tile above the diagonal adds nothing to the values' gradient. -/
theorem cV_above (n : ℕ) (h : n % 8 < n / 8 % 8) (j : Fin 512) (k : Fin 128) : cV A n j k = 0 :=
  Finset.sum_eq_zero fun x _ => by rw [A.w_above _ _ _ (above n h x j), zero_mul]

/-- A tile above the diagonal adds nothing to the keys' gradient. -/
theorem cK_above (u : Fin 16 → Fin 4096 → ℝ) (n : ℕ) (h : n % 8 < n / 8 % 8) (b : Fin 2) (j : Fin 512) : cK A u n b j = 0 :=
  Finset.sum_eq_zero fun x _ => by rw [A.gz_above _ _ _ (above n h x j), zero_mul]

/-- A tile above the diagonal adds nothing to the queries' gradient. -/
theorem cQ_above (u : Fin 16 → Fin 4096 → ℝ) (n : ℕ) (h : n % 8 < n / 8 % 8) (b : Fin 2) (i : Fin 4096) : cQ A u n b i = 0 := by
  unfold cQ
  split
  · rename_i e
    refine Finset.sum_eq_zero fun x _ => ?_
    rw [A.gz_above, zero_mul]
    rw [← Fin.val_fin_le]
    show ¬ (512 * (n / 8 % 8) + x.val ≤ i.val)
    omega
  · rfl

/-- A tile adds nothing to rows of another query tile. -/
theorem cQ_out (u : Fin 16 → Fin 4096 → ℝ) (n : ℕ) (b : Fin 2) (i : Fin 4096) (h : ¬ i.val / 512 = n % 8) : cQ A u n b i = 0 := if_neg h

variable {m : (ℓ : Loc nD τ sig) → Buf (Elt Ideal) ℓ} {c : Dev nD}
  {X0 : FVec Ideal S4096x5632 .f32} {X1 : FVec Ideal S16 .f32} {X2 : FVec Ideal S4096x2048 .f32}

/-- The part of the values' gradient at a point whose tile is not above the diagonal. -/
theorem Args.vs (a : Args m c X0 X1 X2) (t : Fin cfg0.N) (dg : Bool) (hle : t.val / 8 % 8 ≤ t.val % 8)
    (hd : ∀ r c : Fin 512, (dg && decide (r.val < c.val)) = true ↔ ¬ krow t c ≤ qrow t r) (j : Fin 512) (k : Fin 128) :
    VS (PP dg (SC (iblk m c 0 t) (iblk m c 1 t) (iblk m c 3 t)) (iblk m c 5 t)) (iblk m c 6 t) j k = ((cV (dat X0 X1 X2) t.val j k : ℝ) : EReal) := by
  rw [(a.tile t).VS_eq dg hd]
  simp only [Hd_eq, krow_eq, qrow_eq t hle]; rfl

/-- The keys' gradient of a tile in the lanes of the head itself. -/
theorem Args.ks_own (a : Args m c X0 X1 X2) (t : Fin cfg0.N) (dg : Bool) (hle : t.val / 8 % 8 ≤ t.val % 8)
    (hd : ∀ r c : Fin 512, (dg && decide (r.val < c.val)) = true ↔ ¬ krow t c ≤ qrow t r) (j : Fin 512) (k : Fin 128) :
    KS (DSB dg (iblk m c 0 t) (iblk m c 1 t) (iblk m c 2 t) (iblk m c 3 t) (iblk m c 4 t) (iblk m c 5 t) (iblk m c 6 t)) (iblk m c 0 t) (hh k) j k
      = ((cK (dat X0 X1 X2) (fun h i => (dat X0 X1 X2).q h i (dl k) * (1/8)) t.val (hh k) j : ℝ) : EReal) := by
  rw [(a.tile t).KS_own dg hd]
  simp only [Hd_eq, krow_eq, qrow_eq t hle]; rfl

/-- The keys' gradient of a tile in the lanes of the other head. -/
theorem Args.ks_other (a : Args m c X0 X1 X2) (t : Fin cfg0.N) (dg : Bool) (hle : t.val / 8 % 8 ≤ t.val % 8)
    (hd : ∀ r c : Fin 512, (dg && decide (r.val < c.val)) = true ↔ ¬ krow t c ≤ qrow t r) (j : Fin 512) (k : Fin 128) (hk : k.val % 64 = 0) :
    KS (DSB dg (iblk m c 0 t) (iblk m c 1 t) (iblk m c 2 t) (iblk m c 3 t) (iblk m c 4 t) (iblk m c 5 t) (iblk m c 6 t)) (iblk m c 0 t) (ho k) j k
      = ((cK (dat X0 X1 X2) (fun _ _ => 1) t.val (ho k) j : ℝ) : EReal) := by
  rw [(a.tile t).KS_other dg hd j k hk]
  simp only [Hd_eq, krow_eq, qrow_eq t hle, cK, mul_one]

/-- The queries' gradient of a tile. -/
theorem Args.qs (a : Args m c X0 X1 X2) (t : Fin cfg0.N) (dg : Bool) (hle : t.val / 8 % 8 ≤ t.val % 8)
    (hd : ∀ r c : Fin 512, (dg && decide (r.val < c.val)) = true ↔ ¬ krow t c ≤ qrow t r) (r : Fin 512) (k : Fin 128) :
    QS (DSB dg (iblk m c 0 t) (iblk m c 1 t) (iblk m c 2 t) (iblk m c 3 t) (iblk m c 4 t) (iblk m c 5 t) (iblk m c 6 t)) (iblk m c 1 t) r k
      = ((cQ (dat X0 X1 X2) (fun h j => (dat X0 X1 X2).k h j (dl k)) t.val (hh k) (pos t.val r) : ℝ) : EReal) := by
  rw [(a.tile t).QS_eq dg hd]
  unfold cQ
  rw [if_pos (by show (512 * (t.val % 8) + r.val) / 512 = t.val % 8; omega)]
  simp only [Hd_eq, krow_eq, qrow_eq t hle]

/-- The row sums of a tile. -/
theorem Args.rs (a : Args m c X0 X1 X2) (t : Fin cfg0.N) (dg : Bool) (hle : t.val / 8 % 8 ≤ t.val % 8)
    (hd : ∀ r c : Fin 512, (dg && decide (r.val < c.val)) = true ↔ ¬ krow t c ≤ qrow t r) (r : Fin 512) (k : Fin 128) (hk : k.val % 64 = 3) :
    RS (DSB dg (iblk m c 0 t) (iblk m c 1 t) (iblk m c 2 t) (iblk m c 3 t) (iblk m c 4 t) (iblk m c 5 t) (iblk m c 6 t)) (iblk m c 3 t) r k
      = ((cQ (dat X0 X1 X2) (fun _ _ => 1) t.val (ho k) (pos t.val r) : ℝ) : EReal) := by
  rw [(a.tile t).RS_eq dg hd r k hk]
  unfold cQ
  rw [if_pos (by show (512 * (t.val % 8) + r.val) / 512 = t.val % 8; omega)]
  simp only [Hd_eq, krow_eq, qrow_eq t hle, mul_one]

/-- The kinds of the 64 points of a pair of heads. -/
theorem kinds64 : ∀ u : Fin 64,
    (u.val = 0 ∧ u.val % 8 = 0 ∧ ¬(u.val / 8 + 1 ≤ u.val % 8) ∧ u.val / 8 = u.val % 8 ∧ ¬u.val % 8 = 7 ∧ ¬u.val = 63) ∨
    (¬u.val = 0 ∧ ¬u.val % 8 = 0 ∧ (u.val / 8 + 1 ≤ u.val % 8) ∧ ¬u.val / 8 = u.val % 8 ∧ ¬u.val % 8 = 7 ∧ ¬u.val = 63) ∨
    (¬u.val = 0 ∧ ¬u.val % 8 = 0 ∧ (u.val / 8 + 1 ≤ u.val % 8) ∧ ¬u.val / 8 = u.val % 8 ∧ u.val % 8 = 7 ∧ ¬u.val = 63) ∨
    (¬u.val = 0 ∧ u.val % 8 = 0 ∧ ¬(u.val / 8 + 1 ≤ u.val % 8) ∧ ¬u.val / 8 = u.val % 8 ∧ ¬u.val % 8 = 7 ∧ ¬u.val = 63) ∨
    (¬u.val = 0 ∧ ¬u.val % 8 = 0 ∧ ¬(u.val / 8 + 1 ≤ u.val % 8) ∧ u.val / 8 = u.val % 8 ∧ ¬u.val % 8 = 7 ∧ ¬u.val = 63) ∨
    (¬u.val = 0 ∧ ¬u.val % 8 = 0 ∧ ¬(u.val / 8 + 1 ≤ u.val % 8) ∧ ¬u.val / 8 = u.val % 8 ∧ ¬u.val % 8 = 7 ∧ ¬u.val = 63) ∨
    (¬u.val = 0 ∧ ¬u.val % 8 = 0 ∧ ¬(u.val / 8 + 1 ≤ u.val % 8) ∧ u.val / 8 = u.val % 8 ∧ u.val % 8 = 7 ∧ u.val = 63) := by
  decide

/-- The seven kinds of points. -/
theorem kinds (t : ℕ) :
    (t % 64 = 0 ∧ t % 8 = 0 ∧ ¬(t / 8 % 8 + 1 ≤ t % 8) ∧ t / 8 % 8 = t % 8 ∧ ¬t % 8 = 7 ∧ ¬t % 64 = 63) ∨
    (¬t % 64 = 0 ∧ ¬t % 8 = 0 ∧ (t / 8 % 8 + 1 ≤ t % 8) ∧ ¬t / 8 % 8 = t % 8 ∧ ¬t % 8 = 7 ∧ ¬t % 64 = 63) ∨
    (¬t % 64 = 0 ∧ ¬t % 8 = 0 ∧ (t / 8 % 8 + 1 ≤ t % 8) ∧ ¬t / 8 % 8 = t % 8 ∧ t % 8 = 7 ∧ ¬t % 64 = 63) ∨
    (¬t % 64 = 0 ∧ t % 8 = 0 ∧ ¬(t / 8 % 8 + 1 ≤ t % 8) ∧ ¬t / 8 % 8 = t % 8 ∧ ¬t % 8 = 7 ∧ ¬t % 64 = 63) ∨
    (¬t % 64 = 0 ∧ ¬t % 8 = 0 ∧ ¬(t / 8 % 8 + 1 ≤ t % 8) ∧ t / 8 % 8 = t % 8 ∧ ¬t % 8 = 7 ∧ ¬t % 64 = 63) ∨
    (¬t % 64 = 0 ∧ ¬t % 8 = 0 ∧ ¬(t / 8 % 8 + 1 ≤ t % 8) ∧ ¬t / 8 % 8 = t % 8 ∧ ¬t % 8 = 7 ∧ ¬t % 64 = 63) ∨
    (¬t % 64 = 0 ∧ ¬t % 8 = 0 ∧ ¬(t / 8 % 8 + 1 ≤ t % 8) ∧ t / 8 % 8 = t % 8 ∧ t % 8 = 7 ∧ t % 64 = 63) := by
  have h := kinds64 ⟨t % 64, Nat.mod_lt _ (by decide)⟩
  have e1 : t % 64 % 8 = t % 8 := by omega
  have e2 : t % 64 / 8 = t / 8 % 8 := by omega
  simp only [e1, e2] at h
  exact h

/-- The point before. -/
theorem prev_lt (t : Fin cfg0.N) : t.val - 1 < cfg0.N := lt_of_le_of_lt (Nat.sub_le _ _) t.isLt

set_option maxHeartbeats 2000000 in
/-- The accumulator of the values' gradient. -/
theorem Args.sV (a : Args m c X0 X1 X2) (t : Fin cfg0.N) (j : Fin 512) (k : Fin 128) :
    (outsAt0 m c t.val t.isLt).2.2.2.2.2.2 (ix2 j k)
      = (if t.val % 8 = 0 then (0 : EReal) else (outsAt0 m c (t.val - 1) (prev_lt t)).2.2.2.2.2.2 (ix2 j k)) + ((cV (dat X0 X1 X2) t.val j k : ℝ) : EReal) := by
  rcases kinds t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · rw [if_pos h1, zero_add, tA_dv m c t h0 h1 h2 h3 h4 h5, a.vs t true (by omega) (diag t h3)]
  · rw [if_neg h1, tB_dv m c t h0 h1 h2 h3 h4 h5, a.vs t false (by omega) (below t h2)]
  · rw [if_neg h1, tC_dv m c t h0 h1 h2 h3 h4 h5, a.vs t false (by omega) (below t h2)]
  · rw [if_pos h1, tD_dv m c t h0 h1 h2 h3 h4 h5, cV_above _ (by omega), zero_add]; rfl
  · rw [if_neg h1, tE_dv m c t h0 h1 h2 h3 h4 h5, a.vs t true (by omega) (diag t h3)]
  · rw [if_neg h1, tF_dv m c t h0 h1 h2 h3 h4 h5, cV_above _ (by omega)]; exact (add_zero _).symm
  · rw [if_neg h1, tG_dv m c t h0 h1 h2 h3 h4 h5, a.vs t true (by omega) (diag t h3)]

set_option maxHeartbeats 2000000 in
/-- The accumulator of the keys' gradient, at the lanes of its head. -/
theorem Args.sK (a : Args m c X0 X1 X2) (t : Fin cfg0.N) (j : Fin 512) (k : Fin 128) :
    (outsAt0 m c t.val t.isLt).2.2.2.2.2.1 (ix3 (hh k) j k)
      = (if t.val % 8 = 0 then (0 : EReal) else (outsAt0 m c (t.val - 1) (prev_lt t)).2.2.2.2.2.1 (ix3 (hh k) j k))
        + ((cK (dat X0 X1 X2) (fun h i => (dat X0 X1 X2).q h i (dl k) * (1/8)) t.val (hh k) j : ℝ) : EReal) := by
  rcases kinds t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · rw [if_pos h1, zero_add, tA_dk m c t h0 h1 h2 h3 h4 h5]; exact a.ks_own t true (by omega) (diag t h3) j k
  · rw [if_neg h1, tB_dk m c t h0 h1 h2 h3 h4 h5]; exact congrArg _ (a.ks_own t false (by omega) (below t h2) j k)
  · rw [if_neg h1, tC_dk m c t h0 h1 h2 h3 h4 h5]; exact congrArg _ (a.ks_own t false (by omega) (below t h2) j k)
  · rw [if_pos h1, tD_dk m c t h0 h1 h2 h3 h4 h5, cK_above _ _ (by omega), zero_add]; rfl
  · rw [if_neg h1, tE_dk m c t h0 h1 h2 h3 h4 h5]; exact congrArg _ (a.ks_own t true (by omega) (diag t h3) j k)
  · rw [if_neg h1, tF_dk m c t h0 h1 h2 h3 h4 h5, cK_above _ _ (by omega)]; exact (add_zero _).symm
  · rw [if_neg h1, tG_dk m c t h0 h1 h2 h3 h4 h5]; exact congrArg _ (a.ks_own t true (by omega) (diag t h3) j k)

set_option maxHeartbeats 2000000 in
/-- The accumulator of the keys' gradient, at the first lane of the other head: there it has the column sums. -/
theorem Args.sC (a : Args m c X0 X1 X2) (t : Fin cfg0.N) (j : Fin 512) (k : Fin 128) (hk : k.val % 64 = 0) :
    (outsAt0 m c t.val t.isLt).2.2.2.2.2.1 (ix3 (ho k) j k)
      = (if t.val % 8 = 0 then (0 : EReal) else (outsAt0 m c (t.val - 1) (prev_lt t)).2.2.2.2.2.1 (ix3 (ho k) j k))
        + ((cK (dat X0 X1 X2) (fun _ _ => 1) t.val (ho k) j : ℝ) : EReal) := by
  rcases kinds t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · rw [if_pos h1, zero_add, tA_dk m c t h0 h1 h2 h3 h4 h5]; exact a.ks_other t true (by omega) (diag t h3) j k hk
  · rw [if_neg h1, tB_dk m c t h0 h1 h2 h3 h4 h5]; exact congrArg _ (a.ks_other t false (by omega) (below t h2) j k hk)
  · rw [if_neg h1, tC_dk m c t h0 h1 h2 h3 h4 h5]; exact congrArg _ (a.ks_other t false (by omega) (below t h2) j k hk)
  · rw [if_pos h1, tD_dk m c t h0 h1 h2 h3 h4 h5, cK_above _ _ (by omega), zero_add]; rfl
  · rw [if_neg h1, tE_dk m c t h0 h1 h2 h3 h4 h5]; exact congrArg _ (a.ks_other t true (by omega) (diag t h3) j k hk)
  · rw [if_neg h1, tF_dk m c t h0 h1 h2 h3 h4 h5, cK_above _ _ (by omega)]; exact (add_zero _).symm
  · rw [if_neg h1, tG_dk m c t h0 h1 h2 h3 h4 h5]; exact congrArg _ (a.ks_other t true (by omega) (diag t h3) j k hk)

/-- A row of the query tile of a point. -/
theorem row_of (t : ℕ) (i : Fin 4096) (h : i.val / 512 = t % 8) : i = ⟨512 * (t % 8) + (i.val % 512), by omega⟩ :=
  Fin.ext (by show i.val = 512 * (t % 8) + i.val % 512; omega)

set_option maxHeartbeats 2000000 in
/-- The queries' gradient, which the last point of a pair of heads scales. -/
theorem Args.sQ (a : Args m c X0 X1 X2) (t : Fin cfg0.N) (i : Fin 4096) (k : Fin 128) :
    (outsAt0 m c t.val t.isLt).1 (ix2 i k)
      = ((if t.val % 64 = 0 then (0 : EReal) else (outsAt0 m c (t.val - 1) (prev_lt t)).1 (ix2 i k))
        + ((cQ (dat X0 X1 X2) (fun h j => (dat X0 X1 X2).k h j (dl k)) t.val (hh k) i : ℝ) : EReal))
        * (if t.val % 64 = 63 then ((1/8 : ℝ) : EReal) else 1) := by
  by_cases e : i.val / 512 = t.val % 8
  · obtain ⟨r, rfl⟩ : ∃ r : Fin 512, i = pos t.val r := ⟨⟨i.val % 512, by omega⟩, row_of t.val i e⟩
    rcases kinds t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
    · rw [if_pos h0, if_neg h5, zero_add, mul_one]
      exact (tA_dq_in m c t h0 h1 h2 h3 h4 h5 r k).trans (a.qs t true (by omega) (diag t h3) r k)
    · rw [if_neg h0, if_neg h5, mul_one]
      exact (tB_dq_in m c t h0 h1 h2 h3 h4 h5 r k).trans (congrArg _ (a.qs t false (by omega) (below t h2) r k))
    · rw [if_neg h0, if_neg h5, mul_one]
      exact (tC_dq_in m c t h0 h1 h2 h3 h4 h5 r k).trans (congrArg _ (a.qs t false (by omega) (below t h2) r k))
    · rw [if_neg h0, if_neg h5, mul_one, cQ_above _ _ (by omega)]
      exact (tD_dq m c t h0 h1 h2 h3 h4 h5 _).trans (add_zero _).symm
    · rw [if_neg h0, if_neg h5, mul_one]
      exact (tE_dq_in m c t h0 h1 h2 h3 h4 h5 r k).trans (congrArg _ (a.qs t true (by omega) (diag t h3) r k))
    · rw [if_neg h0, if_neg h5, mul_one, cQ_above _ _ (by omega)]
      exact (tF_dq m c t h0 h1 h2 h3 h4 h5 _).trans (add_zero _).symm
    · rw [if_neg h0, if_pos h5]
      exact (tG_dq_in m c t h0 h1 h2 h3 h4 h5 r k).trans (congrArg (fun z => (_ + z) * _) (a.qs t true (by omega) (diag t h3) r k))
  · rw [cQ_out _ _ _ _ e]
    rcases kinds t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
    · rw [if_pos h0, if_neg h5, zero_add, mul_one]
      exact tA_dq_out m c t h0 h1 h2 h3 h4 h5 i k e
    · rw [if_neg h0, if_neg h5, mul_one]
      exact (tB_dq_out m c t h0 h1 h2 h3 h4 h5 i k e).trans (add_zero _).symm
    · rw [if_neg h0, if_neg h5, mul_one]
      exact (tC_dq_out m c t h0 h1 h2 h3 h4 h5 i k e).trans (add_zero _).symm
    · rw [if_neg h0, if_neg h5, mul_one]
      exact (tD_dq m c t h0 h1 h2 h3 h4 h5 _).trans (add_zero _).symm
    · rw [if_neg h0, if_neg h5, mul_one]
      exact (tE_dq_out m c t h0 h1 h2 h3 h4 h5 i k e).trans (add_zero _).symm
    · rw [if_neg h0, if_neg h5, mul_one]
      exact (tF_dq m c t h0 h1 h2 h3 h4 h5 _).trans (add_zero _).symm
    · rw [if_neg h0, if_pos h5]
      exact (tG_dq_out m c t h0 h1 h2 h3 h4 h5 i k e).trans (congrArg (· * _) (add_zero _).symm)

set_option maxHeartbeats 2000000 in
/-- The row sums, at the lanes that carry them. -/
theorem Args.sR (a : Args m c X0 X1 X2) (t : Fin cfg0.N) (i : Fin 4096) (k : Fin 128) (hk : k.val % 64 = 3) :
    (outsAt0 m c t.val t.isLt).2.2.2.2.1 (ix2 i k)
      = (if t.val % 64 = 0 then (0 : EReal) else (outsAt0 m c (t.val - 1) (prev_lt t)).2.2.2.2.1 (ix2 i k))
        + ((cQ (dat X0 X1 X2) (fun _ _ => 1) t.val (ho k) i : ℝ) : EReal) := by
  by_cases e : i.val / 512 = t.val % 8
  · obtain ⟨r, rfl⟩ : ∃ r : Fin 512, i = pos t.val r := ⟨⟨i.val % 512, by omega⟩, row_of t.val i e⟩
    rcases kinds t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
    · rw [if_pos h0, zero_add]
      exact (tA_rs_in m c t h0 h1 h2 h3 h4 h5 r k).trans (a.rs t true (by omega) (diag t h3) r k hk)
    · rw [if_neg h0]
      exact (tB_rs_in m c t h0 h1 h2 h3 h4 h5 r k).trans (congrArg _ (a.rs t false (by omega) (below t h2) r k hk))
    · rw [if_neg h0]
      exact (tC_rs_in m c t h0 h1 h2 h3 h4 h5 r k).trans (congrArg _ (a.rs t false (by omega) (below t h2) r k hk))
    · rw [if_neg h0, cQ_above _ _ (by omega)]
      exact (tD_rs m c t h0 h1 h2 h3 h4 h5 _).trans (add_zero _).symm
    · rw [if_neg h0]
      exact (tE_rs_in m c t h0 h1 h2 h3 h4 h5 r k).trans (congrArg _ (a.rs t true (by omega) (diag t h3) r k hk))
    · rw [if_neg h0, cQ_above _ _ (by omega)]
      exact (tF_rs m c t h0 h1 h2 h3 h4 h5 _).trans (add_zero _).symm
    · rw [if_neg h0]
      exact (tG_rs_in m c t h0 h1 h2 h3 h4 h5 r k).trans (congrArg _ (a.rs t true (by omega) (diag t h3) r k hk))
  · rw [cQ_out _ _ _ _ e]
    rcases kinds t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
    · rw [if_pos h0, zero_add]
      exact tA_rs_out m c t h0 h1 h2 h3 h4 h5 i k e
    · rw [if_neg h0]
      exact (tB_rs_out m c t h0 h1 h2 h3 h4 h5 i k e).trans (add_zero _).symm
    · rw [if_neg h0]
      exact (tC_rs_out m c t h0 h1 h2 h3 h4 h5 i k e).trans (add_zero _).symm
    · rw [if_neg h0]
      exact (tD_rs m c t h0 h1 h2 h3 h4 h5 _).trans (add_zero _).symm
    · rw [if_neg h0]
      exact (tE_rs_out m c t h0 h1 h2 h3 h4 h5 i k e).trans (add_zero _).symm
    · rw [if_neg h0]
      exact (tF_rs m c t h0 h1 h2 h3 h4 h5 _).trans (add_zero _).symm
    · rw [if_neg h0]
      exact (tG_rs_out m c t h0 h1 h2 h3 h4 h5 i k e).trans (add_zero _).symm

end Cert.Ker
-- ==== Proof.BO.lean ====
/- What the last query tile of a key tile leaves in the output blocks. -/
module

public import proofs.«01_k».proof.Proof.Gen.KernelIdeal.Frame
public import proofs.«01_k».proof.Proof.Body
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

set_option maxHeartbeats 4000000 in
/-- The keys' gradient that a point below the diagonal with the last query tile leaves: every lane from the accumulator of its own head. -/
theorem tC_odk (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (r : Fin 512) (k : Fin 128) : (outsAt0 m c t.val t.isLt).2.1 (ix2 r k) = if act 0 k then (outsAt0 m c t.val t.isLt).2.2.2.2.2.1 (ix3 0 r k) else (outsAt0 m c t.val t.isLt).2.2.2.2.2.1 (ix3 1 r k) := by
  rw [outsAt0_C m c t h0 h1 h2 h3 h4 h5]
  frame_out
  first | exact pay12_apply _ _ _

set_option maxHeartbeats 4000000 in
/-- The spare lanes that a point below the diagonal with the last query tile leaves: every lane from the accumulator of the other head. -/
theorem tC_osp (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (r : Fin 512) (k : Fin 128) : (outsAt0 m c t.val t.isLt).2.2.2.1 (ix2 r k) = if act 0 k then (outsAt0 m c t.val t.isLt).2.2.2.2.2.1 (ix3 1 r k) else (outsAt0 m c t.val t.isLt).2.2.2.2.2.1 (ix3 0 r k) := by
  rw [outsAt0_C m c t h0 h1 h2 h3 h4 h5]
  frame_out
  first | exact pay13_apply _ _ _

set_option maxHeartbeats 4000000 in
/-- The values' gradient that a point below the diagonal with the last query tile leaves: its accumulator. -/
theorem tC_odv (c : Dev nD) (t : Fin cfg0.N) (h0 : ¬t.val % 64 = 0) (h1 : ¬t.val % 8 = 0) (h2 : t.val / 8 % 8 + 1 ≤ t.val % 8) (h3 : ¬t.val / 8 % 8 = t.val % 8) (h4 : t.val % 8 = 7) (h5 : ¬t.val % 64 = 63) (y : S512x128.Idx) : (outsAt0 m c t.val t.isLt).2.2.1 (y) = (outsAt0 m c t.val t.isLt).2.2.2.2.2.2 y := by
  rw [outsAt0_C m c t h0 h1 h2 h3 h4 h5]
  frame_out
  rfl
set_option maxHeartbeats 4000000 in
/-- The keys' gradient that the last point of a pair of heads leaves: every lane from the accumulator of its own head. -/
theorem tG_odk (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (r : Fin 512) (k : Fin 128) : (outsAt0 m c t.val t.isLt).2.1 (ix2 r k) = if act 0 k then (outsAt0 m c t.val t.isLt).2.2.2.2.2.1 (ix3 0 r k) else (outsAt0 m c t.val t.isLt).2.2.2.2.2.1 (ix3 1 r k) := by
  rw [outsAt0_G m c t h0 h1 h2 h3 h4 h5]
  frame_out
  first | exact pay12_apply _ _ _

set_option maxHeartbeats 4000000 in
/-- The spare lanes that the last point of a pair of heads leaves: every lane from the accumulator of the other head. -/
theorem tG_osp (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (r : Fin 512) (k : Fin 128) : (outsAt0 m c t.val t.isLt).2.2.2.1 (ix2 r k) = if act 0 k then (outsAt0 m c t.val t.isLt).2.2.2.2.2.1 (ix3 1 r k) else (outsAt0 m c t.val t.isLt).2.2.2.2.2.1 (ix3 0 r k) := by
  rw [outsAt0_G m c t h0 h1 h2 h3 h4 h5]
  frame_out
  first | exact pay13_apply _ _ _

set_option maxHeartbeats 4000000 in
/-- The values' gradient that the last point of a pair of heads leaves: its accumulator. -/
theorem tG_odv (c : Dev nD) (t : Fin cfg0.N) (h0 : ¬t.val % 64 = 0) (h1 : ¬t.val % 8 = 0) (h2 : ¬(t.val / 8 % 8 + 1 ≤ t.val % 8)) (h3 : t.val / 8 % 8 = t.val % 8) (h4 : t.val % 8 = 7) (h5 : t.val % 64 = 63) (y : S512x128.Idx) : (outsAt0 m c t.val t.isLt).2.2.1 (y) = (outsAt0 m c t.val t.isLt).2.2.2.2.2.2 y := by
  rw [outsAt0_G m c t h0 h1 h2 h3 h4 h5]
  frame_out
  rfl
end Cert.Ker
-- ==== Proof.Fold.lean ====
/- The accumulators over a whole run of points: they hold the gradients. -/
module

public import proofs.«01_k».proof.Proof.Step
public import proofs.«01_k».proof.Proof.BO

@[expose] public section

set_option maxRecDepth 16384
noncomputable section
namespace Cert.Ker
open Idealize.ShloMosaic Idealize.ShloMosaic.TcCoe Idealize.SL.Sem
open Cert.KernelIdeal Cert.KernelIdeal.Gen
open Cert.Ref (dat)

/-- A quantity that starts anew every `M` points, adds a real number at each, and is scaled at the last of the `M`. -/
theorem fold_run {N : ℕ} (M : ℕ) (hM : 1 < M) (f : (n : ℕ) → n < N → EReal) (g : ℕ → ℝ) (s : EReal)
    (hf : ∀ n (hn : n < N), f n hn = ((if n % M = 0 then 0 else f (n - 1) (lt_of_le_of_lt (Nat.sub_le _ _) hn)) + ((g n : ℝ) : EReal)) * (if n % M = M - 1 then s else 1)) :
    ∀ n (hn : n < N), f n hn = ((∑ k ∈ Finset.range (n % M + 1), g (n / M * M + k) : ℝ) : EReal) * (if n % M = M - 1 then s else 1) := by
  intro n
  induction n with
  | zero =>
    intro hn
    rw [hf 0 hn, if_pos (Nat.zero_mod M), zero_add, Nat.zero_mod, Nat.zero_div, Nat.zero_mul, Finset.sum_range_one]
  | succ n ih =>
    intro hn
    rw [hf (n + 1) hn]
    congr 1
    by_cases z : (n + 1) % M = 0
    · rw [if_pos z, zero_add, z, Finset.sum_range_one, Nat.add_zero, Nat.div_mul_cancel (Nat.dvd_of_mod_eq_zero z)]
    · have hd : n / M = (n + 1) / M := by
        rw [Nat.succ_div, if_neg (fun h => z (Nat.mod_eq_zero_of_dvd h)), Nat.add_zero]
      have hm : n % M + 1 = (n + 1) % M := by
        have e1 := Nat.div_add_mod n M
        have e2 := Nat.div_add_mod (n + 1) M
        rw [← hd] at e2
        omega
      have hl : ¬ n % M = M - 1 := by
        have := Nat.mod_lt (n + 1) (show 0 < M by omega)
        omega
      have e := ih (lt_of_le_of_lt (Nat.le_succ n) hn)
      rw [if_neg hl, mul_one] at e
      rw [if_neg z, Finset.sum_range_succ, EReal.coe_add, ← hm, ← hd]
      refine congrArg₂ (· + ·) e ?_
      rw [hd, hm, Nat.div_add_mod' (n + 1) M]

/-- The same without a scale. -/
theorem fold_run' {N : ℕ} (M : ℕ) (hM : 1 < M) (f : (n : ℕ) → n < N → EReal) (g : ℕ → ℝ)
    (hf : ∀ n (hn : n < N), f n hn = (if n % M = 0 then 0 else f (n - 1) (lt_of_le_of_lt (Nat.sub_le _ _) hn)) + ((g n : ℝ) : EReal)) :
    ∀ n (hn : n < N), f n hn = ((∑ k ∈ Finset.range (n % M + 1), g (n / M * M + k) : ℝ) : EReal) := by
  intro n hn
  rw [fold_run M hM f g 1 (fun n hn => by rw [ite_self, mul_one]; exact hf n hn) n hn, ite_self, mul_one]

variable (A : Attn.Data)

/-- The key position does not depend on the query tile. -/
theorem pos_div (n s : ℕ) (hs : s < 8) (j : Fin 512) : pos ((n / 8 * 8 + s) / 8) j = pos (n / 8) j :=
  congrArg (pos · j) (by omega)
/-- The head does not depend on the query tile. -/
theorem hN_div (n s : ℕ) (hs : s < 8) (h : Fin 2) : hN (n / 8 * 8 + s) h = hN n h :=
  Fin.ext (by show (n / 8 * 8 + s) / 64 % 8 * 2 + h.val = n / 64 % 8 * 2 + h.val; omega)
/-- The query positions of a row of tiles, one by one. -/
theorem pos_tile (n : ℕ) (s : Fin 8) (x : Fin 512) : pos (n / 8 * 8 + s.val) x = ⟨s.val * 512 + x.val, by omega⟩ :=
  Fin.ext (by show 512 * ((n / 8 * 8 + s.val) % 8) + x.val = s.val * 512 + x.val; omega)

/-- The eight query tiles of a key tile make up the values' gradient. -/
theorem sum_cV (n : ℕ) (j : Fin 512) (k : Fin 128) :
    ∑ s ∈ Finset.range 8, cV A (n / 8 * 8 + s) j k = A.gv (hN n (hh k)) (pos (n / 8) j) (dl k) := by
  rw [Finset.sum_range]
  unfold Attn.Data.gv
  rw [Fin.sum_univ_tiles 8 512 rfl]
  refine Finset.sum_congr rfl fun s _ => ?_
  unfold cV
  refine Finset.sum_congr rfl fun x _ => ?_
  rw [hN_div n s.val s.isLt, pos_div n s.val s.isLt, pos_tile]

/-- The eight query tiles of a key tile make up a sum over all queries. -/
theorem sum_cK (u : Fin 16 → Fin 4096 → ℝ) (n : ℕ) (h : Fin 2) (j : Fin 512) :
    ∑ s ∈ Finset.range 8, cK A u (n / 8 * 8 + s) h j = ∑ i, A.gz (hN n h) i (pos (n / 8) j) * u (hN n h) i := by
  rw [Finset.sum_range, Fin.sum_univ_tiles 8 512 rfl]
  refine Finset.sum_congr rfl fun s _ => ?_
  unfold cK
  refine Finset.sum_congr rfl fun x _ => ?_
  rw [hN_div n s.val s.isLt, pos_div n s.val s.isLt, pos_tile]

/-- The 64 points of a pair of heads make up, for a query, a sum over all keys. -/
theorem sum_cQ (u : Fin 16 → Fin 4096 → ℝ) (n : ℕ) (h : Fin 2) (i : Fin 4096) :
    ∑ s ∈ Finset.range 64, cQ A u (n / 64 * 64 + s) h i = ∑ j, A.gz (hN n h) i j * u (hN n h) j := by
  rw [Finset.sum_range, Fin.sum_univ_tiles 8 8 rfl, Fin.sum_univ_tiles 8 512 rfl]
  refine Finset.sum_congr rfl fun a _ => ?_
  have key : ∀ b : Fin 8, cQ A u (n / 64 * 64 + (a.val * 8 + b.val)) h i
      = if (⟨i.val / 512, by omega⟩ : Fin 8) = b then ∑ x : Fin 512, A.gz (hN n h) i ⟨a.val * 512 + x.val, by omega⟩ * u (hN n h) ⟨a.val * 512 + x.val, by omega⟩ else 0 := by
    intro b
    unfold cQ
    have eH : hN (n / 64 * 64 + (a.val * 8 + b.val)) h = hN n h :=
      Fin.ext (by show (n / 64 * 64 + (a.val * 8 + b.val)) / 64 % 8 * 2 + h.val = n / 64 % 8 * 2 + h.val; omega)
    have eP : ∀ x, pos ((n / 64 * 64 + (a.val * 8 + b.val)) / 8) x = ⟨a.val * 512 + x.val, by omega⟩ := fun x =>
      Fin.ext (by show 512 * ((n / 64 * 64 + (a.val * 8 + b.val)) / 8 % 8) + x.val = a.val * 512 + x.val; omega)
    simp only [eH, eP]
    refine if_congr ?_ rfl rfl
    rw [Fin.ext_iff]
    show _ ↔ i.val / 512 = b.val
    omega
  refine (Finset.sum_congr rfl fun b _ => key b).trans ?_
  rw [Finset.sum_ite_eq, if_pos (Finset.mem_univ _)]

variable {m : (ℓ : Loc nD τ sig) → Buf (Elt Ideal) ℓ} {c : Dev nD}
  {X0 : FVec Ideal S4096x5632 .f32} {X1 : FVec Ideal S16 .f32} {X2 : FVec Ideal S4096x2048 .f32}

/-- The values' gradient when the last query tile is done. -/
theorem Args.accV (a : Args m c X0 X1 X2) (t : Fin cfg0.N) (h7 : t.val % 8 = 7) (j : Fin 512) (k : Fin 128) :
    (outsAt0 m c t.val t.isLt).2.2.2.2.2.2 (ix2 j k) = (((dat X0 X1 X2).gv (hN t.val (hh k)) (pos (t.val / 8) j) (dl k) : ℝ) : EReal) := by
  rw [fold_run' 8 (by decide) (fun n hn => (outsAt0 m c n hn).2.2.2.2.2.2 (ix2 j k)) (fun n => cV (dat X0 X1 X2) n j k)
    (fun n hn => a.sV ⟨n, hn⟩ j k) t.val t.isLt, h7, sum_cV]

/-- The keys' gradient. -/
theorem Args.accK (a : Args m c X0 X1 X2) (t : Fin cfg0.N) (h7 : t.val % 8 = 7) (j : Fin 512) (k : Fin 128) :
    (outsAt0 m c t.val t.isLt).2.2.2.2.2.1 (ix3 (hh k) j k) = (((dat X0 X1 X2).gk (hN t.val (hh k)) (pos (t.val / 8) j) (dl k) : ℝ) : EReal) := by
  rw [fold_run' 8 (by decide) (fun n hn => (outsAt0 m c n hn).2.2.2.2.2.1 (ix3 (hh k) j k)) (fun n => cK (dat X0 X1 X2) (fun h i => (dat X0 X1 X2).q h i (dl k) * (1/8)) n (hh k) j)
    (fun n hn => a.sK ⟨n, hn⟩ j k) t.val t.isLt, h7, sum_cK]
  unfold Attn.Data.gk
  rw [Finset.sum_mul]
  exact congrArg _ (Finset.sum_congr rfl fun i _ => by ring)

/-- The column sums. -/
theorem Args.accC (a : Args m c X0 X1 X2) (t : Fin cfg0.N) (h7 : t.val % 8 = 7) (j : Fin 512) (k : Fin 128) (hk : k.val % 64 = 0) :
    (outsAt0 m c t.val t.isLt).2.2.2.2.2.1 (ix3 (ho k) j k) = (((dat X0 X1 X2).colSum (hN t.val (ho k)) (pos (t.val / 8) j) : ℝ) : EReal) := by
  rw [fold_run' 8 (by decide) (fun n hn => (outsAt0 m c n hn).2.2.2.2.2.1 (ix3 (ho k) j k)) (fun n => cK (dat X0 X1 X2) (fun _ _ => 1) n (ho k) j)
    (fun n hn => a.sC ⟨n, hn⟩ j k hk) t.val t.isLt, h7, sum_cK]
  unfold Attn.Data.colSum
  exact congrArg _ (Finset.sum_congr rfl fun i _ => by ring)

/-- The queries' gradient when the last key tile is done. -/
theorem Args.accQ (a : Args m c X0 X1 X2) (t : Fin cfg0.N) (h63 : t.val % 64 = 63) (i : Fin 4096) (k : Fin 128) :
    (outsAt0 m c t.val t.isLt).1 (ix2 i k) = (((dat X0 X1 X2).gq (hN t.val (hh k)) i (dl k) : ℝ) : EReal) := by
  rw [fold_run 64 (by decide) (fun n hn => (outsAt0 m c n hn).1 (ix2 i k)) (fun n => cQ (dat X0 X1 X2) (fun h j => (dat X0 X1 X2).k h j (dl k)) n (hh k) i)
    ((1/8 : ℝ) : EReal) (fun n hn => a.sQ ⟨n, hn⟩ i k) t.val t.isLt, h63, sum_cQ, if_pos rfl, ← EReal.coe_mul]
  rfl

/-- The row sums. -/
theorem Args.accR (a : Args m c X0 X1 X2) (t : Fin cfg0.N) (h63 : t.val % 64 = 63) (i : Fin 4096) (k : Fin 128) (hk : k.val % 64 = 3) :
    (outsAt0 m c t.val t.isLt).2.2.2.2.1 (ix2 i k) = (((dat X0 X1 X2).rowSum (hN t.val (ho k)) i : ℝ) : EReal) := by
  rw [fold_run' 64 (by decide) (fun n hn => (outsAt0 m c n hn).2.2.2.2.1 (ix2 i k)) (fun n => cQ (dat X0 X1 X2) (fun _ _ => 1) n (ho k) i)
    (fun n hn => a.sR ⟨n, hn⟩ i k hk) t.val t.isLt, h63, sum_cQ]
  unfold Attn.Data.rowSum
  exact congrArg _ (Finset.sum_congr rfl fun i _ => by ring)

/-- The block of the keys' gradient a key tile leaves. -/
theorem Args.outK (a : Args m c X0 X1 X2) (t : Fin cfg0.N) (h7 : t.val % 8 = 7) (j : Fin 512) (k : Fin 128) :
    (outsAt0 m c t.val t.isLt).2.1 (ix2 j k) = (((dat X0 X1 X2).gk (hN t.val (hh k)) (pos (t.val / 8) j) (dl k) : ℝ) : EReal) := by
  have e : (outsAt0 m c t.val t.isLt).2.1 (ix2 j k) = (outsAt0 m c t.val t.isLt).2.2.2.2.2.1 (ix3 (hh k) j k) := by
    have d : (outsAt0 m c t.val t.isLt).2.1 (ix2 j k) = if act 0 k then (outsAt0 m c t.val t.isLt).2.2.2.2.2.1 (ix3 0 j k) else (outsAt0 m c t.val t.isLt).2.2.2.2.2.1 (ix3 1 j k) := by
      by_cases g : t.val % 64 = 63
      · exact tG_odk m c t (by omega) (by omega) (by omega) (by omega) h7 g j k
      · exact tC_odk m c t (by omega) (by omega) (by omega) (by omega) h7 g j k
    rw [d]
    rcases hh_cases k with ⟨p, q, -⟩ | ⟨p, q, -⟩
    · rw [p, q]; rfl
    · rw [p, q]; rfl
  rw [e, a.accK t h7]

/-- The block of the column sums. -/
theorem Args.outC (a : Args m c X0 X1 X2) (t : Fin cfg0.N) (h7 : t.val % 8 = 7) (j : Fin 512) (k : Fin 128) (hk : k.val % 64 = 0) :
    (outsAt0 m c t.val t.isLt).2.2.2.1 (ix2 j k) = (((dat X0 X1 X2).colSum (hN t.val (ho k)) (pos (t.val / 8) j) : ℝ) : EReal) := by
  have e : (outsAt0 m c t.val t.isLt).2.2.2.1 (ix2 j k) = (outsAt0 m c t.val t.isLt).2.2.2.2.2.1 (ix3 (ho k) j k) := by
    have d : (outsAt0 m c t.val t.isLt).2.2.2.1 (ix2 j k) = if act 0 k then (outsAt0 m c t.val t.isLt).2.2.2.2.2.1 (ix3 1 j k) else (outsAt0 m c t.val t.isLt).2.2.2.2.2.1 (ix3 0 j k) := by
      by_cases g : t.val % 64 = 63
      · exact tG_osp m c t (by omega) (by omega) (by omega) (by omega) h7 g j k
      · exact tC_osp m c t (by omega) (by omega) (by omega) (by omega) h7 g j k
    rw [d]
    rcases hh_cases k with ⟨p, -, q⟩ | ⟨p, -, q⟩
    · rw [p, q]; rfl
    · rw [p, q]; rfl
  rw [e, a.accC t h7 j k hk]

/-- The block of the values' gradient. -/
theorem Args.outV (a : Args m c X0 X1 X2) (t : Fin cfg0.N) (h7 : t.val % 8 = 7) (j : Fin 512) (k : Fin 128) :
    (outsAt0 m c t.val t.isLt).2.2.1 (ix2 j k) = (((dat X0 X1 X2).gv (hN t.val (hh k)) (pos (t.val / 8) j) (dl k) : ℝ) : EReal) := by
  have d : (outsAt0 m c t.val t.isLt).2.2.1 (ix2 j k) = (outsAt0 m c t.val t.isLt).2.2.2.2.2.2 (ix2 j k) := by
    by_cases g : t.val % 64 = 63
    · exact tG_odv m c t (by omega) (by omega) (by omega) (by omega) h7 g (ix2 j k)
    · exact tC_odv m c t (by omega) (by omega) (by omega) (by omega) h7 g (ix2 j k)
  rw [d, a.accV t h7]

end Cert.Ker
-- ==== Proof.Final.lean ====
/- The arrays the kernel leaves: every block that is written back holds its part of the gradients. -/
module

public import proofs.«01_k».proof.Proof.Fold

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen
open Cert.Ref (dat hd ln oh)

variable {m : (ℓ : Loc nD τ sig) → Buf (Elt Ideal) ℓ} {c : Dev nD}
  {X0 : FVec Ideal S4096x5632 .f32} {X1 : FVec Ideal S16 .f32} {X2 : FVec Ideal S4096x2048 .f32}

/-- A lane of a block, in the array: its head, its place in the head and the other head of the pair. -/
theorem hd_at (t : Fin cfg0.N) (k : Fin 128) (n : Fin 1024) (h : n.val = t.val / 64 * 128 + k.val) : hN t.val (hh k) = hd n := by
  refine Fin.ext ?_
  show t.val / 64 % 8 * 2 + k.val / 64 = n.val / 64
  have := pt_lt t; omega
/-- A lane of a block and the lane it is of the whole array have the same place in their head. -/
theorem ln_at (t : Fin cfg0.N) (k : Fin 128) (n : Fin 1024) (h : n.val = t.val / 64 * 128 + k.val) : dl k = ln n := by
  refine Fin.ext ?_
  show k.val % 64 = n.val % 64
  omega
/-- The other head of a lane's pair. -/
theorem oh_at (t : Fin cfg0.N) (k : Fin 128) (n : Fin 1024) (h : n.val = t.val / 64 * 128 + k.val) : hN t.val (ho k) = oh n := by
  refine Fin.ext ?_
  show t.val / 64 % 8 * 2 + (1 - k.val / 64) = n.val / 128 * 2 + (1 - n.val / 64 % 2)
  have := pt_lt t; omega
/-- A row of a key tile as a row of the whole array. -/
theorem pos_at (t : Fin cfg0.N) (j : Fin 512) (i : Fin 4096) (h : i.val = t.val / 8 % 8 * 512 + j.val) : pos (t.val / 8) j = i := by
  refine Fin.ext ?_
  show 512 * (t.val / 8 % 8) + j.val = i.val
  omega

/-- The block that window 7 (the queries' gradient) takes at a point. -/
theorem idx7 : ∀ t : Fin cfg0.N, win0_7.index t 0 = 0 ∧ win0_7.index t 1 = t.val / 64 :=
  (by decide +kernel : ∀ t : Fin grid0.N, win0_7.index t 0 = 0 ∧ win0_7.index t 1 = t.val / 64)

/-- The queries' gradient. -/
theorem Args.arr7 (a : Args m c X0 X1 X2) (i : S4096x1024.Idx) :
    (dats m 0 c).arrAt 7 cfg0.N i = (((dat X0 X1 X2).gq (hd (i 1)) (i 0) (ln (i 1)) : ℝ) : EReal) := by
  refine (dats m 0 c).arrAt_forall_of_covers 7 (fun (i' : S4096x1024.Idx) v => v = (((dat X0 X1 X2).gq (hd (i' 1)) (i' 0) (ln (i' 1)) : ℝ) : EReal)) (by decide +kernel) (fun t hf y => ?_) i
  have h63 : t.val % 64 = 63 := (flush0_7 t).mp hf
  have hy0 : (y 0).val < 4096 := (y 0).isLt
  have hy1 : (y 1).val < 128 := (y 1).isLt
  have hb0 : (((cfg0.win 7).blk t).view.emb y 0).val = win0_7.index t 0 * 4096 + 1 * (y 0).val := rfl
  have hb1 : (((cfg0.win 7).blk t).view.emb y 1).val = win0_7.index t 1 * 128 + 1 * (y 1).val := rfl
  rw [(idx7 t).1] at hb0
  rw [(idx7 t).2] at hb1
  have hx : (cfg0.win 7).xinj (grid0.coords t) y = (ix2 ⟨(y 0).val, hy0⟩ ⟨(y 1).val, hy1⟩ : S4096x128.Idx) :=
    funext (Fin.forall_fin_two.mpr ⟨rfl, rfl⟩)
  show (dats m 0 c).after 7 t ((cfg0.win 7).xinj (grid0.coords t) y) = _
  rw [after0_7, hx]
  rw [a.accQ t h63 _ _, hd_at t _ (((cfg0.win 7).blk t).view.emb y 1) (by show _ = t.val / 64 * 128 + (y 1).val; omega), ln_at t _ (((cfg0.win 7).blk t).view.emb y 1) (by show _ = t.val / 64 * 128 + (y 1).val; omega)]
  exact congrArg (fun z => (((dat X0 X1 X2).gq _ z _ : ℝ) : EReal)) (Fin.ext (by show (y 0).val = _; omega))

/-- The block that window 8 (the keys' gradient) takes at a point. -/
theorem idx8 : ∀ t : Fin cfg0.N, win0_8.index t 0 = t.val / 8 % 8 ∧ win0_8.index t 1 = t.val / 64 :=
  (by decide +kernel : ∀ t : Fin grid0.N, win0_8.index t 0 = t.val / 8 % 8 ∧ win0_8.index t 1 = t.val / 64)

/-- The keys' gradient. -/
theorem Args.arr8 (a : Args m c X0 X1 X2) (i : S4096x1024.Idx) :
    (dats m 0 c).arrAt 8 cfg0.N i = (((dat X0 X1 X2).gk (hd (i 1)) (i 0) (ln (i 1)) : ℝ) : EReal) := by
  refine (dats m 0 c).arrAt_forall_of_covers 8 (fun (i' : S4096x1024.Idx) v => v = (((dat X0 X1 X2).gk (hd (i' 1)) (i' 0) (ln (i' 1)) : ℝ) : EReal)) (by decide +kernel) (fun t hf y => ?_) i
  have h7 : t.val % 8 = 7 := (flush0_8 t).mp hf
  have hy0 : (y 0).val < 512 := (y 0).isLt
  have hy1 : (y 1).val < 128 := (y 1).isLt
  have hb0 : (((cfg0.win 8).blk t).view.emb y 0).val = win0_8.index t 0 * 512 + 1 * (y 0).val := rfl
  have hb1 : (((cfg0.win 8).blk t).view.emb y 1).val = win0_8.index t 1 * 128 + 1 * (y 1).val := rfl
  rw [(idx8 t).1] at hb0
  rw [(idx8 t).2] at hb1
  have hx : (cfg0.win 8).xinj (grid0.coords t) y = (ix2 ⟨(y 0).val, hy0⟩ ⟨(y 1).val, hy1⟩ : S512x128.Idx) :=
    funext (Fin.forall_fin_two.mpr ⟨rfl, rfl⟩)
  show (dats m 0 c).after 8 t ((cfg0.win 8).xinj (grid0.coords t) y) = _
  rw [after0_8, hx]
  rw [a.outK t h7 _ _, hd_at t _ (((cfg0.win 8).blk t).view.emb y 1) (by show _ = t.val / 64 * 128 + (y 1).val; omega), ln_at t _ (((cfg0.win 8).blk t).view.emb y 1) (by show _ = t.val / 64 * 128 + (y 1).val; omega), pos_at t _ (((cfg0.win 8).blk t).view.emb y 0) (by show _ = t.val / 8 % 8 * 512 + (y 0).val; omega)]

/-- The block that window 9 (the values' gradient) takes at a point. -/
theorem idx9 : ∀ t : Fin cfg0.N, win0_9.index t 0 = t.val / 8 % 8 ∧ win0_9.index t 1 = t.val / 64 :=
  (by decide +kernel : ∀ t : Fin grid0.N, win0_9.index t 0 = t.val / 8 % 8 ∧ win0_9.index t 1 = t.val / 64)

/-- The values' gradient. -/
theorem Args.arr9 (a : Args m c X0 X1 X2) (i : S4096x1024.Idx) :
    (dats m 0 c).arrAt 9 cfg0.N i = (((dat X0 X1 X2).gv (hd (i 1)) (i 0) (ln (i 1)) : ℝ) : EReal) := by
  refine (dats m 0 c).arrAt_forall_of_covers 9 (fun (i' : S4096x1024.Idx) v => v = (((dat X0 X1 X2).gv (hd (i' 1)) (i' 0) (ln (i' 1)) : ℝ) : EReal)) (by decide +kernel) (fun t hf y => ?_) i
  have h7 : t.val % 8 = 7 := (flush0_9 t).mp hf
  have hy0 : (y 0).val < 512 := (y 0).isLt
  have hy1 : (y 1).val < 128 := (y 1).isLt
  have hb0 : (((cfg0.win 9).blk t).view.emb y 0).val = win0_9.index t 0 * 512 + 1 * (y 0).val := rfl
  have hb1 : (((cfg0.win 9).blk t).view.emb y 1).val = win0_9.index t 1 * 128 + 1 * (y 1).val := rfl
  rw [(idx9 t).1] at hb0
  rw [(idx9 t).2] at hb1
  have hx : (cfg0.win 9).xinj (grid0.coords t) y = (ix2 ⟨(y 0).val, hy0⟩ ⟨(y 1).val, hy1⟩ : S512x128.Idx) :=
    funext (Fin.forall_fin_two.mpr ⟨rfl, rfl⟩)
  show (dats m 0 c).after 9 t ((cfg0.win 9).xinj (grid0.coords t) y) = _
  rw [after0_9, hx]
  rw [a.outV t h7 _ _, hd_at t _ (((cfg0.win 9).blk t).view.emb y 1) (by show _ = t.val / 64 * 128 + (y 1).val; omega), ln_at t _ (((cfg0.win 9).blk t).view.emb y 1) (by show _ = t.val / 64 * 128 + (y 1).val; omega), pos_at t _ (((cfg0.win 9).blk t).view.emb y 0) (by show _ = t.val / 8 % 8 * 512 + (y 0).val; omega)]

/-- The block that window 10 (the spare lanes' sums) takes at a point. -/
theorem idx10 : ∀ t : Fin cfg0.N, win0_10.index t 0 = t.val / 8 % 8 ∧ win0_10.index t 1 = t.val / 64 :=
  (by decide +kernel : ∀ t : Fin grid0.N, win0_10.index t 0 = t.val / 8 % 8 ∧ win0_10.index t 1 = t.val / 64)

/-- The column sums of the score gradients, at the lanes that are read. -/
theorem Args.arr10 (a : Args m c X0 X1 X2) (i : S4096x1024.Idx) :
    (i 1).val % 64 = 0 → (dats m 0 c).arrAt 10 cfg0.N i = (((dat X0 X1 X2).colSum (oh (i 1)) (i 0) : ℝ) : EReal) := by
  refine (dats m 0 c).arrAt_forall_of_covers 10 (fun (i' : S4096x1024.Idx) v => (i' 1).val % 64 = 0 → v = (((dat X0 X1 X2).colSum (oh (i' 1)) (i' 0) : ℝ) : EReal)) (by decide +kernel) (fun t hf y => ?_) i
  intro hl
  have h7 : t.val % 8 = 7 := (flush0_10 t).mp hf
  have hy0 : (y 0).val < 512 := (y 0).isLt
  have hy1 : (y 1).val < 128 := (y 1).isLt
  have hb0 : (((cfg0.win 10).blk t).view.emb y 0).val = win0_10.index t 0 * 512 + 1 * (y 0).val := rfl
  have hb1 : (((cfg0.win 10).blk t).view.emb y 1).val = win0_10.index t 1 * 128 + 1 * (y 1).val := rfl
  rw [(idx10 t).1] at hb0
  rw [(idx10 t).2] at hb1
  have hx : (cfg0.win 10).xinj (grid0.coords t) y = (ix2 ⟨(y 0).val, hy0⟩ ⟨(y 1).val, hy1⟩ : S512x128.Idx) :=
    funext (Fin.forall_fin_two.mpr ⟨rfl, rfl⟩)
  show (dats m 0 c).after 10 t ((cfg0.win 10).xinj (grid0.coords t) y) = _
  rw [after0_10, hx]
  rw [a.outC t h7 _ _ (by show (y 1).val % 64 = 0; omega), oh_at t _ (((cfg0.win 10).blk t).view.emb y 1) (by show _ = t.val / 64 * 128 + (y 1).val; omega), pos_at t _ (((cfg0.win 10).blk t).view.emb y 0) (by show _ = t.val / 8 % 8 * 512 + (y 0).val; omega)]

/-- The block that window 11 (the row sums) takes at a point. -/
theorem idx11 : ∀ t : Fin cfg0.N, win0_11.index t 0 = 0 ∧ win0_11.index t 1 = t.val / 64 :=
  (by decide +kernel : ∀ t : Fin grid0.N, win0_11.index t 0 = 0 ∧ win0_11.index t 1 = t.val / 64)

/-- The row sums of the score gradients, at the lanes that are read. -/
theorem Args.arr11 (a : Args m c X0 X1 X2) (i : S4096x1024.Idx) :
    (i 1).val % 64 = 3 → (dats m 0 c).arrAt 11 cfg0.N i = (((dat X0 X1 X2).rowSum (oh (i 1)) (i 0) : ℝ) : EReal) := by
  refine (dats m 0 c).arrAt_forall_of_covers 11 (fun (i' : S4096x1024.Idx) v => (i' 1).val % 64 = 3 → v = (((dat X0 X1 X2).rowSum (oh (i' 1)) (i' 0) : ℝ) : EReal)) (by decide +kernel) (fun t hf y => ?_) i
  intro hl
  have h63 : t.val % 64 = 63 := (flush0_11 t).mp hf
  have hy0 : (y 0).val < 4096 := (y 0).isLt
  have hy1 : (y 1).val < 128 := (y 1).isLt
  have hb0 : (((cfg0.win 11).blk t).view.emb y 0).val = win0_11.index t 0 * 4096 + 1 * (y 0).val := rfl
  have hb1 : (((cfg0.win 11).blk t).view.emb y 1).val = win0_11.index t 1 * 128 + 1 * (y 1).val := rfl
  rw [(idx11 t).1] at hb0
  rw [(idx11 t).2] at hb1
  have hx : (cfg0.win 11).xinj (grid0.coords t) y = (ix2 ⟨(y 0).val, hy0⟩ ⟨(y 1).val, hy1⟩ : S4096x128.Idx) :=
    funext (Fin.forall_fin_two.mpr ⟨rfl, rfl⟩)
  show (dats m 0 c).after 11 t ((cfg0.win 11).xinj (grid0.coords t) y) = _
  rw [after0_11, hx]
  rw [a.accR t h63 _ _ (by show (y 1).val % 64 = 3; omega), oh_at t _ (((cfg0.win 11).blk t).view.emb y 1) (by show _ = t.val / 64 * 128 + (y 1).val; omega)]
  exact congrArg (fun z => (((dat X0 X1 X2).rowSum _ z : ℝ) : EReal)) (Fin.ext (by show (y 0).val = _; omega))

end Cert.Ker
-- ==== Proof.Value.lean ====
/- The kernel's results and the reference's are the same real numbers: the algebraic claim. -/
module

public import proofs.«01_k».proof.Defs
public import proofs.«01_k».proof.Proof.Conds
public import proofs.«01_k».proof.Proof.Final
public import proofs.«01_k».proof.Proof.Gen.ReferenceIdeal.Run
public import Idealize.ShloMosaic.Adequacy

@[expose] public section

set_option maxRecDepth 16384
noncomputable section
namespace Cert.Ker
open Idealize.ShloMosaic Idealize.ShloMosaic.TcCoe Idealize.SL.Sem
open Idealize.ShloMosaic.Pipeline (Dat)
open Cert.KernelIdeal Cert.KernelIdeal.Gen
open Cert.ReferenceIdeal.Read (val_main_v99 val_main_v100 val_main_v101 val_main_v107 val_main_v112)

/-- Result 0 is what the kernel's calls leave in its array. -/
theorem post7 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v74_0) = (dats m 0 c).arrAt 7 cfg0.N := (h c).1 7

/-- Result 1 is what the kernel's calls leave in its array. -/
theorem post8 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v74_1) = (dats m 0 c).arrAt 8 cfg0.N := (h c).1 8

/-- Result 2 is what the kernel's calls leave in its array. -/
theorem post9 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v74_2) = (dats m 0 c).arrAt 9 cfg0.N := (h c).1 9

/-- Result 3 is what the kernel's calls leave in its array. -/
theorem post10 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v74_3) = (dats m 0 c).arrAt 10 cfg0.N := (h c).1 10

/-- Result 4 is what the kernel's calls leave in its array. -/
theorem post11 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_v74_4) = (dats m 0 c).arrAt 11 cfg0.N := (h c).1 11

/-- The arguments keep their contents. -/
theorem kept0 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 2).trans (((dats m 0 c).arrAt_in 2 rfl _).trans ((A_eq m c 2).trans (V_main_arg0 m c)))
/-- The run leaves the second argument as it was. -/
theorem kept1 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
/-- The run leaves the third argument as it was. -/
theorem kept2 (m : (ℓ : Loc nD τ sig) → Buf (Elt Ideal) ℓ) (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).1 6).trans (((dats m 0 c).arrAt_in 6 rfl _).trans ((A_eq m c 6).trans (V_main_arg2 m c)))

variable {m : (ℓ : Loc nD τ sig) → Buf (Elt Ideal) ℓ} {c : Dev nD}
  {X0 : FVec Ideal S4096x5632 .f32} {X1 : FVec Ideal S16 .f32} {X2 : FVec Ideal S4096x2048 .f32}

/-- An index of a matrix is the pair of its parts. -/
theorem ix2_eta (i : S4096x1024.Idx) : ix2 (i 0) (i 1) = i := funext (Fin.forall_fin_two.mpr ⟨rfl, rfl⟩)

/-- The array of window 7 is the reference's stage. -/
theorem Args.val7 (a : Args m c X0 X1 X2) (i : S4096x1024.Idx) :
    (dats m 0 c).arrAt 7 cfg0.N i = val_main_v99 (F := Ideal) X0 X1 X2 i :=
  (a.arr7 i).trans ((Ref.v99_eq X0 X1 X2 a.h0 a.h1 a.h2 (i 0) (i 1)).symm.trans (congrArg (val_main_v99 (F := Ideal) X0 X1 X2) (ix2_eta i)))

/-- The array of window 8 is the reference's stage. -/
theorem Args.val8 (a : Args m c X0 X1 X2) (i : S4096x1024.Idx) :
    (dats m 0 c).arrAt 8 cfg0.N i = val_main_v100 (F := Ideal) X0 X1 X2 i :=
  (a.arr8 i).trans ((Ref.v100_eq X0 X1 X2 a.h0 a.h1 a.h2 (i 0) (i 1)).symm.trans (congrArg (val_main_v100 (F := Ideal) X0 X1 X2) (ix2_eta i)))

/-- The array of window 9 is the reference's stage. -/
theorem Args.val9 (a : Args m c X0 X1 X2) (i : S4096x1024.Idx) :
    (dats m 0 c).arrAt 9 cfg0.N i = val_main_v101 (F := Ideal) X0 X1 X2 i :=
  (a.arr9 i).trans ((Ref.v101_eq X0 X1 X2 a.h0 a.h1 a.h2 (i 0) (i 1)).symm.trans (congrArg (val_main_v101 (F := Ideal) X0 X1 X2) (ix2_eta i)))

/-- The array of window 10 is the reference's stage. -/
theorem Args.val10 (a : Args m c X0 X1 X2) (i : S4096x1024.Idx) (hi : (i 1).val % 64 = 0) :
    (dats m 0 c).arrAt 10 cfg0.N i = val_main_v107 (F := Ideal) X0 X1 X2 i :=
  (a.arr10 i hi).trans ((Ref.v107_eq X0 X1 X2 a.h0 a.h1 a.h2 (i 0) (i 1)).symm.trans (congrArg (val_main_v107 (F := Ideal) X0 X1 X2) (ix2_eta i)))

/-- The array of window 11 is the reference's stage. -/
theorem Args.val11 (a : Args m c X0 X1 X2) (i : S4096x1024.Idx) (hi : (i 1).val % 64 = 3) :
    (dats m 0 c).arrAt 11 cfg0.N i = val_main_v112 (F := Ideal) X0 X1 X2 i :=
  (a.arr11 i hi).trans ((Ref.v112_eq X0 X1 X2 a.h0 a.h1 a.h2 (i 0) (i 1)).symm.trans (congrArg (val_main_v112 (F := Ideal) X0 X1 X2) (ix2_eta i)))

/-- The run of the kernel, its results read as the stages of the reference. -/
theorem run (m : (ℓ : Loc nD τ sig) → Buf (Elt Ideal) ℓ) (ρ : Dev nD → PrngReg)
    (X0 : Dev nD → FVec Ideal S4096x5632 .f32) (X1 : Dev nD → FVec Ideal S16 .f32) (X2 : Dev nD → FVec Ideal S4096x2048 .f32)
    (a : ∀ c, Args m c (X0 c) (X1 c) (X2 c)) :
    θ_run defs (onTc (τ := τ) (main (F := Ideal))) ⟨m, fun _ => 0, ρ⟩ fun r => ∀ c : Dev nD,
      (∀ i : S4096x1024.Idx, r.2.mem ((c.tc : Thread nD τ).loc main_v74_0) i = val_main_v99 (F := Ideal) (X0 c) (X1 c) (X2 c) i)
      ∧ (∀ i : S4096x1024.Idx, r.2.mem ((c.tc : Thread nD τ).loc main_v74_1) i = val_main_v100 (F := Ideal) (X0 c) (X1 c) (X2 c) i)
      ∧ (∀ i : S4096x1024.Idx, r.2.mem ((c.tc : Thread nD τ).loc main_v74_2) i = val_main_v101 (F := Ideal) (X0 c) (X1 c) (X2 c) i)
      ∧ (∀ i : S4096x1024.Idx, (i 1).val % 64 = 0 → r.2.mem ((c.tc : Thread nD τ).loc main_v74_3) i = val_main_v107 (F := Ideal) (X0 c) (X1 c) (X2 c) i)
      ∧ (∀ i : S4096x1024.Idx, (i 1).val % 64 = 3 → r.2.mem ((c.tc : Thread nD τ).loc main_v74_4) i = val_main_v112 (F := Ideal) (X0 c) (X1 c) (X2 c) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨fun i => (congrFun (post7 m r h c) i).trans ((a c).val7 i),
      fun i => (congrFun (post8 m r h c) i).trans ((a c).val8 i),
      fun i => (congrFun (post9 m r h c) i).trans ((a c).val9 i),
      fun i hi => (congrFun (post10 m r h c) i).trans ((a c).val10 i hi),
      fun i hi => (congrFun (post11 m r h c) i).trans ((a c).val11 i hi),
      kept0 m r h c, kept1 m r h c, kept2 m r h c⟩)
    (run_main m ρ)

/-- The algebraic claim. -/
theorem algebraic : Cert.algebraic_KernelIdeal_ReferenceIdeal_on_read_lanes_pre_finite := by
  intro m g m' g' hpre harg
  have a : ∀ c, Args m c (m ((c.tc : Thread nD τ).loc main_arg0)) (m ((c.tc : Thread nD τ).loc main_arg1)) (m ((c.tc : Thread nD τ).loc main_arg2)) :=
    fun c => ⟨rfl, rfl, rfl, (Conds.finite (hpre c)).1, (Conds.finite (hpre c)).2.1, (Conds.finite (hpre c)).2.2⟩
  refine ⟨fun c => val_main_v99 (F := Ideal) (m ((c.tc : Thread nD τ).loc main_arg0)) (m ((c.tc : Thread nD τ).loc main_arg1)) (m ((c.tc : Thread nD τ).loc main_arg2)),
    fun c => val_main_v100 (F := Ideal) (m ((c.tc : Thread nD τ).loc main_arg0)) (m ((c.tc : Thread nD τ).loc main_arg1)) (m ((c.tc : Thread nD τ).loc main_arg2)),
    fun c => val_main_v101 (F := Ideal) (m ((c.tc : Thread nD τ).loc main_arg0)) (m ((c.tc : Thread nD τ).loc main_arg1)) (m ((c.tc : Thread nD τ).loc main_arg2)),
    fun c => val_main_v107 (F := Ideal) (m ((c.tc : Thread nD τ).loc main_arg0)) (m ((c.tc : Thread nD τ).loc main_arg1)) (m ((c.tc : Thread nD τ).loc main_arg2)),
    fun c => val_main_v112 (F := Ideal) (m ((c.tc : Thread nD τ).loc main_arg0)) (m ((c.tc : Thread nD τ).loc main_arg1)) (m ((c.tc : Thread nD τ).loc main_arg2)), ?_, ?_⟩
  · refine (θ_run _ _ _).mono (fun r h c => ?_) (run m g _ _ _ a)
    obtain ⟨p0, p1, p2, p3, p4, q⟩ := h c
    exact ⟨fun i _ => p0 i, fun i _ => p1 i, fun i _ => p2 i, fun i hi => p3 i (Conds.lanes0 i hi), fun i hi => p4 i (Conds.lanes3 i hi), q⟩
  · refine (θ_run _ _ _).mono (fun r h c => ?_) (Cert.ReferenceIdeal.Value.run (F := Ideal) m' g')
    obtain ⟨p0, p1, p2, p3, p4, q⟩ := h c
    obtain ⟨e0, e1, e2⟩ := harg c
    rw [ReferenceIdeal.Read.val_main_v99_eq, e0, e1, e2] at p0
    rw [ReferenceIdeal.Read.val_main_v100_eq, e0, e1, e2] at p1
    rw [ReferenceIdeal.Read.val_main_v101_eq, e0, e1, e2] at p2
    rw [ReferenceIdeal.Read.val_main_v107_eq, e0, e1, e2] at p3
    rw [ReferenceIdeal.Read.val_main_v112_eq, e0, e1, e2] at p4
    exact ⟨fun i _ => congrFun p0 i, fun i _ => congrFun p1 i, fun i _ => congrFun p2 i, fun i _ => congrFun p3 i, fun i _ => congrFun p4 i, q⟩

end Cert.Ker
-- ==== Proof.Grad.lean ====
/- Sums over 4096 rows cut into four tiles of 1024, and a factor taken out of a sum of extended reals. -/
module

public import Idealize.ShloMosaic.PureOps.Ideal
public import Mathlib.Data.EReal.Operations
public import Mathlib.Algebra.BigOperators.Fin

@[expose] public section

noncomputable section
namespace Cert.Grad
open Idealize.ShloMosaic

/-- Row `k` of the tile number `s mod 4`. -/
def row (s : ℕ) (k : Fin 1024) : Fin 4096 := ⟨1024 * (s % 4) + k.val, by have := k.isLt; omega⟩

/-- A sum over all rows is the sum of the sums over the four tiles, added one after the other. -/
theorem sum_rows (f : Fin 4096 → EReal) :
    ∑ i, f i = ∑ k, f (row 0 k) + ∑ k, f (row 1 k) + ∑ k, f (row 2 k) + ∑ k, f (row 3 k) := by
  rw [← (finProdFinEquiv (m := 4) (n := 1024)).sum_comp f, Fintype.sum_prod_type, Fin.sum_univ_four]
  have e : ∀ (s : Fin 4) (k : Fin 1024), finProdFinEquiv (s, k) = row s.val k := fun s k => Fin.ext (by
    show k.val + 1024 * s.val = 1024 * (s.val % 4) + k.val
    have := s.isLt; omega)
  simp only [e]
  rfl

/-- The word `0x3F000000` is one half. -/
theorem half : Ideal.ofBits .f32 1056964608#32 = ((1 / 2 : ℝ) : EReal) := by
  simp [Ideal.ofBits, Ideal.ieee, -EReal.coe_mul]; norm_num

/-- The word `0x3F800000` is one. -/
theorem one : Ideal.ofBits .f32 1065353216#32 = (1 : EReal) := by
  rw [← EReal.coe_one]
  simp [Ideal.ofBits, Ideal.ieee, -EReal.coe_mul, -EReal.coe_one]; norm_num

/-- One half times a sum of two extended reals. -/
theorem half_add (a b : EReal) : ((1 / 2 : ℝ) : EReal) * (a + b) = ((1 / 2 : ℝ) : EReal) * a + ((1 / 2 : ℝ) : EReal) * b :=
  EReal.left_distrib_of_nonneg_of_ne_top (by exact_mod_cast (by norm_num : (0 : ℝ) ≤ 1 / 2)) (EReal.coe_ne_top _) a b

/-- One half times a sum of extended reals. -/
theorem half_sum {ι : Type} (s : Finset ι) (f : ι → EReal) :
    ((1 / 2 : ℝ) : EReal) * ∑ i ∈ s, f i = ∑ i ∈ s, ((1 / 2 : ℝ) : EReal) * f i := by
  classical
  induction s using Finset.induction_on with
  | empty => simp
  | insert i s h ih => rw [Finset.sum_insert h, Finset.sum_insert h, half_add, ih]

end Cert.Grad
end
-- ==== Proof.Dwd.lean ====
/- The gradient of the down weights: what the call with scale one half leaves, and what the reference computes. -/
module

public import proofs.«01_k».proof.Defs
public import proofs.«01_k».proof.Proof.Grad
public import proofs.«01_k».proof.Proof.Gen.Kernel2Ideal.Value
public import proofs.«01_k».proof.Proof.Gen.Reference2Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Dwd
open Idealize.ShloMosaic Idealize.ShloMosaic.TcCoe Idealize.SL.Sem
open Idealize.ShloMosaic.Pipeline (Dat)
open Cert.Kernel2Ideal Cert.Kernel2Ideal.Gen Cert.Grad

variable (m : (ℓ : Loc nD τ sig) → Buf (Elt Ideal) ℓ)

/-- The product of a tile of the hidden values, transposed, with the tile of the rows. -/
def part (a : FVec Ideal S1x1024x704 .bf16) (x : FVec Ideal S1024x2048 .f32) (f : Fin 704) (d : Fin 2048) : EReal :=
  ∑ k : Fin 1024, a (ix3 0 k f) * x (ix2 k d)

/-- The tile's product is added to what was there. -/
theorem add_part (acc : FVec Ideal S704x2048 .f32) (a : FVec Ideal S1x1024x704 .bf16) (x : FVec Ideal S1024x2048 .f32) (f : Fin 704) (d : Fin 2048) :
    k0_pay2 acc a x (ix2 f d) = acc (ix2 f d) + part a x f d := by
  unfold k0_pay2 part
  pointwise

/-- The accumulator after the first tile of a block. -/
theorem acc_first (c : Dev nD) (t : Fin cfg0.N) (h0 : t.val % 4 = 0) (h1 : ¬t.val % 4 = 3) (f : Fin 704) (d : Fin 2048) :
    (outsAt0 m c t.val t.isLt).2 (ix2 f d) = part (iblk m c 0 t) (iblk m c 1 t) f d := by
  rw [outsAt0_A m c t h0 h1]
  frame_out
  rw [add_part]
  unfold k0_pay1
  pointwise

/-- The accumulator after a tile that is neither first nor last. -/
theorem acc_mid (c : Dev nD) (t : Fin cfg0.N) (h0 : ¬t.val % 4 = 0) (h1 : ¬t.val % 4 = 3) (f : Fin 704) (d : Fin 2048) :
    (outsAt0 m c t.val t.isLt).2 (ix2 f d) = (outsAt0 m c (t.val - 1) (Nat.lt_of_le_of_lt (Nat.sub_le _ _) t.isLt)).2 (ix2 f d) + part (iblk m c 0 t) (iblk m c 1 t) f d := by
  rw [outsAt0_B m c t h0 h1]
  frame_out
  simp only [read_unread_whole]
  rw [add_part]

/-- The accumulator after the last tile of a block. -/
theorem acc_last (c : Dev nD) (t : Fin cfg0.N) (h0 : ¬t.val % 4 = 0) (h1 : t.val % 4 = 3) (f : Fin 704) (d : Fin 2048) :
    (outsAt0 m c t.val t.isLt).2 (ix2 f d) = (outsAt0 m c (t.val - 1) (Nat.lt_of_le_of_lt (Nat.sub_le _ _) t.isLt)).2 (ix2 f d) + part (iblk m c 0 t) (iblk m c 1 t) f d := by
  rw [outsAt0_C m c t h0 h1]
  frame_out
  simp only [read_unread_whole]
  rw [add_part]

/-- The block written after its last tile: one half of the accumulator. -/
theorem out_last (c : Dev nD) (t : Fin cfg0.N) (h0 : ¬t.val % 4 = 0) (h1 : t.val % 4 = 3) (f : Fin 704) (d : Fin 2048) :
    (outsAt0 m c t.val t.isLt).1 (ix3 0 f d) = ((1 / 2 : ℝ) : EReal) * (outsAt0 m c t.val t.isLt).2 (ix2 f d) := by
  rw [outsAt0_C m c t h0 h1]
  frame_out
  unfold k0_pay3
  pointwise
  rw [half]

/-- The hidden values, as the call is given them. -/
def hid (c : Dev nD) : FVec Ideal S8x4096x704 .bf16 := m ((c : Thread nD τ).loc main_arg0)

/-- The rows, as the call is given them. -/
def rows (c : Dev nD) : FVec Ideal S4096x2048 .f32 := m ((c : Thread nD τ).loc main_arg1)

/-- Where the tile of the hidden values lies. -/
theorem index0 : ∀ t : Fin cfg0.N, win0_0.index t = ![t.val / 4, t.val % 4, 0] := (by decide +kernel : ∀ t : Fin grid0.N, _)

/-- Where the tile of the rows lies. -/
theorem index1 : ∀ t : Fin cfg0.N, win0_1.index t = ![t.val % 4, 0] := (by decide +kernel : ∀ t : Fin grid0.N, _)

/-- The block number of a point. -/
def blk (t : Fin cfg0.N) : Fin 8 := ⟨t.val / 4, by have := lt_of_lt_of_eq t.isLt N_0; omega⟩

/-- The tile of the hidden values, element by element. -/
theorem read0 (c : Dev nD) (t : Fin cfg0.N) (k : Fin 1024) (f : Fin 704) :
    (iblk m c 0 t : FVec Ideal S1x1024x704 .bf16) (ix3 0 k f) = hid m c (ix3 (blk t) (row t.val k) f) := by
  show hid m c (((cfg0.win 0).blk t).view.emb (ix3 0 k f)) = _
  have h := index0 t
  have e0 : win0_0.index t 0 = t.val / 4 := congrFun h 0
  have e1 : win0_0.index t 1 = t.val % 4 := congrFun h 1
  have e2 : win0_0.index t 2 = 0 := congrFun h 2
  refine congrArg (hid m c) (funext fun a => Fin.ext ?_)
  match a with
  | ⟨0, _⟩ => show win0_0.index t 0 * 1 + 1 * 0 = t.val / 4; rw [e0]; omega
  | ⟨1, _⟩ => show win0_0.index t 1 * 1024 + 1 * k.val = 1024 * (t.val % 4) + k.val; rw [e1]; omega
  | ⟨2, _⟩ => show win0_0.index t 2 * 704 + 1 * f.val = f.val; rw [e2]; omega

/-- The tile of the rows, element by element. -/
theorem read1 (c : Dev nD) (t : Fin cfg0.N) (k : Fin 1024) (d : Fin 2048) :
    (iblk m c 1 t : FVec Ideal S1024x2048 .f32) (ix2 k d) = rows m c (ix2 (row t.val k) d) := by
  show rows m c (((cfg0.win 1).blk t).view.emb (ix2 k d)) = _
  have h := index1 t
  have e0 : win0_1.index t 0 = t.val % 4 := congrFun h 0
  have e1 : win0_1.index t 1 = 0 := congrFun h 1
  refine congrArg (rows m c) (funext fun a => Fin.ext ?_)
  match a with
  | ⟨0, _⟩ => show win0_1.index t 0 * 1024 + 1 * k.val = 1024 * (t.val % 4) + k.val; rw [e0]; omega
  | ⟨1, _⟩ => show win0_1.index t 1 * 2048 + 1 * d.val = d.val; rw [e1]; omega

/-- The product of a point's tiles, from the arrays the call is given. -/
theorem part_eq (c : Dev nD) (t : Fin cfg0.N) (f : Fin 704) (d : Fin 2048) :
    part (iblk m c 0 t) (iblk m c 1 t) f d = ∑ k, hid m c (ix3 (blk t) (row t.val k) f) * rows m c (ix2 (row t.val k) d) :=
  Finset.sum_congr rfl fun k _ => by rw [read0, read1]

/-- Point number `s` of block `j`. -/
def pt (j : Fin 8) (s : Fin 4) : Fin cfg0.N := ⟨4 * j.val + s.val, lt_of_lt_of_eq (by omega) N_0.symm⟩

/-- What the call leaves at a place of a block: one half of the sum over all rows. -/
theorem out_eq (c : Dev nD) (j : Fin 8) (f : Fin 704) (d : Fin 2048) :
    (outsAt0 m c (pt j 3).val (pt j 3).isLt).1 (ix3 0 f d) = ((1 / 2 : ℝ) : EReal) * ∑ i, hid m c (ix3 j i f) * rows m c (ix2 i d) := by
  have hb : ∀ s, blk (pt j s) = j := fun s => Fin.ext (by show (4 * j.val + s.val) / 4 = j.val; omega)
  have hr : ∀ s k, row (pt j s).val k = row s.val k := fun s k => Fin.ext (by
    show 1024 * ((4 * j.val + s.val) % 4) + k.val = 1024 * (s.val % 4) + k.val
    omega)
  have hm : ∀ s, (pt j s).val % 4 = s.val := fun s => by show (4 * j.val + s.val) % 4 = s.val; omega
  rw [out_last m c (pt j 3) (by rw [hm]; decide) (hm 3), acc_last m c (pt j 3) (by rw [hm]; decide) (hm 3)]
  have a2 := acc_mid m c (pt j 2) (by rw [hm]; decide) (by rw [hm]; decide) f d
  have a1 := acc_mid m c (pt j 1) (by rw [hm]; decide) (by rw [hm]; decide) f d
  have a0 := acc_first m c (pt j 0) (hm 0) (by rw [hm]; decide) f d
  have s3 : (outsAt0 m c ((pt j 3).val - 1) (Nat.lt_of_le_of_lt (Nat.sub_le _ _) (pt j 3).isLt)).2 = (outsAt0 m c (pt j 2).val (pt j 2).isLt).2 := rfl
  have s2 : (outsAt0 m c ((pt j 2).val - 1) (Nat.lt_of_le_of_lt (Nat.sub_le _ _) (pt j 2).isLt)).2 = (outsAt0 m c (pt j 1).val (pt j 1).isLt).2 := rfl
  have s1 : (outsAt0 m c ((pt j 1).val - 1) (Nat.lt_of_le_of_lt (Nat.sub_le _ _) (pt j 1).isLt)).2 = (outsAt0 m c (pt j 0).val (pt j 0).isLt).2 := rfl
  rw [s3, a2, s2, a1, s1, a0, part_eq, part_eq, part_eq, part_eq, sum_rows]
  simp only [hb, hr]
  rfl

/-- The array the call leaves, element by element. -/
theorem array_eq (c : Dev nD) (j : Fin 8) (f : Fin 704) (d : Fin 2048) :
    Value.G2 m c (ix3 j f d) = ((1 / 2 : ℝ) : EReal) * ∑ i, hid m c (ix3 j i f) * rows m c (ix2 i d) := by
  have hp : Value.pt2Of (ix3 j f d) = (pt j 3).val := by
    show 4 * (1 * (j.val / 1 - 0) + 1 * (f.val / 704 - 0) + 1 * (d.val / 2048 - 0)) + 3 = 4 * j.val + 3
    have := j.isLt; have := f.isLt; have := d.isLt; omega
  have hl : Value.loc2Of (ix3 j f d) = ix3 0 f d := by
    funext a; apply Fin.ext
    match a with
    | ⟨0, _⟩ => show j.val % 1 = 0; omega
    | ⟨1, _⟩ => show f.val % 704 = f.val; have := f.isLt; omega
    | ⟨2, _⟩ => show d.val % 2048 = d.val; have := d.isLt; omega
  unfold Value.G2
  rw [dif_pos (by rw [hp]; exact (pt j 3).isLt), hl, Value.fold0_congr m c _ _ (pt j 3).val (by have := (pt j 3).isLt; omega) hp, ← Value.outsAt0_sweep m c (pt j 3).val (pt j 3).isLt]
  exact out_eq m c j f d

/-- The array the call leaves is the gradient the reference computes. -/
theorem array_eq_reference (c : Dev nD) :
    Value.G2 m c = truncf .bf16 (transpose S8x704x2048 [1, 2, 0] (Host.dotGeneral (F := Ideal) Cert.Reference2Ideal.dot_S4096x2048_S8x4096x704_S2048x8x704_0_1_1_02_n_n none (mulf (broadcastInDim S4096x2048 ![] Cert.Reference2Ideal.Gen.bcast_S_S4096x2048 (constant Cert.Reference2Ideal.S_ .f32 0x3F000000#32)) (rows m c)) (extf .f32 (hid m c) bitsLt_bf16_f32)) Cert.Reference2Ideal.Gen.transposes_S2048x8x704_S8x704x2048_1_2_0) bitsLt_bf16_f32 := by
  funext i
  obtain ⟨j, f, d, rfl⟩ : ∃ j f d, i = ix3 j f d := ⟨i 0, i 1, i 2, by funext a; match a with | ⟨0, _⟩ => rfl | ⟨1, _⟩ => rfl | ⟨2, _⟩ => rfl⟩
  rw [array_eq, half_sum]
  pointwise
  have e : ∀ i, ((1 / 2 : ℝ) : EReal) * (hid m c (ix3 j i f) * rows m c (ix2 i d)) = Ideal.ofBits .f32 1056964608#32 * rows m c (ix2 i d) * hid m c (ix3 j i f) := fun i => by
    rw [half, mul_comm (hid m c _), mul_assoc]
  exact Finset.sum_congr (M := EReal) rfl fun i _ => e i

/-- Kernel and reference leave the same array. -/
theorem algebraic : Cert.algebraic_Kernel2Ideal_Reference2Ideal := by
  intro m g m' g' _ hargs
  refine ⟨Value.G2 m, (θ_run defs _ _).mono (fun r h c => ⟨(h c).1, (h c).2⟩) (Value.run m g), ?_⟩
  refine (θ_run Cert.Reference2Ideal.defs _ _).mono (fun r h c => ⟨?_, (h c).2⟩) (Cert.Reference2Ideal.Value.run m' g')
  rw [(h c).1, array_eq_reference, (hargs c).1, (hargs c).2]
  rfl

end Cert.Dwd
end
-- ==== Proof.Dwg.lean ====
/- The gradient of the gate weights, or of the up weights: what the call with scale one leaves, and what the reference computes. -/
module

public import proofs.«01_k».proof.Defs
public import proofs.«01_k».proof.Proof.Grad
public import proofs.«01_k».proof.Proof.Gen.Kernel3Ideal.Value
public import proofs.«01_k».proof.Proof.Gen.Reference3Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Dwg
open Idealize.ShloMosaic Idealize.ShloMosaic.TcCoe Idealize.SL.Sem
open Idealize.ShloMosaic.Pipeline (Dat)
open Cert.Kernel3Ideal Cert.Kernel3Ideal.Gen Cert.Grad

variable (m : (ℓ : Loc nD τ sig) → Buf (Elt Ideal) ℓ)

/-- The product of a tile of the gradients of the hidden values, transposed, with the tile of the rows. -/
def part (a : FVec Ideal S1x1024x704 .bf16) (x : FVec Ideal S1024x2048 .bf16) (f : Fin 704) (d : Fin 2048) : EReal :=
  ∑ k : Fin 1024, a (ix3 0 k f) * x (ix2 k d)

/-- The tile's product is added to what was there. -/
theorem add_part (acc : FVec Ideal S704x2048 .f32) (a : FVec Ideal S1x1024x704 .bf16) (x : FVec Ideal S1024x2048 .bf16) (f : Fin 704) (d : Fin 2048) :
    k0_pay2 acc a x (ix2 f d) = acc (ix2 f d) + part a x f d := by
  unfold k0_pay2 part
  pointwise

/-- The accumulator after the first tile of a block. -/
theorem acc_first (c : Dev nD) (t : Fin cfg0.N) (h0 : t.val % 4 = 0) (h1 : ¬t.val % 4 = 3) (f : Fin 704) (d : Fin 2048) :
    (outsAt0 m c t.val t.isLt).2 (ix2 f d) = part (iblk m c 0 t) (iblk m c 1 t) f d := by
  rw [outsAt0_A m c t h0 h1]
  frame_out
  rw [add_part]
  unfold k0_pay1
  pointwise

/-- The accumulator after a tile that is neither first nor last. -/
theorem acc_mid (c : Dev nD) (t : Fin cfg0.N) (h0 : ¬t.val % 4 = 0) (h1 : ¬t.val % 4 = 3) (f : Fin 704) (d : Fin 2048) :
    (outsAt0 m c t.val t.isLt).2 (ix2 f d) = (outsAt0 m c (t.val - 1) (Nat.lt_of_le_of_lt (Nat.sub_le _ _) t.isLt)).2 (ix2 f d) + part (iblk m c 0 t) (iblk m c 1 t) f d := by
  rw [outsAt0_B m c t h0 h1]
  frame_out
  simp only [read_unread_whole]
  rw [add_part]

/-- The accumulator after the last tile of a block. -/
theorem acc_last (c : Dev nD) (t : Fin cfg0.N) (h0 : ¬t.val % 4 = 0) (h1 : t.val % 4 = 3) (f : Fin 704) (d : Fin 2048) :
    (outsAt0 m c t.val t.isLt).2 (ix2 f d) = (outsAt0 m c (t.val - 1) (Nat.lt_of_le_of_lt (Nat.sub_le _ _) t.isLt)).2 (ix2 f d) + part (iblk m c 0 t) (iblk m c 1 t) f d := by
  rw [outsAt0_C m c t h0 h1]
  frame_out
  simp only [read_unread_whole]
  rw [add_part]

/-- The block written after its last tile: the accumulator. -/
theorem out_last (c : Dev nD) (t : Fin cfg0.N) (h0 : ¬t.val % 4 = 0) (h1 : t.val % 4 = 3) (f : Fin 704) (d : Fin 2048) :
    (outsAt0 m c t.val t.isLt).1 (ix3 0 f d) = (outsAt0 m c t.val t.isLt).2 (ix2 f d) := by
  rw [outsAt0_C m c t h0 h1]
  frame_out
  unfold k0_pay3
  pointwise

/-- The gradients of the hidden values, as the call is given them. -/
def grd (c : Dev nD) : FVec Ideal S8x4096x704 .bf16 := m ((c : Thread nD τ).loc main_arg0)

/-- The rows, as the call is given them. -/
def rows (c : Dev nD) : FVec Ideal S4096x2048 .bf16 := m ((c : Thread nD τ).loc main_arg1)

/-- Where the tile of the gradients of the hidden values lies. -/
theorem index0 : ∀ t : Fin cfg0.N, win0_0.index t = ![t.val / 4, t.val % 4, 0] := (by decide +kernel : ∀ t : Fin grid0.N, _)

/-- Where the tile of the rows lies. -/
theorem index1 : ∀ t : Fin cfg0.N, win0_1.index t = ![t.val % 4, 0] := (by decide +kernel : ∀ t : Fin grid0.N, _)

/-- The block number of a point. -/
def blk (t : Fin cfg0.N) : Fin 8 := ⟨t.val / 4, by have := lt_of_lt_of_eq t.isLt N_0; omega⟩

/-- The tile of the gradients of the hidden values, element by element. -/
theorem read0 (c : Dev nD) (t : Fin cfg0.N) (k : Fin 1024) (f : Fin 704) :
    (iblk m c 0 t : FVec Ideal S1x1024x704 .bf16) (ix3 0 k f) = grd m c (ix3 (blk t) (row t.val k) f) := by
  show grd m c (((cfg0.win 0).blk t).view.emb (ix3 0 k f)) = _
  have h := index0 t
  have e0 : win0_0.index t 0 = t.val / 4 := congrFun h 0
  have e1 : win0_0.index t 1 = t.val % 4 := congrFun h 1
  have e2 : win0_0.index t 2 = 0 := congrFun h 2
  refine congrArg (grd m c) (funext fun a => Fin.ext ?_)
  match a with
  | ⟨0, _⟩ => show win0_0.index t 0 * 1 + 1 * 0 = t.val / 4; rw [e0]; omega
  | ⟨1, _⟩ => show win0_0.index t 1 * 1024 + 1 * k.val = 1024 * (t.val % 4) + k.val; rw [e1]; omega
  | ⟨2, _⟩ => show win0_0.index t 2 * 704 + 1 * f.val = f.val; rw [e2]; omega

/-- The tile of the rows, element by element. -/
theorem read1 (c : Dev nD) (t : Fin cfg0.N) (k : Fin 1024) (d : Fin 2048) :
    (iblk m c 1 t : FVec Ideal S1024x2048 .bf16) (ix2 k d) = rows m c (ix2 (row t.val k) d) := by
  show rows m c (((cfg0.win 1).blk t).view.emb (ix2 k d)) = _
  have h := index1 t
  have e0 : win0_1.index t 0 = t.val % 4 := congrFun h 0
  have e1 : win0_1.index t 1 = 0 := congrFun h 1
  refine congrArg (rows m c) (funext fun a => Fin.ext ?_)
  match a with
  | ⟨0, _⟩ => show win0_1.index t 0 * 1024 + 1 * k.val = 1024 * (t.val % 4) + k.val; rw [e0]; omega
  | ⟨1, _⟩ => show win0_1.index t 1 * 2048 + 1 * d.val = d.val; rw [e1]; omega

/-- The product of a point's tiles, from the arrays the call is given. -/
theorem part_eq (c : Dev nD) (t : Fin cfg0.N) (f : Fin 704) (d : Fin 2048) :
    part (iblk m c 0 t) (iblk m c 1 t) f d = ∑ k, grd m c (ix3 (blk t) (row t.val k) f) * rows m c (ix2 (row t.val k) d) :=
  Finset.sum_congr rfl fun k _ => by rw [read0, read1]

/-- Point number `s` of block `j`. -/
def pt (j : Fin 8) (s : Fin 4) : Fin cfg0.N := ⟨4 * j.val + s.val, lt_of_lt_of_eq (by omega) N_0.symm⟩

/-- What the call leaves at a place of a block: the sum over all rows. -/
theorem out_eq (c : Dev nD) (j : Fin 8) (f : Fin 704) (d : Fin 2048) :
    (outsAt0 m c (pt j 3).val (pt j 3).isLt).1 (ix3 0 f d) = ∑ i, grd m c (ix3 j i f) * rows m c (ix2 i d) := by
  have hb : ∀ s, blk (pt j s) = j := fun s => Fin.ext (by show (4 * j.val + s.val) / 4 = j.val; omega)
  have hr : ∀ s k, row (pt j s).val k = row s.val k := fun s k => Fin.ext (by
    show 1024 * ((4 * j.val + s.val) % 4) + k.val = 1024 * (s.val % 4) + k.val
    omega)
  have hm : ∀ s, (pt j s).val % 4 = s.val := fun s => by show (4 * j.val + s.val) % 4 = s.val; omega
  rw [out_last m c (pt j 3) (by rw [hm]; decide) (hm 3), acc_last m c (pt j 3) (by rw [hm]; decide) (hm 3)]
  have a2 := acc_mid m c (pt j 2) (by rw [hm]; decide) (by rw [hm]; decide) f d
  have a1 := acc_mid m c (pt j 1) (by rw [hm]; decide) (by rw [hm]; decide) f d
  have a0 := acc_first m c (pt j 0) (hm 0) (by rw [hm]; decide) f d
  have s3 : (outsAt0 m c ((pt j 3).val - 1) (Nat.lt_of_le_of_lt (Nat.sub_le _ _) (pt j 3).isLt)).2 = (outsAt0 m c (pt j 2).val (pt j 2).isLt).2 := rfl
  have s2 : (outsAt0 m c ((pt j 2).val - 1) (Nat.lt_of_le_of_lt (Nat.sub_le _ _) (pt j 2).isLt)).2 = (outsAt0 m c (pt j 1).val (pt j 1).isLt).2 := rfl
  have s1 : (outsAt0 m c ((pt j 1).val - 1) (Nat.lt_of_le_of_lt (Nat.sub_le _ _) (pt j 1).isLt)).2 = (outsAt0 m c (pt j 0).val (pt j 0).isLt).2 := rfl
  rw [s3, a2, s2, a1, s1, a0, part_eq, part_eq, part_eq, part_eq, sum_rows]
  simp only [hb, hr]
  rfl

/-- The array the call leaves, element by element. -/
theorem array_eq (c : Dev nD) (j : Fin 8) (f : Fin 704) (d : Fin 2048) :
    Value.G2 m c (ix3 j f d) = ∑ i, grd m c (ix3 j i f) * rows m c (ix2 i d) := by
  have hp : Value.pt2Of (ix3 j f d) = (pt j 3).val := by
    show 4 * (1 * (j.val / 1 - 0) + 1 * (f.val / 704 - 0) + 1 * (d.val / 2048 - 0)) + 3 = 4 * j.val + 3
    have := j.isLt; have := f.isLt; have := d.isLt; omega
  have hl : Value.loc2Of (ix3 j f d) = ix3 0 f d := by
    funext a; apply Fin.ext
    match a with
    | ⟨0, _⟩ => show j.val % 1 = 0; omega
    | ⟨1, _⟩ => show f.val % 704 = f.val; have := f.isLt; omega
    | ⟨2, _⟩ => show d.val % 2048 = d.val; have := d.isLt; omega
  unfold Value.G2
  rw [dif_pos (by rw [hp]; exact (pt j 3).isLt), hl, Value.fold0_congr m c _ _ (pt j 3).val (by have := (pt j 3).isLt; omega) hp, ← Value.outsAt0_sweep m c (pt j 3).val (pt j 3).isLt]
  exact out_eq m c j f d

/-- The array the call leaves is the gradient the reference computes. -/
theorem array_eq_reference (c : Dev nD) :
    Value.G2 m c = truncf .bf16 (Host.dotGeneral (F := Ideal) Cert.Reference3Ideal.dot_S8x704x4096_S4096x2048_S8x704x2048_2_0_01_1_n_n none (transpose Cert.Reference3Ideal.S8x704x4096 [0, 2, 1] (extf .f32 (grd m c) Cert.Reference3Ideal.Gen.bitsLt_bf16_f32) Cert.Reference3Ideal.Gen.transposes_S8x4096x704_S8x704x4096_0_2_1) (extf .f32 (rows m c) Cert.Reference3Ideal.Gen.bitsLt_bf16_f32)) Cert.Reference3Ideal.Gen.bitsLt_bf16_f32 := by
  funext i
  obtain ⟨j, f, d, rfl⟩ : ∃ j f d, i = ix3 j f d := ⟨i 0, i 1, i 2, by funext a; match a with | ⟨0, _⟩ => rfl | ⟨1, _⟩ => rfl | ⟨2, _⟩ => rfl⟩
  rw [array_eq]
  pointwise

/-- Kernel and reference leave the same array. -/
theorem algebraic : Cert.algebraic_Kernel3Ideal_Reference3Ideal := by
  intro m g m' g' _ hargs
  refine ⟨Value.G2 m, (θ_run defs _ _).mono (fun r h c => ⟨(h c).1, (h c).2⟩) (Value.run m g), ?_⟩
  refine (θ_run Cert.Reference3Ideal.defs _ _).mono (fun r h c => ⟨?_, (h c).2⟩) (Cert.Reference3Ideal.Value.run m' g')
  rw [(h c).1, array_eq_reference, (hargs c).1, (hargs c).2]
  rfl

end Cert.Dwg
end
-- ==== Proof.Gate.lean ====
/- The gradients of the gate's and the up projection's values: what the call computes at a place of a tile. -/
module

public import proofs.«01_k».proof.Defs
public import proofs.«01_k».proof.Proof.Grad
public import proofs.«01_k».proof.Proof.Conds
public import proofs.«01_k».proof.Proof.Math
public import proofs.«01_k».proof.Proof.Gen.Kernel4Ideal.Value
public import proofs.«01_k».proof.Proof.Gen.Reference4Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Gate
open Idealize.ShloMosaic Idealize.ShloMosaic.TcCoe Idealize.SL.Sem
open Idealize.ShloMosaic.Pipeline (Dat)
open Cert.Kernel4Ideal Cert.Kernel4Ideal.Gen Cert.Grad

variable (m : (ℓ : Loc nD τ sig) → Buf (Elt Ideal) ℓ)

/-- The gradients, the gate's values, the up projection's values and the weights, as the call is given them. -/
def ct (c : Dev nD) : FVec Ideal S4096x2048 .f32 := m ((c : Thread nD τ).loc main_arg0)
/-- The gate's values. -/
def gate (c : Dev nD) : FVec Ideal S8x4096x704 .f32 := m ((c : Thread nD τ).loc main_arg1)
/-- The up projection's values. -/
def up (c : Dev nD) : FVec Ideal S8x4096x704 .f32 := m ((c : Thread nD τ).loc main_arg2)
/-- The down weights. -/
def down (c : Dev nD) : FVec Ideal S8x704x2048 .bf16 := m ((c : Thread nD τ).loc main_arg3)

/-- The logistic function as the call computes it. -/
def sg (x : EReal) : EReal := Ideal.div 1 (1 + Ideal.exp (0 - x))

/-- One half of the product of a row with the weights' rows. -/
def part (v3 : FVec Ideal S512x2048 .bf16) (v4 : FVec Ideal S1x704x2048 .bf16) (r : Fin 512) (f : Fin 704) : EReal :=
  ((1 / 2 : ℝ) : EReal) * ∑ k : Fin 2048, v3 (ix2 r k) * v4 (ix3 0 f k)

/-- The gradient of the hidden values at a place of a tile. -/
theorem pay4_at (v3 : FVec Ideal S512x2048 .bf16) (v4 : FVec Ideal S1x704x2048 .bf16) (r : Fin 512) (f : Fin 704) :
    k0_pay4 (F := Ideal) v3 v4 (ix2 r f) = part v3 v4 r f := by
  unfold k0_pay4 part
  pointwise
  rw [half]

/-- The logistic function of the gate at a place of a tile. -/
theorem pay7_at (v : FVec Ideal S1x512x704 .f32) (r : Fin 512) (f : Fin 704) :
    k0_pay7 (F := Ideal) v (ix2 r f) = sg (v (ix3 0 r f)) := by
  unfold k0_pay7 k0_pay5 sg
  pointwise

/-- The gate times its logistic function at a place of a tile. -/
theorem pay8_at (v : FVec Ideal S1x512x704 .f32) (r : Fin 512) (f : Fin 704) :
    k0_pay8 (F := Ideal) v (ix2 r f) = v (ix3 0 r f) * sg (v (ix3 0 r f)) := by
  rw [← pay7_at]
  unfold k0_pay8 k0_pay5
  pointwise

/-- The gate's gradient at a place of a tile. -/
theorem pay9_at (v3 : FVec Ideal S512x2048 .bf16) (v4 : FVec Ideal S1x704x2048 .bf16) (v9 v11 : FVec Ideal S1x512x704 .f32) (r : Fin 512) (f : Fin 704) :
    k0_pay9 (F := Ideal) v3 v4 v9 v11 (ix3 0 r f) = part v3 v4 r f * v11 (ix3 0 r f) * (sg (v9 (ix3 0 r f)) * (1 + v9 (ix3 0 r f) * (1 - sg (v9 (ix3 0 r f))))) := by
  rw [← pay4_at, ← pay7_at]
  unfold k0_pay9 k0_pay6 k0_pay5
  pointwise

/-- The up projection's gradient at a place of a tile: a product of two values. -/
theorem pay1_at (a b : FVec Ideal S512x704 .f32) (r : Fin 512) (f : Fin 704) :
    k0_pay1 (F := Ideal) a b (ix3 0 r f) = a (ix2 r f) * b (ix2 r f) := by
  unfold k0_pay1
  pointwise

/-- The hidden value at a place of a tile: a product of two values. -/
theorem pay2_at (a : FVec Ideal S1x512x704 .f32) (b : FVec Ideal S512x704 .f32) (r : Fin 512) (f : Fin 704) :
    k0_pay2 (F := Ideal) (k0_pay6 a) b (ix3 0 r f) = b (ix2 r f) * a (ix3 0 r f) := by
  unfold k0_pay2 k0_pay6
  pointwise

/-- The block of rows of a point and the block of the hidden dimension. -/
def rowOf (t : ℕ) (r : Fin 512) : Fin 4096 := ⟨512 * (t / 8 % 8) + r.val, by omega⟩

/-- The block of the hidden dimension of a point. -/
def blk (t : ℕ) : Fin 8 := ⟨t % 8, by omega⟩

/-- Where the tile of the gradients' rows lies. -/
theorem index0 : ∀ t : Fin cfg0.N, win0_0.index t = ![t.val / 8, 0] := (by decide +kernel : ∀ t : Fin grid0.N, _)
/-- Where the tile of the gate lies. -/
theorem index1 : ∀ t : Fin cfg0.N, win0_1.index t = ![t.val % 8, t.val / 8, 0] := (by decide +kernel : ∀ t : Fin grid0.N, _)
/-- Where the tile of the up projection lies. -/
theorem index2 : ∀ t : Fin cfg0.N, win0_2.index t = ![t.val % 8, t.val / 8, 0] := (by decide +kernel : ∀ t : Fin grid0.N, _)
/-- Where the block of the weights lies. -/
theorem index3 : ∀ t : Fin cfg0.N, win0_3.index t = ![t.val % 8, 0, 0] := (by decide +kernel : ∀ t : Fin grid0.N, _)

/-- The tile of the gradients' rows, element by element. -/
theorem read0 (c : Dev nD) (t : Fin cfg0.N) (r : Fin 512) (d : Fin 2048) :
    (iblk m c 0 t : FVec Ideal S512x2048 .f32) (ix2 r d) = ct m c (ix2 (rowOf t.val r) d) := by
  show ct m c (((cfg0.win 0).blk t).view.emb (ix2 r d)) = _
  have h := index0 t
  have hN := lt_of_lt_of_eq t.isLt N_0
  have e0 : win0_0.index t 0 = t.val / 8 := congrFun h 0
  have e1 : win0_0.index t 1 = 0 := congrFun h 1
  refine congrArg (ct m c) (funext fun a => Fin.ext ?_)
  match a with
  | ⟨0, _⟩ => show win0_0.index t 0 * 512 + 1 * r.val = 512 * (t.val / 8 % 8) + r.val; rw [e0]; omega
  | ⟨1, _⟩ => show win0_0.index t 1 * 2048 + 1 * d.val = d.val; rw [e1]; omega

/-- The tile of the gate, element by element. -/
theorem read1 (c : Dev nD) (t : Fin cfg0.N) (r : Fin 512) (f : Fin 704) :
    (iblk m c 1 t : FVec Ideal S1x512x704 .f32) (ix3 0 r f) = gate m c (ix3 (blk t.val) (rowOf t.val r) f) := by
  show gate m c (((cfg0.win 1).blk t).view.emb (ix3 0 r f)) = _
  have h := index1 t
  have hN := lt_of_lt_of_eq t.isLt N_0
  have e0 : win0_1.index t 0 = t.val % 8 := congrFun h 0
  have e1 : win0_1.index t 1 = t.val / 8 := congrFun h 1
  have e2 : win0_1.index t 2 = 0 := congrFun h 2
  refine congrArg (gate m c) (funext fun a => Fin.ext ?_)
  match a with
  | ⟨0, _⟩ => show win0_1.index t 0 * 1 + 1 * 0 = t.val % 8; rw [e0]; omega
  | ⟨1, _⟩ => show win0_1.index t 1 * 512 + 1 * r.val = 512 * (t.val / 8 % 8) + r.val; rw [e1]; omega
  | ⟨2, _⟩ => show win0_1.index t 2 * 704 + 1 * f.val = f.val; rw [e2]; omega

/-- The tile of the up projection, element by element. -/
theorem read2 (c : Dev nD) (t : Fin cfg0.N) (r : Fin 512) (f : Fin 704) :
    (iblk m c 2 t : FVec Ideal S1x512x704 .f32) (ix3 0 r f) = up m c (ix3 (blk t.val) (rowOf t.val r) f) := by
  show up m c (((cfg0.win 2).blk t).view.emb (ix3 0 r f)) = _
  have h := index2 t
  have hN := lt_of_lt_of_eq t.isLt N_0
  have e0 : win0_2.index t 0 = t.val % 8 := congrFun h 0
  have e1 : win0_2.index t 1 = t.val / 8 := congrFun h 1
  have e2 : win0_2.index t 2 = 0 := congrFun h 2
  refine congrArg (up m c) (funext fun a => Fin.ext ?_)
  match a with
  | ⟨0, _⟩ => show win0_2.index t 0 * 1 + 1 * 0 = t.val % 8; rw [e0]; omega
  | ⟨1, _⟩ => show win0_2.index t 1 * 512 + 1 * r.val = 512 * (t.val / 8 % 8) + r.val; rw [e1]; omega
  | ⟨2, _⟩ => show win0_2.index t 2 * 704 + 1 * f.val = f.val; rw [e2]; omega

/-- The block of the weights, element by element. -/
theorem read3 (c : Dev nD) (t : Fin cfg0.N) (f : Fin 704) (d : Fin 2048) :
    (iblk m c 3 t : FVec Ideal S1x704x2048 .bf16) (ix3 0 f d) = down m c (ix3 (blk t.val) f d) := by
  show down m c (((cfg0.win 3).blk t).view.emb (ix3 0 f d)) = _
  have h := index3 t
  have e0 : win0_3.index t 0 = t.val % 8 := congrFun h 0
  have e1 : win0_3.index t 1 = 0 := congrFun h 1
  have e2 : win0_3.index t 2 = 0 := congrFun h 2
  refine congrArg (down m c) (funext fun a => Fin.ext ?_)
  match a with
  | ⟨0, _⟩ => show win0_3.index t 0 * 1 + 1 * 0 = t.val % 8; rw [e0]; omega
  | ⟨1, _⟩ => show win0_3.index t 1 * 704 + 1 * f.val = f.val; rw [e1]; omega
  | ⟨2, _⟩ => show win0_3.index t 2 * 2048 + 1 * d.val = d.val; rw [e2]; omega

/-- The rows kept between the points of a row block are the gradients' rows. -/
theorem kept (c : Dev nD) : ∀ (n : ℕ) (hn : n < cfg0.N) (r : Fin 512) (d : Fin 2048),
    (outsAt0 m c n hn).2.2.2 (ix2 r d) = ct m c (ix2 (rowOf n r) d) := by
  have first : ∀ (t : Fin cfg0.N) (h0 : t.val % 8 = 0) (r : Fin 512) (d : Fin 2048), (outsAt0 m c t.val t.isLt).2.2.2 (ix2 r d) = ct m c (ix2 (rowOf t.val r) d) := by
    intro t h0 r d
    rw [outsAt0_A m c t h0]
    frame_out
    unfold k0_pay3
    pointwise
    exact read0 m c t r d
  intro n
  induction n with
  | zero => exact fun hn r d => first ⟨0, hn⟩ rfl r d
  | succ n ih =>
    intro hn r d
    by_cases h0 : (n + 1) % 8 = 0
    · exact first ⟨n + 1, hn⟩ h0 r d
    · have e := congrArg (fun p => p.2.2.2 (ix2 r d)) (outsAt0_B m c ⟨n + 1, hn⟩ h0)
      refine e.trans ((ih (Nat.lt_of_succ_lt hn) r d).trans ?_)
      refine congrArg (fun q => ct m c (ix2 q d)) (Fin.ext ?_)
      show 512 * (n / 8 % 8) + r.val = 512 * ((n + 1) / 8 % 8) + r.val
      omega

/-- The gradient of the hidden value, from the arrays the call is given. -/
def dA (c : Dev nD) (j : Fin 8) (i : Fin 4096) (f : Fin 704) : EReal :=
  ((1 / 2 : ℝ) : EReal) * ∑ k : Fin 2048, ct m c (ix2 i k) * down m c (ix3 j f k)

/-- The gradient of the hidden values, from the arrays the call is given. -/
theorem part_eq (c : Dev nD) (t : Fin cfg0.N) (v : FVec Ideal S512x2048 .bf16) (r : Fin 512) (f : Fin 704)
    (h : ∀ d, v (ix2 r d) = ct m c (ix2 (rowOf t.val r) d)) :
    part v (iblk m c 3 t) r f = dA m c (blk t.val) (rowOf t.val r) f := by
  unfold part dA
  exact congrArg (fun s => ((1 / 2 : ℝ) : EReal) * s) (Finset.sum_congr (M := EReal) rfl fun k _ => by rw [h, read3])

/-- The three blocks a point leaves, from one block of rows. -/
def blocks (c : Dev nD) (t : Fin cfg0.N) (v : FVec Ideal S512x2048 .bf16) : FVec Ideal S1x512x704 .bf16 × FVec Ideal S1x512x704 .bf16 × FVec Ideal S1x512x704 .bf16 :=
  (k0_pay9 v (iblk m c 3 t) (iblk m c 1 t) (iblk m c 2 t), k0_pay1 (k0_pay4 v (iblk m c 3 t)) (k0_pay8 (iblk m c 1 t)), k0_pay2 (k0_pay6 (iblk m c 2 t)) (k0_pay8 (iblk m c 1 t)))

/-- What a point leaves comes from the gradients' rows. -/
theorem outs (c : Dev nD) (t : Fin cfg0.N) : ∃ v : FVec Ideal S512x2048 .bf16, (∀ r d, v (ix2 r d) = ct m c (ix2 (rowOf t.val r) d)) ∧
    (outsAt0 m c t.val t.isLt).1 = (blocks m c t v).1 ∧ (outsAt0 m c t.val t.isLt).2.1 = (blocks m c t v).2.1 ∧ (outsAt0 m c t.val t.isLt).2.2.1 = (blocks m c t v).2.2 := by
  by_cases h0 : t.val % 8 = 0
  · refine ⟨k0_pay3 (iblk m c 0 t), fun r d => ?_, ?_⟩
    · unfold k0_pay3
      pointwise
      exact read0 m c t r d
    · rw [outsAt0_A m c t h0]
      frame_out
      refine ⟨?_, ?_, ?_⟩ <;> trivial
  · refine ⟨(outsAt0 m c (t.val - 1) (Nat.lt_of_le_of_lt (Nat.sub_le _ _) t.isLt)).2.2.2, fun r d => ?_, ?_⟩
    · rw [kept]
      refine congrArg (fun q => ct m c (ix2 q d)) (Fin.ext ?_)
      show 512 * ((t.val - 1) / 8 % 8) + r.val = 512 * (t.val / 8 % 8) + r.val
      omega
    · rw [outsAt0_B m c t h0]
      frame_out
      simp only [read_unread_whole]
      refine ⟨?_, ?_, ?_⟩ <;> trivial

/-- The gate's gradient at a place. -/
def dG (c : Dev nD) (j : Fin 8) (i : Fin 4096) (f : Fin 704) : EReal :=
  dA m c j i f * up m c (ix3 j i f) * (sg (gate m c (ix3 j i f)) * (1 + gate m c (ix3 j i f) * (1 - sg (gate m c (ix3 j i f)))))

/-- The gate's gradient a point leaves. -/
theorem out_dG (c : Dev nD) (t : Fin cfg0.N) (r : Fin 512) (f : Fin 704) :
    (outsAt0 m c t.val t.isLt).1 (ix3 0 r f) = dG m c (blk t.val) (rowOf t.val r) f := by
  obtain ⟨v, hv, e, -, -⟩ := outs m c t
  rw [e]
  show k0_pay9 v (iblk m c 3 t) (iblk m c 1 t) (iblk m c 2 t) (ix3 0 r f) = _
  rw [pay9_at, part_eq m c t v r f (hv r), read1, read2]
  rfl

/-- The up projection's gradient a point leaves. -/
theorem out_dU (c : Dev nD) (t : Fin cfg0.N) (r : Fin 512) (f : Fin 704) :
    (outsAt0 m c t.val t.isLt).2.1 (ix3 0 r f) = dA m c (blk t.val) (rowOf t.val r) f * (gate m c (ix3 (blk t.val) (rowOf t.val r) f) * sg (gate m c (ix3 (blk t.val) (rowOf t.val r) f))) := by
  obtain ⟨v, hv, -, e, -⟩ := outs m c t
  rw [e]
  show k0_pay1 (k0_pay4 v (iblk m c 3 t)) (k0_pay8 (iblk m c 1 t)) (ix3 0 r f) = _
  rw [pay1_at, pay4_at, pay8_at, part_eq m c t v r f (hv r), read1]

/-- The hidden values a point leaves. -/
theorem out_A (c : Dev nD) (t : Fin cfg0.N) (r : Fin 512) (f : Fin 704) :
    (outsAt0 m c t.val t.isLt).2.2.1 (ix3 0 r f) = gate m c (ix3 (blk t.val) (rowOf t.val r) f) * sg (gate m c (ix3 (blk t.val) (rowOf t.val r) f)) * up m c (ix3 (blk t.val) (rowOf t.val r) f) := by
  obtain ⟨v, hv, -, -, e⟩ := outs m c t
  rw [e]
  show k0_pay2 (k0_pay6 (iblk m c 2 t)) (k0_pay8 (iblk m c 1 t)) (ix3 0 r f) = _
  rw [pay2_at, pay8_at, read1, read2]

/-- The point that writes a place of the arrays. -/
def pt (j : Fin 8) (i : Fin 4096) : Fin cfg0.N := ⟨8 * (i.val / 512) + j.val, lt_of_lt_of_eq (by omega) N_0.symm⟩

/-- The place in its tile. -/
def loc (i : Fin 4096) : Fin 512 := ⟨i.val % 512, by omega⟩

/-- The block number of the point that writes a place. -/
theorem pt_blk (j : Fin 8) (i : Fin 4096) : blk (pt j i).val = j := Fin.ext (by show (8 * (i.val / 512) + j.val) % 8 = j.val; omega)

/-- The row of the point that writes a place. -/
theorem pt_row (j : Fin 8) (i : Fin 4096) : rowOf (pt j i).val (loc i) = i := Fin.ext (by
  show 512 * ((8 * (i.val / 512) + j.val) / 8 % 8) + i.val % 512 = i.val
  omega)

/-- The number of the point that writes a place. -/
theorem pt_num (j : Fin 8) (i : Fin 4096) (f : Fin 704) :
    1 * (j.val / 1 - 0) + 8 * (i.val / 512 - 0) + 64 * (f.val / 704 - 0) = (pt j i).val := by
  show _ = 8 * (i.val / 512) + j.val
  omega

/-- The place in the tile. -/
theorem loc_eq (j : Fin 8) (i : Fin 4096) (f : Fin 704) : Value.loc4Of (ix3 j i f) = ix3 0 (loc i) f := by
  funext a; apply Fin.ext
  match a with
  | ⟨0, _⟩ => show j.val % 1 = 0; omega
  | ⟨1, _⟩ => rfl
  | ⟨2, _⟩ => show f.val % 704 = f.val; omega

/-- The gate's gradient the call leaves, element by element. -/
theorem array4 (c : Dev nD) (j : Fin 8) (i : Fin 4096) (f : Fin 704) : Value.G4 m c (ix3 j i f) = dG m c j i f := by
  have hp : Value.pt4Of (ix3 j i f) = (pt j i).val := pt_num j i f
  unfold Value.G4
  rw [dif_pos (by rw [hp]; exact (pt j i).isLt), loc_eq, Value.fold0_congr m c _ _ (pt j i).val (by have := (pt j i).isLt; omega) hp, ← Value.outsAt0_sweep m c (pt j i).val (pt j i).isLt]
  rw [out_dG, pt_blk, pt_row]

/-- The up projection's gradient the call leaves, element by element. -/
theorem array5 (c : Dev nD) (j : Fin 8) (i : Fin 4096) (f : Fin 704) :
    Value.G5 m c (ix3 j i f) = dA m c j i f * (gate m c (ix3 j i f) * sg (gate m c (ix3 j i f))) := by
  have hp : Value.pt5Of (ix3 j i f) = (pt j i).val := pt_num j i f
  have hl : Value.loc5Of (ix3 j i f) = ix3 0 (loc i) f := loc_eq j i f
  unfold Value.G5
  rw [dif_pos (by rw [hp]; exact (pt j i).isLt), hl, Value.fold0_congr m c _ _ (pt j i).val (by have := (pt j i).isLt; omega) hp, ← Value.outsAt0_sweep m c (pt j i).val (pt j i).isLt]
  rw [out_dU, pt_blk, pt_row]

/-- The hidden values the call leaves, element by element. -/
theorem array6 (c : Dev nD) (j : Fin 8) (i : Fin 4096) (f : Fin 704) :
    Value.G6 m c (ix3 j i f) = gate m c (ix3 j i f) * sg (gate m c (ix3 j i f)) * up m c (ix3 j i f) := by
  have hp : Value.pt6Of (ix3 j i f) = (pt j i).val := pt_num j i f
  have hl : Value.loc6Of (ix3 j i f) = ix3 0 (loc i) f := loc_eq j i f
  unfold Value.G6
  rw [dif_pos (by rw [hp]; exact (pt j i).isLt), hl, Value.fold0_congr m c _ _ (pt j i).val (by have := (pt j i).isLt; omega) hp, ← Value.outsAt0_sweep m c (pt j i).val (pt j i).isLt]
  rw [out_A, pt_blk, pt_row]

/-- The shapes that the precondition's lines take. -/
instance preFacts : Cert.Pre_finite4.Facts where
  bcast_S_S4096x2048 := by decide
  bcast_S_S8x4096x704 := by decide
  bitsLt_bf16_f32 := by decide
  bcast_S_S8x704x2048 := by decide
  reducesTo_S4096x2048_S_d0_1 := by decide
  h_S_ := by decide
  reducesTo_S8x4096x704_S_d0_1_2 := by decide
  reducesTo_S8x704x2048_S_d0_1_2 := by decide

/-- Under the precondition the gradients, the up projection's values and the weights are real numbers. -/
theorem finite (c : Dev nD) (h : Pre_finite4.fn (F := Ideal) (ct m c) (gate m c) (up m c) (down m c) = fun _ => 1#1) :
    (∀ i, ct m c i = ((ct m c i).toReal : EReal)) ∧ (∀ i, up m c i = ((up m c i).toReal : EReal)) ∧ (∀ i, down m c i = ((down m c i).toReal : EReal)) := by
  have : Subsingleton Pre_finite4.S_.Idx := ⟨fun a b => funext fun i => i.elim0⟩
  have h' := congrFun h (fun i => i.elim0)
  obtain ⟨h01, h2⟩ := IntOp.andi_eq_one.1 h'
  obtain ⟨h0, h1⟩ := IntOp.andi_eq_one.1 h01
  exact ⟨fun i => Conds.real_of_abs _ (Host.reduce_andi_all _ _ _ _ _ h0 i), fun i => Conds.real_of_abs _ (Host.reduce_andi_all _ _ _ _ _ h1 i),
    fun i => Conds.real_of_abs _ (Host.reduce_andi_all _ _ _ _ _ h2 i)⟩

/-- The two ways to write the derivative of `g ↦ g * sg g`, times a real number. -/
theorem silu_grad (g : EReal) (c : ℝ) :
    (c : EReal) * (sg g * (1 + g * (1 - sg g))) = (c : EReal) * sg g + g * (c : EReal) * (sg g * (1 - sg g)) := by
  unfold sg
  rw [zero_sub]
  induction g with
  | bot =>
    have e : Ideal.div 1 (1 + Ideal.exp (-⊥)) = 0 := Ideal.logistic_bot
    rw [e]; simp
  | top =>
    have e : Ideal.div 1 (1 + Ideal.exp (-⊤)) = 1 := Ideal.logistic_top
    have z : (1 : EReal) - 1 = 0 := by rw [← EReal.coe_one, ← EReal.coe_sub]; simp
    rw [e, z]; simp
  | coe r =>
    have e : Ideal.div 1 (1 + Ideal.exp (-(r : EReal))) = ((1 / (1 + Real.exp (-r)) : ℝ) : EReal) := by
      have p : 1 + Real.exp (-r) ≠ 0 := by positivity
      rw [← EReal.coe_neg, Ideal.exp_coe, ← EReal.coe_one, ← EReal.coe_add, Attn.div_coe_coe _ p]
    rw [e]
    generalize 1 / (1 + Real.exp (-r)) = s
    rw [← EReal.coe_one]
    norm_cast
    ring

/-- The gradient of the hidden values is a real number where the rows and the weights are. -/
theorem dA_real (c : Dev nD) (h0 : ∀ i, ct m c i = ((ct m c i).toReal : EReal)) (h2 : ∀ i, down m c i = ((down m c i).toReal : EReal))
    (j : Fin 8) (i : Fin 4096) (f : Fin 704) : ∃ x : ℝ, dA m c j i f = (x : EReal) := by
  refine ⟨1 / 2 * ∑ k : Fin 2048, (ct m c (ix2 i k)).toReal * (down m c (ix3 j f k)).toReal, ?_⟩
  unfold dA
  rw [EReal.coe_mul, Attn.coe_sum]
  refine congrArg (fun s => ((1 / 2 : ℝ) : EReal) * s) (Finset.sum_congr (M := EReal) rfl fun k _ => ?_)
  rw [EReal.coe_mul, ← h0, ← h2]

/-- The reference's gradient of the hidden value. -/
theorem dA_eq (c : Dev nD) (j : Fin 8) (i : Fin 4096) (f : Fin 704) :
    dA m c j i f = ∑ k : Fin 2048, Ideal.ofBits .f32 1056964608#32 * ct m c (ix2 i k) * down m c (ix3 j f k) := by
  unfold dA
  rw [half_sum]
  exact Finset.sum_congr (M := EReal) rfl fun k _ => by rw [half, mul_assoc]

/-- Kernel and reference leave the same arrays where the three arrays hold real numbers. -/
theorem algebraic : Cert.algebraic_Kernel4Ideal_Reference4Ideal_pre_finite4 := by
  intro m g m' g' hpre hargs
  refine ⟨Value.G4 m, Value.G5 m, Value.G6 m, Value.run m g, ?_⟩
  refine (θ_run Cert.Reference4Ideal.defs _ _).mono (fun r h c => ⟨?_, ?_, ?_, (h c).2.2.2⟩) (Cert.Reference4Ideal.Value.run m' g')
  · obtain ⟨h0, h1, h2⟩ := finite m c (hpre c)
    rw [(h c).1, (hargs c).1, (hargs c).2.1, (hargs c).2.2.1, (hargs c).2.2.2]
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array4 m c j i f).symm
    pointwise
    clear h
    obtain ⟨x, hx⟩ := dA_real m c h0 h2 j i f
    have e := silu_grad (gate m c (ix3 j i f)) (x * (up m c (ix3 j i f)).toReal)
    rw [EReal.coe_mul, ← hx, ← h1] at e
    refine Eq.trans ?_ e.symm
    rw [dA_eq]
    unfold sg
    rw [zero_sub]
    rfl
  · rw [(h c).2.1, (hargs c).1, (hargs c).2.1, (hargs c).2.2.2]
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array5 m c j i f).symm
    pointwise
    rw [dA_eq]
    unfold sg
    rw [zero_sub]
    exact mul_comm _ _
  · rw [(h c).2.2.1, (hargs c).2.1, (hargs c).2.2.1]
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array6 m c j i f).symm
    pointwise
    unfold sg
    rw [zero_sub]
    rfl

end Cert.Gate
end
-- ==== Proof.Norm.lean ====
/- The gradient through the norm x · (mean(x²) + ε)^(−1/2) · g of one row of 2048 numbers, as a kernel writes it and as the
   chain rule gives it, over the extended reals. No program appears here. -/
module

public import Idealize.ShloMosaic.PureOps.Ideal
public import Mathlib.Data.EReal.Operations
public import Mathlib.Algebra.BigOperators.Fin

@[expose] public section

noncomputable section
namespace Cert.Norm
open Idealize.ShloMosaic

/-- The width of a row, as a word. -/
def width : EReal := Ideal.ofBits .f32 0x45000000#32

/-- The norm's small constant, as a word. -/
def eps : EReal := Ideal.ofBits .f32 0x358637BD#32

/-- The word `0x45000000` is 2048. -/
theorem width_eq : width = ((2048 : ℝ) : EReal) := by
  unfold width
  simp [Ideal.ofBits, Ideal.ieee, -EReal.coe_mul]; norm_num

/-- The word `0xBF000000` is minus one half. -/
theorem neg_half : Ideal.ofBits .f32 0xBF000000#32 = ((-(1 / 2) : ℝ) : EReal) := by
  simp [Ideal.ofBits, Ideal.ieee, -EReal.coe_mul, -EReal.coe_neg]; norm_num

/-- The small constant is a positive real number. -/
theorem eps_eq : ∃ e : ℝ, 0 < e ∧ eps = (e : EReal) := by
  refine ⟨(2 : ℝ) ^ (-43 : ℤ) * 8796093, by norm_num, ?_⟩
  unfold eps
  simp [Ideal.ofBits, Ideal.ieee, -EReal.coe_mul]
  exact mul_comm _ _

/-- A nonnegative real number times a sum of two extended reals. -/
theorem mul_add' {a : ℝ} (h : 0 ≤ a) (b c : EReal) : (a : EReal) * (b + c) = (a : EReal) * b + (a : EReal) * c :=
  EReal.left_distrib_of_nonneg_of_ne_top (by exact_mod_cast h) (EReal.coe_ne_top _) b c

/-- A nonnegative real number times a sum of extended reals. -/
theorem mul_sum' {a : ℝ} (h : 0 ≤ a) {ι : Type} (s : Finset ι) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, mul_add' h, ih]

/-- A nonnegative real number, taken out of a difference. -/
theorem mul_sub' {a : ℝ} (h : 0 ≤ a) (b c : EReal) : (a : EReal) * (b - c) = (a : EReal) * b + ((-a : ℝ) : EReal) * c := by
  rw [sub_eq_add_neg, mul_add' h, EReal.coe_neg, neg_mul, mul_neg]

/-- Two halves of a multiple of an extended real. -/
theorem two_halves (a : ℝ) (b : EReal) : ((a / 2 : ℝ) : EReal) * b + ((a / 2 : ℝ) : EReal) * b = (a : EReal) * b := by
  have h : ∀ e : EReal, ((1 / 2 : ℝ) : EReal) * e + ((1 / 2 : ℝ) : EReal) * e = e := fun e => by
    rw [← EReal.right_distrib_of_nonneg (by exact_mod_cast (by norm_num : (0 : ℝ) ≤ 1 / 2)) (by exact_mod_cast (by norm_num : (0 : ℝ) ≤ 1 / 2)), ← EReal.coe_add]
    norm_num
  have e : ((a / 2 : ℝ) : EReal) = ((1 / 2 : ℝ) : EReal) * (a : EReal) := by rw [← EReal.coe_mul]; congr 1; ring
  rw [e, mul_assoc, h]

variable (x dh g : Fin 2048 → EReal)

/-- The mean of the squares of a row, and the small constant. -/
def ms : EReal := Ideal.div (∑ k, x k * x k) width + eps

/-- The norm's factor. -/
def rs : EReal := Ideal.rsqrt (ms x)

/-- The gradient of a row's entry as the kernel writes it. -/
def dx (d : Fin 2048) : EReal :=
  rs x * (dh d * g d - x d * rs x * Ideal.div (∑ k, dh k * g k * (x k * rs x)) width)

/-- One half of the part of the chain rule that goes through the mean. -/
def back : EReal :=
  Ideal.div ((∑ k, x k * (dh k * g k)) * (Ideal.ofBits .f32 0xBF000000#32 * Ideal.div (rs x) (ms x))) width

/-- A finite sum of real numbers, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A square is not negative. -/
theorem sq_nonneg' (a : EReal) : 0 ≤ a * a := by
  induction a with
  | bot => simp
  | top => simp
  | coe a => exact_mod_cast mul_self_nonneg a

/-- A row with an infinite entry has the factor 0. -/
theorem rs_top (h : ∑ k, x k * x k = ⊤) : ms x = ⊤ ∧ rs x = 0 := by
  obtain ⟨e, _, he⟩ := eps_eq
  have : ms x = ⊤ := by
    unfold ms
    rw [h, width_eq, Ideal.div_coe (by norm_num), EReal.top_mul_coe_of_pos (by norm_num), he, EReal.top_add_coe]
  exact ⟨this, by unfold rs; rw [this]; rfl⟩

/-- If the sum of the squares is finite, the row is real. -/
theorem real_of (h : ∑ k, x k * x k ≠ ⊤) (k : Fin 2048) : ∃ a : ℝ, x k = (a : EReal) := by
  have h1 : x k * x k ≤ ∑ k, x k * x k := Finset.single_le_sum (f := fun k => x k * x k) (fun i _ => sq_nonneg' (x i)) (Finset.mem_univ k)
  have h2 : x k * x k ≠ ⊤ := fun e => h (top_le_iff.mp (e ▸ h1))
  generalize x k = a at h2
  induction a with
  | bot => simp at h2
  | top => simp at h2
  | coe a => exact ⟨a, rfl⟩

/-- The factor of a real row: a positive real number whose square is one over the mean. -/
theorem rs_real (a : Fin 2048 → ℝ) (ha : ∀ k, x k = (a k : EReal)) :
    ∃ M r : ℝ, 0 < M ∧ 0 < r ∧ r * r = 1 / M ∧ ms x = (M : EReal) ∧ rs x = (r : EReal) := by
  obtain ⟨e, he0, he⟩ := eps_eq
  have h0 : 0 ≤ (∑ k, a k * a k) * (1 / 2048) := mul_nonneg (Finset.sum_nonneg fun k _ => mul_self_nonneg _) (by norm_num)
  have hM : ms x = (((∑ k, a k * a k) * (1 / 2048) + e : ℝ) : EReal) := by
    unfold ms
    rw [width_eq, Ideal.div_coe (by norm_num), he, EReal.coe_add, EReal.coe_mul, coe_sum]
    simp only [ha, EReal.coe_mul]
  have hp : 0 < (∑ k, a k * a k) * (1 / 2048) + e := by linarith
  refine ⟨_, (Real.sqrt ((∑ k, a k * a k) * (1 / 2048) + e))⁻¹, hp, inv_pos.mpr (Real.sqrt_pos.mpr hp), ?_, hM, ?_⟩
  · rw [← mul_inv, Real.mul_self_sqrt hp.le]; exact (one_div _).symm
  · unfold rs
    rw [hM, Ideal.rsqrt_coe, if_neg (not_lt.mpr hp.le), if_neg hp.ne']

/-- The kernel's gradient, added to a residual, is the chain rule's. -/
theorem dx_eq (y : EReal) (d : Fin 2048) :
    y + dx x dh g d = y + dh d * g d * rs x + x d * back x dh g + back x dh g * x d := by
  by_cases h : ∑ k, x k * x k = ⊤
  · obtain ⟨h1, h2⟩ := rs_top x h
    unfold dx back
    rw [h1, h2]
    have e : Ideal.div 0 ⊤ = 0 := by unfold Ideal.div; simp
    rw [e, mul_zero, mul_zero, width_eq, Ideal.div_coe (by norm_num), Ideal.div_coe (by norm_num)]
    simp
  · choose a ha using real_of x h
    obtain ⟨M, r, hM, hr, hrr, eM, er⟩ := rs_real x a ha
    have eb : back x dh g = ((-(1 / 2) * (r / M) / 2048 : ℝ) : EReal) * ∑ k, x k * (dh k * g k) := by
      unfold back
      rw [eM, er, neg_half, width_eq, Ideal.div_coe (by norm_num), Ideal.div_coe hM.ne', mul_comm (∑ k, _), mul_assoc, mul_comm (∑ k, _), ← mul_assoc, ← EReal.coe_mul, ← EReal.coe_mul, ← EReal.coe_mul]
      congr 2
      ring
    have es : ∑ k, dh k * g k * (x k * rs x) = (r : EReal) * ∑ k, x k * (dh k * g k) := by
      rw [mul_sum' hr.le, er]
      exact Finset.sum_congr rfl fun k _ => by rw [mul_comm (x k) (r : EReal), mul_left_comm, mul_comm (x k)]
    unfold dx
    rw [es, eb, er, mul_sub' hr.le, width_eq, Ideal.div_coe (by norm_num), mul_comm (dh d * g d), ha d]
    generalize (∑ k, x k * (dh k * g k)) = T
    generalize dh d * g d = u
    have e1 : ((-r : ℝ) : EReal) * ((a d : EReal) * (r : EReal) * ((r : EReal) * T * ((1 / 2048 : ℝ) : EReal)))
        = ((-(a d) * (r / M) / 2048 : ℝ) : EReal) * T := by
      have : ((-(a d) * (r / M) / 2048 : ℝ) : EReal) = ((-r : ℝ) : EReal) * ((a d : EReal) * (r : EReal) * ((r : EReal) * ((1 / 2048 : ℝ) : EReal))) := by
        simp only [← EReal.coe_mul]
        congr 1
        have : r / M = r * (r * r) := by rw [hrr]; ring
        rw [this]; ring
      rw [this, mul_right_comm (r : EReal) T]
      simp only [mul_assoc]
    have e2 : (a d : EReal) * (((-(1 / 2) * (r / M) / 2048 : ℝ) : EReal) * T) = (((-(a d) * (r / M) / 2048) / 2 : ℝ) : EReal) * T := by
      rw [← mul_assoc, ← EReal.coe_mul]; congr 2; ring
    rw [e1, mul_comm _ (a d : EReal), e2, add_assoc (y + _), two_halves, add_assoc y]

end Cert.Norm
end
-- ==== Proof.Chunks.lean ====
/- A loop over the four chunks of 128 rows of a tile of 512: it stores one chunk after the other and adds up a row of sums. -/
module

public import Idealize.ShloMosaic.PureOps.Ideal
public import Idealize.ShloMosaic.Lib.Pipeline.ValueKit
public import Idealize.ShloMosaic.Lib.Pointwise
public import proofs.«01_k».proof.Proof.Norm

@[expose] public section

noncomputable section
namespace Cert.Chunks
open Idealize.ShloMosaic

/-- A tile of rows. -/
abbrev T : Shape := ⟨2, ![512, 2048]⟩
/-- A chunk of its rows. -/
abbrev C : Shape := ⟨2, ![128, 2048]⟩
/-- One row. -/
abbrev R : Shape := ⟨2, ![1, 2048]⟩

/-- Row `r` of the chunk number `k`. -/
def row (k : ℕ) (hk : k < 4) (r : Fin 128) : Fin 512 := ⟨128 * k + r.val, by omega⟩

/-- What the loop leaves: the sums of all chunks are added to the first value, and the stored tile has, in every chunk, what
    that chunk's round stored. -/
theorem loop {n : ℕ} (hn : n = 4) (st : ℕ → FVec Ideal R .f32 × List (View.Piece (Elt Ideal) T .f32)) (init : FVec Ideal R .f32)
    (rnd : Fin n → FVec Ideal R .f32 → FVec Ideal R .f32) (pcs : Fin n → FVec Ideal R .f32 → List (View.Piece (Elt Ideal) T .f32))
    (h0 : st 0 = (init, [])) (hs : ∀ k : Fin n, st (k.val + 1) = (rnd k (st k.val).1, pcs k (st k.val).1 ++ (st k.val).2))
    (s : Fin 4 → Fin 2048 → EReal) (hr : ∀ (k : Fin n) a d, rnd k a (ix2 0 d) = a (ix2 0 d) + s (Fin.cast hn k) d)
    (G : FVec Ideal T .f32)
    (hp : ∀ (k : Fin n) a, ∃ (off : Fin 2 → ℕ) (inb : ∀ b, off b + (![128, 2048] : Fin 2 → ℕ) b ≤ T.size b) (w : FVec Ideal C .f32),
      off = ![128 * k.val, 0] ∧ pcs k a = [⟨Rect.unit (s := T) off ![128, 2048] inb, w⟩] ∧ ∀ r d, w (ix2 r d) = G (ix2 (row k.val (hn ▸ k.isLt) r) d)) :
    (∀ d, (st 4).1 (ix2 0 d) = init (ix2 0 d) + ∑ k, s k d) ∧ ∀ y, View.canon (st 4).2 y = G y := by
  subst hn
  have hone : ∀ (k : Fin 4) a (y : T.Idx), (∀ p ∈ pcs k a, ∀ x : p.1.shape.Idx, p.1.emb x = y → p.2 x = G y) ∧ (128 * k.val ≤ (y 0).val ∧ (y 0).val < 128 * k.val + 128 → ∃ p ∈ pcs k a, y ∈ p.1.set) := by
    intro k a y
    obtain ⟨off, inb, w, ho, he, hw⟩ := hp k a
    subst ho
    rw [he]
    refine ⟨?_, fun hy => ⟨_, List.mem_singleton.mpr rfl, ?_⟩⟩
    · intro p hp x hx
      obtain rfl := List.mem_singleton.mp hp
      have e : x = ix2 (x 0) (x 1) := by funext b; match b with | ⟨0, _⟩ => rfl | ⟨1, _⟩ => rfl
      show w x = G y
      rw [e, ← hx]
      refine (hw (x 0) (x 1)).trans (congrArg G ?_)
      funext b
      apply Fin.ext
      match b with
      | ⟨0, _⟩ => show 128 * k.val + (x 0).val = 128 * k.val + 1 * (x 0).val; omega
      | ⟨1, _⟩ => show (x 1).val = 0 + 1 * (x 1).val; omega
    · have hm : y ∈ (Rect.unit (s := T) ![128 * k.val, 0] ![128, 2048] inb).set := Rect.mem_set_unit.mpr fun b => by
        match b with
        | ⟨0, _⟩ => exact hy
        | ⟨1, _⟩ => exact ⟨Nat.zero_le _, by show (y 1).val < 0 + 2048; have := (y 1).isLt; have : (y 1).val < 2048 := this; omega⟩
      exact hm
  have hall : ∀ (k : ℕ) (hk : k ≤ 4) (y : T.Idx), (∀ p ∈ (st k).2, ∀ x : p.1.shape.Idx, p.1.emb x = y → p.2 x = G y) ∧ ((y 0).val < 128 * k → ∃ p ∈ (st k).2, y ∈ p.1.set) := by
    intro k
    induction k with
    | zero =>
      intro hk y
      rw [h0]
      exact ⟨fun p hp => absurd hp List.not_mem_nil, fun h => by omega⟩
    | succ k ih =>
      intro hk y
      rw [hs ⟨k, hk⟩]
      obtain ⟨a1, a2⟩ := hone ⟨k, hk⟩ (st k).1 y
      obtain ⟨b1, b2⟩ := ih (by omega) y
      refine ⟨fun p hp => (List.mem_append.mp hp).elim (a1 p) (b1 p), fun hy => ?_⟩
      by_cases h : (y 0).val < 128 * k
      · obtain ⟨p, hp, hm⟩ := b2 h
        exact ⟨p, List.mem_append_right _ hp, hm⟩
      · obtain ⟨p, hp, hm⟩ := a2 ⟨by show 128 * k ≤ _; omega, by show _ < 128 * k + 128; omega⟩
        exact ⟨p, List.mem_append_left _ hp, hm⟩
  refine ⟨fun d => ?_, fun y => ?_⟩
  · have e3 := congrArg Prod.fst (hs 3)
    have e2 := congrArg Prod.fst (hs 2)
    have e1 := congrArg Prod.fst (hs 1)
    have e0 := congrArg Prod.fst (hs 0)
    have f3 : (st 4).1 (ix2 0 d) = (st 3).1 (ix2 0 d) + s 3 d := (congrFun e3 _).trans (hr 3 _ d)
    have f2 : (st 3).1 (ix2 0 d) = (st 2).1 (ix2 0 d) + s 2 d := (congrFun e2 _).trans (hr 2 _ d)
    have f1 : (st 2).1 (ix2 0 d) = (st 1).1 (ix2 0 d) + s 1 d := (congrFun e1 _).trans (hr 1 _ d)
    have f0 : (st 1).1 (ix2 0 d) = (st 0).1 (ix2 0 d) + s 0 d := (congrFun e0 _).trans (hr 0 _ d)
    rw [f3, f2, f1, f0, h0, Fin.sum_univ_four]
    simp only [add_assoc]
  · obtain ⟨a1, a2⟩ := hall 4 le_rfl y
    exact View.canon_eq_of_allAt _ y _ (a2 (by have := (y 0).isLt; have : (y 0).val < 512 := this; omega)) a1

/-- Rows that a chunk reads. -/
theorem read_rows {sig : RefSig} {κ : Kind} {sp : Space} (v : View sig κ sp T .f32) (f : v.ty.Contents (Elt Ideal)) (a : FVec Ideal T .f32)
    (h : v.read (Elt Ideal) f = a) {off : Fin 2 → ℕ} (k : ℕ) (hk : k < 4) (ho : off = ![128 * k, 0])
    (inb : ∀ b, off b + (![128, 2048] : Fin 2 → ℕ) b ≤ T.size b) (r : Fin 128) (d : Fin 2048) :
    v.readAt (Elt Ideal) (Rect.unit (s := T) off ![128, 2048] inb).toLoadRect f (ix2 r d) = a (ix2 (row k hk r) d) := by
  subst ho
  rw [← h]
  refine congrArg (v.read (Elt Ideal) f) (funext fun b => Fin.ext ?_)
  match b with
  | ⟨0, _⟩ => show 128 * k + 1 * r.val = 128 * k + r.val; omega
  | ⟨1, _⟩ => show 0 + 1 * d.val = d.val; omega

/-- The one row that every chunk reads. -/
theorem read_row {sig : RefSig} {κ : Kind} {sp : Space} (v : View sig κ sp R .f32) (f : v.ty.Contents (Elt Ideal)) (a : FVec Ideal R .f32)
    (h : v.read (Elt Ideal) f = a) (inb : ∀ b, (![0, 0] : Fin 2 → ℕ) b + (![1, 2048] : Fin 2 → ℕ) b ≤ R.size b) (d : Fin 2048) :
    v.readAt (Elt Ideal) (Rect.unit (s := R) ![0, 0] ![1, 2048] inb).toLoadRect f (ix2 0 d) = a (ix2 0 d) := by
  rw [← h]
  refine congrArg (v.read (Elt Ideal) f) (funext fun b => Fin.ext ?_)
  match b with
  | ⟨0, _⟩ => rfl
  | ⟨1, _⟩ => show 0 + 1 * d.val = d.val; omega

/-- A sum over all rows is the sum over the eight tiles of the sums over their four chunks. -/
theorem sum_rows (f : Fin 4096 → EReal) :
    ∑ i, f i = ∑ t : Fin 8, ∑ k : Fin 4, ∑ r : Fin 128, f ⟨512 * t.val + (row k.val k.isLt r).val, by have := (row k.val k.isLt r).isLt; omega⟩ := by
  rw [← (finProdFinEquiv (m := 8) (n := 512)).sum_comp f, Fintype.sum_prod_type]
  refine Finset.sum_congr (M := EReal) rfl fun t _ => ?_
  rw [← (finProdFinEquiv (m := 4) (n := 128)).sum_comp (fun j => f (finProdFinEquiv (t, j))), Fintype.sum_prod_type]
  refine Finset.sum_congr (M := EReal) rfl fun k _ => Finset.sum_congr (M := EReal) rfl fun r _ => congrArg f (Fin.ext ?_)
  show r.val + 128 * k.val + 512 * t.val = 512 * t.val + (128 * k.val + r.val)
  omega

end Cert.Chunks
end
-- ==== Proof.BwdIn.lean ====
/- The gradient of the feed-forward layer's input: the two products with the gate's and the up projection's weights, and the
   gradient through the norm. -/
module

public import proofs.«01_k».proof.Defs
public import proofs.«01_k».proof.Proof.Norm
public import proofs.«01_k».proof.Proof.Chunks
public import proofs.«01_k».proof.Proof.Gen.Kernel5Ideal.Value
public import proofs.«01_k».proof.Proof.Gen.Reference5Ideal.Run
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.Pointwise

@[expose] public section

set_option maxRecDepth 16384
noncomputable section
namespace Cert.BwdIn
open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The row of sums that one chunk adds. -/
theorem gain_at (s : FVec Ideal S1x2048 .f32) (dh x : FVec Ideal S128x2048 .f32) (d : Fin 2048) :
    k0_pay8 s dh x (ix2 0 d) = s (ix2 0 d) + ∑ r : Fin 128, dh (ix2 r d) * (x (ix2 r d) * Norm.rs fun k => x (ix2 r k)) := by
  unfold k0_pay8 k0_pay6 k0_pay5 Norm.rs Norm.ms Norm.width Norm.eps
  pointwise

/-- A chunk of the result: the residual's gradient and the gradient through the norm. -/
theorem dx_at (dh x : FVec Ideal S128x2048 .f32) (g : FVec Ideal S1x2048 .f32) (y : FVec Ideal S128x2048 .f32) (r : Fin 128) (d : Fin 2048) :
    k0_pay7 dh x g y (ix2 r d) = y (ix2 r d) + Norm.dx (fun k => x (ix2 r k)) (fun k => dh (ix2 r k)) (fun k => g (ix2 0 k)) d := by
  unfold k0_pay7 k0_pay6 k0_pay5 Norm.dx Norm.rs Norm.ms Norm.width Norm.eps
  pointwise

/-- The loop's number of rounds. -/
theorem trips_eq : k0_t1_loop.trips = 4 := by decide

/-- What the loop leaves, from the tile of the rows, the gain, the residual's gradient and the finished product. -/
theorem loop_eq (c : Dev nD) (t : Fin cfg0.N) (h : k0_cond3 (grid0.coords t) = 1#1) (x : FVec Ideal S512x2048 .f32) (g : FVec Ideal S1x2048 .f32) (y : FVec Ideal S512x2048 .f32)
    (X : BufTy.Contents (Elt Ideal) (View.whole cc0_scratch0).ty) (a : FVec Ideal S512x2048 .f32) (ha : (View.whole cc0_scratch0).read (Elt Ideal) X = a) (init : FVec Ideal S1x2048 .f32) :
    (∀ d, (st_k0_t1 (F := Ideal) Variants.none c none (grid0.coords t) (ms0_0 t) (hs0_0 t) (ms0_1 t) (hs0_1 t) (ms0_2 t) (hs0_2 t) (ms0_3 t) (hs0_3 t) (ms0_4 t) (hs0_4 t)
          (ms0_5 t) (hs0_5 t) (ms0_6 t) (hs0_6 t) (ms0_7 t) (hs0_7 t) (ms0_8 t) (hs0_8 t) scM0_0 (Memref.isWhole_whole _) h ((hs0_4 t).unread y) ((hs0_5 t).unread x) ((hs0_6 t).unread g) X init 4).1 (ix2 0 d)
        = init (ix2 0 d) + ∑ k : Fin 4, ∑ r : Fin 128, a (ix2 (Chunks.row k.val k.isLt r) d) * (x (ix2 (Chunks.row k.val k.isLt r) d) * Norm.rs fun e => x (ix2 (Chunks.row k.val k.isLt r) e)))
      ∧ ∀ f d, View.canon (st_k0_t1 (F := Ideal) Variants.none c none (grid0.coords t) (ms0_0 t) (hs0_0 t) (ms0_1 t) (hs0_1 t) (ms0_2 t) (hs0_2 t) (ms0_3 t) (hs0_3 t) (ms0_4 t) (hs0_4 t)
          (ms0_5 t) (hs0_5 t) (ms0_6 t) (hs0_6 t) (ms0_7 t) (hs0_7 t) (ms0_8 t) (hs0_8 t) scM0_0 (Memref.isWhole_whole _) h ((hs0_4 t).unread y) ((hs0_5 t).unread x) ((hs0_6 t).unread g) X init 4).2 (ix2 f d)
        = y (ix2 f d) + Norm.dx (fun e => x (ix2 f e)) (fun e => a (ix2 f e)) (fun e => g (ix2 0 e)) d := by
  refine (fun H => ⟨H.1, fun f d => H.2 (ix2 f d)⟩) (Chunks.loop trips_eq _ init _ _ (by rfl) (fun k => st_k0_t1_succ _ _ _ _ _ _ _ _ _ _ _ _ _ _ _ _ _ _ _ _ _ _ _ _ _ _ _ _ _ _ k)
    (fun k d => ∑ r : Fin 128, a (ix2 (Chunks.row k.val k.isLt r) d) * (x (ix2 (Chunks.row k.val k.isLt r) d) * Norm.rs fun e => x (ix2 (Chunks.row k.val k.isLt r) e)))
    ?_ (fun i => y i + Norm.dx (fun e => x (ix2 (i 0) e)) (fun e => a (ix2 (i 0) e)) (fun e => g (ix2 0 e)) (i 1)) ?_)
  · intro k s d
    unfold tripR_k0_t1 trip_k0_t1
    dsimp only
    have hk : k.val < 4 := lt_of_lt_of_eq k.isLt trips_eq
    rw [gain_at]
    have e1 := fun r d => Chunks.read_rows (View.whole cc0_scratch0) X a ha k.val hk (k0_off1_eq k) (k0_off1_inb (grid0.coords t) k h) r d
    have e2 := fun r d => Chunks.read_rows (ms0_5 t).view ((hs0_5 t).unread x) x (by rw [Memref.IsWhole.read_unread]) k.val hk (k0_off1_eq k) (k0_off1_inb (grid0.coords t) k h) r d
    refine congrArg (s (ix2 0 d) + ·) (Finset.sum_congr (M := EReal) rfl fun r _ => ?_)
    exact congrArg₂ (· * ·) (e1 r d) (congrArg₂ (· * ·) (e2 r d) (congrArg Norm.rs (funext fun e => e2 r e)))
  · intro k s
    have hk : k.val < 4 := lt_of_lt_of_eq k.isLt trips_eq
    have e1 := fun r d => Chunks.read_rows (View.whole cc0_scratch0) X a ha k.val hk (k0_off1_eq k) (k0_off1_inb (grid0.coords t) k h) r d
    have e2 := fun r d => Chunks.read_rows (ms0_5 t).view ((hs0_5 t).unread x) x (by rw [Memref.IsWhole.read_unread]) k.val hk (k0_off1_eq k) (k0_off1_inb (grid0.coords t) k h) r d
    have e4 := fun r d => Chunks.read_rows (ms0_4 t).view ((hs0_4 t).unread y) y (by rw [Memref.IsWhole.read_unread]) k.val hk (k0_off1_eq k) (k0_off1_inb (grid0.coords t) k h) r d
    refine ⟨_, _, _, k0_off1_eq k, by unfold tripL_k0_t1 trip_k0_t1; rfl, fun r d => ?_⟩
    refine (dx_at _ _ _ _ r d).trans ?_
    refine congrArg₂ (· + ·) (e4 r d) ?_
    have e3 := fun d => Chunks.read_row (ms0_6 t).view ((hs0_6 t).unread g) g (by rw [Memref.IsWhole.read_unread]) inb_S1x2048_S1x2048_0_0 d
    exact congr (congr (congr (congrArg Norm.dx (funext fun e => e2 r e)) (funext fun e => e1 r e)) (funext fun e => e3 e)) rfl

/-- The product of a tile of the hidden gradients with a block of the weights. -/
def part (a : FVec Ideal S1x512x704 .bf16) (w : FVec Ideal S1x704x2048 .bf16) (r : Fin 512) (d : Fin 2048) : EReal :=
  ∑ k : Fin 704, a (ix3 0 r k) * w (ix3 0 k d)

/-- A point's two products are added to what was there. -/
theorem add_part (acc : FVec Ideal S512x2048 .f32) (a : FVec Ideal S1x512x704 .bf16) (w : FVec Ideal S1x704x2048 .bf16) (b : FVec Ideal S1x512x704 .bf16) (v : FVec Ideal S1x704x2048 .bf16) (r : Fin 512) (d : Fin 2048) :
    k0_pay3 acc a w b v (ix2 r d) = acc (ix2 r d) + (part a w r d + part b v r d) := by
  unfold k0_pay3 part
  pointwise

/-- The two products of a point. -/
def both (c : Dev nD) (t : Fin cfg0.N) (r : Fin 512) (d : Fin 2048) : EReal :=
  part (iblk m c 0 t) (iblk m c 2 t) r d + part (iblk m c 1 t) (iblk m c 3 t) r d

/-- The accumulator after the first block of a tile of rows. -/
theorem acc_first (c : Dev nD) (t : Fin cfg0.N) (h0 : t.val % 8 = 0) (r : Fin 512) (d : Fin 2048) :
    (outsAt0 m c t.val t.isLt).2.2 (ix2 r d) = both m c t r d := by
  by_cases h1 : t.val % 64 = 0
  · rw [outsAt0_A m c t h0 h1 (by omega)]
    frame_out
    rw [add_part]
    unfold k0_pay1 both
    pointwise
  · rw [outsAt0_D m c t h0 h1 (by omega)]
    frame_out
    rw [add_part]
    unfold k0_pay1 both
    pointwise

/-- The accumulator after another block. -/
theorem acc_next (c : Dev nD) (t : Fin cfg0.N) (h0 : ¬t.val % 8 = 0) (r : Fin 512) (d : Fin 2048) :
    (outsAt0 m c t.val t.isLt).2.2 (ix2 r d) = (outsAt0 m c (t.val - 1) (Nat.lt_of_le_of_lt (Nat.sub_le _ _) t.isLt)).2.2 (ix2 r d) + both m c t r d := by
  by_cases h2 : t.val % 8 = 7
  · rw [outsAt0_C m c t h0 (by omega) h2]
    frame_out
    simp only [read_unread_whole]
    rw [add_part]
    rfl
  · rw [outsAt0_B m c t h0 (by omega) h2]
    frame_out
    simp only [read_unread_whole]
    rw [add_part]
    rfl

/-- The rows of sums of two stretches are added. -/
theorem add_gain (a b : FVec Ideal S1x2048 .f32) (d : Fin 2048) : k0_pay9 a b (ix2 0 d) = a (ix2 0 d) + b (ix2 0 d) := by
  unfold k0_pay9
  pointwise

/-- The loop's sums start at zero. -/
theorem zero_at (d : Fin 2048) : k0_pay4 (F := Ideal) (ix2 0 d) = 0 := by
  unfold k0_pay4
  pointwise

/-- The tile of the rows that a point is given. -/
def xt (c : Dev nD) (t : Fin cfg0.N) : FVec Ideal S512x2048 .f32 := iblk m c 5 t
/-- The gain that a point is given. -/
def gt (c : Dev nD) (t : Fin cfg0.N) : FVec Ideal S1x2048 .f32 := iblk m c 6 t
/-- The tile of the residual's gradient that a point is given. -/
def yt (c : Dev nD) (t : Fin cfg0.N) : FVec Ideal S512x2048 .f32 := iblk m c 4 t

/-- The tile written after the last product of a row of tiles. -/
theorem out_last (c : Dev nD) (t : Fin cfg0.N) (h2 : t.val % 8 = 7) (f : Fin 512) (d : Fin 2048) :
    (outsAt0 m c t.val t.isLt).1 (ix2 f d) = yt m c t (ix2 f d) + Norm.dx (fun e => xt m c t (ix2 f e)) (fun e => (outsAt0 m c t.val t.isLt).2.2 (ix2 f e)) (fun e => gt m c t (ix2 0 e)) d := by
  rw [outsAt0_C m c t (by omega) (by omega) h2]
  frame_out
  exact (loop_eq c t _ (xt m c t) (gt m c t) (yt m c t) _ _ (View.read_writes_full _ _ _ _ _) _).2 f d

/-- The gain's row of sums after the last product of a row of tiles. -/
theorem gain_last (c : Dev nD) (t : Fin cfg0.N) (h2 : t.val % 8 = 7) (d : Fin 2048) :
    (outsAt0 m c t.val t.isLt).2.1 (ix2 0 d) = (outsAt0 m c (t.val - 1) (Nat.lt_of_le_of_lt (Nat.sub_le _ _) t.isLt)).2.1 (ix2 0 d)
      + ∑ k : Fin 4, ∑ r : Fin 128, (outsAt0 m c t.val t.isLt).2.2 (ix2 (Chunks.row k.val k.isLt r) d) * (xt m c t (ix2 (Chunks.row k.val k.isLt r) d) * Norm.rs fun e => xt m c t (ix2 (Chunks.row k.val k.isLt r) e)) := by
  rw [outsAt0_C m c t (by omega) (by omega) h2]
  frame_out
  refine (add_gain _ _ d).trans (congrArg (_ + ·) ?_)
  refine ((loop_eq c t _ (xt m c t) (gt m c t) (yt m c t) _ _ (View.read_writes_full _ _ _ _ _) _).1 d).trans ?_
  rw [zero_at, zero_add]

/-- The gain's row of sums at the first point. -/
theorem gain_first (c : Dev nD) (t : Fin cfg0.N) (h1 : t.val % 64 = 0) (d : Fin 2048) :
    (outsAt0 m c t.val t.isLt).2.1 (ix2 0 d) = 0 := by
  rw [outsAt0_A m c t (by omega) h1 (by omega)]
  frame_out
  unfold k0_pay2
  pointwise

/-- The gain's row of sums at a point that adds nothing to it. -/
theorem gain_kept (c : Dev nD) (t : Fin cfg0.N) (h1 : ¬t.val % 64 = 0) (h2 : ¬t.val % 8 = 7) (d : Fin 2048) :
    (outsAt0 m c t.val t.isLt).2.1 (ix2 0 d) = (outsAt0 m c (t.val - 1) (Nat.lt_of_le_of_lt (Nat.sub_le _ _) t.isLt)).2.1 (ix2 0 d) := by
  by_cases h0 : t.val % 8 = 0
  · rw [outsAt0_D m c t h0 h1 h2]
    unfold out0_D_8
    rfl
  · rw [outsAt0_B m c t h0 h1 h2]
    unfold out0_B_8
    rfl

/-- The gate's gradients, as the call is given them. -/
def dgate (c : Dev nD) : FVec Ideal S8x4096x704 .bf16 := m ((c : Thread nD τ).loc main_arg0)

/-- The up projection's gradients, as the call is given them. -/
def dup (c : Dev nD) : FVec Ideal S8x4096x704 .bf16 := m ((c : Thread nD τ).loc main_arg1)

/-- The gate's weights, transposed, as the call is given them. -/
def wgate (c : Dev nD) : FVec Ideal S8x704x2048 .bf16 := m ((c : Thread nD τ).loc main_arg2)

/-- The up projection's weights, transposed, as the call is given them. -/
def wup (c : Dev nD) : FVec Ideal S8x704x2048 .bf16 := m ((c : Thread nD τ).loc main_arg3)

/-- The residual's gradient, as the call is given it. -/
def dres (c : Dev nD) : FVec Ideal S4096x2048 .f32 := m ((c : Thread nD τ).loc main_arg4)

/-- The rows before the norm, as the call is given them. -/
def rows (c : Dev nD) : FVec Ideal S4096x2048 .f32 := m ((c : Thread nD τ).loc main_arg5)

/-- The gain, as the call is given it. -/
def gain (c : Dev nD) : FVec Ideal S1x2048 .f32 := m ((c : Thread nD τ).loc main_arg6)

/-- Where the tile of the gate's gradients lies. -/
theorem index0 : ∀ t : Fin cfg0.N, win0_0.index t = ![t.val % 8, t.val / 8, 0] := (by decide +kernel : ∀ t : Fin grid0.N, _)

/-- Where the tile of the up projection's gradients lies. -/
theorem index1 : ∀ t : Fin cfg0.N, win0_1.index t = ![t.val % 8, t.val / 8, 0] := (by decide +kernel : ∀ t : Fin grid0.N, _)

/-- Where the block of the gate's weights lies. -/
theorem index2 : ∀ t : Fin cfg0.N, win0_2.index t = ![t.val % 8, 0, 0] := (by decide +kernel : ∀ t : Fin grid0.N, _)

/-- Where the block of the up projection's weights lies. -/
theorem index3 : ∀ t : Fin cfg0.N, win0_3.index t = ![t.val % 8, 0, 0] := (by decide +kernel : ∀ t : Fin grid0.N, _)

/-- Where the tile of the residual's gradient lies. -/
theorem index4 : ∀ t : Fin cfg0.N, win0_4.index t = ![t.val / 8, 0] := (by decide +kernel : ∀ t : Fin grid0.N, _)

/-- Where the tile of the rows lies. -/
theorem index5 : ∀ t : Fin cfg0.N, win0_5.index t = ![t.val / 8, 0] := (by decide +kernel : ∀ t : Fin grid0.N, _)

/-- Where the gain lies. -/
theorem index6 : ∀ t : Fin cfg0.N, win0_6.index t = ![0, 0] := (by decide +kernel : ∀ t : Fin grid0.N, _)

/-- The row at a place of a tile of rows. -/
def rowOf (q : ℕ) (hq : q < 8) (r : Fin 512) : Fin 4096 := ⟨512 * q + r.val, by omega⟩

/-- Point number `s` of a tile of rows. -/
def pt (q : ℕ) (hq : q < 8) (s : ℕ) (hs : s < 8) : Fin cfg0.N := ⟨8 * q + s, lt_of_lt_of_eq (by omega) N_0.symm⟩

/-- The place of such a point in its sweep. -/
theorem pt_mod (q : ℕ) (hq : q < 8) (s : ℕ) (hs : s < 8) : (pt q hq s hs).val % 8 = s := by
  show (8 * q + s) % 8 = s
  omega

/-- The tile of such a point. -/
theorem pt_div (q : ℕ) (hq : q < 8) (s : ℕ) (hs : s < 8) : (pt q hq s hs).val / 8 = q := by
  show (8 * q + s) / 8 = q
  omega

/-- The tile of the gate's gradients, element by element. -/
theorem read0 (c : Dev nD) (q : ℕ) (hq : q < 8) (s : ℕ) (hs : s < 8) (r : Fin 512) (k : Fin 704) :
    (iblk m c 0 (pt q hq s hs) : FVec Ideal S1x512x704 .bf16) (ix3 0 r k) = dgate m c (ix3 ⟨s, hs⟩ (rowOf q hq r) k) := by
  show dgate m c (((cfg0.win 0).blk (pt q hq s hs)).view.emb (ix3 0 r k)) = _
  have e0 : win0_0.index (pt q hq s hs) 0 = s := (congrFun (index0 _) 0).trans (pt_mod q hq s hs)
  have e1 : win0_0.index (pt q hq s hs) 1 = q := (congrFun (index0 _) 1).trans (pt_div q hq s hs)
  have e2 : win0_0.index (pt q hq s hs) 2 = 0 := congrFun (index0 _) 2
  refine congrArg (dgate m c) (funext fun a => Fin.ext ?_)
  match a with
  | ⟨0, _⟩ => show win0_0.index (pt q hq s hs) 0 * 1 + 1 * 0 = s; rw [e0]; omega
  | ⟨1, _⟩ => show win0_0.index (pt q hq s hs) 1 * 512 + 1 * r.val = 512 * q + r.val; rw [e1]; omega
  | ⟨2, _⟩ => show win0_0.index (pt q hq s hs) 2 * 704 + 1 * k.val = k.val; rw [e2]; omega

/-- The tile of the up projection's gradients, element by element. -/
theorem read1 (c : Dev nD) (q : ℕ) (hq : q < 8) (s : ℕ) (hs : s < 8) (r : Fin 512) (k : Fin 704) :
    (iblk m c 1 (pt q hq s hs) : FVec Ideal S1x512x704 .bf16) (ix3 0 r k) = dup m c (ix3 ⟨s, hs⟩ (rowOf q hq r) k) := by
  show dup m c (((cfg0.win 1).blk (pt q hq s hs)).view.emb (ix3 0 r k)) = _
  have e0 : win0_1.index (pt q hq s hs) 0 = s := (congrFun (index1 _) 0).trans (pt_mod q hq s hs)
  have e1 : win0_1.index (pt q hq s hs) 1 = q := (congrFun (index1 _) 1).trans (pt_div q hq s hs)
  have e2 : win0_1.index (pt q hq s hs) 2 = 0 := congrFun (index1 _) 2
  refine congrArg (dup m c) (funext fun a => Fin.ext ?_)
  match a with
  | ⟨0, _⟩ => show win0_1.index (pt q hq s hs) 0 * 1 + 1 * 0 = s; rw [e0]; omega
  | ⟨1, _⟩ => show win0_1.index (pt q hq s hs) 1 * 512 + 1 * r.val = 512 * q + r.val; rw [e1]; omega
  | ⟨2, _⟩ => show win0_1.index (pt q hq s hs) 2 * 704 + 1 * k.val = k.val; rw [e2]; omega

/-- The block of the gate's weights, element by element. -/
theorem read2 (c : Dev nD) (q : ℕ) (hq : q < 8) (s : ℕ) (hs : s < 8) (k : Fin 704) (d : Fin 2048) :
    (iblk m c 2 (pt q hq s hs) : FVec Ideal S1x704x2048 .bf16) (ix3 0 k d) = wgate m c (ix3 ⟨s, hs⟩ k d) := by
  show wgate m c (((cfg0.win 2).blk (pt q hq s hs)).view.emb (ix3 0 k d)) = _
  have e0 : win0_2.index (pt q hq s hs) 0 = s := (congrFun (index2 _) 0).trans (pt_mod q hq s hs)
  have e1 : win0_2.index (pt q hq s hs) 1 = 0 := congrFun (index2 _) 1
  have e2 : win0_2.index (pt q hq s hs) 2 = 0 := congrFun (index2 _) 2
  refine congrArg (wgate m c) (funext fun a => Fin.ext ?_)
  match a with
  | ⟨0, _⟩ => show win0_2.index (pt q hq s hs) 0 * 1 + 1 * 0 = s; rw [e0]; omega
  | ⟨1, _⟩ => show win0_2.index (pt q hq s hs) 1 * 704 + 1 * k.val = k.val; rw [e1]; omega
  | ⟨2, _⟩ => show win0_2.index (pt q hq s hs) 2 * 2048 + 1 * d.val = d.val; rw [e2]; omega

/-- The block of the up projection's weights, element by element. -/
theorem read3 (c : Dev nD) (q : ℕ) (hq : q < 8) (s : ℕ) (hs : s < 8) (k : Fin 704) (d : Fin 2048) :
    (iblk m c 3 (pt q hq s hs) : FVec Ideal S1x704x2048 .bf16) (ix3 0 k d) = wup m c (ix3 ⟨s, hs⟩ k d) := by
  show wup m c (((cfg0.win 3).blk (pt q hq s hs)).view.emb (ix3 0 k d)) = _
  have e0 : win0_3.index (pt q hq s hs) 0 = s := (congrFun (index3 _) 0).trans (pt_mod q hq s hs)
  have e1 : win0_3.index (pt q hq s hs) 1 = 0 := congrFun (index3 _) 1
  have e2 : win0_3.index (pt q hq s hs) 2 = 0 := congrFun (index3 _) 2
  refine congrArg (wup m c) (funext fun a => Fin.ext ?_)
  match a with
  | ⟨0, _⟩ => show win0_3.index (pt q hq s hs) 0 * 1 + 1 * 0 = s; rw [e0]; omega
  | ⟨1, _⟩ => show win0_3.index (pt q hq s hs) 1 * 704 + 1 * k.val = k.val; rw [e1]; omega
  | ⟨2, _⟩ => show win0_3.index (pt q hq s hs) 2 * 2048 + 1 * d.val = d.val; rw [e2]; omega

/-- The tile of the rows, element by element. -/
theorem read5 (c : Dev nD) (q : ℕ) (hq : q < 8) (s : ℕ) (hs : s < 8) (r : Fin 512) (d : Fin 2048) :
    xt m c (pt q hq s hs) (ix2 r d) = rows m c (ix2 (rowOf q hq r) d) := by
  show rows m c (((cfg0.win 5).blk (pt q hq s hs)).view.emb (ix2 r d)) = _
  have e0 : win0_5.index (pt q hq s hs) 0 = q := (congrFun (index5 _) 0).trans (pt_div q hq s hs)
  have e1 : win0_5.index (pt q hq s hs) 1 = 0 := congrFun (index5 _) 1
  refine congrArg (rows m c) (funext fun a => Fin.ext ?_)
  match a with
  | ⟨0, _⟩ => show win0_5.index (pt q hq s hs) 0 * 512 + 1 * r.val = 512 * q + r.val; rw [e0]; omega
  | ⟨1, _⟩ => show win0_5.index (pt q hq s hs) 1 * 2048 + 1 * d.val = d.val; rw [e1]; omega

/-- The gain, element by element. -/
theorem read6 (c : Dev nD) (t : Fin cfg0.N) (d : Fin 2048) : gt m c t (ix2 0 d) = gain m c (ix2 0 d) := by
  show gain m c (((cfg0.win 6).blk t).view.emb (ix2 0 d)) = _
  have e0 : win0_6.index t 0 = 0 := congrFun (index6 t) 0
  have e1 : win0_6.index t 1 = 0 := congrFun (index6 t) 1
  refine congrArg (gain m c) (funext fun a => Fin.ext ?_)
  match a with
  | ⟨0, _⟩ => show win0_6.index t 0 * 1 + 1 * 0 = 0; rw [e0]
  | ⟨1, _⟩ => show win0_6.index t 1 * 2048 + 1 * d.val = d.val; rw [e1]; omega

/-- The tile of the residual's gradient, element by element. -/
theorem read4 (c : Dev nD) (q : ℕ) (hq : q < 8) (s : ℕ) (hs : s < 8) (r : Fin 512) (d : Fin 2048) :
    yt m c (pt q hq s hs) (ix2 r d) = dres m c (ix2 (rowOf q hq r) d) := by
  show dres m c (((cfg0.win 4).blk (pt q hq s hs)).view.emb (ix2 r d)) = _
  have e0 : win0_4.index (pt q hq s hs) 0 = q := (congrFun (index4 _) 0).trans (pt_div q hq s hs)
  have e1 : win0_4.index (pt q hq s hs) 1 = 0 := congrFun (index4 _) 1
  refine congrArg (dres m c) (funext fun a => Fin.ext ?_)
  match a with
  | ⟨0, _⟩ => show win0_4.index (pt q hq s hs) 0 * 512 + 1 * r.val = 512 * q + r.val; rw [e0]; omega
  | ⟨1, _⟩ => show win0_4.index (pt q hq s hs) 1 * 2048 + 1 * d.val = d.val; rw [e1]; omega

/-- The two products with one block of the weights, at a row and a column. -/
def prod (c : Dev nD) (i : Fin 4096) (d : Fin 2048) (s : Fin 8) : EReal :=
  ∑ k, dgate m c (ix3 s i k) * wgate m c (ix3 s k d) + ∑ k, dup m c (ix3 s i k) * wup m c (ix3 s k d)

/-- The gradient of the norm's result, at a row and a column. -/
def dh (c : Dev nD) (i : Fin 4096) (d : Fin 2048) : EReal :=
  ∑ s, ∑ k, dup m c (ix3 s i k) * wup m c (ix3 s k d) + ∑ s, ∑ k, dgate m c (ix3 s i k) * wgate m c (ix3 s k d)

/-- The eight blocks' products make up the whole. -/
theorem dh_eq (c : Dev nD) (i : Fin 4096) (d : Fin 2048) : ∑ s, prod m c i d s = dh m c i d :=
  (Finset.sum_add_distrib (M := EReal)).trans (add_comm (G := EReal) _ _)

/-- A point's two products, from the arrays the call is given. -/
theorem both_eq (c : Dev nD) (q : ℕ) (hq : q < 8) (s : ℕ) (hs : s < 8) (r : Fin 512) (d : Fin 2048) :
    both m c (pt q hq s hs) r d = prod m c (rowOf q hq r) d ⟨s, hs⟩ :=
  congrArg₂ (· + ·) (Finset.sum_congr (M := EReal) rfl fun k _ => by rw [read0, read2]) (Finset.sum_congr (M := EReal) rfl fun k _ => by rw [read1, read3])

/-- The accumulator holds the products of the blocks so far. -/
theorem acc_eq (c : Dev nD) (q : ℕ) (hq : q < 8) (r : Fin 512) (d : Fin 2048) : ∀ (s : ℕ) (hs : s < 8),
    (outsAt0 m c (pt q hq s hs).val (pt q hq s hs).isLt).2.2 (ix2 r d) = ∑ j : Fin (s + 1), prod m c (rowOf q hq r) d ⟨j.val, by omega⟩ := by
  intro s
  induction s with
  | zero =>
    intro hs
    rw [acc_first m c _ (pt_mod q hq 0 hs), both_eq, Fin.sum_univ_one]
    rfl
  | succ s ih =>
    intro hs
    have e : (outsAt0 m c ((pt q hq (s + 1) hs).val - 1) (Nat.lt_of_le_of_lt (Nat.sub_le _ _) (pt q hq (s + 1) hs).isLt)).2.2 = (outsAt0 m c (pt q hq s (by omega)).val (pt q hq s (by omega)).isLt).2.2 := rfl
    rw [acc_next m c _ (by rw [pt_mod]; omega), both_eq, e, ih (by omega), Fin.sum_univ_castSucc (n := s + 1)]
    rfl

/-- The accumulator after the last block holds the gradient of the norm's result. -/
theorem acc_all (c : Dev nD) (q : ℕ) (hq : q < 8) (r : Fin 512) (d : Fin 2048) :
    (outsAt0 m c (pt q hq 7 (by omega)).val (pt q hq 7 (by omega)).isLt).2.2 (ix2 r d) = dh m c (rowOf q hq r) d :=
  (acc_eq m c q hq r d 7 (by omega)).trans (dh_eq m c _ d)

/-- The gradient of the norm's argument, at a row and a column, as the call leaves it. -/
def dxAt (c : Dev nD) (i : Fin 4096) (d : Fin 2048) : EReal :=
  dres m c (ix2 i d) + Norm.dx (fun e => rows m c (ix2 i e)) (fun e => dh m c i e) (fun e => gain m c (ix2 0 e)) d

/-- A row's term of the gain's gradient. -/
def gainAt (c : Dev nD) (i : Fin 4096) (d : Fin 2048) : EReal :=
  dh m c i d * (rows m c (ix2 i d) * Norm.rs fun e => rows m c (ix2 i e))

/-- What the call leaves at a place. -/
theorem out_eq (c : Dev nD) (q : ℕ) (hq : q < 8) (r : Fin 512) (d : Fin 2048) :
    (outsAt0 m c (pt q hq 7 (by omega)).val (pt q hq 7 (by omega)).isLt).1 (ix2 r d) = dxAt m c (rowOf q hq r) d := by
  rw [out_last m c _ (pt_mod q hq 7 (by omega)), read4]
  exact congrArg (_ + ·) (congr (congr (congr (congrArg Norm.dx (funext fun e => read5 m c q hq 7 _ r e)) (funext fun e => acc_all m c q hq r e)) (funext fun e => read6 m c _ e)) rfl)

/-- The terms that one tile of rows adds to the gain's gradient. -/
def tileSum (c : Dev nD) (d : Fin 2048) (q : Fin 8) : EReal :=
  ∑ k : Fin 4, ∑ r : Fin 128, gainAt m c (rowOf q.val q.isLt (Chunks.row k.val k.isLt r)) d

/-- Until a tile's last point the gain's row of sums stays. -/
theorem gain_stays (c : Dev nD) (q : ℕ) (hq : q < 8) (d : Fin 2048) : ∀ (s : ℕ) (hs : s < 7),
    (outsAt0 m c (pt q hq s (by omega)).val (pt q hq s (by omega)).isLt).2.1 (ix2 0 d) = (outsAt0 m c (pt q hq 0 (by omega)).val (pt q hq 0 (by omega)).isLt).2.1 (ix2 0 d) := by
  intro s
  induction s with
  | zero => exact fun _ => rfl
  | succ s ih =>
    intro hs
    exact (gain_kept m c (pt q hq (s + 1) (by omega)) (by show ¬(8 * q + (s + 1)) % 64 = 0; omega) (by rw [pt_mod]; omega) d).trans (ih (by omega))

/-- A tile's last point adds the tile's terms. -/
theorem gain_tile (c : Dev nD) (q : ℕ) (hq : q < 8) (d : Fin 2048) :
    (outsAt0 m c (pt q hq 7 (by omega)).val (pt q hq 7 (by omega)).isLt).2.1 (ix2 0 d)
      = (outsAt0 m c (pt q hq 0 (by omega)).val (pt q hq 0 (by omega)).isLt).2.1 (ix2 0 d) + tileSum m c d ⟨q, hq⟩ := by
  rw [gain_last m c _ (pt_mod q hq 7 (by omega))]
  refine congrArg₂ (· + ·) (gain_stays m c q hq d 6 (by omega)) (Finset.sum_congr (M := EReal) rfl fun k _ => Finset.sum_congr (M := EReal) rfl fun r _ => ?_)
  exact congrArg₂ (· * ·) (acc_all m c q hq _ d) (congrArg₂ (· * ·) (read5 m c q hq 7 _ _ d) (congrArg Norm.rs (funext fun e => read5 m c q hq 7 _ _ e)))

/-- The gain's row of sums after a tile holds the terms of the tiles so far. -/
theorem gain_eq (c : Dev nD) (d : Fin 2048) : ∀ (q : ℕ) (hq : q < 8),
    (outsAt0 m c (pt q hq 7 (by omega)).val (pt q hq 7 (by omega)).isLt).2.1 (ix2 0 d) = ∑ j : Fin (q + 1), tileSum m c d ⟨j.val, by omega⟩ := by
  intro q
  induction q with
  | zero =>
    intro hq
    rw [gain_tile, gain_first m c _ rfl, zero_add, Fin.sum_univ_one]
    rfl
  | succ q ih =>
    intro hq
    have e : (outsAt0 m c ((pt (q + 1) hq 0 (by omega)).val - 1) (Nat.lt_of_le_of_lt (Nat.sub_le _ _) (pt (q + 1) hq 0 (by omega)).isLt)).2.1 = (outsAt0 m c (pt q (by omega) 7 (by omega)).val (pt q (by omega) 7 (by omega)).isLt).2.1 := rfl
    rw [gain_tile, gain_kept m c _ (by show ¬(8 * (q + 1) + 0) % 64 = 0; omega) (by rw [pt_mod]; omega), e, ih (by omega), Fin.sum_univ_castSucc (n := q + 1)]
    rfl

/-- The gain's gradient is the sum of all rows' terms. -/
theorem gain_all (c : Dev nD) (d : Fin 2048) : ∑ q, tileSum m c d q = ∑ i, gainAt m c i d :=
  (Chunks.sum_rows fun i => gainAt m c i d).symm

/-- The first array the call leaves, element by element. -/
theorem array7 (c : Dev nD) (i : Fin 4096) (d : Fin 2048) : Value.G7 m c (ix2 i d) = dxAt m c i d := by
  have hi := i.isLt
  have hd := d.isLt
  have hq : i.val / 512 < 8 := by omega
  have hp : Value.pt7Of (ix2 i d) = (pt (i.val / 512) hq 7 (by omega)).val := by
    show 8 * (1 * (i.val / 512 - 0) + 1 * (d.val / 2048 - 0)) + 7 = 8 * (i.val / 512) + 7
    omega
  have hl : Value.loc7Of (ix2 i d) = ix2 (⟨i.val % 512, by omega⟩ : Fin 512) d := by
    funext a; apply Fin.ext
    match a with
    | ⟨0, _⟩ => rfl
    | ⟨1, _⟩ => show d.val % 2048 = d.val; omega
  have hr : rowOf (i.val / 512) hq ⟨i.val % 512, by omega⟩ = i := Fin.ext (by
    show 512 * (i.val / 512) + i.val % 512 = i.val
    omega)
  have hN := (pt (i.val / 512) hq 7 (by omega)).isLt
  unfold Value.G7
  rw [dif_pos (by rw [hp]; exact hN), hl, Value.fold0_congr m c _ _ (pt (i.val / 512) hq 7 (by omega)).val (by omega) hp, ← Value.outsAt0_sweep m c _ hN]
  exact (out_eq m c (i.val / 512) hq _ d).trans (by rw [hr])

/-- The second array the call leaves, as the terms of the tiles up to the last one. -/
theorem last_eq (c : Dev nD) (d : Fin 2048) (q : ℕ) (hq : q < 8) (h : q = 7) : Value.G8 m c (ix2 0 d) = ∑ j : Fin (q + 1), tileSum m c d ⟨j.val, by omega⟩ := by
  have hN := (pt q hq 7 (by omega)).isLt
  have e : 63 = (pt q hq 7 (by omega)).val := by
    show 63 = 8 * q + 7
    omega
  rw [Value.G8_last, Value.fold0_congr m c _ _ (pt q hq 7 (by omega)).val (by omega) e, ← Value.outsAt0_sweep m c _ hN]
  exact gain_eq m c d q hq

/-- The second array the call leaves, element by element. -/
theorem array8 (c : Dev nD) (d : Fin 2048) : Value.G8 m c (ix2 0 d) = ∑ i, gainAt m c i d :=
  (last_eq m c d 7 (by omega) rfl).trans (gain_all m c d)

/-- Kernel and reference leave the same two arrays. -/
theorem algebraic : Cert.algebraic_Kernel5Ideal_Reference5Ideal := by
  intro m g m' g' _ hargs
  refine ⟨Value.G7 m, Value.G8 m, Value.run m g, ?_⟩
  refine (θ_run Cert.Reference5Ideal.defs _ _).mono (fun r h c => ⟨?_, ?_, (h c).2.2⟩) (Cert.Reference5Ideal.Value.run m' g')
  · rw [(h c).1]
    clear h
    unfold Cert.Reference5Ideal.Value.res_main_v47
    rw [(hargs c).1, (hargs c).2.1, (hargs c).2.2.1, (hargs c).2.2.2.1, (hargs c).2.2.2.2.1, (hargs c).2.2.2.2.2.1, (hargs c).2.2.2.2.2.2]
    funext i
    obtain ⟨i, d, rfl⟩ : ∃ k d, i = ix2 k d := ⟨i 0, i 1, by funext a; match a with | ⟨0, _⟩ => rfl | ⟨1, _⟩ => rfl⟩
    refine Eq.trans ?_ ((array7 m c i d).trans (Norm.dx_eq _ _ _ _ d)).symm
    pointwise
    rw [Fin.sum_univ_one]
    rfl
  · rw [(h c).2.1, (hargs c).1, (hargs c).2.1, (hargs c).2.2.1, (hargs c).2.2.2.1, (hargs c).2.2.2.2.2.1]
    clear h
    funext i
    obtain ⟨d, rfl⟩ : ∃ d, i = ix2 0 d := ⟨i 1, by funext a; match a with | ⟨0, _⟩ => exact Subsingleton.elim (α := Fin 1) _ _ | ⟨1, _⟩ => rfl⟩
    refine Eq.trans ?_ (array8 m c d).symm
    pointwise
    exact Finset.sum_congr (M := EReal) rfl fun i _ => mul_comm (G := EReal) _ _

end Cert.BwdIn
end
-- ==== Proof.Down.lean ====
/- The forward pass's down projection: the accumulator over the blocks of the hidden dimension, and the array that is left. -/
module

public import proofs.«01_k».proof.Defs
public import proofs.«01_k».proof.Proof.Grad
public import proofs.«01_k».proof.Proof.Gen.Kernel6Ideal.Value
public import proofs.«01_k».proof.Proof.Gen.Reference6Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Down
open Idealize.ShloMosaic Idealize.ShloMosaic.TcCoe Idealize.SL.Sem
open Idealize.ShloMosaic.Pipeline (Dat)
open Cert.Kernel6Ideal Cert.Kernel6Ideal.Gen Cert.Grad

variable (m : (ℓ : Loc nD τ sig) → Buf (Elt Ideal) ℓ)

/-- The product of a tile of the hidden values with a block of the weights. -/
def part (a : FVec Ideal S1x512x704 .bf16) (w : FVec Ideal S1x704x2048 .bf16) (r : Fin 512) (d : Fin 2048) : EReal :=
  ∑ k : Fin 704, a (ix3 0 r k) * w (ix3 0 k d)

/-- The tile's product is added to what was there. -/
theorem add_part (acc : FVec Ideal S512x2048 .f32) (a : FVec Ideal S1x512x704 .bf16) (w : FVec Ideal S1x704x2048 .bf16) (r : Fin 512) (d : Fin 2048) :
    k0_pay2 acc a w (ix2 r d) = acc (ix2 r d) + part a w r d := by
  unfold k0_pay2 part
  pointwise

/-- The accumulator after the first block of a row tile. -/
theorem acc_first (c : Dev nD) (t : Fin cfg0.N) (h0 : t.val % 8 = 0) (h1 : ¬t.val % 8 = 7) (r : Fin 512) (d : Fin 2048) :
    (outsAt0 m c t.val t.isLt).2 (ix2 r d) = part (iblk m c 1 t) (iblk m c 2 t) r d := by
  rw [outsAt0_A m c t h0 h1]
  frame_out
  rw [add_part]
  unfold k0_pay1
  pointwise

/-- The accumulator after a block that is neither first nor last. -/
theorem acc_mid (c : Dev nD) (t : Fin cfg0.N) (h0 : ¬t.val % 8 = 0) (h1 : ¬t.val % 8 = 7) (r : Fin 512) (d : Fin 2048) :
    (outsAt0 m c t.val t.isLt).2 (ix2 r d) = (outsAt0 m c (t.val - 1) (Nat.lt_of_le_of_lt (Nat.sub_le _ _) t.isLt)).2 (ix2 r d) + part (iblk m c 1 t) (iblk m c 2 t) r d := by
  rw [outsAt0_B m c t h0 h1]
  frame_out
  simp only [read_unread_whole]
  rw [add_part]

/-- The tile of the rows that a point is given. -/
def tile (c : Dev nD) (t : Fin cfg0.N) : FVec Ideal S512x2048 .f32 := iblk m c 0 t

/-- The tile written after the last block: the row and one half of the accumulator with the last product. -/
theorem out_last (c : Dev nD) (t : Fin cfg0.N) (h0 : ¬t.val % 8 = 0) (h1 : t.val % 8 = 7) (r : Fin 512) (d : Fin 2048) :
    (outsAt0 m c t.val t.isLt).1 (ix2 r d) = tile m c t (ix2 r d) + ((1 / 2 : ℝ) : EReal) * ((outsAt0 m c (t.val - 1) (Nat.lt_of_le_of_lt (Nat.sub_le _ _) t.isLt)).2 (ix2 r d) + part (iblk m c 1 t) (iblk m c 2 t) r d) := by
  rw [outsAt0_C m c t h0 h1]
  frame_out
  simp only [read_unread_whole]
  rw [← add_part]
  unfold k0_pay3
  pointwise
  rw [half]
  rfl

/-- The rows, as the call is given them. -/
def rows (c : Dev nD) : FVec Ideal S4096x2048 .f32 := m ((c : Thread nD τ).loc main_arg0)

/-- The hidden values, as the call is given them. -/
def hid (c : Dev nD) : FVec Ideal S8x4096x704 .bf16 := m ((c : Thread nD τ).loc main_arg1)

/-- The weights, as the call is given them. -/
def down (c : Dev nD) : FVec Ideal S8x704x2048 .bf16 := m ((c : Thread nD τ).loc main_arg2)

/-- Where the tile of the rows lies. -/
theorem index0 : ∀ t : Fin cfg0.N, win0_0.index t = ![t.val / 8, 0] := (by decide +kernel : ∀ t : Fin grid0.N, _)

/-- Where the tile of the hidden values lies. -/
theorem index1 : ∀ t : Fin cfg0.N, win0_1.index t = ![t.val % 8, t.val / 8, 0] := (by decide +kernel : ∀ t : Fin grid0.N, _)

/-- Where the block of the weights lies. -/
theorem index2 : ∀ t : Fin cfg0.N, win0_2.index t = ![t.val % 8, 0, 0] := (by decide +kernel : ∀ t : Fin grid0.N, _)

/-- The row at a place of a point's tile. -/
def rowOf (t : ℕ) (r : Fin 512) : Fin 4096 := ⟨512 * (t / 8 % 8) + r.val, by omega⟩

/-- The block of the hidden dimension of a point. -/
def blk (t : ℕ) : Fin 8 := ⟨t % 8, by omega⟩

/-- The tile of the rows, element by element. -/
theorem read0 (c : Dev nD) (t : Fin cfg0.N) (r : Fin 512) (d : Fin 2048) :
    tile m c t (ix2 r d) = rows m c (ix2 (rowOf t.val r) d) := by
  show rows m c (((cfg0.win 0).blk t).view.emb (ix2 r d)) = _
  have h := index0 t
  have hN := lt_of_lt_of_eq t.isLt N_0
  have e0 : win0_0.index t 0 = t.val / 8 := congrFun h 0
  have e1 : win0_0.index t 1 = 0 := congrFun h 1
  refine congrArg (rows m c) (funext fun a => Fin.ext ?_)
  match a with
  | ⟨0, _⟩ => show win0_0.index t 0 * 512 + 1 * r.val = 512 * (t.val / 8 % 8) + r.val; rw [e0]; omega
  | ⟨1, _⟩ => show win0_0.index t 1 * 2048 + 1 * d.val = d.val; rw [e1]; omega

/-- The tile of the hidden values, element by element. -/
theorem read1 (c : Dev nD) (t : Fin cfg0.N) (r : Fin 512) (f : Fin 704) :
    (iblk m c 1 t : FVec Ideal S1x512x704 .bf16) (ix3 0 r f) = hid m c (ix3 (blk t.val) (rowOf t.val r) f) := by
  show hid m c (((cfg0.win 1).blk t).view.emb (ix3 0 r f)) = _
  have h := index1 t
  have hN := lt_of_lt_of_eq t.isLt N_0
  have e0 : win0_1.index t 0 = t.val % 8 := congrFun h 0
  have e1 : win0_1.index t 1 = t.val / 8 := congrFun h 1
  have e2 : win0_1.index t 2 = 0 := congrFun h 2
  refine congrArg (hid m c) (funext fun a => Fin.ext ?_)
  match a with
  | ⟨0, _⟩ => show win0_1.index t 0 * 1 + 1 * 0 = t.val % 8; rw [e0]; omega
  | ⟨1, _⟩ => show win0_1.index t 1 * 512 + 1 * r.val = 512 * (t.val / 8 % 8) + r.val; rw [e1]; omega
  | ⟨2, _⟩ => show win0_1.index t 2 * 704 + 1 * f.val = f.val; rw [e2]; omega

/-- The block of the weights, element by element. -/
theorem read2 (c : Dev nD) (t : Fin cfg0.N) (f : Fin 704) (d : Fin 2048) :
    (iblk m c 2 t : FVec Ideal S1x704x2048 .bf16) (ix3 0 f d) = down m c (ix3 (blk t.val) f d) := by
  show down m c (((cfg0.win 2).blk t).view.emb (ix3 0 f d)) = _
  have h := index2 t
  have e0 : win0_2.index t 0 = t.val % 8 := congrFun h 0
  have e1 : win0_2.index t 1 = 0 := congrFun h 1
  have e2 : win0_2.index t 2 = 0 := congrFun h 2
  refine congrArg (down m c) (funext fun a => Fin.ext ?_)
  match a with
  | ⟨0, _⟩ => show win0_2.index t 0 * 1 + 1 * 0 = t.val % 8; rw [e0]; omega
  | ⟨1, _⟩ => show win0_2.index t 1 * 704 + 1 * f.val = f.val; rw [e1]; omega
  | ⟨2, _⟩ => show win0_2.index t 2 * 2048 + 1 * d.val = d.val; rw [e2]; omega

/-- The product of a block of hidden values with its weights, at a row and a column. -/
def prod (c : Dev nD) (i : Fin 4096) (d : Fin 2048) (j : Fin 8) : EReal := ∑ f, hid m c (ix3 j i f) * down m c (ix3 j f d)

/-- Point number `s` of the tile that holds a row. -/
def pt (i : Fin 4096) (s : ℕ) (hs : s < 8) : Fin cfg0.N := ⟨8 * (i.val / 512) + s, lt_of_lt_of_eq (by omega) N_0.symm⟩

/-- A row's place in its tile. -/
def loc (i : Fin 4096) : Fin 512 := ⟨i.val % 512, by omega⟩

/-- The row of a point of the place's row of tiles. -/
theorem pt_row (i : Fin 4096) (s : ℕ) (hs : s < 8) : rowOf (pt i s hs).val (loc i) = i := Fin.ext (by
  show 512 * ((8 * (i.val / 512) + s) / 8 % 8) + i.val % 512 = i.val
  omega)

/-- The block number of such a point. -/
theorem pt_blk (i : Fin 4096) (s : ℕ) (hs : s < 8) : blk (pt i s hs).val = ⟨s, hs⟩ := Fin.ext (by
  show (8 * (i.val / 512) + s) % 8 = s
  omega)

/-- The place of such a point in its sweep. -/
theorem pt_mod (i : Fin 4096) (s : ℕ) (hs : s < 8) : (pt i s hs).val % 8 = s := by
  show (8 * (i.val / 512) + s) % 8 = s
  omega

/-- The product of a point's tiles, from the arrays the call is given. -/
theorem part_eq (c : Dev nD) (i : Fin 4096) (s : ℕ) (hs : s < 8) (d : Fin 2048) :
    part (iblk m c 1 (pt i s hs)) (iblk m c 2 (pt i s hs)) (loc i) d = prod m c i d ⟨s, hs⟩ :=
  Finset.sum_congr rfl fun k _ => by rw [read1, read2, pt_row, pt_blk]

/-- The accumulator before the last block holds the products of the blocks so far. -/
theorem acc_eq (c : Dev nD) (i : Fin 4096) (d : Fin 2048) : ∀ (s : ℕ) (hs : s < 7),
    (outsAt0 m c (pt i s (by omega)).val (pt i s (by omega)).isLt).2 (ix2 (loc i) d) = ∑ j : Fin (s + 1), prod m c i d ⟨j.val, by omega⟩ := by
  intro s
  induction s with
  | zero =>
    intro hs
    rw [acc_first m c _ (pt_mod i 0 (by omega)) (by rw [pt_mod]; omega), part_eq, Fin.sum_univ_one]
    rfl
  | succ s ih =>
    intro hs
    have e : (outsAt0 m c ((pt i (s + 1) (by omega)).val - 1) (Nat.lt_of_le_of_lt (Nat.sub_le _ _) (pt i (s + 1) (by omega)).isLt)).2 = (outsAt0 m c (pt i s (by omega)).val (pt i s (by omega)).isLt).2 := rfl
    rw [acc_mid m c _ (by rw [pt_mod]; omega) (by rw [pt_mod]; omega), part_eq, e, ih (by omega), Fin.sum_univ_castSucc (n := s + 1)]
    rfl

/-- What the call leaves at a place. -/
theorem out_eq (c : Dev nD) (i : Fin 4096) (d : Fin 2048) :
    (outsAt0 m c (pt i 7 (by omega)).val (pt i 7 (by omega)).isLt).1 (ix2 (loc i) d) = rows m c (ix2 i d) + ((1 / 2 : ℝ) : EReal) * ∑ j, prod m c i d j := by
  have e : (outsAt0 m c ((pt i 7 (by omega)).val - 1) (Nat.lt_of_le_of_lt (Nat.sub_le _ _) (pt i 7 (by omega)).isLt)).2 = (outsAt0 m c (pt i 6 (by omega)).val (pt i 6 (by omega)).isLt).2 := rfl
  rw [out_last m c _ (by rw [pt_mod]; omega) (pt_mod i 7 (by omega)), part_eq, e, acc_eq m c i d 6 (by omega), read0, pt_row, Fin.sum_univ_castSucc (n := 7)]
  rfl

/-- The array the call leaves, element by element. -/
theorem array_eq (c : Dev nD) (i : Fin 4096) (d : Fin 2048) :
    Value.G3 m c (ix2 i d) = rows m c (ix2 i d) + ((1 / 2 : ℝ) : EReal) * ∑ j, prod m c i d j := by
  have hp : Value.pt3Of (ix2 i d) = (pt i 7 (by omega)).val := by
    show 8 * (1 * (i.val / 512 - 0) + 1 * (d.val / 2048 - 0)) + 7 = 8 * (i.val / 512) + 7
    have := i.isLt; have := d.isLt; omega
  have hl : Value.loc3Of (ix2 i d) = ix2 (loc i) d := by
    funext a; apply Fin.ext
    match a with
    | ⟨0, _⟩ => rfl
    | ⟨1, _⟩ => show d.val % 2048 = d.val; have := d.isLt; omega
  unfold Value.G3
  rw [dif_pos (by rw [hp]; exact (pt i 7 (by omega)).isLt), hl, Value.fold0_congr m c _ _ (pt i 7 (by omega)).val (by have := (pt i 7 (by omega)).isLt; omega) hp, ← Value.outsAt0_sweep m c (pt i 7 (by omega)).val (pt i 7 (by omega)).isLt]
  exact out_eq m c i d

/-- Kernel and reference leave the same array. -/
theorem algebraic : Cert.algebraic_Kernel6Ideal_Reference6Ideal := by
  intro m g m' g' _ hargs
  refine ⟨Value.G3 m, Value.run m g, ?_⟩
  refine (θ_run Cert.Reference6Ideal.defs _ _).mono (fun r h c => ⟨?_, (h c).2⟩) (Cert.Reference6Ideal.Value.run m' g')
  rw [(h c).1, (hargs c).1, (hargs c).2.1, (hargs c).2.2]
  clear h
  funext i
  obtain ⟨i, d, rfl⟩ : ∃ k d, i = ix2 k d := ⟨i 0, i 1, by funext a; match a with | ⟨0, _⟩ => rfl | ⟨1, _⟩ => rfl⟩
  refine Eq.trans ?_ (array_eq m c i d).symm
  pointwise
  rw [half]
  rfl

end Cert.Down
end
-- ==== Proof.Dh2.lean ====
/- The gradient of the mixing layer's input: the product with the input projection's weights, and the gradient through the norm. -/
module

public import proofs.«01_k».proof.Defs
public import proofs.«01_k».proof.Proof.Norm
public import proofs.«01_k».proof.Proof.Chunks
public import proofs.«01_k».proof.Proof.Gen.Kernel7Ideal.Value
public import proofs.«01_k».proof.Proof.Gen.Reference7Ideal.Run
public import Idealize.ShloMosaic.Lib.Pipeline.ValueKit
public import Idealize.ShloMosaic.Lib.WritesUnit
public import Idealize.ShloMosaic.Lib.VecWindow
public import Idealize.ShloMosaic.Lib.Pipeline.ReadBack
public import Idealize.ShloMosaic.Lib.Pointwise

@[expose] public section

set_option maxRecDepth 16384
noncomputable section
namespace Cert.Dh2
open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The row of sums that one chunk adds. -/
theorem gain_at (s : FVec Ideal S1x2048 .f32) (dh x : FVec Ideal S128x2048 .f32) (d : Fin 2048) :
    k0_pay8 s dh x (ix2 0 d) = s (ix2 0 d) + ∑ r : Fin 128, dh (ix2 r d) * (x (ix2 r d) * Norm.rs fun k => x (ix2 r k)) := by
  unfold k0_pay8 k0_pay6 k0_pay5 Norm.rs Norm.ms Norm.width Norm.eps
  pointwise

/-- A chunk of the result: the residual's gradient and the gradient through the norm. -/
theorem dx_at (dh x : FVec Ideal S128x2048 .f32) (g : FVec Ideal S1x2048 .f32) (y : FVec Ideal S128x2048 .f32) (r : Fin 128) (d : Fin 2048) :
    k0_pay7 dh x g y (ix2 r d) = y (ix2 r d) + Norm.dx (fun k => x (ix2 r k)) (fun k => dh (ix2 r k)) (fun k => g (ix2 0 k)) d := by
  unfold k0_pay7 k0_pay6 k0_pay5 Norm.dx Norm.rs Norm.ms Norm.width Norm.eps
  pointwise

/-- The loop's number of rounds. -/
theorem trips_eq : k0_t1_loop.trips = 4 := by decide

/-- What the loop leaves, from the tile of the rows, the gain, the residual's gradient and the finished product. -/
theorem loop_eq (c : Dev nD) (t : Fin cfg0.N) (h : k0_cond3 (grid0.coords t) = 1#1) (x : FVec Ideal S512x2048 .f32) (g : FVec Ideal S1x2048 .f32) (y : FVec Ideal S512x2048 .f32)
    (X : BufTy.Contents (Elt Ideal) (View.whole cc0_scratch0).ty) (a : FVec Ideal S512x2048 .f32) (ha : (View.whole cc0_scratch0).read (Elt Ideal) X = a) (init : FVec Ideal S1x2048 .f32) :
    (∀ d, (st_k0_t1 (F := Ideal) Variants.none c none (grid0.coords t) (ms0_0 t) (hs0_0 t) (ms0_1 t) (hs0_1 t) (ms0_2 t) (hs0_2 t) (ms0_3 t) (hs0_3 t) (ms0_4 t) (hs0_4 t)
          (ms0_5 t) (hs0_5 t) (ms0_6 t) (hs0_6 t) scM0_0 (Memref.isWhole_whole _) h ((hs0_2 t).unread x) ((hs0_3 t).unread g) ((hs0_4 t).unread y) X init 4).1 (ix2 0 d)
        = init (ix2 0 d) + ∑ k : Fin 4, ∑ r : Fin 128, a (ix2 (Chunks.row k.val k.isLt r) d) * (x (ix2 (Chunks.row k.val k.isLt r) d) * Norm.rs fun e => x (ix2 (Chunks.row k.val k.isLt r) e)))
      ∧ ∀ f d, View.canon (st_k0_t1 (F := Ideal) Variants.none c none (grid0.coords t) (ms0_0 t) (hs0_0 t) (ms0_1 t) (hs0_1 t) (ms0_2 t) (hs0_2 t) (ms0_3 t) (hs0_3 t) (ms0_4 t) (hs0_4 t)
          (ms0_5 t) (hs0_5 t) (ms0_6 t) (hs0_6 t) scM0_0 (Memref.isWhole_whole _) h ((hs0_2 t).unread x) ((hs0_3 t).unread g) ((hs0_4 t).unread y) X init 4).2 (ix2 f d)
        = y (ix2 f d) + Norm.dx (fun e => x (ix2 f e)) (fun e => a (ix2 f e)) (fun e => g (ix2 0 e)) d := by
  refine (fun H => ⟨H.1, fun f d => H.2 (ix2 f d)⟩) (Chunks.loop trips_eq _ init _ _ (by rfl) (fun k => st_k0_t1_succ _ _ _ _ _ _ _ _ _ _ _ _ _ _ _ _ _ _ _ _ _ _ _ _ _ _ k)
    (fun k d => ∑ r : Fin 128, a (ix2 (Chunks.row k.val k.isLt r) d) * (x (ix2 (Chunks.row k.val k.isLt r) d) * Norm.rs fun e => x (ix2 (Chunks.row k.val k.isLt r) e)))
    ?_ (fun i => y i + Norm.dx (fun e => x (ix2 (i 0) e)) (fun e => a (ix2 (i 0) e)) (fun e => g (ix2 0 e)) (i 1)) ?_)
  · intro k s d
    unfold tripR_k0_t1 trip_k0_t1
    dsimp only
    have hk : k.val < 4 := lt_of_lt_of_eq k.isLt trips_eq
    rw [gain_at]
    have e1 := fun r d => Chunks.read_rows (View.whole cc0_scratch0) X a ha k.val hk (k0_off1_eq k) (k0_off1_inb (grid0.coords t) k h) r d
    have e2 := fun r d => Chunks.read_rows (ms0_2 t).view ((hs0_2 t).unread x) x (by rw [Memref.IsWhole.read_unread]) k.val hk (k0_off1_eq k) (k0_off1_inb (grid0.coords t) k h) r d
    refine congrArg (s (ix2 0 d) + ·) (Finset.sum_congr (M := EReal) rfl fun r _ => ?_)
    exact congrArg₂ (· * ·) (e1 r d) (congrArg₂ (· * ·) (e2 r d) (congrArg Norm.rs (funext fun e => e2 r e)))
  · intro k s
    have hk : k.val < 4 := lt_of_lt_of_eq k.isLt trips_eq
    have e1 := fun r d => Chunks.read_rows (View.whole cc0_scratch0) X a ha k.val hk (k0_off1_eq k) (k0_off1_inb (grid0.coords t) k h) r d
    have e2 := fun r d => Chunks.read_rows (ms0_2 t).view ((hs0_2 t).unread x) x (by rw [Memref.IsWhole.read_unread]) k.val hk (k0_off1_eq k) (k0_off1_inb (grid0.coords t) k h) r d
    have e4 := fun r d => Chunks.read_rows (ms0_4 t).view ((hs0_4 t).unread y) y (by rw [Memref.IsWhole.read_unread]) k.val hk (k0_off1_eq k) (k0_off1_inb (grid0.coords t) k h) r d
    refine ⟨_, _, _, k0_off1_eq k, by unfold tripL_k0_t1 trip_k0_t1; rfl, fun r d => ?_⟩
    refine (dx_at _ _ _ _ r d).trans ?_
    refine congrArg₂ (· + ·) (e4 r d) ?_
    have e3 := fun d => Chunks.read_row (ms0_3 t).view ((hs0_3 t).unread g) g (by rw [Memref.IsWhole.read_unread]) inb_S1x2048_S1x2048_0_0 d
    exact congr (congr (congr (congrArg Norm.dx (funext fun e => e2 r e)) (funext fun e => e1 r e)) (funext fun e => e3 e)) rfl

/-- The product of a tile of the projection's gradients with a tile of its weights. -/
def part (p : FVec Ideal S512x1408 .bf16) (w : FVec Ideal S1408x2048 .bf16) (r : Fin 512) (d : Fin 2048) : EReal :=
  ∑ k : Fin 1408, p (ix2 r k) * w (ix2 k d)

/-- The tile's product is added to what was there. -/
theorem add_part (p : FVec Ideal S512x1408 .bf16) (acc : FVec Ideal S512x2048 .f32) (w : FVec Ideal S1408x2048 .bf16) (r : Fin 512) (d : Fin 2048) :
    k0_pay2 p acc w (ix2 r d) = acc (ix2 r d) + part p w r d := by
  unfold k0_pay2 part
  pointwise

/-- The accumulator after the first tile of a row of tiles. -/
theorem acc_first (c : Dev nD) (t : Fin cfg0.N) (h0 : t.val % 4 = 0) (r : Fin 512) (d : Fin 2048) :
    (outsAt0 m c t.val t.isLt).2.2 (ix2 r d) = part (iblk m c 0 t) (iblk m c 1 t) r d := by
  by_cases h1 : t.val % 32 = 0
  · rw [outsAt0_A m c t h0 h1 (by omega)]
    frame_out
    rw [add_part]
    unfold k0_pay1
    pointwise
  · rw [outsAt0_D m c t h0 h1 (by omega)]
    frame_out
    rw [add_part]
    unfold k0_pay1
    pointwise

/-- The accumulator after another tile. -/
theorem acc_next (c : Dev nD) (t : Fin cfg0.N) (h0 : ¬t.val % 4 = 0) (r : Fin 512) (d : Fin 2048) :
    (outsAt0 m c t.val t.isLt).2.2 (ix2 r d) = (outsAt0 m c (t.val - 1) (Nat.lt_of_le_of_lt (Nat.sub_le _ _) t.isLt)).2.2 (ix2 r d) + part (iblk m c 0 t) (iblk m c 1 t) r d := by
  by_cases h2 : t.val % 4 = 3
  · rw [outsAt0_C m c t h0 (by omega) h2]
    frame_out
    simp only [read_unread_whole]
    rw [add_part]
  · rw [outsAt0_B m c t h0 (by omega) h2]
    frame_out
    simp only [read_unread_whole]
    rw [add_part]

/-- The rows of sums of two stretches are added. -/
theorem add_gain (a b : FVec Ideal S1x2048 .f32) (d : Fin 2048) : k0_pay9 a b (ix2 0 d) = a (ix2 0 d) + b (ix2 0 d) := by
  unfold k0_pay9
  pointwise

/-- The loop's sums start at zero. -/
theorem zero_at (d : Fin 2048) : k0_pay4 (F := Ideal) (ix2 0 d) = 0 := by
  unfold k0_pay4
  pointwise

/-- The tile of the rows that a point is given. -/
def xt (c : Dev nD) (t : Fin cfg0.N) : FVec Ideal S512x2048 .f32 := iblk m c 2 t
/-- The gain that a point is given. -/
def gt (c : Dev nD) (t : Fin cfg0.N) : FVec Ideal S1x2048 .f32 := iblk m c 3 t
/-- The tile of the residual's gradient that a point is given. -/
def yt (c : Dev nD) (t : Fin cfg0.N) : FVec Ideal S512x2048 .f32 := iblk m c 4 t

/-- The tile written after the last product of a row of tiles. -/
theorem out_last (c : Dev nD) (t : Fin cfg0.N) (h2 : t.val % 4 = 3) (f : Fin 512) (d : Fin 2048) :
    (outsAt0 m c t.val t.isLt).1 (ix2 f d) = yt m c t (ix2 f d) + Norm.dx (fun e => xt m c t (ix2 f e)) (fun e => (outsAt0 m c t.val t.isLt).2.2 (ix2 f e)) (fun e => gt m c t (ix2 0 e)) d := by
  rw [outsAt0_C m c t (by omega) (by omega) h2]
  frame_out
  exact (loop_eq c t _ (xt m c t) (gt m c t) (yt m c t) _ _ (View.read_writes_full _ _ _ _ _) _).2 f d

/-- The gain's row of sums after the last product of a row of tiles. -/
theorem gain_last (c : Dev nD) (t : Fin cfg0.N) (h2 : t.val % 4 = 3) (d : Fin 2048) :
    (outsAt0 m c t.val t.isLt).2.1 (ix2 0 d) = (outsAt0 m c (t.val - 1) (Nat.lt_of_le_of_lt (Nat.sub_le _ _) t.isLt)).2.1 (ix2 0 d)
      + ∑ k : Fin 4, ∑ r : Fin 128, (outsAt0 m c t.val t.isLt).2.2 (ix2 (Chunks.row k.val k.isLt r) d) * (xt m c t (ix2 (Chunks.row k.val k.isLt r) d) * Norm.rs fun e => xt m c t (ix2 (Chunks.row k.val k.isLt r) e)) := by
  rw [outsAt0_C m c t (by omega) (by omega) h2]
  frame_out
  refine (add_gain _ _ d).trans (congrArg (_ + ·) ?_)
  refine ((loop_eq c t _ (xt m c t) (gt m c t) (yt m c t) _ _ (View.read_writes_full _ _ _ _ _) _).1 d).trans ?_
  rw [zero_at, zero_add]

/-- The gain's row of sums at the first point. -/
theorem gain_first (c : Dev nD) (t : Fin cfg0.N) (h1 : t.val % 32 = 0) (d : Fin 2048) :
    (outsAt0 m c t.val t.isLt).2.1 (ix2 0 d) = 0 := by
  rw [outsAt0_A m c t (by omega) h1 (by omega)]
  frame_out
  unfold k0_pay3
  pointwise

/-- The gain's row of sums at a point that adds nothing to it. -/
theorem gain_kept (c : Dev nD) (t : Fin cfg0.N) (h1 : ¬t.val % 32 = 0) (h2 : ¬t.val % 4 = 3) (d : Fin 2048) :
    (outsAt0 m c t.val t.isLt).2.1 (ix2 0 d) = (outsAt0 m c (t.val - 1) (Nat.lt_of_le_of_lt (Nat.sub_le _ _) t.isLt)).2.1 (ix2 0 d) := by
  by_cases h0 : t.val % 4 = 0
  · rw [outsAt0_D m c t h0 h1 h2]
    unfold out0_D_6
    rfl
  · rw [outsAt0_B m c t h0 h1 h2]
    unfold out0_B_6
    rfl

/-- The projection's gradients, as the call is given them. -/
def dproj (c : Dev nD) : FVec Ideal S4096x5632 .bf16 := m ((c : Thread nD τ).loc main_arg0)

/-- The projection's weights, transposed, as the call is given them. -/
def wint (c : Dev nD) : FVec Ideal S5632x2048 .bf16 := m ((c : Thread nD τ).loc main_arg1)

/-- The rows before the norm, as the call is given them. -/
def rows (c : Dev nD) : FVec Ideal S4096x2048 .f32 := m ((c : Thread nD τ).loc main_arg2)

/-- The gain, as the call is given it. -/
def gain (c : Dev nD) : FVec Ideal S1x2048 .f32 := m ((c : Thread nD τ).loc main_arg3)

/-- The residual's gradient, as the call is given it. -/
def dres (c : Dev nD) : FVec Ideal S4096x2048 .f32 := m ((c : Thread nD τ).loc main_arg4)

/-- Where the tile of the projection's gradients lies. -/
theorem index0 : ∀ t : Fin cfg0.N, win0_0.index t = ![t.val / 4, t.val % 4] := (by decide +kernel : ∀ t : Fin grid0.N, _)

/-- Where the tile of the weights lies. -/
theorem index1 : ∀ t : Fin cfg0.N, win0_1.index t = ![t.val % 4, 0] := (by decide +kernel : ∀ t : Fin grid0.N, _)

/-- Where the tile of the rows lies. -/
theorem index2 : ∀ t : Fin cfg0.N, win0_2.index t = ![t.val / 4, 0] := (by decide +kernel : ∀ t : Fin grid0.N, _)

/-- Where the gain lies. -/
theorem index3 : ∀ t : Fin cfg0.N, win0_3.index t = ![0, 0] := (by decide +kernel : ∀ t : Fin grid0.N, _)

/-- Where the tile of the residual's gradient lies. -/
theorem index4 : ∀ t : Fin cfg0.N, win0_4.index t = ![t.val / 4, 0] := (by decide +kernel : ∀ t : Fin grid0.N, _)

/-- The row at a place of a tile of rows. -/
def rowOf (q : ℕ) (hq : q < 8) (r : Fin 512) : Fin 4096 := ⟨512 * q + r.val, by omega⟩

/-- A place of a block of the projection's columns. -/
def colOf (s : ℕ) (hs : s < 4) (k : Fin 1408) : Fin 5632 := ⟨1408 * s + k.val, by omega⟩

/-- Point number `s` of a tile of rows. -/
def pt (q : ℕ) (hq : q < 8) (s : ℕ) (hs : s < 4) : Fin cfg0.N := ⟨4 * q + s, lt_of_lt_of_eq (by omega) N_0.symm⟩

/-- The place of such a point in its sweep. -/
theorem pt_mod (q : ℕ) (hq : q < 8) (s : ℕ) (hs : s < 4) : (pt q hq s hs).val % 4 = s := by
  show (4 * q + s) % 4 = s
  omega

/-- The tile of such a point. -/
theorem pt_div (q : ℕ) (hq : q < 8) (s : ℕ) (hs : s < 4) : (pt q hq s hs).val / 4 = q := by
  show (4 * q + s) / 4 = q
  omega

/-- The tile of the projection's gradients, element by element. -/
theorem read0 (c : Dev nD) (q : ℕ) (hq : q < 8) (s : ℕ) (hs : s < 4) (r : Fin 512) (k : Fin 1408) :
    (iblk m c 0 (pt q hq s hs) : FVec Ideal S512x1408 .bf16) (ix2 r k) = dproj m c (ix2 (rowOf q hq r) (colOf s hs k)) := by
  show dproj m c (((cfg0.win 0).blk (pt q hq s hs)).view.emb (ix2 r k)) = _
  have e0 : win0_0.index (pt q hq s hs) 0 = q := (congrFun (index0 _) 0).trans (pt_div q hq s hs)
  have e1 : win0_0.index (pt q hq s hs) 1 = s := (congrFun (index0 _) 1).trans (pt_mod q hq s hs)
  refine congrArg (dproj m c) (funext fun a => Fin.ext ?_)
  match a with
  | ⟨0, _⟩ => show win0_0.index (pt q hq s hs) 0 * 512 + 1 * r.val = 512 * q + r.val; rw [e0]; omega
  | ⟨1, _⟩ => show win0_0.index (pt q hq s hs) 1 * 1408 + 1 * k.val = 1408 * s + k.val; rw [e1]; omega

/-- The tile of the weights, element by element. -/
theorem read1 (c : Dev nD) (q : ℕ) (hq : q < 8) (s : ℕ) (hs : s < 4) (k : Fin 1408) (d : Fin 2048) :
    (iblk m c 1 (pt q hq s hs) : FVec Ideal S1408x2048 .bf16) (ix2 k d) = wint m c (ix2 (colOf s hs k) d) := by
  show wint m c (((cfg0.win 1).blk (pt q hq s hs)).view.emb (ix2 k d)) = _
  have e0 : win0_1.index (pt q hq s hs) 0 = s := (congrFun (index1 _) 0).trans (pt_mod q hq s hs)
  have e1 : win0_1.index (pt q hq s hs) 1 = 0 := congrFun (index1 _) 1
  refine congrArg (wint m c) (funext fun a => Fin.ext ?_)
  match a with
  | ⟨0, _⟩ => show win0_1.index (pt q hq s hs) 0 * 1408 + 1 * k.val = 1408 * s + k.val; rw [e0]; omega
  | ⟨1, _⟩ => show win0_1.index (pt q hq s hs) 1 * 2048 + 1 * d.val = d.val; rw [e1]; omega

/-- The tile of the rows, element by element. -/
theorem read2 (c : Dev nD) (q : ℕ) (hq : q < 8) (s : ℕ) (hs : s < 4) (r : Fin 512) (d : Fin 2048) :
    xt m c (pt q hq s hs) (ix2 r d) = rows m c (ix2 (rowOf q hq r) d) := by
  show rows m c (((cfg0.win 2).blk (pt q hq s hs)).view.emb (ix2 r d)) = _
  have e0 : win0_2.index (pt q hq s hs) 0 = q := (congrFun (index2 _) 0).trans (pt_div q hq s hs)
  have e1 : win0_2.index (pt q hq s hs) 1 = 0 := congrFun (index2 _) 1
  refine congrArg (rows m c) (funext fun a => Fin.ext ?_)
  match a with
  | ⟨0, _⟩ => show win0_2.index (pt q hq s hs) 0 * 512 + 1 * r.val = 512 * q + r.val; rw [e0]; omega
  | ⟨1, _⟩ => show win0_2.index (pt q hq s hs) 1 * 2048 + 1 * d.val = d.val; rw [e1]; omega

/-- The gain, element by element. -/
theorem read3 (c : Dev nD) (t : Fin cfg0.N) (d : Fin 2048) : gt m c t (ix2 0 d) = gain m c (ix2 0 d) := by
  show gain m c (((cfg0.win 3).blk t).view.emb (ix2 0 d)) = _
  have e0 : win0_3.index t 0 = 0 := congrFun (index3 t) 0
  have e1 : win0_3.index t 1 = 0 := congrFun (index3 t) 1
  refine congrArg (gain m c) (funext fun a => Fin.ext ?_)
  match a with
  | ⟨0, _⟩ => show win0_3.index t 0 * 1 + 1 * 0 = 0; rw [e0]
  | ⟨1, _⟩ => show win0_3.index t 1 * 2048 + 1 * d.val = d.val; rw [e1]; omega

/-- The tile of the residual's gradient, element by element. -/
theorem read4 (c : Dev nD) (q : ℕ) (hq : q < 8) (s : ℕ) (hs : s < 4) (r : Fin 512) (d : Fin 2048) :
    yt m c (pt q hq s hs) (ix2 r d) = dres m c (ix2 (rowOf q hq r) d) := by
  show dres m c (((cfg0.win 4).blk (pt q hq s hs)).view.emb (ix2 r d)) = _
  have e0 : win0_4.index (pt q hq s hs) 0 = q := (congrFun (index4 _) 0).trans (pt_div q hq s hs)
  have e1 : win0_4.index (pt q hq s hs) 1 = 0 := congrFun (index4 _) 1
  refine congrArg (dres m c) (funext fun a => Fin.ext ?_)
  match a with
  | ⟨0, _⟩ => show win0_4.index (pt q hq s hs) 0 * 512 + 1 * r.val = 512 * q + r.val; rw [e0]; omega
  | ⟨1, _⟩ => show win0_4.index (pt q hq s hs) 1 * 2048 + 1 * d.val = d.val; rw [e1]; omega

/-- The product with one block of the weights, at a row and a column. -/
def prod (c : Dev nD) (i : Fin 4096) (d : Fin 2048) (s : Fin 4) : EReal :=
  ∑ k, dproj m c (ix2 i (colOf s.val s.isLt k)) * wint m c (ix2 (colOf s.val s.isLt k) d)

/-- The gradient of the norm's result, at a row and a column. -/
def dh (c : Dev nD) (i : Fin 4096) (d : Fin 2048) : EReal := ∑ k, dproj m c (ix2 i k) * wint m c (ix2 k d)

/-- The four blocks' products make up the whole product. -/
theorem dh_eq (c : Dev nD) (i : Fin 4096) (d : Fin 2048) : ∑ s, prod m c i d s = dh m c i d := by
  unfold dh
  rw [← (finProdFinEquiv (m := 4) (n := 1408)).sum_comp (fun k => dproj m c (ix2 i k) * wint m c (ix2 k d)), Fintype.sum_prod_type]
  refine Finset.sum_congr (M := EReal) rfl fun s _ => Finset.sum_congr (M := EReal) rfl fun k _ => ?_
  have e : colOf s.val s.isLt k = finProdFinEquiv (s, k) := Fin.ext (by
    show 1408 * s.val + k.val = k.val + 1408 * s.val
    omega)
  rw [e]

/-- The product of a point's tiles, from the arrays the call is given. -/
theorem part_eq (c : Dev nD) (q : ℕ) (hq : q < 8) (s : ℕ) (hs : s < 4) (r : Fin 512) (d : Fin 2048) :
    part (iblk m c 0 (pt q hq s hs)) (iblk m c 1 (pt q hq s hs)) r d = prod m c (rowOf q hq r) d ⟨s, hs⟩ :=
  Finset.sum_congr (M := EReal) rfl fun k _ => by rw [read0, read1]

/-- The accumulator holds the products of the blocks so far. -/
theorem acc_eq (c : Dev nD) (q : ℕ) (hq : q < 8) (r : Fin 512) (d : Fin 2048) : ∀ (s : ℕ) (hs : s < 4),
    (outsAt0 m c (pt q hq s hs).val (pt q hq s hs).isLt).2.2 (ix2 r d) = ∑ j : Fin (s + 1), prod m c (rowOf q hq r) d ⟨j.val, by omega⟩ := by
  intro s
  induction s with
  | zero =>
    intro hs
    rw [acc_first m c _ (pt_mod q hq 0 hs), part_eq, Fin.sum_univ_one]
    rfl
  | succ s ih =>
    intro hs
    have e : (outsAt0 m c ((pt q hq (s + 1) hs).val - 1) (Nat.lt_of_le_of_lt (Nat.sub_le _ _) (pt q hq (s + 1) hs).isLt)).2.2 = (outsAt0 m c (pt q hq s (by omega)).val (pt q hq s (by omega)).isLt).2.2 := rfl
    rw [acc_next m c _ (by rw [pt_mod]; omega), part_eq, e, ih (by omega), Fin.sum_univ_castSucc (n := s + 1)]
    rfl

/-- The accumulator after the last block holds the gradient of the norm's result. -/
theorem acc_all (c : Dev nD) (q : ℕ) (hq : q < 8) (r : Fin 512) (d : Fin 2048) :
    (outsAt0 m c (pt q hq 3 (by omega)).val (pt q hq 3 (by omega)).isLt).2.2 (ix2 r d) = dh m c (rowOf q hq r) d :=
  (acc_eq m c q hq r d 3 (by omega)).trans (dh_eq m c _ d)

/-- The gradient of the norm's argument, at a row and a column, as the call leaves it. -/
def dxAt (c : Dev nD) (i : Fin 4096) (d : Fin 2048) : EReal :=
  dres m c (ix2 i d) + Norm.dx (fun e => rows m c (ix2 i e)) (fun e => dh m c i e) (fun e => gain m c (ix2 0 e)) d

/-- A row's term of the gain's gradient. -/
def gainAt (c : Dev nD) (i : Fin 4096) (d : Fin 2048) : EReal :=
  dh m c i d * (rows m c (ix2 i d) * Norm.rs fun e => rows m c (ix2 i e))

/-- What the call leaves at a place. -/
theorem out_eq (c : Dev nD) (q : ℕ) (hq : q < 8) (r : Fin 512) (d : Fin 2048) :
    (outsAt0 m c (pt q hq 3 (by omega)).val (pt q hq 3 (by omega)).isLt).1 (ix2 r d) = dxAt m c (rowOf q hq r) d := by
  rw [out_last m c _ (pt_mod q hq 3 (by omega)), read4]
  exact congrArg (_ + ·) (congr (congr (congr (congrArg Norm.dx (funext fun e => read2 m c q hq 3 _ r e)) (funext fun e => acc_all m c q hq r e)) (funext fun e => read3 m c _ e)) rfl)

/-- The terms that one tile of rows adds to the gain's gradient. -/
def tileSum (c : Dev nD) (d : Fin 2048) (q : Fin 8) : EReal :=
  ∑ k : Fin 4, ∑ r : Fin 128, gainAt m c (rowOf q.val q.isLt (Chunks.row k.val k.isLt r)) d

/-- A tile's last point adds the tile's terms. -/
theorem gain_tile (c : Dev nD) (q : ℕ) (hq : q < 8) (d : Fin 2048) :
    (outsAt0 m c (pt q hq 3 (by omega)).val (pt q hq 3 (by omega)).isLt).2.1 (ix2 0 d)
      = (outsAt0 m c (pt q hq 0 (by omega)).val (pt q hq 0 (by omega)).isLt).2.1 (ix2 0 d) + tileSum m c d ⟨q, hq⟩ := by
  rw [gain_last m c _ (pt_mod q hq 3 (by omega))]
  have k2 := gain_kept m c (pt q hq 2 (by omega)) (by show ¬(4 * q + 2) % 32 = 0; omega) (by rw [pt_mod]; omega) d
  have k1 := gain_kept m c (pt q hq 1 (by omega)) (by show ¬(4 * q + 1) % 32 = 0; omega) (by rw [pt_mod]; omega) d
  refine congrArg₂ (· + ·) (k2.trans k1) (Finset.sum_congr (M := EReal) rfl fun k _ => Finset.sum_congr (M := EReal) rfl fun r _ => ?_)
  exact congrArg₂ (· * ·) (acc_all m c q hq _ d) (congrArg₂ (· * ·) (read2 m c q hq 3 _ _ d) (congrArg Norm.rs (funext fun e => read2 m c q hq 3 _ _ e)))

/-- The gain's row of sums after a tile holds the terms of the tiles so far. -/
theorem gain_eq (c : Dev nD) (d : Fin 2048) : ∀ (q : ℕ) (hq : q < 8),
    (outsAt0 m c (pt q hq 3 (by omega)).val (pt q hq 3 (by omega)).isLt).2.1 (ix2 0 d) = ∑ j : Fin (q + 1), tileSum m c d ⟨j.val, by omega⟩ := by
  intro q
  induction q with
  | zero =>
    intro hq
    rw [gain_tile, gain_first m c _ rfl, zero_add, Fin.sum_univ_one]
    rfl
  | succ q ih =>
    intro hq
    have e : (outsAt0 m c ((pt (q + 1) hq 0 (by omega)).val - 1) (Nat.lt_of_le_of_lt (Nat.sub_le _ _) (pt (q + 1) hq 0 (by omega)).isLt)).2.1 = (outsAt0 m c (pt q (by omega) 3 (by omega)).val (pt q (by omega) 3 (by omega)).isLt).2.1 := rfl
    rw [gain_tile, gain_kept m c _ (by show ¬(4 * (q + 1) + 0) % 32 = 0; omega) (by rw [pt_mod]; omega), e, ih (by omega), Fin.sum_univ_castSucc (n := q + 1)]
    rfl

/-- The gain's gradient is the sum of all rows' terms. -/
theorem gain_all (c : Dev nD) (d : Fin 2048) : ∑ q, tileSum m c d q = ∑ i, gainAt m c i d :=
  (Chunks.sum_rows fun i => gainAt m c i d).symm

/-- The first array the call leaves, element by element. -/
theorem array5 (c : Dev nD) (i : Fin 4096) (d : Fin 2048) : Value.G5 m c (ix2 i d) = dxAt m c i d := by
  have hi := i.isLt
  have hd := d.isLt
  have hq : i.val / 512 < 8 := by omega
  have hp : Value.pt5Of (ix2 i d) = (pt (i.val / 512) hq 3 (by omega)).val := by
    show 4 * (1 * (i.val / 512 - 0) + 1 * (d.val / 2048 - 0)) + 3 = 4 * (i.val / 512) + 3
    omega
  have hl : Value.loc5Of (ix2 i d) = ix2 (⟨i.val % 512, by omega⟩ : Fin 512) d := by
    funext a; apply Fin.ext
    match a with
    | ⟨0, _⟩ => rfl
    | ⟨1, _⟩ => show d.val % 2048 = d.val; omega
  have hr : rowOf (i.val / 512) hq ⟨i.val % 512, by omega⟩ = i := Fin.ext (by
    show 512 * (i.val / 512) + i.val % 512 = i.val
    omega)
  have hN := (pt (i.val / 512) hq 3 (by omega)).isLt
  unfold Value.G5
  rw [dif_pos (by rw [hp]; exact hN), hl, Value.fold0_congr m c _ _ (pt (i.val / 512) hq 3 (by omega)).val (by omega) hp, ← Value.outsAt0_sweep m c _ hN]
  exact (out_eq m c (i.val / 512) hq _ d).trans (by rw [hr])

/-- The second array the call leaves, element by element. -/
theorem array6 (c : Dev nD) (d : Fin 2048) : Value.G6 m c (ix2 0 d) = ∑ i, gainAt m c i d := by
  rw [Value.G6_last, ← Value.outsAt0_sweep m c 31 (pt 7 (by omega) 3 (by omega)).isLt]
  exact (gain_eq m c d 7 (by omega)).trans (gain_all m c d)

/-- Kernel and reference leave the same two arrays. -/
theorem algebraic : Cert.algebraic_Kernel7Ideal_Reference7Ideal := by
  intro m g m' g' _ hargs
  refine ⟨Value.G5 m, Value.G6 m, Value.run m g, ?_⟩
  refine (θ_run Cert.Reference7Ideal.defs _ _).mono (fun r h c => ⟨?_, ?_, (h c).2.2⟩) (Cert.Reference7Ideal.Value.run m' g')
  · rw [(h c).1]
    clear h
    unfold Cert.Reference7Ideal.Value.res_main_v39
    rw [(hargs c).1, (hargs c).2.1, (hargs c).2.2.1, (hargs c).2.2.2.1, (hargs c).2.2.2.2]
    funext i
    obtain ⟨i, d, rfl⟩ : ∃ k d, i = ix2 k d := ⟨i 0, i 1, by funext a; match a with | ⟨0, _⟩ => rfl | ⟨1, _⟩ => rfl⟩
    refine Eq.trans ?_ ((array5 m c i d).trans (Norm.dx_eq _ _ _ _ d)).symm
    pointwise
    rw [Fin.sum_univ_one]
    rfl
  · rw [(h c).2.1, (hargs c).1, (hargs c).2.1, (hargs c).2.2.1]
    clear h
    funext i
    obtain ⟨d, rfl⟩ : ∃ d, i = ix2 0 d := ⟨i 1, by funext a; match a with | ⟨0, _⟩ => exact Subsingleton.elim (α := Fin 1) _ _ | ⟨1, _⟩ => rfl⟩
    refine Eq.trans ?_ (array6 m c d).symm
    pointwise
    exact Finset.sum_congr (M := EReal) rfl fun i _ => mul_comm (G := EReal) _ _

end Cert.Dh2
end
-- ==== Proof.Dmix.lean ====
/- The gradient of the mixed values: every point multiplies one tile of rows with all of the output projection's weights. -/
module

public import proofs.«01_k».proof.Defs
public import proofs.«01_k».proof.Proof.Grad
public import proofs.«01_k».proof.Proof.Gen.Kernel8Ideal.Value
public import proofs.«01_k».proof.Proof.Gen.Reference8Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Dmix
open Idealize.ShloMosaic Idealize.ShloMosaic.TcCoe Idealize.SL.Sem
open Idealize.ShloMosaic.Pipeline (Dat)
open Cert.Kernel8Ideal Cert.Kernel8Ideal.Gen Cert.Grad

variable (m : (ℓ : Loc nD τ sig) → Buf (Elt Ideal) ℓ)

/-- The product of a tile of gradients with the rows of the weights. -/
def part (x : FVec Ideal S512x2048 .f32) (w : FVec Ideal S2048x2048 .bf16) (r : Fin 512) (d : Fin 2048) : EReal :=
  ∑ k : Fin 2048, x (ix2 r k) * w (ix2 d k)

/-- What a point leaves at a place of its tile. -/
theorem out_at (c : Dev nD) (t : Fin cfg0.N) (r : Fin 512) (d : Fin 2048) :
    outsAt0 m c t (ix2 r d) = part (iblk m c 0 t) (iblk m c 1 t) r d := by
  unfold outsAt0
  frame_out
  unfold k0_pay2 k0_pay1 part
  pointwise

/-- The gradients, as the call is given them. -/
def ct (c : Dev nD) : FVec Ideal S4096x2048 .f32 := m ((c : Thread nD τ).loc main_arg0)

/-- The weights, as the call is given them. -/
def wout (c : Dev nD) : FVec Ideal S2048x2048 .bf16 := m ((c : Thread nD τ).loc main_arg1)

/-- Where the tile of the gradients lies. -/
theorem index0 : ∀ t : Fin cfg0.N, win0_0.index t = ![t.val, 0] := (by decide +kernel : ∀ t : Fin grid0.N, _)

/-- The weights are one tile. -/
theorem index1 : ∀ t : Fin cfg0.N, win0_1.index t = ![0, 0] := (by decide +kernel : ∀ t : Fin grid0.N, _)

/-- Where the tile of the result lies. -/
theorem index2 : ∀ t : Fin cfg0.N, win0_2.index t = ![t.val, 0] := (by decide +kernel : ∀ t : Fin grid0.N, _)

/-- The point that writes a row. -/
def pt (i : Fin 4096) : Fin cfg0.N := ⟨i.val / 512, lt_of_lt_of_eq (by omega) N_0.symm⟩

/-- A row's place in its tile. -/
def loc (i : Fin 4096) : Fin 512 := ⟨i.val % 512, by omega⟩

/-- The tile of the gradients, element by element. -/
theorem read0 (c : Dev nD) (i : Fin 4096) (d : Fin 2048) :
    (iblk m c 0 (pt i) : FVec Ideal S512x2048 .f32) (ix2 (loc i) d) = ct m c (ix2 i d) := by
  show ct m c (((cfg0.win 0).blk (pt i)).view.emb (ix2 (loc i) d)) = _
  have h := index0 (pt i)
  have e0 : win0_0.index (pt i) 0 = i.val / 512 := congrFun h 0
  have e1 : win0_0.index (pt i) 1 = 0 := congrFun h 1
  refine congrArg (ct m c) (funext fun a => Fin.ext ?_)
  match a with
  | ⟨0, _⟩ => show win0_0.index (pt i) 0 * 512 + 1 * (i.val % 512) = i.val; rw [e0]; omega
  | ⟨1, _⟩ => show win0_0.index (pt i) 1 * 2048 + 1 * d.val = d.val; rw [e1]; omega

/-- The weights, element by element. -/
theorem read1 (c : Dev nD) (t : Fin cfg0.N) (d k : Fin 2048) :
    (iblk m c 1 t : FVec Ideal S2048x2048 .bf16) (ix2 d k) = wout m c (ix2 d k) := by
  show wout m c (((cfg0.win 1).blk t).view.emb (ix2 d k)) = _
  have h := index1 t
  have e0 : win0_1.index t 0 = 0 := congrFun h 0
  have e1 : win0_1.index t 1 = 0 := congrFun h 1
  refine congrArg (wout m c) (funext fun a => Fin.ext ?_)
  match a with
  | ⟨0, _⟩ => show win0_1.index t 0 * 2048 + 1 * d.val = d.val; rw [e0]; omega
  | ⟨1, _⟩ => show win0_1.index t 1 * 2048 + 1 * k.val = k.val; rw [e1]; omega

/-- The array the call leaves, element by element. -/
theorem array_eq (c : Dev nD) (i : Fin 4096) (d : Fin 2048) :
    ((dats m 0 c).arrAt 2 cfg0.N : FVec Ideal S4096x2048 .f32) (ix2 i d) = ∑ k, ct m c (ix2 i k) * wout m c (ix2 d k) := by
  have h := congrFun (Value.blocks2 m c (pt i) (flush0_2 (pt i))) (ix2 (loc i) d)
  rw [Value.flushed2] at h
  have e : ((cfg0.win 2).blk (pt i)).view.emb (ix2 (loc i) d) = ix2 i d := by
    have h := index2 (pt i)
    have e0 : win0_2.index (pt i) 0 = i.val / 512 := congrFun h 0
    have e1 : win0_2.index (pt i) 1 = 0 := congrFun h 1
    refine funext fun a => Fin.ext ?_
    match a with
    | ⟨0, _⟩ => show win0_2.index (pt i) 0 * 512 + 1 * (i.val % 512) = i.val; rw [e0]; omega
    | ⟨1, _⟩ => show win0_2.index (pt i) 1 * 2048 + 1 * d.val = d.val; rw [e1]; omega
  rw [← e]
  refine h.trans ((out_at m c (pt i) (loc i) d).trans ?_)
  exact Finset.sum_congr (M := EReal) rfl fun k _ => by rw [read0, read1]

/-- Kernel and reference leave the same array. -/
theorem algebraic : Cert.algebraic_Kernel8Ideal_Reference8Ideal := by
  intro m g m' g' _ hargs
  refine ⟨fun c => (dats m 0 c).arrAt 2 cfg0.N, Value.run_blocks m g, ?_⟩
  refine (θ_run Cert.Reference8Ideal.defs _ _).mono (fun r h c => ⟨?_, (h c).2⟩) (Cert.Reference8Ideal.Value.run m' g')
  rw [(h c).1, (hargs c).1, (hargs c).2]
  clear h
  funext i
  obtain ⟨i, d, rfl⟩ : ∃ k d, i = ix2 k d := ⟨i 0, i 1, by funext a; match a with | ⟨0, _⟩ => rfl | ⟨1, _⟩ => rfl⟩
  refine Eq.trans ?_ (array_eq m c i d).symm
  pointwise
  rfl

end Cert.Dmix
end
-- ==== Proof.Dwin.lean ====
/- The gradient of the input projection's weights: the accumulator over the row tiles, and the array that is left. -/
module

public import proofs.«01_k».proof.Defs
public import proofs.«01_k».proof.Proof.Grad
public import proofs.«01_k».proof.Proof.Gen.Kernel9Ideal.Value
public import proofs.«01_k».proof.Proof.Gen.Reference9Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Dwin
open Idealize.ShloMosaic Idealize.ShloMosaic.TcCoe Idealize.SL.Sem
open Idealize.ShloMosaic.Pipeline (Dat)
open Cert.Kernel9Ideal Cert.Kernel9Ideal.Gen Cert.Grad

variable (m : (ℓ : Loc nD τ sig) → Buf (Elt Ideal) ℓ)

/-- The product of a tile of the projection's gradients, transposed, with the tile of the rows. -/
def part (a : FVec Ideal S1024x512 .bf16) (x : FVec Ideal S1024x2048 .bf16) (f : Fin 512) (d : Fin 2048) : EReal :=
  ∑ k : Fin 1024, a (ix2 k f) * x (ix2 k d)

/-- The tile's product is added to what was there. -/
theorem add_part (acc : FVec Ideal S512x2048 .f32) (a : FVec Ideal S1024x512 .bf16) (x : FVec Ideal S1024x2048 .bf16) (f : Fin 512) (d : Fin 2048) :
    k0_pay2 acc a x (ix2 f d) = acc (ix2 f d) + part a x f d := by
  unfold k0_pay2 part
  pointwise

/-- The accumulator after the first tile of a block. -/
theorem acc_first (c : Dev nD) (t : Fin cfg0.N) (h0 : t.val % 4 = 0) (h1 : ¬t.val % 4 = 3) (f : Fin 512) (d : Fin 2048) :
    (outsAt0 m c t.val t.isLt).2 (ix2 f d) = part (iblk m c 0 t) (iblk m c 1 t) f d := by
  rw [outsAt0_A m c t h0 h1]
  frame_out
  rw [add_part]
  unfold k0_pay1
  pointwise

/-- The accumulator after a tile that is neither first nor last. -/
theorem acc_mid (c : Dev nD) (t : Fin cfg0.N) (h0 : ¬t.val % 4 = 0) (h1 : ¬t.val % 4 = 3) (f : Fin 512) (d : Fin 2048) :
    (outsAt0 m c t.val t.isLt).2 (ix2 f d) = (outsAt0 m c (t.val - 1) (Nat.lt_of_le_of_lt (Nat.sub_le _ _) t.isLt)).2 (ix2 f d) + part (iblk m c 0 t) (iblk m c 1 t) f d := by
  rw [outsAt0_B m c t h0 h1]
  frame_out
  simp only [read_unread_whole]
  rw [add_part]

/-- The block written after its last tile: the accumulator with the last product. -/
theorem out_last (c : Dev nD) (t : Fin cfg0.N) (h0 : ¬t.val % 4 = 0) (h1 : t.val % 4 = 3) (f : Fin 512) (d : Fin 2048) :
    (outsAt0 m c t.val t.isLt).1 (ix2 f d) = (outsAt0 m c (t.val - 1) (Nat.lt_of_le_of_lt (Nat.sub_le _ _) t.isLt)).2 (ix2 f d) + part (iblk m c 0 t) (iblk m c 1 t) f d := by
  rw [outsAt0_C m c t h0 h1]
  frame_out
  simp only [read_unread_whole]
  rw [← add_part]
  unfold k0_pay3
  pointwise

/-- The gradients of the projection, as the call is given them. -/
def dproj (c : Dev nD) : FVec Ideal S4096x5632 .bf16 := m ((c : Thread nD τ).loc main_arg0)

/-- The normalised rows, as the call is given them. -/
def rows (c : Dev nD) : FVec Ideal S4096x2048 .bf16 := m ((c : Thread nD τ).loc main_arg1)

/-- Where the tile of the gradients lies. -/
theorem index0 : ∀ t : Fin cfg0.N, win0_0.index t = ![t.val % 4, t.val / 4] := (by decide +kernel : ∀ t : Fin grid0.N, _)

/-- Where the tile of the rows lies. -/
theorem index1 : ∀ t : Fin cfg0.N, win0_1.index t = ![t.val % 4, 0] := (by decide +kernel : ∀ t : Fin grid0.N, _)

/-- The column of the projection at a place of a point's block. -/
def col (t : ℕ) (f : Fin 512) : Fin 5632 := ⟨512 * (t / 4 % 11) + f.val, by omega⟩

/-- The tile of the gradients, element by element. -/
theorem read0 (c : Dev nD) (t : Fin cfg0.N) (k : Fin 1024) (f : Fin 512) :
    (iblk m c 0 t : FVec Ideal S1024x512 .bf16) (ix2 k f) = dproj m c (ix2 (row t.val k) (col t.val f)) := by
  show dproj m c (((cfg0.win 0).blk t).view.emb (ix2 k f)) = _
  have h := index0 t
  have hN := lt_of_lt_of_eq t.isLt N_0
  have e0 : win0_0.index t 0 = t.val % 4 := congrFun h 0
  have e1 : win0_0.index t 1 = t.val / 4 := congrFun h 1
  refine congrArg (dproj m c) (funext fun a => Fin.ext ?_)
  match a with
  | ⟨0, _⟩ => show win0_0.index t 0 * 1024 + 1 * k.val = 1024 * (t.val % 4) + k.val; rw [e0]; omega
  | ⟨1, _⟩ => show win0_0.index t 1 * 512 + 1 * f.val = 512 * (t.val / 4 % 11) + f.val; rw [e1]; omega

/-- The tile of the rows, element by element. -/
theorem read1 (c : Dev nD) (t : Fin cfg0.N) (k : Fin 1024) (d : Fin 2048) :
    (iblk m c 1 t : FVec Ideal S1024x2048 .bf16) (ix2 k d) = rows m c (ix2 (row t.val k) d) := by
  show rows m c (((cfg0.win 1).blk t).view.emb (ix2 k d)) = _
  have h := index1 t
  have e0 : win0_1.index t 0 = t.val % 4 := congrFun h 0
  have e1 : win0_1.index t 1 = 0 := congrFun h 1
  refine congrArg (rows m c) (funext fun a => Fin.ext ?_)
  match a with
  | ⟨0, _⟩ => show win0_1.index t 0 * 1024 + 1 * k.val = 1024 * (t.val % 4) + k.val; rw [e0]; omega
  | ⟨1, _⟩ => show win0_1.index t 1 * 2048 + 1 * d.val = d.val; rw [e1]; omega

/-- The product of a point's tiles, from the arrays the call is given. -/
theorem part_eq (c : Dev nD) (t : Fin cfg0.N) (f : Fin 512) (d : Fin 2048) :
    part (iblk m c 0 t) (iblk m c 1 t) f d = ∑ k, dproj m c (ix2 (row t.val k) (col t.val f)) * rows m c (ix2 (row t.val k) d) :=
  Finset.sum_congr rfl fun k _ => by rw [read0, read1]

/-- Point number `s` of the block that holds a column. -/
def pt (j : Fin 5632) (s : Fin 4) : Fin cfg0.N := ⟨4 * (j.val / 512) + s.val, lt_of_lt_of_eq (by omega) N_0.symm⟩

/-- A column's place in its block. -/
def loc (j : Fin 5632) : Fin 512 := ⟨j.val % 512, by omega⟩

/-- What the call leaves at a place of a block: the sum over all rows. -/
theorem out_eq (c : Dev nD) (j : Fin 5632) (d : Fin 2048) :
    (outsAt0 m c (pt j 3).val (pt j 3).isLt).1 (ix2 (loc j) d) = ∑ i, dproj m c (ix2 i j) * rows m c (ix2 i d) := by
  have hb : ∀ s, col (pt j s).val (loc j) = j := fun s => Fin.ext (by show 512 * ((4 * (j.val / 512) + s.val) / 4 % 11) + j.val % 512 = j.val; omega)
  have hr : ∀ s k, row (pt j s).val k = row s.val k := fun s k => Fin.ext (by
    show 1024 * ((4 * (j.val / 512) + s.val) % 4) + k.val = 1024 * (s.val % 4) + k.val
    omega)
  have hm : ∀ s, (pt j s).val % 4 = s.val := fun s => by show (4 * (j.val / 512) + s.val) % 4 = s.val; omega
  rw [out_last m c (pt j 3) (by rw [hm]; decide) (hm 3)]
  have a2 := acc_mid m c (pt j 2) (by rw [hm]; decide) (by rw [hm]; decide) (loc j) d
  have a1 := acc_mid m c (pt j 1) (by rw [hm]; decide) (by rw [hm]; decide) (loc j) d
  have a0 := acc_first m c (pt j 0) (hm 0) (by rw [hm]; decide) (loc j) d
  have s3 : (outsAt0 m c ((pt j 3).val - 1) (Nat.lt_of_le_of_lt (Nat.sub_le _ _) (pt j 3).isLt)).2 = (outsAt0 m c (pt j 2).val (pt j 2).isLt).2 := rfl
  have s2 : (outsAt0 m c ((pt j 2).val - 1) (Nat.lt_of_le_of_lt (Nat.sub_le _ _) (pt j 2).isLt)).2 = (outsAt0 m c (pt j 1).val (pt j 1).isLt).2 := rfl
  have s1 : (outsAt0 m c ((pt j 1).val - 1) (Nat.lt_of_le_of_lt (Nat.sub_le _ _) (pt j 1).isLt)).2 = (outsAt0 m c (pt j 0).val (pt j 0).isLt).2 := rfl
  rw [s3, a2, s2, a1, s1, a0, part_eq, part_eq, part_eq, part_eq, sum_rows]
  simp only [hb, hr]
  rfl

/-- The array the call leaves, element by element. -/
theorem array_eq (c : Dev nD) (j : Fin 5632) (d : Fin 2048) :
    Value.G2 m c (ix2 j d) = ∑ i, dproj m c (ix2 i j) * rows m c (ix2 i d) := by
  have hp : Value.pt2Of (ix2 j d) = (pt j 3).val := by
    show 4 * (1 * (j.val / 512 - 0) + 1 * (d.val / 2048 - 0)) + 3 = 4 * (j.val / 512) + 3
    have := j.isLt; have := d.isLt; omega
  have hl : Value.loc2Of (ix2 j d) = ix2 (loc j) d := by
    funext a; apply Fin.ext
    match a with
    | ⟨0, _⟩ => rfl
    | ⟨1, _⟩ => show d.val % 2048 = d.val; have := d.isLt; omega
  unfold Value.G2
  rw [dif_pos (by rw [hp]; exact (pt j 3).isLt), hl, Value.fold0_congr m c _ _ (pt j 3).val (by have := (pt j 3).isLt; omega) hp, ← Value.outsAt0_sweep m c (pt j 3).val (pt j 3).isLt]
  exact out_eq m c j d

/-- Kernel and reference leave the same array. -/
theorem algebraic : Cert.algebraic_Kernel9Ideal_Reference9Ideal := by
  intro m g m' g' _ hargs
  refine ⟨Value.G2 m, Value.run m g, ?_⟩
  refine (θ_run Cert.Reference9Ideal.defs _ _).mono (fun r h c => ⟨?_, (h c).2⟩) (Cert.Reference9Ideal.Value.run m' g')
  rw [(h c).1, (hargs c).1, (hargs c).2]
  clear h
  funext i
  obtain ⟨j, d, rfl⟩ : ∃ j d, i = ix2 j d := ⟨i 0, i 1, by funext a; match a with | ⟨0, _⟩ => rfl | ⟨1, _⟩ => rfl⟩
  refine Eq.trans ?_ (array_eq m c j d).symm
  pointwise
  rfl

end Cert.Dwin
end
-- ==== Proof.Dwout.lean ====
/- The gradient of the output projection's weights: the accumulator over the row tiles, and the array that is left. -/
module

public import proofs.«01_k».proof.Defs
public import proofs.«01_k».proof.Proof.Grad
public import proofs.«01_k».proof.Proof.Gen.Kernel10Ideal.Value
public import proofs.«01_k».proof.Proof.Gen.Reference10Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.Dwout
open Idealize.ShloMosaic Idealize.ShloMosaic.TcCoe Idealize.SL.Sem
open Idealize.ShloMosaic.Pipeline (Dat)
open Cert.Kernel10Ideal Cert.Kernel10Ideal.Gen Cert.Grad

variable (m : (ℓ : Loc nD τ sig) → Buf (Elt Ideal) ℓ)

/-- The product of a tile of the mixed values, transposed, with the tile of the gradients. -/
def part (a : FVec Ideal S1024x2048 .bf16) (x : FVec Ideal S1024x512 .f32) (f : Fin 2048) (d : Fin 512) : EReal :=
  ∑ k : Fin 1024, a (ix2 k f) * x (ix2 k d)

/-- The tile's product is added to what was there. -/
theorem add_part (acc : FVec Ideal S2048x512 .f32) (a : FVec Ideal S1024x2048 .bf16) (x : FVec Ideal S1024x512 .f32) (f : Fin 2048) (d : Fin 512) :
    k0_pay2 acc a x (ix2 f d) = acc (ix2 f d) + part a x f d := by
  unfold k0_pay2 part
  pointwise

/-- The accumulator after the first tile of a block. -/
theorem acc_first (c : Dev nD) (t : Fin cfg0.N) (h0 : t.val % 4 = 0) (h1 : ¬t.val % 4 = 3) (f : Fin 2048) (d : Fin 512) :
    (outsAt0 m c t.val t.isLt).2 (ix2 f d) = part (iblk m c 0 t) (iblk m c 1 t) f d := by
  rw [outsAt0_A m c t h0 h1]
  frame_out
  rw [add_part]
  unfold k0_pay1
  pointwise

/-- The accumulator after a tile that is neither first nor last. -/
theorem acc_mid (c : Dev nD) (t : Fin cfg0.N) (h0 : ¬t.val % 4 = 0) (h1 : ¬t.val % 4 = 3) (f : Fin 2048) (d : Fin 512) :
    (outsAt0 m c t.val t.isLt).2 (ix2 f d) = (outsAt0 m c (t.val - 1) (Nat.lt_of_le_of_lt (Nat.sub_le _ _) t.isLt)).2 (ix2 f d) + part (iblk m c 0 t) (iblk m c 1 t) f d := by
  rw [outsAt0_B m c t h0 h1]
  frame_out
  simp only [read_unread_whole]
  rw [add_part]

/-- The block written after its last tile: the accumulator with the last product. -/
theorem out_last (c : Dev nD) (t : Fin cfg0.N) (h0 : ¬t.val % 4 = 0) (h1 : t.val % 4 = 3) (f : Fin 2048) (d : Fin 512) :
    (outsAt0 m c t.val t.isLt).1 (ix2 f d) = (outsAt0 m c (t.val - 1) (Nat.lt_of_le_of_lt (Nat.sub_le _ _) t.isLt)).2 (ix2 f d) + part (iblk m c 0 t) (iblk m c 1 t) f d := by
  rw [outsAt0_C m c t h0 h1]
  frame_out
  simp only [read_unread_whole]
  rw [← add_part]
  unfold k0_pay3
  pointwise

/-- The mixed values, as the call is given them. -/
def mix (c : Dev nD) : FVec Ideal S4096x2048 .bf16 := m ((c : Thread nD τ).loc main_arg0)

/-- The gradients, as the call is given them. -/
def ct (c : Dev nD) : FVec Ideal S4096x2048 .f32 := m ((c : Thread nD τ).loc main_arg1)

/-- Where the tile of the mixed values lies. -/
theorem index0 : ∀ t : Fin cfg0.N, win0_0.index t = ![t.val % 4, 0] := (by decide +kernel : ∀ t : Fin grid0.N, _)

/-- Where the tile of the gradients lies. -/
theorem index1 : ∀ t : Fin cfg0.N, win0_1.index t = ![t.val % 4, t.val / 4] := (by decide +kernel : ∀ t : Fin grid0.N, _)

/-- The column of the gradients at a place of a point's block. -/
def col (t : ℕ) (d : Fin 512) : Fin 2048 := ⟨512 * (t / 4 % 4) + d.val, by omega⟩

/-- The tile of the mixed values, element by element. -/
theorem read0 (c : Dev nD) (t : Fin cfg0.N) (k : Fin 1024) (f : Fin 2048) :
    (iblk m c 0 t : FVec Ideal S1024x2048 .bf16) (ix2 k f) = mix m c (ix2 (row t.val k) f) := by
  show mix m c (((cfg0.win 0).blk t).view.emb (ix2 k f)) = _
  have h := index0 t
  have e0 : win0_0.index t 0 = t.val % 4 := congrFun h 0
  have e1 : win0_0.index t 1 = 0 := congrFun h 1
  refine congrArg (mix m c) (funext fun a => Fin.ext ?_)
  match a with
  | ⟨0, _⟩ => show win0_0.index t 0 * 1024 + 1 * k.val = 1024 * (t.val % 4) + k.val; rw [e0]; omega
  | ⟨1, _⟩ => show win0_0.index t 1 * 2048 + 1 * f.val = f.val; rw [e1]; omega

/-- The tile of the gradients, element by element. -/
theorem read1 (c : Dev nD) (t : Fin cfg0.N) (k : Fin 1024) (d : Fin 512) :
    (iblk m c 1 t : FVec Ideal S1024x512 .f32) (ix2 k d) = ct m c (ix2 (row t.val k) (col t.val d)) := by
  show ct m c (((cfg0.win 1).blk t).view.emb (ix2 k d)) = _
  have h := index1 t
  have hN := lt_of_lt_of_eq t.isLt N_0
  have e0 : win0_1.index t 0 = t.val % 4 := congrFun h 0
  have e1 : win0_1.index t 1 = t.val / 4 := congrFun h 1
  refine congrArg (ct m c) (funext fun a => Fin.ext ?_)
  match a with
  | ⟨0, _⟩ => show win0_1.index t 0 * 1024 + 1 * k.val = 1024 * (t.val % 4) + k.val; rw [e0]; omega
  | ⟨1, _⟩ => show win0_1.index t 1 * 512 + 1 * d.val = 512 * (t.val / 4 % 4) + d.val; rw [e1]; omega

/-- The product of a point's tiles, from the arrays the call is given. -/
theorem part_eq (c : Dev nD) (t : Fin cfg0.N) (f : Fin 2048) (d : Fin 512) :
    part (iblk m c 0 t) (iblk m c 1 t) f d = ∑ k, mix m c (ix2 (row t.val k) f) * ct m c (ix2 (row t.val k) (col t.val d)) :=
  Finset.sum_congr rfl fun k _ => by rw [read0, read1]

/-- Point number `s` of the block that holds a column. -/
def pt (j : Fin 2048) (s : Fin 4) : Fin cfg0.N := ⟨4 * (j.val / 512) + s.val, lt_of_lt_of_eq (by omega) N_0.symm⟩

/-- A column's place in its block. -/
def loc (j : Fin 2048) : Fin 512 := ⟨j.val % 512, by omega⟩

/-- What the call leaves at a place of a block: the sum over all rows. -/
theorem out_eq (c : Dev nD) (f j : Fin 2048) :
    (outsAt0 m c (pt j 3).val (pt j 3).isLt).1 (ix2 f (loc j)) = ∑ i, mix m c (ix2 i f) * ct m c (ix2 i j) := by
  have hb : ∀ s, col (pt j s).val (loc j) = j := fun s => Fin.ext (by show 512 * ((4 * (j.val / 512) + s.val) / 4 % 4) + j.val % 512 = j.val; omega)
  have hr : ∀ s k, row (pt j s).val k = row s.val k := fun s k => Fin.ext (by
    show 1024 * ((4 * (j.val / 512) + s.val) % 4) + k.val = 1024 * (s.val % 4) + k.val
    omega)
  have hm : ∀ s, (pt j s).val % 4 = s.val := fun s => by show (4 * (j.val / 512) + s.val) % 4 = s.val; omega
  rw [out_last m c (pt j 3) (by rw [hm]; decide) (hm 3)]
  have a2 := acc_mid m c (pt j 2) (by rw [hm]; decide) (by rw [hm]; decide) f (loc j)
  have a1 := acc_mid m c (pt j 1) (by rw [hm]; decide) (by rw [hm]; decide) f (loc j)
  have a0 := acc_first m c (pt j 0) (hm 0) (by rw [hm]; decide) f (loc j)
  have s3 : (outsAt0 m c ((pt j 3).val - 1) (Nat.lt_of_le_of_lt (Nat.sub_le _ _) (pt j 3).isLt)).2 = (outsAt0 m c (pt j 2).val (pt j 2).isLt).2 := rfl
  have s2 : (outsAt0 m c ((pt j 2).val - 1) (Nat.lt_of_le_of_lt (Nat.sub_le _ _) (pt j 2).isLt)).2 = (outsAt0 m c (pt j 1).val (pt j 1).isLt).2 := rfl
  have s1 : (outsAt0 m c ((pt j 1).val - 1) (Nat.lt_of_le_of_lt (Nat.sub_le _ _) (pt j 1).isLt)).2 = (outsAt0 m c (pt j 0).val (pt j 0).isLt).2 := rfl
  rw [s3, a2, s2, a1, s1, a0, part_eq, part_eq, part_eq, part_eq, sum_rows]
  simp only [hb, hr]
  rfl

/-- The array the call leaves, element by element. -/
theorem array_eq (c : Dev nD) (f j : Fin 2048) :
    Value.G2 m c (ix2 f j) = ∑ i, mix m c (ix2 i f) * ct m c (ix2 i j) := by
  have hp : Value.pt2Of (ix2 f j) = (pt j 3).val := by
    show 4 * (4 * (f.val / 2048 - 0) + 1 * (j.val / 512 - 0)) + 3 = 4 * (j.val / 512) + 3
    have := j.isLt; have := f.isLt; omega
  have hl : Value.loc2Of (ix2 f j) = ix2 f (loc j) := by
    funext a; apply Fin.ext
    match a with
    | ⟨0, _⟩ => show f.val % 2048 = f.val; have := f.isLt; omega
    | ⟨1, _⟩ => rfl
  unfold Value.G2
  rw [dif_pos (by rw [hp]; exact (pt j 3).isLt), hl, Value.fold0_congr m c _ _ (pt j 3).val (by have := (pt j 3).isLt; omega) hp, ← Value.outsAt0_sweep m c (pt j 3).val (pt j 3).isLt]
  exact out_eq m c f j

/-- Kernel and reference leave the same array. -/
theorem algebraic : Cert.algebraic_Kernel10Ideal_Reference10Ideal := by
  intro m g m' g' _ hargs
  refine ⟨Value.G2 m, Value.run m g, ?_⟩
  refine (θ_run Cert.Reference10Ideal.defs _ _).mono (fun r h c => ⟨?_, (h c).2⟩) (Cert.Reference10Ideal.Value.run m' g')
  rw [(h c).1, (hargs c).1, (hargs c).2]
  clear h
  funext i
  obtain ⟨f, j, rfl⟩ : ∃ f j, i = ix2 f j := ⟨i 0, i 1, by funext a; match a with | ⟨0, _⟩ => rfl | ⟨1, _⟩ => rfl⟩
  refine Eq.trans ?_ (array_eq m c f j).symm
  pointwise
  exact Finset.sum_congr (M := EReal) rfl fun i _ => mul_comm _ _

end Cert.Dwout
end
-- ==== Proof.ProjOut.lean ====
/- The forward pass's output projection: every point adds one tile of products to one tile of rows. -/
module

public import proofs.«01_k».proof.Defs
public import proofs.«01_k».proof.Proof.Grad
public import proofs.«01_k».proof.Proof.Gen.Kernel11Ideal.Value
public import proofs.«01_k».proof.Proof.Gen.Reference11Ideal.Run
public import Idealize.ShloMosaic.Lib.Pipeline.ValueKit
public import Idealize.ShloMosaic.Lib.WritesUnit
public import Idealize.ShloMosaic.Lib.Pipeline.ReadBack
public import Idealize.ShloMosaic.Lib.Pointwise

@[expose] public section

set_option maxRecDepth 16384
noncomputable section
namespace Cert.ProjOut
open Idealize.ShloMosaic Idealize.ShloMosaic.TcCoe Idealize.SL.Sem
open Idealize.ShloMosaic.Pipeline (Dat)
open Cert.Kernel11Ideal Cert.Kernel11Ideal.Gen Cert.Grad

variable (m : (ℓ : Loc nD τ sig) → Buf (Elt Ideal) ℓ)

/-- A tile of the rows plus the product of a tile of mixed values with a tile of weights. -/
def part (x : FVec Ideal S512x512 .f32) (a : FVec Ideal S512x2048 .bf16) (w : FVec Ideal S2048x512 .bf16) (r d : Fin 512) : EReal :=
  x (ix2 r d) + ∑ k : Fin 2048, a (ix2 r k) * w (ix2 k d)

/-- What a point leaves at a place of its tile. -/
theorem out_at (x : FVec Ideal S512x512 .f32) (a : FVec Ideal S512x2048 .bf16) (w : FVec Ideal S2048x512 .bf16) (r d : Fin 512) :
    out0_3 (F := Ideal) a w x (ix2 r d) = part x a w r d := by
  unfold out0_3
  rw [View.canon_cons_unit_lit (S := S512x512) _ _ _ (by decide), View.ld_unit_lit (S := S512x512) _ _ (by decide),
    View.ld_unit_lit (S := S512x2048) _ _ (by decide), View.ld_unit_lit (S := S2048x512) _ _ (by decide)]
  unfold k0_pay1 part
  pointwise

/-- The mixed values, as the call is given them. -/
def mix (c : Dev nD) : FVec Ideal S4096x2048 .bf16 := m ((c : Thread nD τ).loc main_arg0)

/-- The weights, as the call is given them. -/
def wout (c : Dev nD) : FVec Ideal S2048x2048 .bf16 := m ((c : Thread nD τ).loc main_arg1)

/-- The rows, as the call is given them. -/
def rows (c : Dev nD) : FVec Ideal S4096x2048 .f32 := m ((c : Thread nD τ).loc main_arg2)

/-- Where the tile of the mixed values lies. -/
theorem index0 : ∀ t : Fin cfg0.N, win0_0.index t = ![t.val / 4, 0] := (by decide +kernel : ∀ t : Fin grid0.N, _)

/-- Where the tile of the weights lies. -/
theorem index1 : ∀ t : Fin cfg0.N, win0_1.index t = ![0, t.val % 4] := (by decide +kernel : ∀ t : Fin grid0.N, _)

/-- Where the tile of the rows lies. -/
theorem index2 : ∀ t : Fin cfg0.N, win0_2.index t = ![t.val / 4, t.val % 4] := (by decide +kernel : ∀ t : Fin grid0.N, _)

/-- Where the tile of the result lies. -/
theorem index3 : ∀ t : Fin cfg0.N, win0_3.index t = ![t.val / 4, t.val % 4] := (by decide +kernel : ∀ t : Fin grid0.N, _)

/-- The point that writes a place of the array. -/
def pt (i : Fin 4096) (d : Fin 2048) : Fin cfg0.N := ⟨4 * (i.val / 512) + d.val / 512, lt_of_lt_of_eq (by omega) N_0.symm⟩

/-- A row's place in its tile. -/
def loc (i : Fin 4096) : Fin 512 := ⟨i.val % 512, by omega⟩

/-- A column's place in its tile. -/
def lane (d : Fin 2048) : Fin 512 := ⟨d.val % 512, by omega⟩

/-- The row of tiles of the point that writes a place. -/
theorem pt_div (i : Fin 4096) (d : Fin 2048) : (pt i d).val / 4 = i.val / 512 := by
  show (4 * (i.val / 512) + d.val / 512) / 4 = i.val / 512
  omega

/-- The column of tiles of the point that writes a place. -/
theorem pt_mod (i : Fin 4096) (d : Fin 2048) : (pt i d).val % 4 = d.val / 512 := by
  show (4 * (i.val / 512) + d.val / 512) % 4 = d.val / 512
  omega

/-- The tile of the mixed values, element by element. -/
theorem read0 (c : Dev nD) (i : Fin 4096) (d k : Fin 2048) :
    (iblk m c 0 (pt i d) : FVec Ideal S512x2048 .bf16) (ix2 (loc i) k) = mix m c (ix2 i k) := by
  show mix m c (((cfg0.win 0).blk (pt i d)).view.emb (ix2 (loc i) k)) = _
  have h := index0 (pt i d)
  have e0 : win0_0.index (pt i d) 0 = i.val / 512 := (congrFun h 0).trans (pt_div i d)
  have e1 : win0_0.index (pt i d) 1 = 0 := congrFun h 1
  refine congrArg (mix m c) (funext fun a => Fin.ext ?_)
  match a with
  | ⟨0, _⟩ => show win0_0.index (pt i d) 0 * 512 + 1 * (i.val % 512) = i.val; rw [e0]; omega
  | ⟨1, _⟩ => show win0_0.index (pt i d) 1 * 2048 + 1 * k.val = k.val; rw [e1]; omega

/-- The tile of the weights, element by element. -/
theorem read1 (c : Dev nD) (i : Fin 4096) (d k : Fin 2048) :
    (iblk m c 1 (pt i d) : FVec Ideal S2048x512 .bf16) (ix2 k (lane d)) = wout m c (ix2 k d) := by
  show wout m c (((cfg0.win 1).blk (pt i d)).view.emb (ix2 k (lane d))) = _
  have h := index1 (pt i d)
  have e0 : win0_1.index (pt i d) 0 = 0 := congrFun h 0
  have e1 : win0_1.index (pt i d) 1 = d.val / 512 := (congrFun h 1).trans (pt_mod i d)
  refine congrArg (wout m c) (funext fun a => Fin.ext ?_)
  match a with
  | ⟨0, _⟩ => show win0_1.index (pt i d) 0 * 2048 + 1 * k.val = k.val; rw [e0]; omega
  | ⟨1, _⟩ => show win0_1.index (pt i d) 1 * 512 + 1 * (d.val % 512) = d.val; rw [e1]; omega

/-- The tile of the rows, element by element. -/
theorem read2 (c : Dev nD) (i : Fin 4096) (d : Fin 2048) :
    (iblk m c 2 (pt i d) : FVec Ideal S512x512 .f32) (ix2 (loc i) (lane d)) = rows m c (ix2 i d) := by
  show rows m c (((cfg0.win 2).blk (pt i d)).view.emb (ix2 (loc i) (lane d))) = _
  have h := index2 (pt i d)
  have e0 : win0_2.index (pt i d) 0 = i.val / 512 := (congrFun h 0).trans (pt_div i d)
  have e1 : win0_2.index (pt i d) 1 = d.val / 512 := (congrFun h 1).trans (pt_mod i d)
  refine congrArg (rows m c) (funext fun a => Fin.ext ?_)
  match a with
  | ⟨0, _⟩ => show win0_2.index (pt i d) 0 * 512 + 1 * (i.val % 512) = i.val; rw [e0]; omega
  | ⟨1, _⟩ => show win0_2.index (pt i d) 1 * 512 + 1 * (d.val % 512) = d.val; rw [e1]; omega

/-- The array the call leaves, element by element. -/
theorem array_eq (c : Dev nD) (i : Fin 4096) (d : Fin 2048) :
    ((dats m 0 c).arrAt 3 cfg0.N : FVec Ideal S4096x2048 .f32) (ix2 i d) = rows m c (ix2 i d) + ∑ k, mix m c (ix2 i k) * wout m c (ix2 k d) := by
  have h := congrFun (Value.blocks3 m c (pt i d) (flush0_3 (pt i d))) (ix2 (loc i) (lane d))
  rw [Value.flushed3] at h
  have e : ((cfg0.win 3).blk (pt i d)).view.emb (ix2 (loc i) (lane d)) = ix2 i d := by
    have h := index3 (pt i d)
    have e0 : win0_3.index (pt i d) 0 = i.val / 512 := (congrFun h 0).trans (pt_div i d)
    have e1 : win0_3.index (pt i d) 1 = d.val / 512 := (congrFun h 1).trans (pt_mod i d)
    refine funext fun a => Fin.ext ?_
    match a with
    | ⟨0, _⟩ => show win0_3.index (pt i d) 0 * 512 + 1 * (i.val % 512) = i.val; rw [e0]; omega
    | ⟨1, _⟩ => show win0_3.index (pt i d) 1 * 512 + 1 * (d.val % 512) = d.val; rw [e1]; omega
  rw [← e]
  refine h.trans ((out_at (iblk m c 2 (pt i d)) (iblk m c 0 (pt i d)) (iblk m c 1 (pt i d)) (loc i) (lane d)).trans ?_)
  unfold part
  rw [read2, e]
  exact congrArg (fun s => rows m c (ix2 i d) + s) (Finset.sum_congr (M := EReal) rfl fun k _ => by rw [read0, read1])

/-- Kernel and reference leave the same array. -/
theorem algebraic : Cert.algebraic_Kernel11Ideal_Reference11Ideal := by
  intro m g m' g' _ hargs
  refine ⟨fun c => (dats m 0 c).arrAt 3 cfg0.N, Value.run_blocks m g, ?_⟩
  refine (θ_run Cert.Reference11Ideal.defs _ _).mono (fun r h c => ⟨?_, (h c).2⟩) (Cert.Reference11Ideal.Value.run m' g')
  rw [(h c).1, (hargs c).1, (hargs c).2.1, (hargs c).2.2]
  clear h
  funext i
  obtain ⟨i, d, rfl⟩ : ∃ k d, i = ix2 k d := ⟨i 0, i 1, by funext a; match a with | ⟨0, _⟩ => rfl | ⟨1, _⟩ => rfl⟩
  refine Eq.trans ?_ (array_eq m c i d).symm
  pointwise
  rfl

end Cert.ProjOut
end
-- ==== Proof.InRun.lean ====
/- The call that projects the normed rows: the body at each point, and what the whole call leaves. -/
module

public import proofs.«01_k».proof.Proof.Gen.Kernel12Ideal.Launch
public import proofs.«01_k».proof.Proof.Gen.Kernel12Ideal.Skeleton
public import proofs.«01_k».proof.Proof.Gen.Kernel12Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384
noncomputable section
namespace Cert.InRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel12Ideal Cert.Kernel12Ideal.Gen

variable {F : FTy → Type} [FloatOps F]
variable (m : (ℓ : Loc nD τ sig) → Buf (Elt F) ℓ) (ρ : Dev nD → PrngReg)

/-- Assertions about the program's memory. -/
abbrev Asrt (F : FTy → Type) [FloatOps F] := sProp (MT nD τ sig Unit (Elt F) ℕ (UR sig nD τ) ℕ)

/-- The body norms the rows at a point exactly if it is the first of its row of eleven. -/
theorem first_iff (t : Fin cfg0.N) : k0_cond1 (grid0.coords t) = 1#1 ↔ t.val % 11 = 0 := by
  have ht : t.val < 44 := Nat.lt_of_lt_of_eq t.isLt N_0
  have e1 : (grid0.coords t 1).val = t.val / 1 % 11 := Pipeline.Grid.coords_val t 1 (by decide) rfl
  simp only [k0_cond1, e1]
  word_cmp

section body
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S512x2048 .bf16) (harg4 : arg4.IsWhole) (arg5 : Memref sig .tc .vmem S1024x512 .f32) (harg5 : arg5.IsWhole) (arg6 : Memref sig .tc .vmem S1024x2048 .bf16) (harg6 : arg6.IsWhole)
  (x0 : Vec F S1024x2048 .f32) (x1 : Vec F S1x2048 .f32) (x2 : Vec F S512x2048 .bf16)

set_option maxHeartbeats 1000000 in
/-- At the first point of a row the body stores the normed rows and their product with the tile of the weights. -/
theorem body_first (hc : k0_cond1 i = 1#1) (E : Set ℕ) (K : PUnit → Asrt F) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_full]
    unfold body_first.sl.v3 body_first.sl.H4_1
    rw [View.readCov_full, View.readAt_full, View.readAt_full, View.readAt_full, harg2.read_unread, harg3.read_unread, harg4.read_unread]
  iexists _; isplitr
  swap; · iexact H4
  ipureintro
  unfold body_first.sl.H4_1
  rw [View.read_writes_full, View.readAt_full, View.readAt_full, harg2.read_unread, harg3.read_unread]

set_option maxHeartbeats 1000000 in
/-- At another point the body stores the product of the normed rows kept from before, and leaves these. -/
theorem body_next (hc : ¬k0_cond1 i = 1#1) (xo : Vec F S1024x2048 .bf16) (E : Set ℕ) (K : PUnit → Asrt F) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xo x2) ∗ owns (c : Thread nD τ) arg6 fullShare xo) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_full, View.readAt_full, View.readAt_full, harg6.read_unread, harg4.read_unread]
  iexists _; isplitr
  swap; · iexact H4
  ipureintro
  exact harg6.read_unread _

end body

/-- Window `w`'s block at point `t`, as the call finds it in the memory. -/
def blk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The first point of the row of eleven that a point stands in. -/
def start (t : Fin cfg0.N) : Fin cfg0.N := ⟨t.val - t.val % 11, Nat.lt_of_le_of_lt (Nat.sub_le _ _) t.isLt⟩

/-- The normed rows that the points of a row of eleven share. -/
def rows (c : Dev nD) (t : Fin cfg0.N) : Vec F S1024x2048 .bf16 := k0_pay1 (blk m c 0 (start t)) (blk m c 1 (start t))

/-- A point that is not the first of its row shares the normed rows of the point before. -/
theorem rows_pred (c : Dev nD) (t : Fin cfg0.N) (h : ¬t.val % 11 = 0) (hp : t.val - 1 < cfg0.N) : rows m c ⟨t.val - 1, hp⟩ = rows m c t := by
  unfold rows
  rw [show start ⟨t.val - 1, hp⟩ = start t from Fin.ext (by show t.val - 1 - (t.val - 1) % 11 = t.val - t.val % 11; omega)]

/-- The first point of a row norms its own rows. -/
theorem rows_first (c : Dev nD) (t : Fin cfg0.N) (h : t.val % 11 = 0) : rows m c t = k0_pay1 (blk m c 0 t) (blk m c 1 t) := by
  unfold rows
  rw [show start t = t from Fin.ext (by show t.val - t.val % 11 = t.val; omega)]

/-- What each window's buffer holds after the body at each point. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => blk m c 0 t
    | ⟨1, _⟩ => blk m c 1 t
    | ⟨2, _⟩ => blk m c 2 t
    | ⟨3, _⟩ => k0_pay2 (rows m c t) (blk m c 2 t)
    | ⟨4, _⟩ => rows m c t
  Φ _ := Pipeline.ΦA spec0 c
  q _ := fullShare
  owed _ := 0

/-- The body leaves the tile of the rows as it was. -/
theorem after_0 (c : Dev nD) (t : Fin cfg0.N) : (dats m 0 c).after 0 t = blk m c 0 t := by dsimp only [dats]
/-- The body leaves the gain as it was. -/
theorem after_1 (c : Dev nD) (t : Fin cfg0.N) : (dats m 0 c).after 1 t = blk m c 1 t := by dsimp only [dats]
/-- The body leaves the tile of the weights as it was. -/
theorem after_2 (c : Dev nD) (t : Fin cfg0.N) : (dats m 0 c).after 2 t = blk m c 2 t := by dsimp only [dats]
/-- What the body leaves in the buffer of the products. -/
theorem after_3 (c : Dev nD) (t : Fin cfg0.N) : (dats m 0 c).after 3 t = k0_pay2 (rows m c t) (blk m c 2 t) := by dsimp only [dats]
/-- What stands in the buffer of the normed rows after the body. -/
theorem after_4 (c : Dev nD) (t : Fin cfg0.N) : (dats m 0 c).after 4 t = rows m c t := by dsimp only [dats]

/-- The buffer of the rows holds its block at every point. -/
theorem before_0 (c : Dev nD) (t : Fin cfg0.N) (d) : (dats m 0 c).before 0 t d = blk m c 0 t :=
  ((dats m 0 c).before_in_eq_fetched 0 rfl (fun _ => rfl) (fun _ _ _ => rfl) (fun t => by rw [after_0]; rfl) t d).trans rfl

/-- The buffer of the gain holds its block at every point. -/
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; rfl) t d).trans rfl

/-- The buffer of the weights holds its block at every point. -/
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; rfl) t d).trans rfl

/-- The normed rows are stored at the first point of a row of eleven and at no other. -/
theorem idle_4 : ∀ t : Fin cfg0.N, cfg0.idle 4 (grid0.coords t) = !decide (t.val % 11 = 0) := by decide +kernel

/-- Where the buffer of the normed rows holds nothing yet. -/
def fresh (n : ℕ) : Bool := decide (n % 11 = 0)

/-- It holds nothing yet at the first point of a row of eleven and at no other. -/
theorem fresh_4 (t : Fin cfg0.N) : cfg0.fresh 4 t.val = fresh t.val :=
  Pipeline.Cfg.fresh_tab cfg0 4 fresh rfl
    (by decide +kernel : ∀ t : Fin cfg0.N, fresh (t.val + 1) = ((cfg0.win 4).flush t || (cfg0.idle 4 (cfg0.grid.coords t) && fresh t.val))) t.val (Nat.le_of_lt t.isLt)

/-- At a point that is not the first of its row, the normed rows of the row stand in their buffer. -/
theorem before_4 (c : Dev nD) (t : Fin cfg0.N) (h : ¬t.val % 11 = 0) (d) : (dats m 0 c).before 4 t d = rows m c t := by
  rw [Dat.before_out_traj _ 4 rfl (fun _ _ => rfl) (fun t _ hi _ => by
      rw [idle_4 t] at hi
      rw [after_4, after_4]
      exact (rows_pred m c t (by simpa using hi) _).symm) t.val t rfl d,
    if_neg (by rw [fresh_4, fresh]; simpa using h), after_4]
  exact rows_pred m c t h _

/-- The buffer a window has at a point. -/
abbrev st (w : Fin cfg0.W) (t : Fin cfg0.N) := (cfg0.win w).stage (cfg0.slots t w)

/-- A window stored at a point is left at the point's contents. -/
theorem leaves_live (c : Dev nD) (w : Fin cfg0.W) (t : Fin cfg0.N) (hl : cfg0.idle w (cfg0.grid.coords t) = false) :
    (dats m 0 c).leavesExact w t = owns (c : Thread nD τ) (st w t) fullShare ((dats m 0 c).after w t) := by
  unfold Dat.leavesExact; rw [hl]

/-- The normed rows are left as they were, at a point that does not store them. -/
theorem leaves_4 (c : Dev nD) (t : Fin cfg0.N) (h : ¬t.val % 11 = 0) :
    (owns (c : Thread nD τ) (st 4 t) fullShare (rows m c t) : Asrt F) ⊢ (dats m 0 c).leavesExact 4 t := by
  have hi : cfg0.idle 4 (cfg0.grid.coords t) = true := by rw [show cfg0.idle 4 (cfg0.grid.coords t) = _ from idle_4 t]; simpa using h
  cases hf : (cfg0.win 4).flush t
  · rw [(dats m 0 c).leavesExact_idle 4 t hi hf]
    iintro H
    iexists rows m c t
    rw [before_4 m c t h]
    iexact H
  · unfold Dat.leavesExact
    rw [hi, hf, after_4]

/-- What the body is given at a point. -/
def pre (c : Dev nD) (t : Fin cfg0.N) : Asrt F :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d)))

/-- What it gives back. -/
def post (c : Dev nD) (t : Fin cfg0.N) : Asrt F :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 800000 in
/-- The body at every point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, after_0, after_1, after_2, after_3]
  by_cases h : t.val % 11 = 0
  · rw [leaves_live m c 4 t (by rw [show cfg0.idle 4 (cfg0.grid.coords t) = _ from idle_4 t]; simpa using h), after_4, rows_first m c t h]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ (blk m c 0 t) (blk m c 1 t) (blk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_4 m c t h]
    iintro ⟨HΦ, Ho, ⟨%d0, H0⟩, ⟨%d1, H1⟩, ⟨%d2, H2⟩, ⟨%d3, H3⟩, ⟨%d4, H4⟩⟩
    iapply (body_next c (grid0.coords t) _ _ _ _ _ _ _ _ _ _ (blk m c 0 t) (blk m c 1 t) (blk m c 2 t) (fun hc => h ((first_iff t).mp hc)) (rows m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t h)
    iexact H4

/-- The body at every point, as the call's loop asks it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body m c t) rfl .rfl fun _ => .rfl

/-- The program is the call alone. -/
theorem call (𝒱₀ : Variants) : Pipeline.HMain (Ix := Unit) (Name := ℕ) (U := UR sig nD τ) (Lvl := ℕ) cfgs 0 defs₀ 𝒱₀ m (main (F := F)) (fun c b => m ((c : Thread nD τ).loc b)) :=
  Pipeline.hmain_region cfgs 0 defs₀ 𝒱₀ m main fun c => (main_chain c).trans rfl

set_option backward.isDefEq.respectTransparency.types false in
/-- The run: every array ends at what the points wrote back, and every counter at zero. -/
theorem run : θ_run defs (onTc (τ := τ) (main (F := F))) (s₀ m ρ) (fun r => (Pipeline.FramePost cfgs (dats m) 0 (fun c b => m ((c : Thread nD τ).loc b))) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := fun c b => m ((c : Thread nD τ).loc b)) (hmain := call m Variants.none) (hA := fun _ _ => rfl) (hΦ := fun _ _ => rfl)

/-- What the two results hold at the end, the arguments as they were, and every counter at zero. -/
theorem results : θ_run defs (onTc (τ := τ) (main (F := F))) ⟨m, fun _ => 0, ρ⟩ (fun r => (∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3, (h.1 c).1 4, ((h.1 c).1 0).trans ((dats m 0 c).arrAt_in 0 rfl _),
    ((h.1 c).1 1).trans ((dats m 0 c).arrAt_in 1 rfl _), ((h.1 c).1 2).trans ((dats m 0 c).arrAt_in 2 rfl _)⟩, h.2⟩) (run m ρ)

/-- The call runs, and its arguments end as they were. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (results m ρ)

end Cert.InRun

end
-- ==== Proof.InSame.lean ====
/- The call that projects the normed rows is printed twice, once for each arithmetic: it is one program. -/
module

public import proofs.«01_k».proof.Proof.InRun
public import proofs.«01_k».proof.Proof.Gen.Kernel12

@[expose] public section

set_option maxRecDepth 16384
noncomputable section
namespace Cert.InSame
open Idealize.ShloMosaic Idealize.ShloMosaic.TcCoe Idealize.SL.Sem
open Cert.Kernel12 Cert.Kernel12.Gen

variable {F : FTy → Type} [FloatOps F]

/-- The two printed programs have the same body. -/
theorem bodies : @Eq (Defs nD τ sig (Elt F) Λ₀) (defs₀ (F := F)) (Kernel12Ideal.defs₀ (F := F)) := by
  unfold defs₀ Kernel12Ideal.defs₀
  refine congrArg Defs.onTc (funext fun ℓ => funext fun a => ?_)
  match ℓ, a with
  | 0, (t, s) => rfl

/-- The two printed programs call the same functions. -/
theorem tables : @Eq (Defs nD τ sig (Elt F) _) (defs (F := F)) (Kernel12Ideal.defs (F := F)) :=
  congrArg (Pipeline.defs pcfgs) bodies

/-- The call runs, and its arguments end as they were: the two printed programs are the same, word for word. -/
theorem kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (congrArg (fun D => θ_run D (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) tables).mpr (InRun.kept (F := F) m ρ)

end Cert.InSame

end
-- ==== Proof.ProjIn.lean ====
/- The input projection of the normed rows: each row of eleven points norms a tile of rows once, and every point multiplies it with one tile of the weights. -/
module

public import proofs.«01_k».proof.Defs
public import proofs.«01_k».proof.Proof.Norm
public import proofs.«01_k».proof.Proof.InRun
public import proofs.«01_k».proof.Proof.Gen.Reference12Ideal.Run
public import Idealize.ShloMosaic.Lib.Pipeline.ValueKit
public import Idealize.ShloMosaic.Lib.Pipeline.ReadBack
public import Idealize.ShloMosaic.Lib.Pointwise

@[expose] public section

set_option maxRecDepth 16384
noncomputable section
namespace Cert.ProjIn
open Idealize.ShloMosaic Idealize.ShloMosaic.TcCoe Idealize.SL.Sem
open Idealize.ShloMosaic.Pipeline (Dat)
open Cert.Kernel12Ideal Cert.Kernel12Ideal.Gen Cert.InRun

variable (m : (ℓ : Loc nD τ sig) → Buf (Elt Ideal) ℓ)

/-- An entry of a normed tile. -/
theorem norm_at (x : FVec Ideal S1024x2048 .f32) (g : FVec Ideal S1x2048 .f32) (r : Fin 1024) (d : Fin 2048) :
    (k0_pay1 x g : FVec Ideal S1024x2048 .bf16) (ix2 r d) = x (ix2 r d) * Norm.rs (fun k => x (ix2 r k)) * g (ix2 0 d) := by
  unfold k0_pay1 Norm.rs Norm.ms Norm.width Norm.eps
  pointwise

/-- An entry of the product of a normed tile with a tile of the weights. -/
theorem prod_at (h : FVec Ideal S1024x2048 .bf16) (w : FVec Ideal S512x2048 .bf16) (r : Fin 1024) (d : Fin 512) :
    (k0_pay2 h w : FVec Ideal S1024x512 .f32) (ix2 r d) = ∑ k : Fin 2048, h (ix2 r k) * w (ix2 d k) := by
  unfold k0_pay2
  pointwise

/-- The rows, as the call is given them. -/
def xs (c : Dev nD) : FVec Ideal S4096x2048 .f32 := m ((c : Thread nD τ).loc main_arg0)

/-- The gain, as the call is given it. -/
def gain (c : Dev nD) : FVec Ideal S1x2048 .f32 := m ((c : Thread nD τ).loc main_arg1)

/-- The weights, as the call is given them. -/
def wint (c : Dev nD) : FVec Ideal S5632x2048 .bf16 := m ((c : Thread nD τ).loc main_arg2)

/-- Where the tile of the rows lies. -/
theorem index0 : ∀ t : Fin cfg0.N, win0_0.index t = ![t.val / 11, 0] := (by decide +kernel : ∀ t : Fin grid0.N, _)

/-- Where the gain lies. -/
theorem index1 : ∀ t : Fin cfg0.N, win0_1.index t = ![0, 0] := (by decide +kernel : ∀ t : Fin grid0.N, _)

/-- Where the tile of the weights lies. -/
theorem index2 : ∀ t : Fin cfg0.N, win0_2.index t = ![t.val % 11, 0] := (by decide +kernel : ∀ t : Fin grid0.N, _)

/-- Where the tile of the products lies. -/
theorem index3 : ∀ t : Fin cfg0.N, win0_3.index t = ![t.val / 11, t.val % 11] := (by decide +kernel : ∀ t : Fin grid0.N, _)

/-- Where the tile of the normed rows lies. -/
theorem index4 : ∀ t : Fin cfg0.N, win0_4.index t = ![t.val / 11, 0] := (by decide +kernel : ∀ t : Fin grid0.N, _)

/-- The point at a row and a column of tiles. -/
def pt (p : ℕ) (hp : p < 4) (q : ℕ) (hq : q < 11) : Fin cfg0.N := ⟨11 * p + q, lt_of_lt_of_eq (by omega) N_0.symm⟩

/-- A point's row of tiles. -/
theorem pt_div (p : ℕ) (hp : p < 4) (q : ℕ) (hq : q < 11) : (pt p hp q hq).val / 11 = p := by
  show (11 * p + q) / 11 = p
  omega

/-- A point's column of tiles. -/
theorem pt_mod (p : ℕ) (hp : p < 4) (q : ℕ) (hq : q < 11) : (pt p hp q hq).val % 11 = q := by
  show (11 * p + q) % 11 = q
  omega

/-- The row of tiles that a row lies in. -/
theorem tile_lt (i : Fin 4096) : i.val / 1024 < 4 := by omega

/-- A row's place in its tile. -/
def loc (i : Fin 4096) : Fin 1024 := ⟨i.val % 1024, by omega⟩

/-- The tile of the rows, element by element. -/
theorem read0 (c : Dev nD) (i : Fin 4096) (q : ℕ) (hq : q < 11) (k : Fin 2048) :
    (blk m c 0 (pt (i.val / 1024) (tile_lt i) q hq) : FVec Ideal S1024x2048 .f32) (ix2 (loc i) k) = xs m c (ix2 i k) := by
  show xs m c (((cfg0.win 0).blk (pt (i.val / 1024) (tile_lt i) q hq)).view.emb (ix2 (loc i) k)) = _
  have h := index0 (pt (i.val / 1024) (tile_lt i) q hq)
  have e0 := (congrFun h 0).trans (pt_div (i.val / 1024) (tile_lt i) q hq)
  have e1 : win0_0.index (pt (i.val / 1024) (tile_lt i) q hq) 1 = 0 := congrFun h 1
  refine congrArg (xs m c) (funext fun a => Fin.ext ?_)
  match a with
  | ⟨0, _⟩ => show win0_0.index (pt (i.val / 1024) (tile_lt i) q hq) 0 * 1024 + 1 * (i.val % 1024) = i.val; rw [e0]; omega
  | ⟨1, _⟩ => show win0_0.index (pt (i.val / 1024) (tile_lt i) q hq) 1 * 2048 + 1 * k.val = k.val; rw [e1]; omega

/-- The gain, element by element. -/
theorem read1 (c : Dev nD) (t : Fin cfg0.N) (k : Fin 2048) :
    (blk m c 1 t : FVec Ideal S1x2048 .f32) (ix2 0 k) = gain m c (ix2 0 k) := by
  show gain m c (((cfg0.win 1).blk t).view.emb (ix2 0 k)) = _
  have h := index1 t
  have e0 : win0_1.index t 0 = 0 := congrFun h 0
  have e1 : win0_1.index t 1 = 0 := congrFun h 1
  refine congrArg (gain m c) (funext fun a => Fin.ext ?_)
  match a with
  | ⟨0, _⟩ => show win0_1.index t 0 * 1 + 1 * 0 = 0; rw [e0]
  | ⟨1, _⟩ => show win0_1.index t 1 * 2048 + 1 * k.val = k.val; rw [e1]; omega

/-- The column of tiles that a column lies in. -/
theorem col_lt (d : Fin 5632) : d.val / 512 < 11 := by omega

/-- A column's place in its tile. -/
def lane (d : Fin 5632) : Fin 512 := ⟨d.val % 512, by omega⟩

/-- The tile of the weights, element by element. -/
theorem read2 (c : Dev nD) (p : ℕ) (hp : p < 4) (d : Fin 5632) (k : Fin 2048) :
    (blk m c 2 (pt p hp (d.val / 512) (col_lt d)) : FVec Ideal S512x2048 .bf16) (ix2 (lane d) k) = wint m c (ix2 d k) := by
  show wint m c (((cfg0.win 2).blk (pt p hp (d.val / 512) (col_lt d))).view.emb (ix2 (lane d) k)) = _
  have h := index2 (pt p hp (d.val / 512) (col_lt d))
  have e0 := (congrFun h 0).trans (pt_mod p hp (d.val / 512) (col_lt d))
  have e1 : win0_2.index (pt p hp (d.val / 512) (col_lt d)) 1 = 0 := congrFun h 1
  refine congrArg (wint m c) (funext fun a => Fin.ext ?_)
  match a with
  | ⟨0, _⟩ => show win0_2.index (pt p hp (d.val / 512) (col_lt d)) 0 * 512 + 1 * (d.val % 512) = d.val; rw [e0]; omega
  | ⟨1, _⟩ => show win0_2.index (pt p hp (d.val / 512) (col_lt d)) 1 * 2048 + 1 * k.val = k.val; rw [e1]; omega

/-- An entry of the normed rows. -/
def normed (c : Dev nD) (i : Fin 4096) (d : Fin 2048) : EReal :=
  xs m c (ix2 i d) * Norm.rs (fun k => xs m c (ix2 i k)) * gain m c (ix2 0 d)

/-- The normed rows that a row of points shares. -/
theorem rows_at (c : Dev nD) (i : Fin 4096) (q : ℕ) (hq : q < 11) (d : Fin 2048) :
    rows m c (pt (i.val / 1024) (tile_lt i) q hq) (ix2 (loc i) d) = normed m c i d := by
  have e : start (pt (i.val / 1024) (tile_lt i) q hq) = pt (i.val / 1024) (tile_lt i) 0 (by omega) := Fin.ext (by
    show 11 * (i.val / 1024) + q - (11 * (i.val / 1024) + q) % 11 = 11 * (i.val / 1024) + 0
    omega)
  unfold rows normed
  rw [e, norm_at, read0, read1]
  exact congrArg (fun s => _ * s * _) (congrArg Norm.rs (funext fun k => read0 m c i 0 _ k))

/-- Two points write different tiles of the products. -/
theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h' : win0_3.index t = win0_3.index t' := h
    rw [index3, index3] at h'
    have h0 : t.val / 11 = t'.val / 11 := congrFun h' 0
    have h1 : t.val % 11 = t'.val % 11 := congrFun h' 1
    omega))

/-- Two points that write normed rows write different tiles of them. -/
theorem apart4 : ∀ t t' : Fin cfg0.N, (cfg0.win 4).flush t = true → (cfg0.win 4).flush t' = true → t ≠ t' →
    Disjoint ((cfg0.win 4).blk t).view.set ((cfg0.win 4).blk t').view.set :=
  fun t t' f f' hne => (cfg0.win 4).disjoint_blk fun h => hne (Fin.ext (by
    have h' : win0_4.index t = win0_4.index t' := h
    rw [index4, index4] at h'
    have h0 : t.val / 11 = t'.val / 11 := congrFun h' 0
    have h1 := (flush0_4 t).mp f
    have h2 := (flush0_4 t').mp f'
    omega))

/-- The products the call leaves, element by element. -/
theorem array3 (c : Dev nD) (i : Fin 4096) (d : Fin 5632) :
    ((dats m 0 c).arrAt 3 cfg0.N : FVec Ideal S4096x5632 .f32) (ix2 i d) = ∑ k, normed m c i k * wint m c (ix2 d k) := by
  have h := congrFun ((dats m 0 c).read_blk_arrAt_eq_flushed 3 apart3 cfg0.N (pt (i.val / 1024) (tile_lt i) (d.val / 512) (col_lt d)) (pt (i.val / 1024) (tile_lt i) (d.val / 512) (col_lt d)).isLt (flush0_3 _)) (ix2 (loc i) (lane d))
  have e : ((cfg0.win 3).blk (pt (i.val / 1024) (tile_lt i) (d.val / 512) (col_lt d))).view.emb (ix2 (loc i) (lane d)) = ix2 i d := by
    have h := index3 (pt (i.val / 1024) (tile_lt i) (d.val / 512) (col_lt d))
    have e0 := (congrFun h 0).trans (pt_div (i.val / 1024) (tile_lt i) (d.val / 512) (col_lt d))
    have e1 := (congrFun h 1).trans (pt_mod (i.val / 1024) (tile_lt i) (d.val / 512) (col_lt d))
    refine funext fun a => Fin.ext ?_
    match a with
    | ⟨0, _⟩ => show win0_3.index (pt (i.val / 1024) (tile_lt i) (d.val / 512) (col_lt d)) 0 * 1024 + 1 * (i.val % 1024) = i.val; rw [e0]; omega
    | ⟨1, _⟩ => show win0_3.index (pt (i.val / 1024) (tile_lt i) (d.val / 512) (col_lt d)) 1 * 512 + 1 * (d.val % 512) = d.val; rw [e1]; omega
  rw [← e]
  refine h.trans ?_
  show (dats m 0 c).after 3 (pt (i.val / 1024) (tile_lt i) (d.val / 512) (col_lt d)) (ix2 (loc i) (lane d)) = _
  rw [after_3]
  refine (prod_at _ _ (loc i) (lane d)).trans ?_
  exact Finset.sum_congr (M := EReal) rfl fun k _ => congrArg₂ (· * ·) (rows_at m c i (d.val / 512) _ k) (read2 m c (i.val / 1024) _ d k)

/-- The last column of tiles is the tenth, counted from zero. -/
theorem ten : 10 < 11 := by decide

/-- The normed rows the call leaves, element by element. -/
theorem array4 (c : Dev nD) (i : Fin 4096) (d : Fin 2048) :
    ((dats m 0 c).arrAt 4 cfg0.N : FVec Ideal S4096x2048 .bf16) (ix2 i d) = normed m c i d := by
  have h := congrFun ((dats m 0 c).read_blk_arrAt_eq_flushed 4 apart4 cfg0.N (pt (i.val / 1024) (tile_lt i) 10 ten) (pt (i.val / 1024) (tile_lt i) 10 ten).isLt ((flush0_4 _).mpr (pt_mod _ _ _ _))) (ix2 (loc i) d)
  have e : ((cfg0.win 4).blk (pt (i.val / 1024) (tile_lt i) 10 ten)).view.emb (ix2 (loc i) d) = ix2 i d := by
    have h := index4 (pt (i.val / 1024) (tile_lt i) 10 ten)
    have e0 := (congrFun h 0).trans (pt_div (i.val / 1024) (tile_lt i) 10 ten)
    have e1 : win0_4.index (pt (i.val / 1024) (tile_lt i) 10 ten) 1 = 0 := congrFun h 1
    refine funext fun a => Fin.ext ?_
    match a with
    | ⟨0, _⟩ => show win0_4.index (pt (i.val / 1024) (tile_lt i) 10 ten) 0 * 1024 + 1 * (i.val % 1024) = i.val; rw [e0]; omega
    | ⟨1, _⟩ => show win0_4.index (pt (i.val / 1024) (tile_lt i) 10 ten) 1 * 2048 + 1 * d.val = d.val; rw [e1]; omega
  rw [← e]
  refine h.trans ?_
  show (dats m 0 c).after 4 (pt (i.val / 1024) (tile_lt i) 10 ten) (ix2 (loc i) d) = _
  rw [after_4]
  exact rows_at m c i 10 _ d

/-- Kernel and reference leave the same two arrays. -/
theorem algebraic : Cert.algebraic_Kernel12Ideal_Reference12Ideal := by
  intro m g m' g' _ hargs
  refine ⟨fun c => (dats m 0 c).arrAt 3 cfg0.N, fun c => (dats m 0 c).arrAt 4 cfg0.N, (θ_run _ _ _).mono (fun r h => h.1) (results m g), ?_⟩
  refine (θ_run Cert.Reference12Ideal.defs _ _).mono (fun r h c => ⟨?_, ?_, (h c).2.2⟩) (Cert.Reference12Ideal.Value.run m' g')
  · rw [(h c).1, (hargs c).1, (hargs c).2.1, (hargs c).2.2]
    clear h
    funext i
    obtain ⟨i, d, rfl⟩ : ∃ k d, i = ix2 k d := ⟨i 0, i 1, by funext a; match a with | ⟨0, _⟩ => rfl | ⟨1, _⟩ => rfl⟩
    refine Eq.trans ?_ (array3 m c i d).symm
    unfold normed Norm.rs Norm.ms Norm.width Norm.eps
    pointwise
    rfl
  · rw [(h c).2.1, (hargs c).1, (hargs c).2.1]
    clear h
    funext i
    obtain ⟨i, d, rfl⟩ : ∃ k d, i = ix2 k d := ⟨i 0, i 1, by funext a; match a with | ⟨0, _⟩ => rfl | ⟨1, _⟩ => rfl⟩
    refine Eq.trans ?_ (array4 m c i d).symm
    unfold normed Norm.rs Norm.ms Norm.width Norm.eps
    pointwise
    rfl

end Cert.ProjIn
end
-- ==== Proof.UpRun.lean ====
/- The call of the gate and up projections of the normed rows: the body at each point, and what the whole call leaves. -/
module

public import proofs.«01_k».proof.Proof.Gen.Kernel13Ideal.Launch
public import proofs.«01_k».proof.Proof.Gen.Kernel13Ideal.Skeleton
public import proofs.«01_k».proof.Proof.Gen.Kernel13Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384
noncomputable section
namespace Cert.UpRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel13Ideal Cert.Kernel13Ideal.Gen

variable {F : FTy → Type} [FloatOps F]
variable (m : (ℓ : Loc nD τ sig) → Buf (Elt F) ℓ) (ρ : Dev nD → PrngReg)

/-- Assertions about the program's memory. -/
abbrev Asrt (F : FTy → Type) [FloatOps F] := sProp (MT nD τ sig Unit (Elt F) ℕ (UR sig nD τ) ℕ)

/-- The body norms the rows at a point exactly if it is the first of its row of eight. -/
theorem first_iff (t : Fin cfg0.N) : k0_cond1 (grid0.coords t) = 1#1 ↔ t.val % 8 = 0 := by
  have ht : t.val < 64 := Nat.lt_of_lt_of_eq t.isLt N_0
  have e1 : (grid0.coords t 1).val = t.val / 1 % 8 := Pipeline.Grid.coords_val t 1 (by decide) rfl
  simp only [k0_cond1, e1]
  word_cmp

section body
variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S1x704x2048 .bf16) (harg4 : arg4.IsWhole) (arg5 : Memref sig .tc .vmem S1x704x2048 .bf16) (harg5 : arg5.IsWhole) (arg6 : Memref sig .tc .vmem S512x2048 .bf16) (harg6 : arg6.IsWhole)
  (arg7 : Memref sig .tc .vmem S1x512x704 .f32) (harg7 : arg7.IsWhole) (arg8 : Memref sig .tc .vmem S1x512x704 .f32) (harg8 : arg8.IsWhole) (arg9 : Memref sig .tc .vmem S1x512x704 .bf16) (harg9 : arg9.IsWhole)
  (x0 : Vec F S512x2048 .f32) (x1 : Vec F S1x2048 .f32) (x2 x3 : Vec F S1x704x2048 .bf16)

/-- What the body holds of its four arguments at a point. -/
def ins : Asrt F :=
  iprop(owns (c : Thread nD τ) arg2 fullShare x0 ∗ owns (c : Thread nD τ) arg3 fullShare x1 ∗ owns (c : Thread nD τ) arg4 fullShare x2 ∗ owns (c : Thread nD τ) arg5 fullShare x3)

/-- What it leaves in the buffers of its results, of the normed rows `h` of the point. -/
def outs (h : Vec F S512x2048 .bf16) : Asrt F :=
  iprop(owns (c : Thread nD τ) arg6 fullShare h ∗ owns (c : Thread nD τ) arg7 fullShare (k0_pay5 h x2) ∗ owns (c : Thread nD τ) arg8 fullShare (k0_pay6 h x3) ∗ owns (c : Thread nD τ) arg9 fullShare (k0_pay7 h x2 x3))

/-- What the buffers of the projections hold before the body: anything. -/
def room : Asrt F :=
  iprop((∃ d, owns (c : Thread nD τ) arg7 fullShare d) ∗ (∃ d, owns (c : Thread nD τ) arg8 fullShare d) ∗ (∃ d, owns (c : Thread nD τ) arg9 fullShare d))

set_option maxHeartbeats 2000000 in
/-- At the first point of a row the body stores the normed rows, their two projections and the product of these. -/
theorem body_first (hc : k0_cond1 i = 1#1) (E : Set ℕ) (K : PUnit → Asrt F) :
    iprop(ins c arg2 arg3 arg4 arg5 x0 x1 x2 x3 ∗ (∃ d, owns (c : Thread nD τ) arg6 fullShare d) ∗ room c arg7 arg8 arg9
        ∗ (iprop(ins c arg2 arg3 arg4 arg5 x0 x1 x2 x3 ∗ outs c arg6 arg7 arg8 arg9 x2 x3 (k0_pay1 x0 x1)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton]; unfold k0_part1_skel
  unfold ins outs room owns
  iintro ⟨⟨⟨%f0, %hf0, H0⟩, ⟨%f1, %hf1, H1⟩, ⟨%f2, %hf2, H2⟩, ⟨%f3, %hf3, H3⟩⟩, ⟨%d4, %f4, -, H4⟩, ⟨⟨%d5, %f5, -, H5⟩, ⟨%d6, %f6, -, H6⟩, ⟨%d7, %f7, -, H7⟩⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0 H1 H2 H3]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; · ipureintro; exact harg5.read_unread _
    iexact H3
  isplitl [H4]
  · iexists _; isplitr
    swap; · iexact H4
    ipureintro
    unfold body_first.sl.H4_1
    rw [View.read_writes_full, View.readAt_full, View.readAt_full, harg2.read_unread, harg3.read_unread]
  isplitl [H5]
  · iexists _; isplitr
    swap; · iexact H5
    ipureintro
    rw [View.read_writes_full]
    unfold body_first.sl.v3 body_first.sl.H4_1
    rw [View.readCov_full, View.readAt_full, View.readAt_full, View.readAt_full, harg2.read_unread, harg3.read_unread, harg4.read_unread]
  isplitl [H6]
  · iexists _; isplitr
    swap; · iexact H6
    ipureintro
    rw [View.read_writes_full]
    unfold body_first.sl.v3 body_first.sl.H4_1
    rw [View.readCov_full, View.readAt_full, View.readAt_full, View.readAt_full, harg2.read_unread, harg3.read_unread, harg5.read_unread]
  iexists _; isplitr
  swap; · iexact H7
  ipureintro
  rw [View.read_writes_full]
  unfold body_first.sl.v3 body_first.sl.H4_1
  rw [View.readCov_full, View.readAt_full, View.readAt_full, View.readAt_full, View.readAt_full, harg2.read_unread, harg3.read_unread, harg4.read_unread, harg5.read_unread]

set_option maxHeartbeats 2000000 in
/-- At another point the body stores the projections of the normed rows kept from before, and leaves these. -/
theorem body_next (hc : ¬k0_cond1 i = 1#1) (xo : Vec F S512x2048 .bf16) (E : Set ℕ) (K : PUnit → Asrt F) :
    iprop(ins c arg2 arg3 arg4 arg5 x0 x1 x2 x3 ∗ owns (c : Thread nD τ) arg6 fullShare xo ∗ room c arg7 arg8 arg9
        ∗ (iprop(ins c arg2 arg3 arg4 arg5 x0 x1 x2 x3 ∗ outs c arg6 arg7 arg8 arg9 x2 x3 xo) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton]; unfold k0_part1_skel
  unfold ins outs room owns
  iintro ⟨⟨⟨%f0, %hf0, H0⟩, ⟨%f1, %hf1, H1⟩, ⟨%f2, %hf2, H2⟩, ⟨%f3, %hf3, H3⟩⟩, ⟨%f4, %hf4, H4⟩, ⟨⟨%d5, %f5, -, H5⟩, ⟨%d6, %f6, -, H6⟩, ⟨%d7, %f7, -, H7⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0 H1 H2 H3]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_full, View.readAt_full, View.readAt_full, harg6.read_unread, harg4.read_unread]
  isplitl [H6]
  · iexists _; isplitr
    swap; · iexact H6
    ipureintro
    rw [View.read_writes_full, View.readAt_full, View.readAt_full, harg6.read_unread, harg5.read_unread]
  iexists _; isplitr
  swap; · iexact H7
  ipureintro
  rw [View.read_writes_full, View.readAt_full, View.readAt_full, View.readAt_full, harg6.read_unread, harg4.read_unread, harg5.read_unread]

end body

/-- Window `w`'s block at point `t`, as the call finds it in the memory. -/
def blk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The first point of the row of eight that a point stands in. -/
def start (t : Fin cfg0.N) : Fin cfg0.N := ⟨t.val - t.val % 8, Nat.lt_of_le_of_lt (Nat.sub_le _ _) t.isLt⟩

/-- The normed rows that the points of a row of eight share. -/
def rows (c : Dev nD) (t : Fin cfg0.N) : Vec F S512x2048 .bf16 := k0_pay1 (blk m c 0 (start t)) (blk m c 1 (start t))

/-- A point that is not the first of its row shares the normed rows of the point before. -/
theorem rows_pred (c : Dev nD) (t : Fin cfg0.N) (h : ¬t.val % 8 = 0) (hp : t.val - 1 < cfg0.N) : rows m c ⟨t.val - 1, hp⟩ = rows m c t := by
  unfold rows
  rw [show start ⟨t.val - 1, hp⟩ = start t from Fin.ext (by show t.val - 1 - (t.val - 1) % 8 = t.val - t.val % 8; omega)]

/-- The first point of a row norms its own rows. -/
theorem rows_first (c : Dev nD) (t : Fin cfg0.N) (h : t.val % 8 = 0) : rows m c t = k0_pay1 (blk m c 0 t) (blk m c 1 t) := by
  unfold rows
  rw [show start t = t from Fin.ext (by show t.val - t.val % 8 = t.val; omega)]

/-- What each window's buffer holds after the body at each point. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => blk m c 0 t
    | ⟨1, _⟩ => blk m c 1 t
    | ⟨2, _⟩ => blk m c 2 t
    | ⟨3, _⟩ => blk m c 3 t
    | ⟨4, _⟩ => rows m c t
    | ⟨5, _⟩ => k0_pay5 (rows m c t) (blk m c 2 t)
    | ⟨6, _⟩ => k0_pay6 (rows m c t) (blk m c 3 t)
    | ⟨7, _⟩ => k0_pay7 (rows m c t) (blk m c 2 t) (blk m c 3 t)
  Φ _ := Pipeline.ΦA spec0 c
  q _ := fullShare
  owed _ := 0

/-- The body leaves the tile of the rows as it was. -/
theorem after_0 (c : Dev nD) (t : Fin cfg0.N) : (dats m 0 c).after 0 t = blk m c 0 t := by dsimp only [dats]
/-- The body leaves the gain as it was. -/
theorem after_1 (c : Dev nD) (t : Fin cfg0.N) : (dats m 0 c).after 1 t = blk m c 1 t := by dsimp only [dats]
/-- The body leaves the gate's weights as they were. -/
theorem after_2 (c : Dev nD) (t : Fin cfg0.N) : (dats m 0 c).after 2 t = blk m c 2 t := by dsimp only [dats]
/-- The body leaves the up projection's weights as they were. -/
theorem after_3 (c : Dev nD) (t : Fin cfg0.N) : (dats m 0 c).after 3 t = blk m c 3 t := by dsimp only [dats]
/-- What stands in the buffer of the normed rows after the body. -/
theorem after_4 (c : Dev nD) (t : Fin cfg0.N) : (dats m 0 c).after 4 t = rows m c t := by dsimp only [dats]
/-- What the body leaves in the buffer of the gate's values. -/
theorem after_5 (c : Dev nD) (t : Fin cfg0.N) : (dats m 0 c).after 5 t = k0_pay5 (rows m c t) (blk m c 2 t) := by dsimp only [dats]
/-- What the body leaves in the buffer of the up projection's values. -/
theorem after_6 (c : Dev nD) (t : Fin cfg0.N) : (dats m 0 c).after 6 t = k0_pay6 (rows m c t) (blk m c 3 t) := by dsimp only [dats]
/-- What the body leaves in the buffer of the hidden values. -/
theorem after_7 (c : Dev nD) (t : Fin cfg0.N) : (dats m 0 c).after 7 t = k0_pay7 (rows m c t) (blk m c 2 t) (blk m c 3 t) := by dsimp only [dats]

/-- The buffer of the rows holds its block at every point. -/
theorem before_0 (c : Dev nD) (t : Fin cfg0.N) (d) : (dats m 0 c).before 0 t d = blk m c 0 t :=
  ((dats m 0 c).before_in_eq_fetched 0 rfl (fun _ => rfl) (fun _ _ _ => rfl) (fun t => by rw [after_0]; rfl) t d).trans rfl

/-- The buffer of the gain holds its block at every point. -/
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; rfl) t d).trans rfl

/-- The buffer of the gate's weights holds its block at every point. -/
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; rfl) t d).trans rfl

/-- The buffer of the up projection's weights holds its block at every point. -/
theorem before_3 (c : Dev nD) (t : Fin cfg0.N) (d) : (dats m 0 c).before 3 t d = blk m c 3 t :=
  ((dats m 0 c).before_in_eq_fetched 3 rfl (fun _ => rfl) (fun _ _ _ => rfl) (fun t => by rw [after_3]; rfl) t d).trans rfl

/-- The normed rows are stored at the first point of a row of eight and at no other. -/
theorem idle_4 : ∀ t : Fin cfg0.N, cfg0.idle 4 (grid0.coords t) = !decide (t.val % 8 = 0) := by decide +kernel

/-- Where the buffer of the normed rows holds nothing yet. -/
def fresh (n : ℕ) : Bool := decide (n % 8 = 0)

/-- It holds nothing yet at the first point of a row of eight and at no other. -/
theorem fresh_4 (t : Fin cfg0.N) : cfg0.fresh 4 t.val = fresh t.val :=
  Pipeline.Cfg.fresh_tab cfg0 4 fresh rfl
    (by decide +kernel : ∀ t : Fin cfg0.N, fresh (t.val + 1) = ((cfg0.win 4).flush t || (cfg0.idle 4 (cfg0.grid.coords t) && fresh t.val))) t.val (Nat.le_of_lt t.isLt)

/-- At a point that is not the first of its row, the normed rows of the row stand in their buffer. -/
theorem before_4 (c : Dev nD) (t : Fin cfg0.N) (h : ¬t.val % 8 = 0) (d) : (dats m 0 c).before 4 t d = rows m c t := by
  rw [Dat.before_out_traj _ 4 rfl (fun _ _ => rfl) (fun t _ hi _ => by
      rw [idle_4 t] at hi
      rw [after_4, after_4]
      exact (rows_pred m c t (by simpa using hi) _).symm) t.val t rfl d,
    if_neg (by rw [fresh_4, fresh]; simpa using h), after_4]
  exact rows_pred m c t h _

/-- The buffer a window has at a point. -/
abbrev st (w : Fin cfg0.W) (t : Fin cfg0.N) := (cfg0.win w).stage (cfg0.slots t w)

/-- A window stored at a point is left at the point's contents. -/
theorem leaves_live (c : Dev nD) (w : Fin cfg0.W) (t : Fin cfg0.N) (hl : cfg0.idle w (cfg0.grid.coords t) = false) :
    (dats m 0 c).leavesExact w t = owns (c : Thread nD τ) (st w t) fullShare ((dats m 0 c).after w t) := by
  unfold Dat.leavesExact; rw [hl]

/-- The normed rows are left as they were, at a point that does not store them. -/
theorem leaves_4 (c : Dev nD) (t : Fin cfg0.N) (h : ¬t.val % 8 = 0) :
    (owns (c : Thread nD τ) (st 4 t) fullShare (rows m c t) : Asrt F) ⊢ (dats m 0 c).leavesExact 4 t := by
  have hi : cfg0.idle 4 (cfg0.grid.coords t) = true := by rw [show cfg0.idle 4 (cfg0.grid.coords t) = _ from idle_4 t]; simpa using h
  cases hf : (cfg0.win 4).flush t
  · rw [(dats m 0 c).leavesExact_idle 4 t hi hf]
    iintro H
    iexists rows m c t
    rw [before_4 m c t h]
    iexact H
  · unfold Dat.leavesExact
    rw [hi, hf, after_4]

/-- What the body is given at a point. -/
def pre (c : Dev nD) (t : Fin cfg0.N) : Asrt F :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d))
    ∗ (∃ d, owns (c : Thread nD τ) (st 6 t) fullShare ((dats m 0 c).before 6 t d))
    ∗ (∃ d, owns (c : Thread nD τ) (st 7 t) fullShare ((dats m 0 c).before 7 t d)))

/-- What it gives back. -/
def post (c : Dev nD) (t : Fin cfg0.N) : Asrt F :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 1600000 in
/-- The body at every point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_live m c 0 t rfl, leaves_live m c 1 t rfl, leaves_live m c 2 t rfl, leaves_live m c 3 t rfl, leaves_live m c 5 t rfl, leaves_live m c 6 t rfl, leaves_live m c 7 t rfl,
    after_0, after_1, after_2, after_3, after_5, after_6, after_7]
  by_cases h : t.val % 8 = 0
  · rw [leaves_live m c 4 t (by rw [show cfg0.idle 4 (cfg0.grid.coords t) = _ from idle_4 t]; simpa using h), after_4, rows_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ (blk m c 0 t) (blk m c 1 t) (blk m c 2 t) (blk m c 3 t) ((first_iff t).mpr h) Set.univ _)
    unfold ins room outs
    isplitl [H0 H1 H2 H3]
    · isplitl [H0]; · iexact H0
      isplitl [H1]; · iexact H1
      isplitl [H2]; · iexact H2
      iexact H3
    isplitl [H4]; · iexists _; iexact H4
    isplitl [H5 H6 H7]
    · isplitl [H5]; · iexists _; iexact H5
      isplitl [H6]; · iexists _; iexact H6
      iexists _; iexact H7
    iintro ⟨⟨H0, H1, H2, H3⟩, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before_4 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_next c (grid0.coords t) _ _ _ _ _ _ _ _ _ _ _ _ _ _ _ _ (blk m c 0 t) (blk m c 1 t) (blk m c 2 t) (blk m c 3 t) (fun hc => h ((first_iff t).mp hc)) (rows m c t) Set.univ _)
    unfold ins room outs
    isplitl [H0 H1 H2 H3]
    · isplitl [H0]; · iexact H0
      isplitl [H1]; · iexact H1
      isplitl [H2]; · iexact H2
      iexact H3
    isplitl [H4]; · iexact H4
    isplitl [H5 H6 H7]
    · isplitl [H5]; · iexists _; iexact H5
      isplitl [H6]; · iexists _; iexact H6
      iexists _; iexact H7
    iintro ⟨⟨H0, H1, H2, H3⟩, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_4 m c t h)
      iexact H4
    isplitl [H5]; · iexact H5
    isplitl [H6]; · iexact H6
    iexact H7

/-- The body at every point, as the call's loop asks it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body m c t) rfl .rfl fun _ => .rfl

/-- The program is the call alone. -/
theorem call (𝒱₀ : Variants) : Pipeline.HMain (Ix := Unit) (Name := ℕ) (U := UR sig nD τ) (Lvl := ℕ) cfgs 0 defs₀ 𝒱₀ m (main (F := F)) (fun c b => m ((c : Thread nD τ).loc b)) :=
  Pipeline.hmain_region cfgs 0 defs₀ 𝒱₀ m main fun c => (main_chain c).trans rfl

set_option backward.isDefEq.respectTransparency.types false in
/-- The run: every array ends at what the points wrote back, and every counter at zero. -/
theorem run : θ_run defs (onTc (τ := τ) (main (F := F))) (s₀ m ρ) (fun r => (Pipeline.FramePost cfgs (dats m) 0 (fun c b => m ((c : Thread nD τ).loc b))) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := fun c b => m ((c : Thread nD τ).loc b)) (hmain := call m Variants.none) (hA := fun _ _ => rfl) (hΦ := fun _ _ => rfl)

/-- What the four results hold at the end, the arguments as they were, and every counter at zero. -/
theorem results : θ_run defs (onTc (τ := τ) (main (F := F))) ⟨m, fun _ => 0, ρ⟩ (fun r => (∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 4, (h.1 c).1 5, (h.1 c).1 6, (h.1 c).1 7, ((h.1 c).1 0).trans ((dats m 0 c).arrAt_in 0 rfl _),
    ((h.1 c).1 1).trans ((dats m 0 c).arrAt_in 1 rfl _), ((h.1 c).1 2).trans ((dats m 0 c).arrAt_in 2 rfl _), ((h.1 c).1 3).trans ((dats m 0 c).arrAt_in 3 rfl _)⟩, h.2⟩) (run m ρ)

/-- The call runs, and its arguments end as they were. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2.2, h.2⟩) (results m ρ)

end Cert.UpRun

end
-- ==== Proof.UpSame.lean ====
/- The call that projects the normed rows to the gate's and the up projection's values is printed twice, once for each arithmetic: it is one program. -/
module

public import proofs.«01_k».proof.Proof.UpRun
public import proofs.«01_k».proof.Proof.Gen.Kernel13

@[expose] public section

set_option maxRecDepth 16384
noncomputable section
namespace Cert.UpSame
open Idealize.ShloMosaic Idealize.ShloMosaic.TcCoe Idealize.SL.Sem
open Cert.Kernel13 Cert.Kernel13.Gen

variable {F : FTy → Type} [FloatOps F]

/-- The two printed programs have the same body. -/
theorem bodies : @Eq (Defs nD τ sig (Elt F) Λ₀) (defs₀ (F := F)) (Kernel13Ideal.defs₀ (F := F)) := by
  unfold defs₀ Kernel13Ideal.defs₀
  refine congrArg Defs.onTc (funext fun ℓ => funext fun a => ?_)
  match ℓ, a with
  | 0, (t, s) => rfl

/-- The two printed programs call the same functions. -/
theorem tables : @Eq (Defs nD τ sig (Elt F) _) (defs (F := F)) (Kernel13Ideal.defs (F := F)) :=
  congrArg (Pipeline.defs pcfgs) bodies

/-- The call runs, and its arguments end as they were: the two printed programs are the same, word for word. -/
theorem kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (congrArg (fun D => θ_run D (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)) tables).mpr (UpRun.kept (F := F) m ρ)

end Cert.UpSame

end
-- ==== Proof.Up.lean ====
/- The norm, the gate and the up projection: each row of eight points norms a tile of rows once, and every point multiplies it with one block of each weight. -/
module

public import proofs.«01_k».proof.Defs
public import proofs.«01_k».proof.Proof.Norm
public import proofs.«01_k».proof.Proof.UpRun
public import proofs.«01_k».proof.Proof.Gen.Reference13Ideal.Run
public import Idealize.ShloMosaic.Lib.Pipeline.ValueKit
public import Idealize.ShloMosaic.Lib.Pipeline.ReadBack
public import Idealize.ShloMosaic.Lib.Pointwise

@[expose] public section

set_option maxRecDepth 16384
noncomputable section
namespace Cert.Up
open Idealize.ShloMosaic Idealize.ShloMosaic.TcCoe Idealize.SL.Sem
open Idealize.ShloMosaic.Pipeline (Dat)
open Cert.Kernel13Ideal Cert.Kernel13Ideal.Gen Cert.UpRun

variable (m : (ℓ : Loc nD τ sig) → Buf (Elt Ideal) ℓ)

/-- The gate's function of a value, as the call computes it. -/
def silu (x : EReal) : EReal := x * Ideal.div 1 (1 + Ideal.exp (0 - x))

/-- An entry of a normed tile. -/
theorem norm_at (x : FVec Ideal S512x2048 .f32) (g : FVec Ideal S1x2048 .f32) (r : Fin 512) (d : Fin 2048) :
    (k0_pay1 x g : FVec Ideal S512x2048 .bf16) (ix2 r d) = x (ix2 r d) * Norm.rs (fun k => x (ix2 r k)) * g (ix2 0 d) := by
  unfold k0_pay1 Norm.rs Norm.ms Norm.width Norm.eps
  pointwise

/-- An entry of the product of a normed tile with a block of the gate's weights. -/
theorem gate_tile (h : FVec Ideal S512x2048 .bf16) (w : FVec Ideal S1x704x2048 .bf16) (r : Fin 512) (f : Fin 704) :
    (k0_pay3 h w : FVec Ideal S512x704 .f32) (ix2 r f) = ∑ k : Fin 2048, h (ix2 r k) * w (ix3 0 f k) := by
  unfold k0_pay3 k0_pay2
  pointwise

/-- An entry of the product of a normed tile with a block of the up projection's weights. -/
theorem up_tile (h : FVec Ideal S512x2048 .bf16) (w : FVec Ideal S1x704x2048 .bf16) (r : Fin 512) (f : Fin 704) :
    (k0_pay4 h w : FVec Ideal S512x704 .f32) (ix2 r f) = ∑ k : Fin 2048, h (ix2 r k) * w (ix3 0 f k) :=
  gate_tile h w r f

/-- The gate's tile as it is stored. -/
theorem gate_at (h : FVec Ideal S512x2048 .bf16) (w : FVec Ideal S1x704x2048 .bf16) (r : Fin 512) (f : Fin 704) :
    (k0_pay5 h w : FVec Ideal S1x512x704 .f32) (ix3 0 r f) = ∑ k : Fin 2048, h (ix2 r k) * w (ix3 0 f k) := by
  rw [← gate_tile]
  unfold k0_pay5
  pointwise

/-- The up projection's tile as it is stored. -/
theorem up_at (h : FVec Ideal S512x2048 .bf16) (w : FVec Ideal S1x704x2048 .bf16) (r : Fin 512) (f : Fin 704) :
    (k0_pay6 h w : FVec Ideal S1x512x704 .f32) (ix3 0 r f) = ∑ k : Fin 2048, h (ix2 r k) * w (ix3 0 f k) := by
  rw [← up_tile]
  unfold k0_pay6
  pointwise

/-- The hidden values' tile as it is stored. -/
theorem hidden_at (h : FVec Ideal S512x2048 .bf16) (w v : FVec Ideal S1x704x2048 .bf16) (r : Fin 512) (f : Fin 704) :
    (k0_pay7 h w v : FVec Ideal S1x512x704 .bf16) (ix3 0 r f)
      = silu (∑ k : Fin 2048, h (ix2 r k) * w (ix3 0 f k)) * ∑ k : Fin 2048, h (ix2 r k) * v (ix3 0 f k) := by
  rw [← gate_tile, ← up_tile]
  unfold k0_pay7 silu
  pointwise

/-- The rows, as the call is given them. -/
def xs (c : Dev nD) : FVec Ideal S4096x2048 .f32 := m ((c : Thread nD τ).loc main_arg0)

/-- The gain, as the call is given it. -/
def gain (c : Dev nD) : FVec Ideal S1x2048 .f32 := m ((c : Thread nD τ).loc main_arg1)

/-- The gate's weights, as the call is given them. -/
def wg (c : Dev nD) : FVec Ideal S8x704x2048 .bf16 := m ((c : Thread nD τ).loc main_arg2)

/-- The up projection's weights, as the call is given them. -/
def wu (c : Dev nD) : FVec Ideal S8x704x2048 .bf16 := m ((c : Thread nD τ).loc main_arg3)

/-- Where the tile of the rows lies. -/
theorem index0 : ∀ t : Fin cfg0.N, win0_0.index t = ![t.val / 8, 0] := (by decide +kernel : ∀ t : Fin grid0.N, _)

/-- Where the gain lies. -/
theorem index1 : ∀ t : Fin cfg0.N, win0_1.index t = ![0, 0] := (by decide +kernel : ∀ t : Fin grid0.N, _)

/-- Where the block of the gate's weights lies. -/
theorem index2 : ∀ t : Fin cfg0.N, win0_2.index t = ![t.val % 8, 0, 0] := (by decide +kernel : ∀ t : Fin grid0.N, _)

/-- Where the block of the up projection's weights lies. -/
theorem index3 : ∀ t : Fin cfg0.N, win0_3.index t = ![t.val % 8, 0, 0] := (by decide +kernel : ∀ t : Fin grid0.N, _)

/-- Where the tile of the normed rows lies. -/
theorem index4 : ∀ t : Fin cfg0.N, win0_4.index t = ![t.val / 8, 0] := (by decide +kernel : ∀ t : Fin grid0.N, _)

/-- Where the gate's tile lies. -/
theorem index5 : ∀ t : Fin cfg0.N, win0_5.index t = ![t.val % 8, t.val / 8, 0] := (by decide +kernel : ∀ t : Fin grid0.N, _)

/-- Where the up projection's tile lies. -/
theorem index6 : ∀ t : Fin cfg0.N, win0_6.index t = ![t.val % 8, t.val / 8, 0] := (by decide +kernel : ∀ t : Fin grid0.N, _)

/-- Where the hidden values' tile lies. -/
theorem index7 : ∀ t : Fin cfg0.N, win0_7.index t = ![t.val % 8, t.val / 8, 0] := (by decide +kernel : ∀ t : Fin grid0.N, _)

/-- The point at a tile of the rows and a block of the weights. -/
def pt (p : ℕ) (hp : p < 8) (q : ℕ) (hq : q < 8) : Fin cfg0.N := ⟨8 * p + q, lt_of_lt_of_eq (by omega) N_0.symm⟩

/-- A point's tile of the rows. -/
theorem pt_div (p : ℕ) (hp : p < 8) (q : ℕ) (hq : q < 8) : (pt p hp q hq).val / 8 = p := by
  show (8 * p + q) / 8 = p
  omega

/-- A point's block of the weights. -/
theorem pt_mod (p : ℕ) (hp : p < 8) (q : ℕ) (hq : q < 8) : (pt p hp q hq).val % 8 = q := by
  show (8 * p + q) % 8 = q
  omega

/-- The tile that a row lies in. -/
theorem tile_lt (i : Fin 4096) : i.val / 512 < 8 := by omega

/-- A row's place in its tile. -/
def loc (i : Fin 4096) : Fin 512 := ⟨i.val % 512, by omega⟩

/-- The point of a row and a block. -/
abbrev at_ (i : Fin 4096) (j : Fin 8) : Fin cfg0.N := pt (i.val / 512) (tile_lt i) j.val j.isLt

/-- The tile of the rows, element by element. -/
theorem read0 (c : Dev nD) (i : Fin 4096) (j : Fin 8) (k : Fin 2048) :
    (blk m c 0 (at_ i j) : FVec Ideal S512x2048 .f32) (ix2 (loc i) k) = xs m c (ix2 i k) := by
  show xs m c (((cfg0.win 0).blk (at_ i j)).view.emb (ix2 (loc i) k)) = _
  have h := index0 (at_ i j)
  have e0 := (congrFun h 0).trans (pt_div (i.val / 512) (tile_lt i) j.val j.isLt)
  have e1 : win0_0.index (at_ i j) 1 = 0 := congrFun h 1
  refine congrArg (xs m c) (funext fun a => Fin.ext ?_)
  match a with
  | ⟨0, _⟩ => show win0_0.index (at_ i j) 0 * 512 + 1 * (i.val % 512) = i.val; rw [e0]; omega
  | ⟨1, _⟩ => show win0_0.index (at_ i j) 1 * 2048 + 1 * k.val = k.val; rw [e1]; omega

/-- The gain, element by element. -/
theorem read1 (c : Dev nD) (t : Fin cfg0.N) (k : Fin 2048) :
    (blk m c 1 t : FVec Ideal S1x2048 .f32) (ix2 0 k) = gain m c (ix2 0 k) := by
  show gain m c (((cfg0.win 1).blk t).view.emb (ix2 0 k)) = _
  have h := index1 t
  have e0 : win0_1.index t 0 = 0 := congrFun h 0
  have e1 : win0_1.index t 1 = 0 := congrFun h 1
  refine congrArg (gain m c) (funext fun a => Fin.ext ?_)
  match a with
  | ⟨0, _⟩ => show win0_1.index t 0 * 1 + 1 * 0 = 0; rw [e0]
  | ⟨1, _⟩ => show win0_1.index t 1 * 2048 + 1 * k.val = k.val; rw [e1]; omega

/-- The block of the gate's weights, element by element. -/
theorem read2 (c : Dev nD) (i : Fin 4096) (j : Fin 8) (f : Fin 704) (k : Fin 2048) :
    (blk m c 2 (at_ i j) : FVec Ideal S1x704x2048 .bf16) (ix3 0 f k) = wg m c (ix3 j f k) := by
  show wg m c (((cfg0.win 2).blk (at_ i j)).view.emb (ix3 0 f k)) = _
  have h := index2 (at_ i j)
  have e0 := (congrFun h 0).trans (pt_mod (i.val / 512) (tile_lt i) j.val j.isLt)
  have e1 : win0_2.index (at_ i j) 1 = 0 := congrFun h 1
  have e2 : win0_2.index (at_ i j) 2 = 0 := congrFun h 2
  refine congrArg (wg m c) (funext fun a => Fin.ext ?_)
  match a with
  | ⟨0, _⟩ => show win0_2.index (at_ i j) 0 * 1 + 1 * 0 = j.val; rw [e0]; omega
  | ⟨1, _⟩ => show win0_2.index (at_ i j) 1 * 704 + 1 * f.val = f.val; rw [e1]; omega
  | ⟨2, _⟩ => show win0_2.index (at_ i j) 2 * 2048 + 1 * k.val = k.val; rw [e2]; omega

/-- The block of the up projection's weights, element by element: it lies where the gate's does. -/
theorem read3 (c : Dev nD) (i : Fin 4096) (j : Fin 8) (f : Fin 704) (k : Fin 2048) :
    (blk m c 3 (at_ i j) : FVec Ideal S1x704x2048 .bf16) (ix3 0 f k) = wu m c (ix3 j f k) := by
  show wu m c (((cfg0.win 3).blk (at_ i j)).view.emb (ix3 0 f k)) = _
  have h := index3 (at_ i j)
  have e0 := (congrFun h 0).trans (pt_mod (i.val / 512) (tile_lt i) j.val j.isLt)
  have e1 : win0_3.index (at_ i j) 1 = 0 := congrFun h 1
  have e2 : win0_3.index (at_ i j) 2 = 0 := congrFun h 2
  refine congrArg (wu m c) (funext fun a => Fin.ext ?_)
  match a with
  | ⟨0, _⟩ => show win0_3.index (at_ i j) 0 * 1 + 1 * 0 = j.val; rw [e0]; omega
  | ⟨1, _⟩ => show win0_3.index (at_ i j) 1 * 704 + 1 * f.val = f.val; rw [e1]; omega
  | ⟨2, _⟩ => show win0_3.index (at_ i j) 2 * 2048 + 1 * k.val = k.val; rw [e2]; omega

/-- An entry of the normed rows. -/
def normed (c : Dev nD) (i : Fin 4096) (d : Fin 2048) : EReal :=
  xs m c (ix2 i d) * Norm.rs (fun k => xs m c (ix2 i k)) * gain m c (ix2 0 d)

/-- The normed rows that a row of points shares. -/
theorem rows_at (c : Dev nD) (i : Fin 4096) (j : Fin 8) (d : Fin 2048) :
    rows m c (at_ i j) (ix2 (loc i) d) = normed m c i d := by
  have e : start (at_ i j) = at_ i 0 := Fin.ext (by
    show 8 * (i.val / 512) + j.val - (8 * (i.val / 512) + j.val) % 8 = 8 * (i.val / 512) + 0
    omega)
  unfold rows normed
  rw [e, norm_at, read0, read1]
  exact congrArg (fun s => _ * s * _) (congrArg Norm.rs (funext fun k => read0 m c i 0 k))

/-- A gate's value. -/
def gate (c : Dev nD) (j : Fin 8) (i : Fin 4096) (f : Fin 704) : EReal := ∑ k : Fin 2048, normed m c i k * wg m c (ix3 j f k)

/-- An up projection's value. -/
def up (c : Dev nD) (j : Fin 8) (i : Fin 4096) (f : Fin 704) : EReal := ∑ k : Fin 2048, normed m c i k * wu m c (ix3 j f k)

/-- The gate's value from the tile and the block of its point. -/
theorem gate_sum (c : Dev nD) (j : Fin 8) (i : Fin 4096) (f : Fin 704) :
    (∑ k : Fin 2048, (rows m c (at_ i j) : FVec Ideal S512x2048 .bf16) (ix2 (loc i) k) * (blk m c 2 (at_ i j) : FVec Ideal S1x704x2048 .bf16) (ix3 0 f k) : EReal) = gate m c j i f :=
  Finset.sum_congr (M := EReal) rfl fun k _ => congrArg₂ (· * ·) (rows_at m c i j k) (read2 m c i j f k)

/-- The up projection's value from the tile and the block of its point. -/
theorem up_sum (c : Dev nD) (j : Fin 8) (i : Fin 4096) (f : Fin 704) :
    (∑ k : Fin 2048, (rows m c (at_ i j) : FVec Ideal S512x2048 .bf16) (ix2 (loc i) k) * (blk m c 3 (at_ i j) : FVec Ideal S1x704x2048 .bf16) (ix3 0 f k) : EReal) = up m c j i f :=
  Finset.sum_congr (M := EReal) rfl fun k _ => congrArg₂ (· * ·) (rows_at m c i j k) (read3 m c i j f k)

/-- Two points that write normed rows write different tiles of them. -/
theorem apart4 : ∀ t t' : Fin cfg0.N, (cfg0.win 4).flush t = true → (cfg0.win 4).flush t' = true → t ≠ t' →
    Disjoint ((cfg0.win 4).blk t).view.set ((cfg0.win 4).blk t').view.set :=
  fun t t' f f' hne => (cfg0.win 4).disjoint_blk fun h => hne (Fin.ext (by
    have h' : win0_4.index t = win0_4.index t' := h
    rw [index4, index4] at h'
    have h0 : t.val / 8 = t'.val / 8 := congrFun h' 0
    have h1 := (flush0_4 t).mp f
    have h2 := (flush0_4 t').mp f'
    omega))

/-- Two points with the same block and the same tile are one. -/
theorem same {t t' : Fin cfg0.N} (h : (![t.val % 8, t.val / 8, 0] : Fin 3 → ℕ) = ![t'.val % 8, t'.val / 8, 0]) : t = t' := Fin.ext (by
  have h0 : t.val % 8 = t'.val % 8 := congrFun h 0
  have h1 : t.val / 8 = t'.val / 8 := congrFun h 1
  omega)

/-- Two points write different tiles of the gate's values. -/
theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (same ((index5 t).symm.trans (Eq.trans h (index5 t'))))

/-- Two points write different tiles of the up projection's values. -/
theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (same ((index6 t).symm.trans (Eq.trans h (index6 t'))))

/-- Two points write different tiles of the hidden values. -/
theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (same ((index7 t).symm.trans (Eq.trans h (index7 t'))))

/-- The normed rows the call leaves, element by element. -/
theorem array4 (c : Dev nD) (i : Fin 4096) (d : Fin 2048) :
    ((dats m 0 c).arrAt 4 cfg0.N : FVec Ideal S4096x2048 .bf16) (ix2 i d) = normed m c i d := by
  have h := congrFun ((dats m 0 c).read_blk_arrAt_eq_flushed 4 apart4 cfg0.N (at_ i 7) (at_ i 7).isLt ((flush0_4 _).mpr (pt_mod _ _ _ _))) (ix2 (loc i) d)
  have e : ((cfg0.win 4).blk (at_ i 7)).view.emb (ix2 (loc i) d) = ix2 i d := by
    have h := index4 (at_ i 7)
    have e0 := (congrFun h 0).trans (pt_div (i.val / 512) (tile_lt i) 7 (7 : Fin 8).isLt)
    have e1 : win0_4.index (at_ i 7) 1 = 0 := congrFun h 1
    refine funext fun a => Fin.ext ?_
    match a with
    | ⟨0, _⟩ => show win0_4.index (at_ i 7) 0 * 512 + 1 * (i.val % 512) = i.val; rw [e0]; omega
    | ⟨1, _⟩ => show win0_4.index (at_ i 7) 1 * 2048 + 1 * d.val = d.val; rw [e1]; omega
  rw [← e]
  refine h.trans ?_
  show (dats m 0 c).after 4 (at_ i 7) (ix2 (loc i) d) = _
  rw [after_4]
  exact rows_at m c i 7 d

/-- The gate's values the call leaves, element by element. -/
theorem array5 (c : Dev nD) (j : Fin 8) (i : Fin 4096) (f : Fin 704) :
    ((dats m 0 c).arrAt 5 cfg0.N : FVec Ideal S8x4096x704 .f32) (ix3 j i f) = gate m c j i f := by
  have h := congrFun ((dats m 0 c).read_blk_arrAt_eq_flushed 5 apart5 cfg0.N (at_ i j) (at_ i j).isLt (flush0_5 _)) (ix3 0 (loc i) f)
  have e : ((cfg0.win 5).blk (at_ i j)).view.emb (ix3 0 (loc i) f) = ix3 j i f := by
    have h := index5 (at_ i j)
    have e0 := (congrFun h 0).trans (pt_mod (i.val / 512) (tile_lt i) j.val j.isLt)
    have e1 := (congrFun h 1).trans (pt_div (i.val / 512) (tile_lt i) j.val j.isLt)
    have e2 : win0_5.index (at_ i j) 2 = 0 := congrFun h 2
    refine funext fun a => Fin.ext ?_
    match a with
    | ⟨0, _⟩ => show win0_5.index (at_ i j) 0 * 1 + 1 * 0 = j.val; rw [e0]; omega
    | ⟨1, _⟩ => show win0_5.index (at_ i j) 1 * 512 + 1 * (i.val % 512) = i.val; rw [e1]; omega
    | ⟨2, _⟩ => show win0_5.index (at_ i j) 2 * 704 + 1 * f.val = f.val; rw [e2]; omega
  rw [← e]
  refine h.trans ?_
  show (dats m 0 c).after 5 (at_ i j) (ix3 0 (loc i) f) = _
  rw [after_5]
  exact (gate_at _ _ (loc i) f).trans (gate_sum m c j i f)

/-- The up projection's values the call leaves, element by element. -/
theorem array6 (c : Dev nD) (j : Fin 8) (i : Fin 4096) (f : Fin 704) :
    ((dats m 0 c).arrAt 6 cfg0.N : FVec Ideal S8x4096x704 .f32) (ix3 j i f) = up m c j i f := by
  have h := congrFun ((dats m 0 c).read_blk_arrAt_eq_flushed 6 apart6 cfg0.N (at_ i j) (at_ i j).isLt (flush0_6 _)) (ix3 0 (loc i) f)
  have e : ((cfg0.win 6).blk (at_ i j)).view.emb (ix3 0 (loc i) f) = ix3 j i f := by
    have h := index6 (at_ i j)
    have e0 := (congrFun h 0).trans (pt_mod (i.val / 512) (tile_lt i) j.val j.isLt)
    have e1 := (congrFun h 1).trans (pt_div (i.val / 512) (tile_lt i) j.val j.isLt)
    have e2 : win0_6.index (at_ i j) 2 = 0 := congrFun h 2
    refine funext fun a => Fin.ext ?_
    match a with
    | ⟨0, _⟩ => show win0_6.index (at_ i j) 0 * 1 + 1 * 0 = j.val; rw [e0]; omega
    | ⟨1, _⟩ => show win0_6.index (at_ i j) 1 * 512 + 1 * (i.val % 512) = i.val; rw [e1]; omega
    | ⟨2, _⟩ => show win0_6.index (at_ i j) 2 * 704 + 1 * f.val = f.val; rw [e2]; omega
  rw [← e]
  refine h.trans ?_
  show (dats m 0 c).after 6 (at_ i j) (ix3 0 (loc i) f) = _
  rw [after_6]
  exact (up_at _ _ (loc i) f).trans (up_sum m c j i f)

/-- The hidden values the call leaves, element by element. -/
theorem array7 (c : Dev nD) (j : Fin 8) (i : Fin 4096) (f : Fin 704) :
    ((dats m 0 c).arrAt 7 cfg0.N : FVec Ideal S8x4096x704 .bf16) (ix3 j i f) = silu (gate m c j i f) * up m c j i f := by
  have h := congrFun ((dats m 0 c).read_blk_arrAt_eq_flushed 7 apart7 cfg0.N (at_ i j) (at_ i j).isLt (flush0_7 _)) (ix3 0 (loc i) f)
  have e : ((cfg0.win 7).blk (at_ i j)).view.emb (ix3 0 (loc i) f) = ix3 j i f := by
    have h := index7 (at_ i j)
    have e0 := (congrFun h 0).trans (pt_mod (i.val / 512) (tile_lt i) j.val j.isLt)
    have e1 := (congrFun h 1).trans (pt_div (i.val / 512) (tile_lt i) j.val j.isLt)
    have e2 : win0_7.index (at_ i j) 2 = 0 := congrFun h 2
    refine funext fun a => Fin.ext ?_
    match a with
    | ⟨0, _⟩ => show win0_7.index (at_ i j) 0 * 1 + 1 * 0 = j.val; rw [e0]; omega
    | ⟨1, _⟩ => show win0_7.index (at_ i j) 1 * 512 + 1 * (i.val % 512) = i.val; rw [e1]; omega
    | ⟨2, _⟩ => show win0_7.index (at_ i j) 2 * 704 + 1 * f.val = f.val; rw [e2]; omega
  rw [← e]
  refine h.trans ?_
  show (dats m 0 c).after 7 (at_ i j) (ix3 0 (loc i) f) = _
  rw [after_7]
  exact (hidden_at _ _ _ (loc i) f).trans (congrArg₂ (fun a b => silu a * b) (gate_sum m c j i f) (up_sum m c j i f))

/-- Kernel and reference leave the same four arrays. -/
theorem algebraic : Cert.algebraic_Kernel13Ideal_Reference13Ideal := by
  intro m g m' g' _ hargs
  refine ⟨fun c => (dats m 0 c).arrAt 4 cfg0.N, fun c => (dats m 0 c).arrAt 5 cfg0.N, fun c => (dats m 0 c).arrAt 6 cfg0.N, fun c => (dats m 0 c).arrAt 7 cfg0.N,
    (θ_run _ _ _).mono (fun r h => h.1) (results m g), ?_⟩
  refine (θ_run Cert.Reference13Ideal.defs _ _).mono (fun r h c => ⟨?_, ?_, ?_, ?_, (h c).2.2.2.2⟩) (Cert.Reference13Ideal.Value.run m' g')
  · rw [(h c).1, (hargs c).1, (hargs c).2.1]
    clear h
    funext i
    obtain ⟨i, d, rfl⟩ : ∃ k d, i = ix2 k d := ⟨i 0, i 1, by funext a; match a with | ⟨0, _⟩ => rfl | ⟨1, _⟩ => rfl⟩
    refine Eq.trans ?_ (array4 m c i d).symm
    unfold normed Norm.rs Norm.ms Norm.width Norm.eps
    pointwise
    rfl
  · rw [(h c).2.1, (hargs c).1, (hargs c).2.1, (hargs c).2.2.1]
    clear h
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array5 m c j i f).symm
    unfold gate normed Norm.rs Norm.ms Norm.width Norm.eps
    pointwise
    exact Finset.sum_congr (M := EReal) rfl fun k _ => mul_comm (G := EReal) _ _
  · rw [(h c).2.2.1, (hargs c).1, (hargs c).2.1, (hargs c).2.2.2]
    clear h
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array6 m c j i f).symm
    unfold up normed Norm.rs Norm.ms Norm.width Norm.eps
    pointwise
    exact Finset.sum_congr (M := EReal) rfl fun k _ => mul_comm (G := EReal) _ _
  · rw [(h c).2.2.2.1, (hargs c).1, (hargs c).2.1, (hargs c).2.2.1, (hargs c).2.2.2]
    clear h
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array7 m c j i f).symm
    have eg : gate m c j i f = ∑ k : Fin 2048, wg m c (ix3 j f k) * normed m c i k := Finset.sum_congr (M := EReal) rfl fun k _ => mul_comm (G := EReal) _ _
    have eu : up m c j i f = ∑ k : Fin 2048, wu m c (ix3 j f k) * normed m c i k := Finset.sum_congr (M := EReal) rfl fun k _ => mul_comm (G := EReal) _ _
    rw [eg, eu]
    unfold silu normed Norm.rs Norm.ms Norm.width Norm.eps
    rw [zero_sub]
    pointwise
    rfl

end Cert.Up
end
-- ==== Proof.FwdRun.lean ====
/- The call of the feed-forward block: the body at each point, with the sum that stands in scratch from point to point, and what the whole call leaves. -/
module

public import proofs.«01_k».proof.Proof.Gen.Kernel14Ideal.Launch
public import proofs.«01_k».proof.Proof.Gen.Kernel14Ideal.Skeleton
public import proofs.«01_k».proof.Proof.Gen.Kernel14Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384
noncomputable section
namespace Cert.FwdRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel14Ideal Cert.Kernel14Ideal.Gen

variable {F : FTy → Type} [FloatOps F]
variable (m : (ℓ : Loc nD τ sig) → Buf (Elt F) ℓ) (ρ : Dev nD → PrngReg)

/-- Assertions about the program's memory. -/
abbrev Asrt (F : FTy → Type) [FloatOps F] := sProp (MT nD τ sig Unit (Elt F) ℕ (UR sig nD τ) ℕ)

/-- The body norms the rows at a point exactly if it is the first of its row of eight. -/
theorem first_iff (t : Fin cfg0.N) : k0_cond1 (grid0.coords t) = 1#1 ↔ t.val % 8 = 0 := by
  have ht : t.val < 64 := Nat.lt_of_lt_of_eq t.isLt N_0
  have e1 : (grid0.coords t 1).val = t.val / 1 % 8 := Pipeline.Grid.coords_val t 1 (by decide) rfl
  simp only [k0_cond1, e1]
  word_cmp

/-- The body stores the result at a point exactly if it is the last of its row of eight. -/
theorem last_iff (t : Fin cfg0.N) : k0_cond2 (grid0.coords t) = 1#1 ↔ t.val % 8 = 7 := by
  have ht : t.val < 64 := Nat.lt_of_lt_of_eq t.isLt N_0
  have e1 : (grid0.coords t 1).val = t.val / 1 % 8 := Pipeline.Grid.coords_val t 1 (by decide) rfl
  simp only [k0_cond2, e1]
  word_cmp

section body
variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S1x704x2048 .bf16) (harg4 : arg4.IsWhole) (arg5 : Memref sig .tc .vmem S1x704x2048 .bf16) (harg5 : arg5.IsWhole) (arg6 : Memref sig .tc .vmem S1x704x2048 .bf16) (harg6 : arg6.IsWhole)
  (arg7 : Memref sig .tc .vmem S512x2048 .f32) (harg7 : arg7.IsWhole) (arg8 : Memref sig .tc .vmem S512x2048 .bf16) (harg8 : arg8.IsWhole)
  (arg9 : Memref sig .tc .vmem S1x512x704 .f32) (harg9 : arg9.IsWhole) (arg10 : Memref sig .tc .vmem S1x512x704 .f32) (harg10 : arg10.IsWhole) (arg11 : Memref sig .tc .vmem S512x2048 .f32) (harg11 : arg11.IsWhole)
  (x0 : Vec F S512x2048 .f32) (x1 : Vec F S1x2048 .f32) (x2 x3 x4 : Vec F S1x704x2048 .bf16)

/-- What the body holds of its five arguments at a point. -/
def ins : Asrt F :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4)

/-- The sum after a point, of the normed rows `h` of the point and the sum `acc` before it. -/
abbrev next (h : Vec F S512x2048 .bf16) (acc : Vec F S512x2048 .f32) : Vec F S512x2048 .f32 := k0_pay1 acc (k0_pay10 h x2 x3) x4

/-- What it leaves in the buffers of the normed rows and the projections, and in scratch, of the normed rows `h` of the point and the sum `acc` before it. -/
def outs (h : Vec F S512x2048 .bf16) (acc : Vec F S512x2048 .f32) : Asrt F :=
  iprop(owns (c : Thread nD τ) arg8 fullShare h ∗ owns (c : Thread nD τ) arg9 fullShare (k0_pay8 h x2) ∗ owns (c : Thread nD τ) arg10 fullShare (k0_pay9 h x3) ∗ owns (c : Thread nD τ) arg11 fullShare (next x2 x3 x4 h acc))

/-- What the buffers of the projections hold before the body: anything. -/
def room : Asrt F :=
  iprop((∃ d, owns (c : Thread nD τ) arg9 fullShare d) ∗ (∃ d, owns (c : Thread nD τ) arg10 fullShare d))

set_option maxHeartbeats 4000000 in
/-- At the first point of a row the body stores the normed rows and their two projections, and starts the sum. -/
theorem body_first (hc : k0_cond1 i = 1#1) (hl : ¬k0_cond2 i = 1#1) (E : Set ℕ) (K : PUnit → Asrt F) :
    iprop(ins c arg2 arg3 arg4 arg5 arg6 x0 x1 x2 x3 x4 ∗ (∃ d, owns (c : Thread nD τ) arg8 fullShare d) ∗ room c arg9 arg10 ∗ (∃ d, owns (c : Thread nD τ) arg11 fullShare d)
        ∗ (iprop(ins c arg2 arg3 arg4 arg5 arg6 x0 x1 x2 x3 x4 ∗ outs c arg8 arg9 arg10 arg11 x2 x3 x4 (k0_pay3 x0 x1) k0_pay4) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
  simp only [cc0_ffn_fwd_eq_skeleton]; unfold cc0_ffn_fwd_skel
  simp only [k0_part1_eq_skeleton]; unfold k0_part1_skel
  unfold ins outs room owns
  iintro ⟨⟨⟨%f0, %hf0, H0⟩, ⟨%f1, %hf1, H1⟩, ⟨%f2, %hf2, H2⟩, ⟨%f3, %hf3, H3⟩, ⟨%f4, %hf4, H4⟩⟩, ⟨%d6, %f6, -, H6⟩, ⟨⟨%d7, %f7, -, H7⟩, ⟨%d8, %f8, -, H8⟩⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc | sl_exact hl)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H6]
  · iexists _; isplitr
    swap; · iexact H6
    ipureintro
    unfold body_first.sl.H6_1
    rw [View.read_writes_full]
    repeat rw [View.readAt_full]
    simp only [harg2.read_unread, harg3.read_unread, harg4.read_unread, harg5.read_unread, harg6.read_unread]
  isplitl [H7]
  · iexists _; isplitr
    swap; · iexact H7
    ipureintro
    rw [View.read_writes_full]
    unfold body_first.sl.v3 body_first.sl.H6_1
    repeat rw [View.readCov_full]
    repeat rw [View.readAt_full]
    simp only [harg2.read_unread, harg3.read_unread, harg4.read_unread, harg5.read_unread, harg6.read_unread]
  isplitl [H8]
  · iexists _; isplitr
    swap; · iexact H8
    ipureintro
    rw [View.read_writes_full]
    unfold body_first.sl.v3 body_first.sl.H6_1
    repeat rw [View.readCov_full]
    repeat rw [View.readAt_full]
    simp only [harg2.read_unread, harg3.read_unread, harg4.read_unread, harg5.read_unread, harg6.read_unread]
  iexists _; isplitr
  swap; · iexact HS
  ipureintro
  rw [View.read_writes_full]
  unfold body_first.sl.v26 body_first.sl.v3 body_first.sl.H6_1 body_first.sl.HS_1
  repeat rw [View.readCov_full]
  repeat rw [View.readAt_full]
  simp only [harg2.read_unread, harg3.read_unread, harg4.read_unread, harg5.read_unread, harg6.read_unread]

set_option maxHeartbeats 4000000 in
/-- At a point that is neither first nor last the body stores the projections of the normed rows kept from before, and adds to the sum. -/
theorem body_mid (hc : ¬k0_cond1 i = 1#1) (hl : ¬k0_cond2 i = 1#1) (h : Vec F S512x2048 .bf16) (acc : Vec F S512x2048 .f32) (E : Set ℕ) (K : PUnit → Asrt F) :
    iprop(ins c arg2 arg3 arg4 arg5 arg6 x0 x1 x2 x3 x4 ∗ owns (c : Thread nD τ) arg8 fullShare h ∗ room c arg9 arg10 ∗ owns (c : Thread nD τ) arg11 fullShare acc
        ∗ (iprop(ins c arg2 arg3 arg4 arg5 arg6 x0 x1 x2 x3 x4 ∗ outs c arg8 arg9 arg10 arg11 x2 x3 x4 h acc) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
  simp only [cc0_ffn_fwd_eq_skeleton]; unfold cc0_ffn_fwd_skel
  simp only [k0_part1_eq_skeleton]; unfold k0_part1_skel
  unfold ins outs room owns
  iintro ⟨⟨⟨%f0, %hf0, H0⟩, ⟨%f1, %hf1, H1⟩, ⟨%f2, %hf2, H2⟩, ⟨%f3, %hf3, H3⟩, ⟨%f4, %hf4, H4⟩⟩, ⟨%f6, %hf6, H6⟩, ⟨⟨%d7, %f7, -, H7⟩, ⟨%d8, %f8, -, H8⟩⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hfs
  sl_exec (disch := first | sl_exact hc | sl_exact hl)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H6]
  · iexists _; isplitr; · ipureintro; exact harg8.read_unread _
    iexact H6
  isplitl [H7]
  · iexists _; isplitr
    swap; · iexact H7
    ipureintro
    rw [View.read_writes_full]
    repeat rw [View.readAt_full]
    simp only [harg2.read_unread, harg4.read_unread, harg5.read_unread, harg6.read_unread, harg8.read_unread, harg11.read_unread]
  isplitl [H8]
  · iexists _; isplitr
    swap; · iexact H8
    ipureintro
    rw [View.read_writes_full]
    repeat rw [View.readAt_full]
    simp only [harg2.read_unread, harg4.read_unread, harg5.read_unread, harg6.read_unread, harg8.read_unread, harg11.read_unread]
  iexists _; isplitr
  swap; · iexact HS
  ipureintro
  rw [View.read_writes_full]
  repeat rw [View.readAt_full]
  simp only [harg2.read_unread, harg4.read_unread, harg5.read_unread, harg6.read_unread, harg8.read_unread, harg11.read_unread]

set_option maxHeartbeats 4000000 in
/-- At the last point of a row the body does the same and stores the result besides. -/
theorem body_last (hc : ¬k0_cond1 i = 1#1) (hl : k0_cond2 i = 1#1) (h : Vec F S512x2048 .bf16) (acc : Vec F S512x2048 .f32) (E : Set ℕ) (K : PUnit → Asrt F) :
    iprop(ins c arg2 arg3 arg4 arg5 arg6 x0 x1 x2 x3 x4 ∗ (∃ d, owns (c : Thread nD τ) arg7 fullShare d) ∗ owns (c : Thread nD τ) arg8 fullShare h ∗ room c arg9 arg10 ∗ owns (c : Thread nD τ) arg11 fullShare acc
        ∗ (iprop(ins c arg2 arg3 arg4 arg5 arg6 x0 x1 x2 x3 x4 ∗ owns (c : Thread nD τ) arg7 fullShare (k0_pay2 x0 (next x2 x3 x4 h acc)) ∗ outs c arg8 arg9 arg10 arg11 x2 x3 x4 h acc) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
  simp only [cc0_ffn_fwd_eq_skeleton]; unfold cc0_ffn_fwd_skel
  simp only [k0_part1_eq_skeleton]; unfold k0_part1_skel
  unfold ins outs room owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨⟨%d7, %f7, -, H7⟩, ⟨%d8, %f8, -, H8⟩⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hfs
  sl_exec (disch := first | sl_exact hc | sl_exact hl)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr
    swap; · iexact H5
    ipureintro
    rw [View.read_writes_full]
    unfold body_last.sl.v39 body_last.sl.HS_1
    repeat rw [View.readCov_full]
    repeat rw [View.readAt_full]
    simp only [harg2.read_unread, harg4.read_unread, harg5.read_unread, harg6.read_unread, harg8.read_unread, harg11.read_unread]
  isplitl [H6]
  · iexists _; isplitr; · ipureintro; exact harg8.read_unread _
    iexact H6
  isplitl [H7]
  · iexists _; isplitr
    swap; · iexact H7
    ipureintro
    rw [View.read_writes_full]
    repeat rw [View.readAt_full]
    simp only [harg2.read_unread, harg4.read_unread, harg5.read_unread, harg6.read_unread, harg8.read_unread, harg11.read_unread]
  isplitl [H8]
  · iexists _; isplitr
    swap; · iexact H8
    ipureintro
    rw [View.read_writes_full]
    repeat rw [View.readAt_full]
    simp only [harg2.read_unread, harg4.read_unread, harg5.read_unread, harg6.read_unread, harg8.read_unread, harg11.read_unread]
  iexists _; isplitr
  swap; · iexact HS
  ipureintro
  unfold body_last.sl.HS_1
  rw [View.read_writes_full]
  repeat rw [View.readAt_full]
  simp only [harg2.read_unread, harg4.read_unread, harg5.read_unread, harg6.read_unread, harg8.read_unread, harg11.read_unread]

end body

/-- Window `w`'s block at point `t`, as the call finds it in the memory. -/
def blk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The first point of the row of eight that a point stands in. -/
def start (t : Fin cfg0.N) : Fin cfg0.N := ⟨t.val - t.val % 8, Nat.lt_of_le_of_lt (Nat.sub_le _ _) t.isLt⟩

/-- The normed rows that the points of a row of eight share. -/
def rows (c : Dev nD) (t : Fin cfg0.N) : Vec F S512x2048 .bf16 := k0_pay3 (blk m c 0 (start t)) (blk m c 1 (start t))

/-- A point that is not the first of its row shares the normed rows of the point before. -/
theorem rows_pred (c : Dev nD) (t : Fin cfg0.N) (h : ¬t.val % 8 = 0) (hp : t.val - 1 < cfg0.N) : rows m c ⟨t.val - 1, hp⟩ = rows m c t := by
  unfold rows
  rw [show start ⟨t.val - 1, hp⟩ = start t from Fin.ext (by show t.val - 1 - (t.val - 1) % 8 = t.val - t.val % 8; omega)]

/-- The first point of a row norms its own rows. -/
theorem rows_first (c : Dev nD) (t : Fin cfg0.N) (h : t.val % 8 = 0) : rows m c t = k0_pay3 (blk m c 0 t) (blk m c 1 t) := by
  unfold rows
  rw [show start t = t from Fin.ext (by show t.val - t.val % 8 = t.val; omega)]

/-- The sum of the blocks so far, after each point. -/
def sumTo (c : Dev nD) : (n : ℕ) → n < cfg0.N → Vec F S512x2048 .f32
  | 0, h => next (blk m c 2 ⟨0, h⟩) (blk m c 3 ⟨0, h⟩) (blk m c 4 ⟨0, h⟩) (rows m c ⟨0, h⟩) k0_pay4
  | n + 1, h => next (blk m c 2 ⟨n + 1, h⟩) (blk m c 3 ⟨n + 1, h⟩) (blk m c 4 ⟨n + 1, h⟩) (rows m c ⟨n + 1, h⟩)
      (if (n + 1) % 8 = 0 then k0_pay4 else sumTo c n (Nat.lt_of_succ_lt h))

/-- The sum before each point that is not the first of its row. -/
def sumAt (c : Dev nD) (t : Fin cfg0.N) : Vec F S512x2048 .f32 := sumTo m c (t.val - 1) (Nat.lt_of_le_of_lt (Nat.sub_le _ _) t.isLt)

/-- The sum starts at the first point of a row. -/
theorem sum_first (c : Dev nD) (t : Fin cfg0.N) (h : t.val % 8 = 0) : sumTo m c t.val t.isLt = next (blk m c 2 t) (blk m c 3 t) (blk m c 4 t) (rows m c t) k0_pay4 := by
  obtain ⟨n, hn⟩ := t
  cases n with
  | zero => rfl
  | succ n => exact congrArg (next _ _ _ _) (if_pos h)

/-- Every other point adds to it. -/
theorem sum_next (c : Dev nD) (t : Fin cfg0.N) (h : ¬t.val % 8 = 0) : sumTo m c t.val t.isLt = next (blk m c 2 t) (blk m c 3 t) (blk m c 4 t) (rows m c t) (sumAt m c t) := by
  obtain ⟨n, hn⟩ := t
  cases n with
  | zero => exact absurd rfl h
  | succ n => exact congrArg (next _ _ _ _) (if_neg h)

/-- The scratch of the call. -/
abbrev scr : Memref sig .tc .vmem S512x2048 .f32 := Memref.whole cc0_scratch0

/-- What stands beside the windows before each point: at first a scratch that holds anything, afterwards the sum of the point before. -/
def beside (c : Dev nD) : (n : ℕ) → n ≤ cfg0.N → Asrt F
  | 0, _ => Pipeline.ΦA spec0 c
  | n + 1, hn => iprop(owns (c : Thread nD τ) scr fullShare (sumTo m c n hn) ∗ (∃ r, prngReg c r))

/-- At first the scratch holds anything. -/
theorem at_first (c : Dev nD) :
    (Pipeline.ΦA spec0 c : Asrt F) = iprop((∃ d, owns (c : Thread nD τ) scr fullShare d) ∗ (∃ r, prngReg c r)) := by
  unfold Pipeline.ΦA; rw [scopedRest0_eq]; simp only [scr, owns_whole]; try rfl

/-- After the first point it holds the sum. -/
theorem beside_pos (c : Dev nD) (n : ℕ) (h : n ≤ cfg0.N) (hz : n ≠ 0) :
    (beside m c n h : Asrt F) = iprop(owns (c : Thread nD τ) scr fullShare (sumTo m c (n - 1) (by omega)) ∗ (∃ r, prngReg c r)) := by
  cases n with
  | zero => exact absurd rfl hz
  | succ n => rfl

/-- Whatever the scratch holds, it holds something. -/
theorem beside_any (c : Dev nD) (n : ℕ) (h : n ≤ cfg0.N) :
    (beside m c n h : Asrt F) ⊢ iprop((∃ d, owns (c : Thread nD τ) scr fullShare d) ∗ (∃ r, prngReg c r)) := by
  cases n with
  | zero => exact Entails.of_eq (at_first c)
  | succ n =>
    unfold beside
    iintro ⟨HS, Hg⟩
    isplitl [HS]
    · iexists _; iexact HS
    iexact Hg

/-- What each window's buffer holds after the body at each point. -/
def dats (_ : Fin 1) (c : Dev nD) : Dat τ (Elt F) Unit ℕ (UR sig nD τ) ℕ cfg0 c where
  A w := m ((c : Thread nD τ).loc (Pipeline.arrRef spec0 w))
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => k0_pay2 (blk m c 0 t) (sumTo m c t.val t.isLt)
    | ⟨6, _⟩ => rows m c t
    | ⟨7, _⟩ => k0_pay8 (rows m c t) (blk m c 2 t)
    | ⟨8, _⟩ => k0_pay9 (rows m c t) (blk m c 3 t)
  Φ t := beside m c t.val (Nat.le_of_lt_succ t.isLt)
  q _ := fullShare
  owed _ := 0

/-- The body leaves the tile of the rows as it was. -/
theorem after_0 (c : Dev nD) (t : Fin cfg0.N) : (dats m 0 c).after 0 t = blk m c 0 t := by dsimp only [dats]
/-- The body leaves the gain as it was. -/
theorem after_1 (c : Dev nD) (t : Fin cfg0.N) : (dats m 0 c).after 1 t = blk m c 1 t := by dsimp only [dats]
/-- The body leaves the gate's weights as they were. -/
theorem after_2 (c : Dev nD) (t : Fin cfg0.N) : (dats m 0 c).after 2 t = blk m c 2 t := by dsimp only [dats]
/-- The body leaves the up projection's weights as they were. -/
theorem after_3 (c : Dev nD) (t : Fin cfg0.N) : (dats m 0 c).after 3 t = blk m c 3 t := by dsimp only [dats]
/-- The body leaves the down projection's weights as they were. -/
theorem after_4 (c : Dev nD) (t : Fin cfg0.N) : (dats m 0 c).after 4 t = blk m c 4 t := by dsimp only [dats]
/-- What stands in the buffer of the result where it is stored. -/
theorem after_5 (c : Dev nD) (t : Fin cfg0.N) : (dats m 0 c).after 5 t = k0_pay2 (blk m c 0 t) (sumTo m c t.val t.isLt) := by dsimp only [dats]
/-- What stands in the buffer of the normed rows after the body. -/
theorem after_6 (c : Dev nD) (t : Fin cfg0.N) : (dats m 0 c).after 6 t = rows m c t := by dsimp only [dats]
/-- What the body leaves in the buffer of the gate's values. -/
theorem after_7 (c : Dev nD) (t : Fin cfg0.N) : (dats m 0 c).after 7 t = k0_pay8 (rows m c t) (blk m c 2 t) := by dsimp only [dats]
/-- What the body leaves in the buffer of the up projection's values. -/
theorem after_8 (c : Dev nD) (t : Fin cfg0.N) : (dats m 0 c).after 8 t = k0_pay9 (rows m c t) (blk m c 3 t) := by dsimp only [dats]

/-- The buffer of the rows holds its block at every point. -/
theorem before_0 (c : Dev nD) (t : Fin cfg0.N) (d) : (dats m 0 c).before 0 t d = blk m c 0 t :=
  ((dats m 0 c).before_in_eq_fetched 0 rfl (fun _ => rfl) (fun _ _ _ => rfl) (fun t => by rw [after_0]; rfl) t d).trans rfl

/-- The buffer of the gain holds its block at every point. -/
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; rfl) t d).trans rfl

/-- The buffer of the gate's weights holds its block at every point. -/
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; rfl) t d).trans rfl

/-- The buffer of the up projection's weights holds its block at every point. -/
theorem before_3 (c : Dev nD) (t : Fin cfg0.N) (d) : (dats m 0 c).before 3 t d = blk m c 3 t :=
  ((dats m 0 c).before_in_eq_fetched 3 rfl (fun _ => rfl) (fun _ _ _ => rfl) (fun t => by rw [after_3]; rfl) t d).trans rfl

/-- The buffer of the down projection's weights holds its block at every point. -/
theorem before_4 (c : Dev nD) (t : Fin cfg0.N) (d) : (dats m 0 c).before 4 t d = blk m c 4 t :=
  ((dats m 0 c).before_in_eq_fetched 4 rfl (fun _ => rfl) (fun _ _ _ => rfl) (fun t => by rw [after_4]; rfl) t d).trans rfl

/-- The normed rows are stored at the first point of a row of eight and at no other. -/
theorem idle_6 : ∀ t : Fin cfg0.N, cfg0.idle 6 (grid0.coords t) = !decide (t.val % 8 = 0) := by decide +kernel

/-- Where the buffer of the normed rows holds nothing yet. -/
def fresh (n : ℕ) : Bool := decide (n % 8 = 0)

/-- It holds nothing yet at the first point of a row of eight and at no other. -/
theorem fresh_6 (t : Fin cfg0.N) : cfg0.fresh 6 t.val = fresh t.val :=
  Pipeline.Cfg.fresh_tab cfg0 6 fresh rfl
    (by decide +kernel : ∀ t : Fin cfg0.N, fresh (t.val + 1) = ((cfg0.win 6).flush t || (cfg0.idle 6 (cfg0.grid.coords t) && fresh t.val))) t.val (Nat.le_of_lt t.isLt)

/-- At a point that is not the first of its row, the normed rows of the row stand in their buffer. -/
theorem before_6 (c : Dev nD) (t : Fin cfg0.N) (h : ¬t.val % 8 = 0) (d) : (dats m 0 c).before 6 t d = rows m c t := by
  rw [Dat.before_out_traj _ 6 rfl (fun _ _ => rfl) (fun t _ hi _ => by
      rw [idle_6 t] at hi
      rw [after_6, after_6]
      exact (rows_pred m c t (by simpa using hi) _).symm) t.val t rfl d,
    if_neg (by rw [fresh_6, fresh]; simpa using h), after_6]
  exact rows_pred m c t h _

/-- The buffer a window has at a point. -/
abbrev st (w : Fin cfg0.W) (t : Fin cfg0.N) := (cfg0.win w).stage (cfg0.slots t w)

/-- A window stored at a point is left at the point's contents. -/
theorem leaves_live (c : Dev nD) (w : Fin cfg0.W) (t : Fin cfg0.N) (hl : cfg0.idle w (cfg0.grid.coords t) = false) :
    (dats m 0 c).leavesExact w t = owns (c : Thread nD τ) (st w t) fullShare ((dats m 0 c).after w t) := by
  unfold Dat.leavesExact; rw [hl]

/-- The normed rows are left as they were, at a point that does not store them. -/
theorem leaves_6 (c : Dev nD) (t : Fin cfg0.N) (h : ¬t.val % 8 = 0) :
    (owns (c : Thread nD τ) (st 6 t) fullShare (rows m c t) : Asrt F) ⊢ (dats m 0 c).leavesExact 6 t := by
  have hi : cfg0.idle 6 (cfg0.grid.coords t) = true := by rw [show cfg0.idle 6 (cfg0.grid.coords t) = _ from idle_6 t]; simpa using h
  cases hf : (cfg0.win 6).flush t
  · rw [(dats m 0 c).leavesExact_idle 6 t hi hf]
    iintro H
    iexists rows m c t
    rw [before_6 m c t h]
    iexact H
  · unfold Dat.leavesExact
    rw [hi, hf, after_6]

/-- The result is stored at the last point of a row of eight and at no other. -/
theorem idle_5 : ∀ t : Fin cfg0.N, cfg0.idle 5 (grid0.coords t) = !decide (t.val % 8 = 7) := by decide +kernel

/-- The buffer of the result is left alone at a point that does not store it. -/
theorem leaves_5 (c : Dev nD) (t : Fin cfg0.N) (h : ¬t.val % 8 = 7) :
    (dats m 0 c).leavesExact 5 t = iprop(∃ d, owns (c : Thread nD τ) (st 5 t) fullShare ((dats m 0 c).before 5 t d)) :=
  (dats m 0 c).leavesExact_idle 5 t (by rw [show cfg0.idle 5 (cfg0.grid.coords t) = _ from idle_5 t]; simpa using h)
    (by cases hf : (cfg0.win 5).flush t; · rfl
        exact absurd ((flush0_5 t).mp hf) h)

/-- What the body is given at a point. -/
def pre (c : Dev nD) (t : Fin cfg0.N) : Asrt F :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d))
    ∗ (∃ d, owns (c : Thread nD τ) (st 6 t) fullShare ((dats m 0 c).before 6 t d))
    ∗ (∃ d, owns (c : Thread nD τ) (st 7 t) fullShare ((dats m 0 c).before 7 t d))
    ∗ (∃ d, owns (c : Thread nD τ) (st 8 t) fullShare ((dats m 0 c).before 8 t d)))

/-- What it gives back. -/
def post (c : Dev nD) (t : Fin cfg0.N) : Asrt F :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 3200000 in
/-- The body at every point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = iprop(owns (c : Thread nD τ) scr fullShare (sumTo m c t.val t.isLt) ∗ (∃ r, prngReg c r)) from rfl,
    show (dats m 0 c).Φ t.castSucc = beside m c t.val (Nat.le_of_lt t.isLt) from rfl,
    show (dats m 0 c).owesAt () t.succ = (dats m 0 c).owesAt () t.castSucc from rfl,
    leaves_live m c 0 t rfl, leaves_live m c 1 t rfl, leaves_live m c 2 t rfl, leaves_live m c 3 t rfl, leaves_live m c 4 t rfl, leaves_live m c 7 t rfl, leaves_live m c 8 t rfl,
    after_0, after_1, after_2, after_3, after_4, after_7, after_8]
  by_cases h : t.val % 8 = 0
  · have h7 : ¬t.val % 8 = 7 := by omega
    rw [leaves_live m c 6 t (by rw [show cfg0.idle 6 (cfg0.grid.coords t) = _ from idle_6 t]; simpa using h), after_6, rows_first m c t h, leaves_5 m c t h7, sum_first m c t h, rows_first m c t h]
    refine BIBase.Entails.trans (sep_mono_left (beside_any m c _ _)) ?_
    iintro ⟨⟨HS, Hg⟩, Ho, ⟨%d0, H0⟩, ⟨%d1, H1⟩, ⟨%d2, H2⟩, ⟨%d3, H3⟩, ⟨%d4, H4⟩, H5, ⟨%d6, H6⟩, ⟨%d7, H7⟩, ⟨%d8, H8⟩⟩
    iapply (body_first c (grid0.coords t) _ _ _ _ _ _ _ _ _ _ _ _ _ _ _ _ _ _ _ _ (blk m c 0 t) (blk m c 1 t) (blk m c 2 t) (blk m c 3 t) (blk m c 4 t) ((first_iff t).mpr h) (fun hc => h7 ((last_iff t).mp hc)) Set.univ _)
    unfold ins room outs
    isplitl [H0 H1 H2 H3 H4]
    · isplitl [H0]; · iexact H0
      isplitl [H1]; · iexact H1
      isplitl [H2]; · iexact H2
      isplitl [H3]; · iexact H3
      iexact H4
    isplitl [H6]; · iexists _; iexact H6
    isplitl [H7 H8]
    · isplitl [H7]; · iexists _; iexact H7
      iexists _; iexact H8
    isplitl [HS]; · iexact HS
    iintro ⟨⟨H0, H1, H2, H3, H4⟩, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexact H6
    isplitl [H7]; · iexact H7
    iexact H8
  · have hz : t.val ≠ 0 := by omega
    simp only [before_6 m c t h]
    rw [beside_pos m c t.val _ hz, sum_next m c t h]
    by_cases h7 : t.val % 8 = 7
    · rw [leaves_live m c 5 t (by rw [show cfg0.idle 5 (cfg0.grid.coords t) = _ from idle_5 t]; simpa using h7), after_5, sum_next m c t h]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c (grid0.coords t) _ _ _ _ _ _ _ _ _ _ _ _ _ _ _ _ _ _ _ _ (blk m c 0 t) (blk m c 1 t) (blk m c 2 t) (blk m c 3 t) (blk m c 4 t) (fun hc => h ((first_iff t).mp hc)) ((last_iff t).mpr h7) (rows m c t) (sumAt m c t) Set.univ _)
      unfold ins room outs
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [H6]; · iexact H6
      isplitl [H7 H8]
      · isplitl [H7]; · iexists _; iexact H7
        iexists _; iexact H8
      isplitl [HS]; · iexact HS
      iintro ⟨⟨H0, H1, H2, H3, H4⟩, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves_6 m c t h)
        iexact H6
      isplitl [H7]; · iexact H7
      iexact H8
    · rw [leaves_5 m c t h7]
      iintro ⟨⟨HS, Hg⟩, Ho, ⟨%d0, H0⟩, ⟨%d1, H1⟩, ⟨%d2, H2⟩, ⟨%d3, H3⟩, ⟨%d4, H4⟩, H5, ⟨%d6, H6⟩, ⟨%d7, H7⟩, ⟨%d8, H8⟩⟩
      iapply (body_mid c (grid0.coords t) _ _ _ _ _ _ _ _ _ _ _ _ _ _ _ _ _ _ _ _ (blk m c 0 t) (blk m c 1 t) (blk m c 2 t) (blk m c 3 t) (blk m c 4 t) (fun hc => h ((first_iff t).mp hc)) (fun hc => h7 ((last_iff t).mp hc)) (rows m c t) (sumAt m c t) Set.univ _)
      unfold ins room outs
      isplitl [H0 H1 H2 H3 H4]
      · isplitl [H0]; · iexact H0
        isplitl [H1]; · iexact H1
        isplitl [H2]; · iexact H2
        isplitl [H3]; · iexact H3
        iexact H4
      isplitl [H6]; · iexact H6
      isplitl [H7 H8]
      · isplitl [H7]; · iexists _; iexact H7
        iexists _; iexact H8
      isplitl [HS]; · iexact HS
      iintro ⟨⟨H0, H1, H2, H3, H4⟩, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iapply (leaves_6 m c t h)
        iexact H6
      isplitl [H7]; · iexact H7
      iexact H8

/-- The body at every point, as the call's loop asks it. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body m c t) rfl .rfl fun _ => .rfl

/-- The program is the call alone. -/
theorem call (𝒱₀ : Variants) : Pipeline.HMain (Ix := Unit) (Name := ℕ) (U := UR sig nD τ) (Lvl := ℕ) cfgs 0 defs₀ 𝒱₀ m (main (F := F)) (fun c b => m ((c : Thread nD τ).loc b)) :=
  Pipeline.hmain_region cfgs 0 defs₀ 𝒱₀ m main fun c => (main_chain c).trans rfl

set_option backward.isDefEq.respectTransparency.types false in
/-- The run: every array ends at what the points wrote back, and every counter at zero. -/
theorem run : θ_run defs (onTc (τ := τ) (main (F := F))) (s₀ m ρ) (fun r => (Pipeline.FramePost cfgs (dats m) 0 (fun c b => m ((c : Thread nD τ).loc b))) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := fun c b => m ((c : Thread nD τ).loc b)) (hmain := call m Variants.none) (hA := fun _ _ => rfl)
    (hin := fun c => Entails.refl _) (hout := fun c => BIBase.Entails.trans (beside_any m c cfg0.N (Nat.le_refl _)) (Entails.of_eq (at_first c).symm))

/-- What the four results hold at the end, the arguments as they were, and every counter at zero. -/
theorem results : θ_run defs (onTc (τ := τ) (main (F := F))) ⟨m, fun _ => 0, ρ⟩ (fun r => (∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5, (h.1 c).1 6, (h.1 c).1 7, (h.1 c).1 8, ((h.1 c).1 0).trans ((dats m 0 c).arrAt_in 0 rfl _), ((h.1 c).1 1).trans ((dats m 0 c).arrAt_in 1 rfl _), ((h.1 c).1 2).trans ((dats m 0 c).arrAt_in 2 rfl _), ((h.1 c).1 3).trans ((dats m 0 c).arrAt_in 3 rfl _), ((h.1 c).1 4).trans ((dats m 0 c).arrAt_in 4 rfl _)⟩, h.2⟩) (run m ρ)

/-- The call runs, and its arguments end as they were. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2.2.2, h.2⟩) (results m ρ)

end Cert.FwdRun

end
-- ==== Proof.FwdSame.lean ====
/- The call of the feed-forward block is printed twice, once for each arithmetic: it is one program. -/
module

public import proofs.«01_k».proof.Proof.FwdRun
public import proofs.«01_k».proof.Proof.Gen.Kernel14

@[expose] public section

set_option maxRecDepth 16384
noncomputable section
namespace Cert.FwdSame
open Idealize.ShloMosaic Idealize.ShloMosaic.TcCoe Idealize.SL.Sem
open Cert.Kernel14 Cert.Kernel14.Gen

variable {F : FTy → Type} [FloatOps F]

/-- The two printed programs have the same body. -/
theorem bodies : @Eq (Defs nD τ sig (Elt F) Λ₀) (defs₀ (F := F)) (Kernel14Ideal.defs₀ (F := F)) := by
  unfold defs₀ Kernel14Ideal.defs₀
  refine congrArg Defs.onTc (funext fun ℓ => funext fun a => ?_)
  match ℓ, a with
  | 0, (t, s) => rfl

/-- The two printed programs call the same functions. -/
theorem tables : @Eq (Defs nD τ sig (Elt F) _) (defs (F := F)) (Kernel14Ideal.defs (F := F)) :=
  congrArg (Pipeline.defs pcfgs) bodies

/-- The call runs, and its arguments end as they were: the two printed programs are the same, word for word. -/
theorem kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (congrArg (fun D => θ_run D (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) tables).mpr (FwdRun.kept (F := F) m ρ)

end Cert.FwdSame

end
-- ==== Proof.Fwd.lean ====
/- The feed-forward block: each row of eight points norms a tile of rows once, every point multiplies it with one block of the gate's and the up projection's weights and adds the hidden values' product with the down projection's to a sum, and the last point adds half the sum to the rows. -/
module

public import proofs.«01_k».proof.Defs
public import proofs.«01_k».proof.Proof.Norm
public import proofs.«01_k».proof.Proof.Grad
public import proofs.«01_k».proof.Proof.FwdRun
public import proofs.«01_k».proof.Proof.Gen.Reference14Ideal.Run
public import Idealize.ShloMosaic.Lib.Pipeline.ValueKit
public import Idealize.ShloMosaic.Lib.Pipeline.ReadBack
public import Idealize.ShloMosaic.Lib.Pointwise

@[expose] public section

set_option maxRecDepth 16384
noncomputable section
namespace Cert.Fwd
open Idealize.ShloMosaic Idealize.ShloMosaic.TcCoe Idealize.SL.Sem
open Idealize.ShloMosaic.Pipeline (Dat)
open Cert.Kernel14Ideal Cert.Kernel14Ideal.Gen Cert.FwdRun

variable (m : (ℓ : Loc nD τ sig) → Buf (Elt Ideal) ℓ)

/-- The gate's function of a value, as the call computes it. -/
def silu (x : EReal) : EReal := x * Ideal.div 1 (1 + Ideal.exp (0 - x))

/-- An entry of a normed tile. -/
theorem norm_at (x : FVec Ideal S512x2048 .f32) (g : FVec Ideal S1x2048 .f32) (r : Fin 512) (d : Fin 2048) :
    (k0_pay3 x g : FVec Ideal S512x2048 .bf16) (ix2 r d) = x (ix2 r d) * Norm.rs (fun k => x (ix2 r k)) * g (ix2 0 d) := by
  unfold k0_pay3 Norm.rs Norm.ms Norm.width Norm.eps
  pointwise

/-- An entry of the product of a normed tile with a block of the gate's weights. -/
theorem gate_tile (h : FVec Ideal S512x2048 .bf16) (w : FVec Ideal S1x704x2048 .bf16) (r : Fin 512) (f : Fin 704) :
    (k0_pay6 h w : FVec Ideal S512x704 .f32) (ix2 r f) = ∑ k : Fin 2048, h (ix2 r k) * w (ix3 0 f k) := by
  unfold k0_pay6 k0_pay5
  pointwise

/-- An entry of the product of a normed tile with a block of the up projection's weights. -/
theorem up_tile (h : FVec Ideal S512x2048 .bf16) (w : FVec Ideal S1x704x2048 .bf16) (r : Fin 512) (f : Fin 704) :
    (k0_pay7 h w : FVec Ideal S512x704 .f32) (ix2 r f) = ∑ k : Fin 2048, h (ix2 r k) * w (ix3 0 f k) :=
  gate_tile h w r f

/-- The gate's tile as it is stored. -/
theorem gate_at (h : FVec Ideal S512x2048 .bf16) (w : FVec Ideal S1x704x2048 .bf16) (r : Fin 512) (f : Fin 704) :
    (k0_pay8 h w : FVec Ideal S1x512x704 .f32) (ix3 0 r f) = ∑ k : Fin 2048, h (ix2 r k) * w (ix3 0 f k) := by
  rw [← gate_tile]
  unfold k0_pay8
  pointwise

/-- The up projection's tile as it is stored. -/
theorem up_at (h : FVec Ideal S512x2048 .bf16) (w : FVec Ideal S1x704x2048 .bf16) (r : Fin 512) (f : Fin 704) :
    (k0_pay9 h w : FVec Ideal S1x512x704 .f32) (ix3 0 r f) = ∑ k : Fin 2048, h (ix2 r k) * w (ix3 0 f k) := by
  rw [← up_tile]
  unfold k0_pay9
  pointwise

/-- The hidden values of a point. -/
theorem hidden_at (h : FVec Ideal S512x2048 .bf16) (w v : FVec Ideal S1x704x2048 .bf16) (r : Fin 512) (f : Fin 704) :
    (k0_pay10 h w v : FVec Ideal S512x704 .bf16) (ix2 r f)
      = silu (∑ k : Fin 2048, h (ix2 r k) * w (ix3 0 f k)) * ∑ k : Fin 2048, h (ix2 r k) * v (ix3 0 f k) := by
  rw [← gate_tile, ← up_tile]
  unfold k0_pay10 silu
  pointwise

/-- The hidden values' product with a block of the weights is added to what was there. -/
theorem add_at (acc : FVec Ideal S512x2048 .f32) (a : FVec Ideal S512x704 .bf16) (w : FVec Ideal S1x704x2048 .bf16) (r : Fin 512) (d : Fin 2048) :
    (k0_pay1 acc a w : FVec Ideal S512x2048 .f32) (ix2 r d) = acc (ix2 r d) + ∑ f : Fin 704, a (ix2 r f) * w (ix3 0 f d) := by
  unfold k0_pay1
  pointwise

/-- The sum starts at nothing. -/
theorem none_at (r : Fin 512) (d : Fin 2048) : (k0_pay4 : FVec Ideal S512x2048 .f32) (ix2 r d) = 0 := by
  unfold k0_pay4
  pointwise

/-- The result is the rows and half the sum. -/
theorem result_at (x acc : FVec Ideal S512x2048 .f32) (r : Fin 512) (d : Fin 2048) :
    (k0_pay2 x acc : FVec Ideal S512x2048 .f32) (ix2 r d) = x (ix2 r d) + ((1 / 2 : ℝ) : EReal) * acc (ix2 r d) := by
  unfold k0_pay2
  pointwise
  rw [Grad.half]

/-- The rows, as the call is given them. -/
def xs (c : Dev nD) : FVec Ideal S4096x2048 .f32 := m ((c : Thread nD τ).loc main_arg0)

/-- The gain, as the call is given it. -/
def gain (c : Dev nD) : FVec Ideal S1x2048 .f32 := m ((c : Thread nD τ).loc main_arg1)

/-- The gate's weights, as the call is given them. -/
def wg (c : Dev nD) : FVec Ideal S8x704x2048 .bf16 := m ((c : Thread nD τ).loc main_arg2)

/-- The up projection's weights, as the call is given them. -/
def wu (c : Dev nD) : FVec Ideal S8x704x2048 .bf16 := m ((c : Thread nD τ).loc main_arg3)

/-- The down projection's weights, as the call is given them. -/
def wd (c : Dev nD) : FVec Ideal S8x704x2048 .bf16 := m ((c : Thread nD τ).loc main_arg4)

/-- Where the tile of the rows lies. -/
theorem index0 : ∀ t : Fin cfg0.N, win0_0.index t = ![t.val / 8, 0] := (by decide +kernel : ∀ t : Fin grid0.N, _)

/-- Where the gain lies. -/
theorem index1 : ∀ t : Fin cfg0.N, win0_1.index t = ![0, 0] := (by decide +kernel : ∀ t : Fin grid0.N, _)

/-- Where the block of the gate's weights lies. -/
theorem index2 : ∀ t : Fin cfg0.N, win0_2.index t = ![t.val % 8, 0, 0] := (by decide +kernel : ∀ t : Fin grid0.N, _)

/-- Where the block of the up projection's weights lies. -/
theorem index3 : ∀ t : Fin cfg0.N, win0_3.index t = ![t.val % 8, 0, 0] := (by decide +kernel : ∀ t : Fin grid0.N, _)

/-- Where the block of the down projection's weights lies. -/
theorem index4 : ∀ t : Fin cfg0.N, win0_4.index t = ![t.val % 8, 0, 0] := (by decide +kernel : ∀ t : Fin grid0.N, _)

/-- Where the tile of the result lies. -/
theorem index5 : ∀ t : Fin cfg0.N, win0_5.index t = ![t.val / 8, 0] := (by decide +kernel : ∀ t : Fin grid0.N, _)

/-- Where the tile of the normed rows lies. -/
theorem index6 : ∀ t : Fin cfg0.N, win0_6.index t = ![t.val / 8, 0] := (by decide +kernel : ∀ t : Fin grid0.N, _)

/-- Where the gate's tile lies. -/
theorem index7 : ∀ t : Fin cfg0.N, win0_7.index t = ![t.val % 8, t.val / 8, 0] := (by decide +kernel : ∀ t : Fin grid0.N, _)

/-- Where the up projection's tile lies. -/
theorem index8 : ∀ t : Fin cfg0.N, win0_8.index t = ![t.val % 8, t.val / 8, 0] := (by decide +kernel : ∀ t : Fin grid0.N, _)

/-- The point at a tile of the rows and a block of the weights. -/
def pt (p : ℕ) (hp : p < 8) (q : ℕ) (hq : q < 8) : Fin cfg0.N := ⟨8 * p + q, lt_of_lt_of_eq (by omega) N_0.symm⟩

/-- A point's tile of the rows. -/
theorem pt_div (p : ℕ) (hp : p < 8) (q : ℕ) (hq : q < 8) : (pt p hp q hq).val / 8 = p := by
  show (8 * p + q) / 8 = p
  omega

/-- A point's block of the weights. -/
theorem pt_mod (p : ℕ) (hp : p < 8) (q : ℕ) (hq : q < 8) : (pt p hp q hq).val % 8 = q := by
  show (8 * p + q) % 8 = q
  omega

/-- The tile that a row lies in. -/
theorem tile_lt (i : Fin 4096) : i.val / 512 < 8 := by omega

/-- A row's place in its tile. -/
def loc (i : Fin 4096) : Fin 512 := ⟨i.val % 512, by omega⟩

/-- The point of a row and a block. -/
abbrev at_ (i : Fin 4096) (j : Fin 8) : Fin cfg0.N := pt (i.val / 512) (tile_lt i) j.val j.isLt

/-- The tile of the rows, element by element. -/
theorem read0 (c : Dev nD) (i : Fin 4096) (j : Fin 8) (k : Fin 2048) :
    (blk m c 0 (at_ i j) : FVec Ideal S512x2048 .f32) (ix2 (loc i) k) = xs m c (ix2 i k) := by
  show xs m c (((cfg0.win 0).blk (at_ i j)).view.emb (ix2 (loc i) k)) = _
  have h := index0 (at_ i j)
  have e0 := (congrFun h 0).trans (pt_div (i.val / 512) (tile_lt i) j.val j.isLt)
  have e1 : win0_0.index (at_ i j) 1 = 0 := congrFun h 1
  refine congrArg (xs m c) (funext fun a => Fin.ext ?_)
  match a with
  | ⟨0, _⟩ => show win0_0.index (at_ i j) 0 * 512 + 1 * (i.val % 512) = i.val; rw [e0]; omega
  | ⟨1, _⟩ => show win0_0.index (at_ i j) 1 * 2048 + 1 * k.val = k.val; rw [e1]; omega

/-- The gain, element by element. -/
theorem read1 (c : Dev nD) (t : Fin cfg0.N) (k : Fin 2048) :
    (blk m c 1 t : FVec Ideal S1x2048 .f32) (ix2 0 k) = gain m c (ix2 0 k) := by
  show gain m c (((cfg0.win 1).blk t).view.emb (ix2 0 k)) = _
  have h := index1 t
  have e0 : win0_1.index t 0 = 0 := congrFun h 0
  have e1 : win0_1.index t 1 = 0 := congrFun h 1
  refine congrArg (gain m c) (funext fun a => Fin.ext ?_)
  match a with
  | ⟨0, _⟩ => show win0_1.index t 0 * 1 + 1 * 0 = 0; rw [e0]
  | ⟨1, _⟩ => show win0_1.index t 1 * 2048 + 1 * k.val = k.val; rw [e1]; omega

/-- The block of the gate's weights, element by element. -/
theorem read2 (c : Dev nD) (i : Fin 4096) (j : Fin 8) (f : Fin 704) (k : Fin 2048) :
    (blk m c 2 (at_ i j) : FVec Ideal S1x704x2048 .bf16) (ix3 0 f k) = wg m c (ix3 j f k) := by
  show wg m c (((cfg0.win 2).blk (at_ i j)).view.emb (ix3 0 f k)) = _
  have h := index2 (at_ i j)
  have e0 := (congrFun h 0).trans (pt_mod (i.val / 512) (tile_lt i) j.val j.isLt)
  have e1 : win0_2.index (at_ i j) 1 = 0 := congrFun h 1
  have e2 : win0_2.index (at_ i j) 2 = 0 := congrFun h 2
  refine congrArg (wg m c) (funext fun a => Fin.ext ?_)
  match a with
  | ⟨0, _⟩ => show win0_2.index (at_ i j) 0 * 1 + 1 * 0 = j.val; rw [e0]; omega
  | ⟨1, _⟩ => show win0_2.index (at_ i j) 1 * 704 + 1 * f.val = f.val; rw [e1]; omega
  | ⟨2, _⟩ => show win0_2.index (at_ i j) 2 * 2048 + 1 * k.val = k.val; rw [e2]; omega

/-- The block of the up projection's weights, element by element: it lies where the gate's does. -/
theorem read3 (c : Dev nD) (i : Fin 4096) (j : Fin 8) (f : Fin 704) (k : Fin 2048) :
    (blk m c 3 (at_ i j) : FVec Ideal S1x704x2048 .bf16) (ix3 0 f k) = wu m c (ix3 j f k) := by
  show wu m c (((cfg0.win 3).blk (at_ i j)).view.emb (ix3 0 f k)) = _
  have h := index3 (at_ i j)
  have e0 := (congrFun h 0).trans (pt_mod (i.val / 512) (tile_lt i) j.val j.isLt)
  have e1 : win0_3.index (at_ i j) 1 = 0 := congrFun h 1
  have e2 : win0_3.index (at_ i j) 2 = 0 := congrFun h 2
  refine congrArg (wu m c) (funext fun a => Fin.ext ?_)
  match a with
  | ⟨0, _⟩ => show win0_3.index (at_ i j) 0 * 1 + 1 * 0 = j.val; rw [e0]; omega
  | ⟨1, _⟩ => show win0_3.index (at_ i j) 1 * 704 + 1 * f.val = f.val; rw [e1]; omega
  | ⟨2, _⟩ => show win0_3.index (at_ i j) 2 * 2048 + 1 * k.val = k.val; rw [e2]; omega

/-- The block of the down projection's weights, element by element. -/
theorem read4 (c : Dev nD) (i : Fin 4096) (j : Fin 8) (f : Fin 704) (k : Fin 2048) :
    (blk m c 4 (at_ i j) : FVec Ideal S1x704x2048 .bf16) (ix3 0 f k) = wd m c (ix3 j f k) := by
  show wd m c (((cfg0.win 4).blk (at_ i j)).view.emb (ix3 0 f k)) = _
  have h := index4 (at_ i j)
  have e0 := (congrFun h 0).trans (pt_mod (i.val / 512) (tile_lt i) j.val j.isLt)
  have e1 : win0_4.index (at_ i j) 1 = 0 := congrFun h 1
  have e2 : win0_4.index (at_ i j) 2 = 0 := congrFun h 2
  refine congrArg (wd m c) (funext fun a => Fin.ext ?_)
  match a with
  | ⟨0, _⟩ => show win0_4.index (at_ i j) 0 * 1 + 1 * 0 = j.val; rw [e0]; omega
  | ⟨1, _⟩ => show win0_4.index (at_ i j) 1 * 704 + 1 * f.val = f.val; rw [e1]; omega
  | ⟨2, _⟩ => show win0_4.index (at_ i j) 2 * 2048 + 1 * k.val = k.val; rw [e2]; omega

/-- An entry of the normed rows. -/
def normed (c : Dev nD) (i : Fin 4096) (d : Fin 2048) : EReal :=
  xs m c (ix2 i d) * Norm.rs (fun k => xs m c (ix2 i k)) * gain m c (ix2 0 d)

/-- The normed rows that a row of points shares. -/
theorem rows_at (c : Dev nD) (i : Fin 4096) (j : Fin 8) (d : Fin 2048) :
    rows m c (at_ i j) (ix2 (loc i) d) = normed m c i d := by
  have e : start (at_ i j) = at_ i 0 := Fin.ext (by
    show 8 * (i.val / 512) + j.val - (8 * (i.val / 512) + j.val) % 8 = 8 * (i.val / 512) + 0
    omega)
  unfold rows normed
  rw [e, norm_at, read0, read1]
  exact congrArg (fun s => _ * s * _) (congrArg Norm.rs (funext fun k => read0 m c i 0 k))

/-- A gate's value. -/
def gate (c : Dev nD) (j : Fin 8) (i : Fin 4096) (f : Fin 704) : EReal := ∑ k : Fin 2048, normed m c i k * wg m c (ix3 j f k)

/-- An up projection's value. -/
def up (c : Dev nD) (j : Fin 8) (i : Fin 4096) (f : Fin 704) : EReal := ∑ k : Fin 2048, normed m c i k * wu m c (ix3 j f k)

/-- The gate's value from the tile and the block of its point. -/
theorem gate_sum (c : Dev nD) (j : Fin 8) (i : Fin 4096) (f : Fin 704) :
    (∑ k : Fin 2048, (rows m c (at_ i j) : FVec Ideal S512x2048 .bf16) (ix2 (loc i) k) * (blk m c 2 (at_ i j) : FVec Ideal S1x704x2048 .bf16) (ix3 0 f k) : EReal) = gate m c j i f :=
  Finset.sum_congr (M := EReal) rfl fun k _ => congrArg₂ (· * ·) (rows_at m c i j k) (read2 m c i j f k)

/-- The up projection's value from the tile and the block of its point. -/
theorem up_sum (c : Dev nD) (j : Fin 8) (i : Fin 4096) (f : Fin 704) :
    (∑ k : Fin 2048, (rows m c (at_ i j) : FVec Ideal S512x2048 .bf16) (ix2 (loc i) k) * (blk m c 3 (at_ i j) : FVec Ideal S1x704x2048 .bf16) (ix3 0 f k) : EReal) = up m c j i f :=
  Finset.sum_congr (M := EReal) rfl fun k _ => congrArg₂ (· * ·) (rows_at m c i j k) (read3 m c i j f k)

/-- The product of a block's hidden values with its weights, at a row and a column. -/
def prod (c : Dev nD) (i : Fin 4096) (d : Fin 2048) (j : Fin 8) : EReal := ∑ f : Fin 704, silu (gate m c j i f) * up m c j i f * wd m c (ix3 j f d)

/-- What a point adds to the sum. -/
theorem next_at (c : Dev nD) (i : Fin 4096) (j : Fin 8) (d : Fin 2048) (acc : FVec Ideal S512x2048 .f32) :
    (next (blk m c 2 (at_ i j)) (blk m c 3 (at_ i j)) (blk m c 4 (at_ i j)) (rows m c (at_ i j)) acc : FVec Ideal S512x2048 .f32) (ix2 (loc i) d) = acc (ix2 (loc i) d) + prod m c i d j :=
  (add_at acc _ _ (loc i) d).trans (congrArg (acc (ix2 (loc i) d) + ·) (Finset.sum_congr (M := EReal) rfl fun f _ =>
    congrArg₂ (· * ·) ((hidden_at _ _ _ (loc i) f).trans (congrArg₂ (fun a b => silu a * b) (gate_sum m c j i f) (up_sum m c j i f))) (read4 m c i j f d)))

/-- The sum after each point of a row holds the products of the blocks so far. -/
theorem sum_eq (c : Dev nD) (i : Fin 4096) (d : Fin 2048) : ∀ (s : ℕ) (hs : s < 8),
    (sumTo m c (at_ i ⟨s, hs⟩).val (at_ i ⟨s, hs⟩).isLt : FVec Ideal S512x2048 .f32) (ix2 (loc i) d) = ∑ j : Fin (s + 1), prod m c i d ⟨j.val, by omega⟩ := by
  intro s
  induction s with
  | zero =>
    intro hs
    refine (congrFun (sum_first m c (at_ i ⟨0, hs⟩) (pt_mod _ _ _ _)) _).trans ((next_at m c i ⟨0, hs⟩ d _).trans ?_)
    rw [none_at, zero_add, Fin.sum_univ_one]
    rfl
  | succ s ih =>
    intro hs
    have e : sumAt m c (at_ i ⟨s + 1, hs⟩) = sumTo m c (at_ i ⟨s, by omega⟩).val (at_ i ⟨s, by omega⟩).isLt := rfl
    have hne : ¬(at_ i ⟨s + 1, hs⟩).val % 8 = 0 := by
      rw [pt_mod]
      exact Nat.succ_ne_zero s
    refine (congrFun (sum_next m c (at_ i ⟨s + 1, hs⟩) hne) _).trans ((next_at m c i ⟨s + 1, hs⟩ d _).trans ?_)
    rw [e, ih (by omega), Fin.sum_univ_castSucc (n := s + 1)]
    rfl

/-- Two points that write the result write different tiles of it. -/
theorem apart5 : ∀ t t' : Fin cfg0.N, (cfg0.win 5).flush t = true → (cfg0.win 5).flush t' = true → t ≠ t' →
    Disjoint ((cfg0.win 5).blk t).view.set ((cfg0.win 5).blk t').view.set :=
  fun t t' f f' hne => (cfg0.win 5).disjoint_blk fun h => hne (Fin.ext (by
    have h' : win0_5.index t = win0_5.index t' := h
    rw [index5, index5] at h'
    have h0 : t.val / 8 = t'.val / 8 := congrFun h' 0
    have h1 := (flush0_5 t).mp f
    have h2 := (flush0_5 t').mp f'
    omega))

/-- Two points that write normed rows write different tiles of them. -/
theorem apart6 : ∀ t t' : Fin cfg0.N, (cfg0.win 6).flush t = true → (cfg0.win 6).flush t' = true → t ≠ t' →
    Disjoint ((cfg0.win 6).blk t).view.set ((cfg0.win 6).blk t').view.set :=
  fun t t' f f' hne => (cfg0.win 6).disjoint_blk fun h => hne (Fin.ext (by
    have h' : win0_6.index t = win0_6.index t' := h
    rw [index6, index6] at h'
    have h0 : t.val / 8 = t'.val / 8 := congrFun h' 0
    have h1 := (flush0_6 t).mp f
    have h2 := (flush0_6 t').mp f'
    omega))

/-- Two points with the same block and the same tile are one. -/
theorem same {t t' : Fin cfg0.N} (h : (![t.val % 8, t.val / 8, 0] : Fin 3 → ℕ) = ![t'.val % 8, t'.val / 8, 0]) : t = t' := Fin.ext (by
  have h0 : t.val % 8 = t'.val % 8 := congrFun h 0
  have h1 : t.val / 8 = t'.val / 8 := congrFun h 1
  omega)

/-- Two points write different tiles of the gate's values. -/
theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (same ((index7 t).symm.trans (Eq.trans h (index7 t'))))

/-- Two points write different tiles of the up projection's values. -/
theorem apart8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (same ((index8 t).symm.trans (Eq.trans h (index8 t'))))

/-- The result the call leaves, element by element. -/
theorem array5 (c : Dev nD) (i : Fin 4096) (d : Fin 2048) :
    ((dats m 0 c).arrAt 5 cfg0.N : FVec Ideal S4096x2048 .f32) (ix2 i d) = xs m c (ix2 i d) + ((1 / 2 : ℝ) : EReal) * ∑ j : Fin 8, prod m c i d j := by
  have h := congrFun ((dats m 0 c).read_blk_arrAt_eq_flushed 5 apart5 cfg0.N (at_ i 7) (at_ i 7).isLt ((flush0_5 _).mpr (pt_mod _ _ _ _))) (ix2 (loc i) d)
  have e : ((cfg0.win 5).blk (at_ i 7)).view.emb (ix2 (loc i) d) = ix2 i d := by
    have h := index5 (at_ i 7)
    have e0 := (congrFun h 0).trans (pt_div (i.val / 512) (tile_lt i) 7 (7 : Fin 8).isLt)
    have e1 : win0_5.index (at_ i 7) 1 = 0 := congrFun h 1
    refine funext fun a => Fin.ext ?_
    match a with
    | ⟨0, _⟩ => show win0_5.index (at_ i 7) 0 * 512 + 1 * (i.val % 512) = i.val; rw [e0]; omega
    | ⟨1, _⟩ => show win0_5.index (at_ i 7) 1 * 2048 + 1 * d.val = d.val; rw [e1]; omega
  refine (congrArg ((dats m 0 c).arrAt 5 cfg0.N : FVec Ideal S4096x2048 .f32) e.symm).trans (h.trans ?_)
  show (dats m 0 c).after 5 (at_ i 7) (ix2 (loc i) d) = _
  rw [after_5]
  exact (result_at _ _ (loc i) d).trans (congrArg₂ (fun a b => a + ((1 / 2 : ℝ) : EReal) * b) (read0 m c i 7 d) (sum_eq m c i d 7 (by omega)))

/-- The normed rows the call leaves, element by element. -/
theorem array6 (c : Dev nD) (i : Fin 4096) (d : Fin 2048) :
    ((dats m 0 c).arrAt 6 cfg0.N : FVec Ideal S4096x2048 .bf16) (ix2 i d) = normed m c i d := by
  have h := congrFun ((dats m 0 c).read_blk_arrAt_eq_flushed 6 apart6 cfg0.N (at_ i 7) (at_ i 7).isLt ((flush0_6 _).mpr (pt_mod _ _ _ _))) (ix2 (loc i) d)
  have e : ((cfg0.win 6).blk (at_ i 7)).view.emb (ix2 (loc i) d) = ix2 i d := by
    have h := index6 (at_ i 7)
    have e0 := (congrFun h 0).trans (pt_div (i.val / 512) (tile_lt i) 7 (7 : Fin 8).isLt)
    have e1 : win0_6.index (at_ i 7) 1 = 0 := congrFun h 1
    refine funext fun a => Fin.ext ?_
    match a with
    | ⟨0, _⟩ => show win0_6.index (at_ i 7) 0 * 512 + 1 * (i.val % 512) = i.val; rw [e0]; omega
    | ⟨1, _⟩ => show win0_6.index (at_ i 7) 1 * 2048 + 1 * d.val = d.val; rw [e1]; omega
  rw [← e]
  refine h.trans ?_
  show (dats m 0 c).after 6 (at_ i 7) (ix2 (loc i) d) = _
  rw [after_6]
  exact rows_at m c i 7 d

/-- The gate's values the call leaves, element by element. -/
theorem array7 (c : Dev nD) (j : Fin 8) (i : Fin 4096) (f : Fin 704) :
    ((dats m 0 c).arrAt 7 cfg0.N : FVec Ideal S8x4096x704 .f32) (ix3 j i f) = gate m c j i f := by
  have h := congrFun ((dats m 0 c).read_blk_arrAt_eq_flushed 7 apart7 cfg0.N (at_ i j) (at_ i j).isLt (flush0_7 _)) (ix3 0 (loc i) f)
  have e : ((cfg0.win 7).blk (at_ i j)).view.emb (ix3 0 (loc i) f) = ix3 j i f := by
    have h := index7 (at_ i j)
    have e0 := (congrFun h 0).trans (pt_mod (i.val / 512) (tile_lt i) j.val j.isLt)
    have e1 := (congrFun h 1).trans (pt_div (i.val / 512) (tile_lt i) j.val j.isLt)
    have e2 : win0_7.index (at_ i j) 2 = 0 := congrFun h 2
    refine funext fun a => Fin.ext ?_
    match a with
    | ⟨0, _⟩ => show win0_7.index (at_ i j) 0 * 1 + 1 * 0 = j.val; rw [e0]; omega
    | ⟨1, _⟩ => show win0_7.index (at_ i j) 1 * 512 + 1 * (i.val % 512) = i.val; rw [e1]; omega
    | ⟨2, _⟩ => show win0_7.index (at_ i j) 2 * 704 + 1 * f.val = f.val; rw [e2]; omega
  rw [← e]
  refine h.trans ?_
  show (dats m 0 c).after 7 (at_ i j) (ix3 0 (loc i) f) = _
  rw [after_7]
  exact (gate_at _ _ (loc i) f).trans (gate_sum m c j i f)

/-- The up projection's values the call leaves, element by element. -/
theorem array8 (c : Dev nD) (j : Fin 8) (i : Fin 4096) (f : Fin 704) :
    ((dats m 0 c).arrAt 8 cfg0.N : FVec Ideal S8x4096x704 .f32) (ix3 j i f) = up m c j i f := by
  have h := congrFun ((dats m 0 c).read_blk_arrAt_eq_flushed 8 apart8 cfg0.N (at_ i j) (at_ i j).isLt (flush0_8 _)) (ix3 0 (loc i) f)
  have e : ((cfg0.win 8).blk (at_ i j)).view.emb (ix3 0 (loc i) f) = ix3 j i f := by
    have h := index8 (at_ i j)
    have e0 := (congrFun h 0).trans (pt_mod (i.val / 512) (tile_lt i) j.val j.isLt)
    have e1 := (congrFun h 1).trans (pt_div (i.val / 512) (tile_lt i) j.val j.isLt)
    have e2 : win0_8.index (at_ i j) 2 = 0 := congrFun h 2
    refine funext fun a => Fin.ext ?_
    match a with
    | ⟨0, _⟩ => show win0_8.index (at_ i j) 0 * 1 + 1 * 0 = j.val; rw [e0]; omega
    | ⟨1, _⟩ => show win0_8.index (at_ i j) 1 * 512 + 1 * (i.val % 512) = i.val; rw [e1]; omega
    | ⟨2, _⟩ => show win0_8.index (at_ i j) 2 * 704 + 1 * f.val = f.val; rw [e2]; omega
  rw [← e]
  refine h.trans ?_
  show (dats m 0 c).after 8 (at_ i j) (ix3 0 (loc i) f) = _
  rw [after_8]
  exact (up_at _ _ (loc i) f).trans (up_sum m c j i f)

/-- Kernel and reference leave the same four arrays. -/
theorem algebraic : Cert.algebraic_Kernel14Ideal_Reference14Ideal := by
  intro m g m' g' _ hargs
  refine ⟨fun c => (dats m 0 c).arrAt 5 cfg0.N, fun c => (dats m 0 c).arrAt 6 cfg0.N, fun c => (dats m 0 c).arrAt 7 cfg0.N, fun c => (dats m 0 c).arrAt 8 cfg0.N,
    (θ_run _ _ _).mono (fun r h => h.1) (results m g), ?_⟩
  refine (θ_run Cert.Reference14Ideal.defs _ _).mono (fun r h c => ⟨?_, ?_, ?_, ?_, (h c).2.2.2.2⟩) (Cert.Reference14Ideal.Value.run m' g')
  · rw [(h c).1, (hargs c).1, (hargs c).2.1, (hargs c).2.2.1, (hargs c).2.2.2.1, (hargs c).2.2.2.2]
    clear h
    funext i
    obtain ⟨i, d, rfl⟩ : ∃ k d, i = ix2 k d := ⟨i 0, i 1, by funext a; match a with | ⟨0, _⟩ => rfl | ⟨1, _⟩ => rfl⟩
    refine Eq.trans ?_ (array5 m c i d).symm
    have eg : ∀ j f, gate m c j i f = ∑ k : Fin 2048, wg m c (ix3 j f k) * normed m c i k := fun j f => Finset.sum_congr (M := EReal) rfl fun k _ => mul_comm (G := EReal) _ _
    have eu : ∀ j f, up m c j i f = ∑ k : Fin 2048, wu m c (ix3 j f k) * normed m c i k := fun j f => Finset.sum_congr (M := EReal) rfl fun k _ => mul_comm (G := EReal) _ _
    unfold prod
    simp only [eg, eu]
    unfold silu normed Norm.rs Norm.ms Norm.width Norm.eps
    simp only [zero_sub]
    pointwise
    rw [Grad.half]
    rfl
  · rw [(h c).2.1, (hargs c).1, (hargs c).2.1]
    clear h
    funext i
    obtain ⟨i, d, rfl⟩ : ∃ k d, i = ix2 k d := ⟨i 0, i 1, by funext a; match a with | ⟨0, _⟩ => rfl | ⟨1, _⟩ => rfl⟩
    refine Eq.trans ?_ (array6 m c i d).symm
    unfold normed Norm.rs Norm.ms Norm.width Norm.eps
    pointwise
    rfl
  · rw [(h c).2.2.1, (hargs c).1, (hargs c).2.1, (hargs c).2.2.1]
    clear h
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array7 m c j i f).symm
    unfold gate normed Norm.rs Norm.ms Norm.width Norm.eps
    pointwise
    exact Finset.sum_congr (M := EReal) rfl fun k _ => mul_comm (G := EReal) _ _
  · rw [(h c).2.2.2.1, (hargs c).1, (hargs c).2.1, (hargs c).2.2.2.1]
    clear h
    funext i
    obtain ⟨j, i, f, rfl⟩ : ∃ j k f, i = ix3 j k f := ⟨i 0, i 1, i 2, by funext a; match a with | ⟨0, _⟩ => rfl | ⟨1, _⟩ => rfl | ⟨2, _⟩ => rfl⟩
    refine Eq.trans ?_ (array8 m c j i f).symm
    unfold up normed Norm.rs Norm.ms Norm.width Norm.eps
    pointwise
    exact Finset.sum_congr (M := EReal) rfl fun k _ => mul_comm (G := EReal) _ _

end Cert.Fwd
end
-- ==== Proof.lean ====
/- The claim, put together from its parts. -/
module
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Value
public import proofs.«01_k».proof.Proof.Gen.Kernel2Ideal.Value
public import proofs.«01_k».proof.Proof.Gen.Kernel2.Frame
public import proofs.«01_k».proof.Proof.Gen.Reference2Ideal.Run
public import proofs.«01_k».proof.Proof.Dwd
public import proofs.«01_k».proof.Proof.Gen.Kernel3Ideal.Value
public import proofs.«01_k».proof.Proof.Gen.Kernel3.Frame
public import proofs.«01_k».proof.Proof.Gen.Reference3Ideal.Run
public import proofs.«01_k».proof.Proof.Dwg
public import proofs.«01_k».proof.Proof.Gen.Kernel4Ideal.Value
public import proofs.«01_k».proof.Proof.Gen.Kernel4.Frame
public import proofs.«01_k».proof.Proof.Gen.Reference4Ideal.Run
public import proofs.«01_k».proof.Proof.Gate
public import proofs.«01_k».proof.Proof.Gen.Kernel5Ideal.Value
public import proofs.«01_k».proof.Proof.Gen.Kernel5.Frame
public import proofs.«01_k».proof.Proof.Gen.Reference5Ideal.Run
public import proofs.«01_k».proof.Proof.BwdIn
public import proofs.«01_k».proof.Proof.Gen.Kernel6Ideal.Value
public import proofs.«01_k».proof.Proof.Gen.Kernel6.Frame
public import proofs.«01_k».proof.Proof.Gen.Reference6Ideal.Run
public import proofs.«01_k».proof.Proof.Down
public import proofs.«01_k».proof.Proof.Gen.Kernel7Ideal.Value
public import proofs.«01_k».proof.Proof.Gen.Kernel7.Frame
public import proofs.«01_k».proof.Proof.Gen.Reference7Ideal.Run
public import proofs.«01_k».proof.Proof.Dh2
public import proofs.«01_k».proof.Proof.Gen.Kernel8Ideal.Value
public import proofs.«01_k».proof.Proof.Gen.Kernel8.Frame
public import proofs.«01_k».proof.Proof.Gen.Reference8Ideal.Run
public import proofs.«01_k».proof.Proof.Dmix
public import proofs.«01_k».proof.Proof.Gen.Kernel9Ideal.Value
public import proofs.«01_k».proof.Proof.Gen.Kernel9.Frame
public import proofs.«01_k».proof.Proof.Gen.Reference9Ideal.Run
public import proofs.«01_k».proof.Proof.Dwin
public import proofs.«01_k».proof.Proof.Gen.Kernel10Ideal.Value
public import proofs.«01_k».proof.Proof.Gen.Kernel10.Frame
public import proofs.«01_k».proof.Proof.Gen.Reference10Ideal.Run
public import proofs.«01_k».proof.Proof.Dwout
public import proofs.«01_k».proof.Proof.Gen.Kernel11Ideal.Value
public import proofs.«01_k».proof.Proof.Gen.Kernel11.Frame
public import proofs.«01_k».proof.Proof.Gen.Reference11Ideal.Run
public import proofs.«01_k».proof.Proof.ProjOut
public import proofs.«01_k».proof.Proof.Gen.Kernel12.Launch
public import proofs.«01_k».proof.Proof.InSame
public import proofs.«01_k».proof.Proof.Gen.Reference12Ideal.Run
public import proofs.«01_k».proof.Proof.ProjIn
public import proofs.«01_k».proof.Proof.Gen.Kernel13.Launch
public import proofs.«01_k».proof.Proof.UpSame
public import proofs.«01_k».proof.Proof.Gen.Reference13Ideal.Run
public import proofs.«01_k».proof.Proof.Up
public import proofs.«01_k».proof.Proof.Gen.Kernel14.Launch
public import proofs.«01_k».proof.Proof.FwdSame
public import proofs.«01_k».proof.Proof.Gen.Reference14Ideal.Run
public import proofs.«01_k».proof.Proof.Fwd
public import Idealize.ShloMosaic.Adequacy
public import Idealize.ShloMosaic.Init

@[expose] public section
noncomputable section
namespace Cert.Proof
open Idealize.ShloMosaic Idealize.SL.Sem

/-- The frames of the kernels and of the references, the one named constant (the mask's −∞) of the attention call, and
the equality of what each call and its reference leave. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Conds.preFacts, Cert.Gate.preFacts, Cert.Conds.onFacts,
  fun m g _ => Cert.Kernel.Gen.frame (F := Bits) m g,
  fun m g _ => Cert.KernelIdeal.Gen.frame (F := Ideal) m g,
  fun m g _ => Cert.KernelIdeal.Gen.frame (F := Ideal) m g,
  fun m g _ => (θ_run _ _ _).mono (fun r h => ⟨fun c => (h c).2.2.2.2.2,
      Idealize.ShloMosaic.sem_eq_zero_of_no_sems (by decide) r.2⟩)
    (Cert.ReferenceIdeal.Value.run (F := Ideal) m g),
  fun m g _ => (θ_run _ _ _).mono (fun r h => ⟨fun c => (h c).2.2.2.2.2,
      Idealize.ShloMosaic.sem_eq_zero_of_no_sems (by decide) r.2⟩)
    (Cert.ReferenceIdeal.Value.run (F := Ideal) m g),
  fun m g _ => Cert.Kernel2.Gen.frame (F := Bits) m g,
  fun m g _ => Cert.Kernel2Ideal.Gen.frame (F := Ideal) m g,
  fun m g _ => (θ_run _ _ _).mono (fun r h => ⟨fun c => (h c).2,
      Idealize.ShloMosaic.sem_eq_zero_of_no_sems (by decide) r.2⟩)
    (Cert.Reference2Ideal.Value.run (F := Ideal) m g),
  fun m g _ => Cert.Kernel3.Gen.frame (F := Bits) m g,
  fun m g _ => Cert.Kernel3Ideal.Gen.frame (F := Ideal) m g,
  fun m g _ => (θ_run _ _ _).mono (fun r h => ⟨fun c => (h c).2,
      Idealize.ShloMosaic.sem_eq_zero_of_no_sems (by decide) r.2⟩)
    (Cert.Reference3Ideal.Value.run (F := Ideal) m g),
  fun m g _ => Cert.Kernel4.Gen.frame (F := Bits) m g,
  fun m g _ => Cert.Kernel4Ideal.Gen.frame (F := Ideal) m g,
  fun m g _ => Cert.Kernel4Ideal.Gen.frame (F := Ideal) m g,
  fun m g _ => (θ_run _ _ _).mono (fun r h => ⟨fun c => (h c).2.2.2,
      Idealize.ShloMosaic.sem_eq_zero_of_no_sems (by decide) r.2⟩)
    (Cert.Reference4Ideal.Value.run (F := Ideal) m g),
  fun m g _ => (θ_run _ _ _).mono (fun r h => ⟨fun c => (h c).2.2.2,
      Idealize.ShloMosaic.sem_eq_zero_of_no_sems (by decide) r.2⟩)
    (Cert.Reference4Ideal.Value.run (F := Ideal) m g),
  fun m g _ => Cert.Kernel5.Gen.frame (F := Bits) m g,
  fun m g _ => Cert.Kernel5Ideal.Gen.frame (F := Ideal) m g,
  fun m g _ => (θ_run _ _ _).mono (fun r h => ⟨fun c => (h c).2.2,
      Idealize.ShloMosaic.sem_eq_zero_of_no_sems (by decide) r.2⟩)
    (Cert.Reference5Ideal.Value.run (F := Ideal) m g),
  fun m g _ => Cert.Kernel6.Gen.frame (F := Bits) m g,
  fun m g _ => Cert.Kernel6Ideal.Gen.frame (F := Ideal) m g,
  fun m g _ => (θ_run _ _ _).mono (fun r h => ⟨fun c => (h c).2,
      Idealize.ShloMosaic.sem_eq_zero_of_no_sems (by decide) r.2⟩)
    (Cert.Reference6Ideal.Value.run (F := Ideal) m g),
  fun m g _ => Cert.Kernel7.Gen.frame (F := Bits) m g,
  fun m g _ => Cert.Kernel7Ideal.Gen.frame (F := Ideal) m g,
  fun m g _ => (θ_run _ _ _).mono (fun r h => ⟨fun c => (h c).2.2,
      Idealize.ShloMosaic.sem_eq_zero_of_no_sems (by decide) r.2⟩)
    (Cert.Reference7Ideal.Value.run (F := Ideal) m g),
  fun m g _ => Cert.Kernel8.Gen.frame (F := Bits) m g,
  fun m g _ => Cert.Kernel8Ideal.Gen.frame (F := Ideal) m g,
  fun m g _ => (θ_run _ _ _).mono (fun r h => ⟨fun c => (h c).2,
      Idealize.ShloMosaic.sem_eq_zero_of_no_sems (by decide) r.2⟩)
    (Cert.Reference8Ideal.Value.run (F := Ideal) m g),
  fun m g _ => Cert.Kernel9.Gen.frame (F := Bits) m g,
  fun m g _ => Cert.Kernel9Ideal.Gen.frame (F := Ideal) m g,
  fun m g _ => (θ_run _ _ _).mono (fun r h => ⟨fun c => (h c).2,
      Idealize.ShloMosaic.sem_eq_zero_of_no_sems (by decide) r.2⟩)
    (Cert.Reference9Ideal.Value.run (F := Ideal) m g),
  fun m g _ => Cert.Kernel10.Gen.frame (F := Bits) m g,
  fun m g _ => Cert.Kernel10Ideal.Gen.frame (F := Ideal) m g,
  fun m g _ => (θ_run _ _ _).mono (fun r h => ⟨fun c => (h c).2,
      Idealize.ShloMosaic.sem_eq_zero_of_no_sems (by decide) r.2⟩)
    (Cert.Reference10Ideal.Value.run (F := Ideal) m g),
  fun m g _ => Cert.Kernel11.Gen.frame (F := Bits) m g,
  fun m g _ => Cert.Kernel11Ideal.Gen.frame (F := Ideal) m g,
  fun m g _ => (θ_run _ _ _).mono (fun r h => ⟨fun c => (h c).2,
      Idealize.ShloMosaic.sem_eq_zero_of_no_sems (by decide) r.2⟩)
    (Cert.Reference11Ideal.Value.run (F := Ideal) m g),
  fun m g _ => Cert.InSame.kept (F := Bits) m g,
  fun m g _ => Cert.InRun.kept (F := Ideal) m g,
  fun m g _ => (θ_run _ _ _).mono (fun r h => ⟨fun c => (h c).2.2,
      Idealize.ShloMosaic.sem_eq_zero_of_no_sems (by decide) r.2⟩)
    (Cert.Reference12Ideal.Value.run (F := Ideal) m g),
  fun m g _ => Cert.UpSame.kept (F := Bits) m g,
  fun m g _ => Cert.UpRun.kept (F := Ideal) m g,
  fun m g _ => (θ_run _ _ _).mono (fun r h => ⟨fun c => (h c).2.2.2.2,
      Idealize.ShloMosaic.sem_eq_zero_of_no_sems (by decide) r.2⟩)
    (Cert.Reference13Ideal.Value.run (F := Ideal) m g),
  fun m g _ => Cert.FwdSame.kept (F := Bits) m g,
  fun m g _ => Cert.FwdRun.kept (F := Ideal) m g,
  fun m g _ => (θ_run _ _ _).mono (fun r h => ⟨fun c => (h c).2.2.2.2,
      Idealize.ShloMosaic.sem_eq_zero_of_no_sems (by decide) r.2⟩)
    (Cert.Reference14Ideal.Value.run (F := Ideal) m g),
  IdealRules.named_const.statement Cert.KernelIdeal.κ "mask" .f32 0xF149F2CA#32 ⊥ rfl,
  Cert.Ker.algebraic,
  trivial, Cert.Dwd.algebraic,
  trivial, Cert.Dwg.algebraic,
  trivial, Cert.Gate.algebraic,
  trivial, Cert.BwdIn.algebraic,
  trivial, Cert.Down.algebraic,
  trivial, Cert.Dh2.algebraic,
  trivial, Cert.Dmix.algebraic,
  trivial, Cert.Dwin.algebraic,
  trivial, Cert.Dwout.algebraic,
  trivial, Cert.ProjOut.algebraic,
  trivial, Cert.ProjIn.algebraic,
  trivial, Cert.Up.algebraic,
  trivial, Cert.Fwd.algebraic⟩

end Cert.Proof

end
